-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨4, ![1, 2048, 32, 128]⟩ ⟨4, ![1, 2048, 64, 128]⟩ (Layout.meshBlock [2, 2, 2] ![[], [], [2], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![4096, 8192]⟩ ⟨2, ![8192, 8192]⟩ (Layout.meshBlock [2, 2, 2] ![[2], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 1024, 8192]⟩ ⟨3, ![1, 2048, 8192]⟩ (Layout.meshBlock [2, 2, 2] ![[], [2], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x2048x32x128 : Shape := ⟨4, ![1, 2048, 32, 128]⟩
abbrev S4096x8192 : Shape := ⟨2, ![4096, 8192]⟩
abbrev S1x1024x8192 : Shape := ⟨3, ![1, 1024, 8192]⟩
abbrev S4096x512 : Shape := ⟨2, ![4096, 512]⟩
abbrev S1x1024x512 : Shape := ⟨3, ![1, 1024, 512]⟩
abbrev S2x256x4096 : Shape := ⟨3, ![2, 256, 4096]⟩
abbrev S2x256x512 : Shape := ⟨3, ![2, 256, 512]⟩
abbrev S4x256x512 : Shape := ⟨3, ![4, 256, 512]⟩
abbrev S2 : Shape := ⟨1, ![2]⟩
abbrev S4 : Shape := ⟨1, ![4]⟩
abbrev S1 : Shape := ⟨1, ![1]⟩
abbrev S_ : Shape := ⟨0, ![]⟩
abbrev S1x256x128 : Shape := ⟨3, ![1, 256, 128]⟩
abbrev S256x128 : Shape := ⟨2, ![256, 128]⟩
abbrev S1x256x1x128 : Shape := ⟨4, ![1, 256, 1, 128]⟩
abbrev S1x256x512 : Shape := ⟨3, ![1, 256, 512]⟩
abbrev S256x512 : Shape := ⟨2, ![256, 512]⟩
abbrev S1x256x4096 : Shape := ⟨3, ![1, 256, 4096]⟩
abbrev S256x4096 : Shape := ⟨2, ![256, 4096]⟩
abbrev S1x256x256 : Shape := ⟨3, ![1, 256, 256]⟩
abbrev S256x256 : Shape := ⟨2, ![256, 256]⟩

abbrev nBuf : Space → Nat
  | .hbm => 3
  | .vmem => 11
  | .smem => 0
  | _ => 0

abbrev bufTy : (tb : Table) → Fin (tcTables nBuf tb) → BufTy
  | .hbm, ⟨0, _⟩ => ⟨S1x2048x32x128, .f32⟩
  | .hbm, ⟨1, _⟩ => ⟨S4096x8192, .f32⟩
  | .hbm, ⟨2, _⟩ => ⟨S1x1024x8192, .f32⟩
  | .local _ .vmem, ⟨0, _⟩ => ⟨S4096x512, .f32⟩
  | .local _ .vmem, ⟨1, _⟩ => ⟨S4096x512, .f32⟩
  | .local _ .vmem, ⟨2, _⟩ => ⟨S1x1024x512, .f32⟩
  | .local _ .vmem, ⟨3, _⟩ => ⟨S1x1024x512, .f32⟩
  | .local _ .vmem, ⟨4, _⟩ => ⟨S2x256x4096, .f32⟩
  | .local _ .vmem, ⟨5, _⟩ => ⟨S2x256x512, .f32⟩
  | .local _ .vmem, ⟨6, _⟩ => ⟨S4x256x512, .f32⟩
  | .local _ .vmem, ⟨7, _⟩ => ⟨S4x256x512, .f32⟩
  | .local _ .vmem, ⟨8, _⟩ => ⟨S4x256x512, .f32⟩
  | .local _ .vmem, ⟨9, _⟩ => ⟨S4x256x512, .f32⟩
  | .local _ .vmem, ⟨10, _⟩ => ⟨S4x256x512, .f32⟩
  | _, _ => ⟨S1x2048x32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => false
  | _ => false

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  (ofTc nBuf bufTy 21 44 bufScoped semScoped dmaSemScoped tileCredit tileCredit_eq_zero tileCredit_pos).withBarriers [(0, 20)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev barrier0 : Sem sig := 20

abbrev nD : Nat := 8
abbrev τ : Topo := Topo.v7x

variable {F : FTy → Type} [FloatOps F]

abbrev grid0 : Pipeline.Grid := ⟨1, ![19], ![false]⟩

def k0_cond1 (i : grid0.Coords) : BitVec 1 :=
  let arg0 : BitVec 32 := BitVec.ofNat 32 (i 0).val
  let c0_i32 : BitVec 32 := 0#32
  let v31 : BitVec 1 := Scalar.cmpi .eq arg0 c0_i32
  let v32 : BitVec 32 := Scalar.extui v31
  let c0_i32_17 : BitVec 32 := 0#32
  let v33 : BitVec 1 := Scalar.cmpi .ne v32 c0_i32_17
  v33

def k0_off1 (d0 : Dev nD) : Fin 4 → Nat :=
  let c0_i32_26 : BitVec 32 := 0#32
  let c1_i32_14 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v27 : BitVec 32 := Scalar.subi c1_i32_14 v8
  let c1024_i32_15 : BitVec 32 := 1024#32
  let v28 : BitVec 32 := Scalar.muli v27 c1024_i32_15
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c256_i32_16 : BitVec 32 := 256#32
  let v29 : BitVec 32 := Scalar.muli v13 c256_i32_16
  let v30 : BitVec 32 := Scalar.addi v28 v29
  let c0_i32_27 : BitVec 32 := 0#32
  let c0_i32_32 : BitVec 32 := 0#32
  ![0, v30.toNat, 0, 0]
def k0_off2 (d0 : Dev nD) : Fin 4 → Nat :=
  let c0_i32_33 : BitVec 32 := 0#32
  let c1_i32_14 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v27 : BitVec 32 := Scalar.subi c1_i32_14 v8
  let c1024_i32_15 : BitVec 32 := 1024#32
  let v28 : BitVec 32 := Scalar.muli v27 c1024_i32_15
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c256_i32_16 : BitVec 32 := 256#32
  let v29 : BitVec 32 := Scalar.muli v13 c256_i32_16
  let v30 : BitVec 32 := Scalar.addi v28 v29
  let c1_i32_34 : BitVec 32 := 1#32
  let c0_i32_38 : BitVec 32 := 0#32
  ![0, v30.toNat, 1, 0]
def k0_off3 (d0 : Dev nD) : Fin 4 → Nat :=
  let c0_i32_39 : BitVec 32 := 0#32
  let c1_i32_14 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v27 : BitVec 32 := Scalar.subi c1_i32_14 v8
  let c1024_i32_15 : BitVec 32 := 1024#32
  let v28 : BitVec 32 := Scalar.muli v27 c1024_i32_15
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c256_i32_16 : BitVec 32 := 256#32
  let v29 : BitVec 32 := Scalar.muli v13 c256_i32_16
  let v30 : BitVec 32 := Scalar.addi v28 v29
  let c2_i32_40 : BitVec 32 := 2#32
  let c0_i32_45 : BitVec 32 := 0#32
  ![0, v30.toNat, 2, 0]
def k0_off4 (d0 : Dev nD) : Fin 4 → Nat :=
  let c0_i32_46 : BitVec 32 := 0#32
  let c1_i32_14 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v27 : BitVec 32 := Scalar.subi c1_i32_14 v8
  let c1024_i32_15 : BitVec 32 := 1024#32
  let v28 : BitVec 32 := Scalar.muli v27 c1024_i32_15
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c256_i32_16 : BitVec 32 := 256#32
  let v29 : BitVec 32 := Scalar.muli v13 c256_i32_16
  let v30 : BitVec 32 := Scalar.addi v28 v29
  let c3_i32_47 : BitVec 32 := 3#32
  let c0_i32_51 : BitVec 32 := 0#32
  ![0, v30.toNat, 3, 0]
def k0_off5 (d0 : Dev nD) : Fin 4 → Nat :=
  let c0_i32_52 : BitVec 32 := 0#32
  let c1_i32_14 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v27 : BitVec 32 := Scalar.subi c1_i32_14 v8
  let c1024_i32_15 : BitVec 32 := 1024#32
  let v28 : BitVec 32 := Scalar.muli v27 c1024_i32_15
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c256_i32_16 : BitVec 32 := 256#32
  let v29 : BitVec 32 := Scalar.muli v13 c256_i32_16
  let v30 : BitVec 32 := Scalar.addi v28 v29
  let c4_i32_53 : BitVec 32 := 4#32
  let c0_i32_57 : BitVec 32 := 0#32
  ![0, v30.toNat, 4, 0]
def k0_off6 (d0 : Dev nD) : Fin 4 → Nat :=
  let c0_i32_58 : BitVec 32 := 0#32
  let c1_i32_14 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v27 : BitVec 32 := Scalar.subi c1_i32_14 v8
  let c1024_i32_15 : BitVec 32 := 1024#32
  let v28 : BitVec 32 := Scalar.muli v27 c1024_i32_15
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c256_i32_16 : BitVec 32 := 256#32
  let v29 : BitVec 32 := Scalar.muli v13 c256_i32_16
  let v30 : BitVec 32 := Scalar.addi v28 v29
  let c5_i32 : BitVec 32 := 5#32
  let c0_i32_62 : BitVec 32 := 0#32
  ![0, v30.toNat, 5, 0]
def k0_off7 (d0 : Dev nD) : Fin 4 → Nat :=
  let c0_i32_63 : BitVec 32 := 0#32
  let c1_i32_14 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v27 : BitVec 32 := Scalar.subi c1_i32_14 v8
  let c1024_i32_15 : BitVec 32 := 1024#32
  let v28 : BitVec 32 := Scalar.muli v27 c1024_i32_15
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c256_i32_16 : BitVec 32 := 256#32
  let v29 : BitVec 32 := Scalar.muli v13 c256_i32_16
  let v30 : BitVec 32 := Scalar.addi v28 v29
  let c6_i32 : BitVec 32 := 6#32
  let c0_i32_67 : BitVec 32 := 0#32
  ![0, v30.toNat, 6, 0]
def k0_off8 (d0 : Dev nD) : Fin 4 → Nat :=
  let c0_i32_68 : BitVec 32 := 0#32
  let c1_i32_14 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v27 : BitVec 32 := Scalar.subi c1_i32_14 v8
  let c1024_i32_15 : BitVec 32 := 1024#32
  let v28 : BitVec 32 := Scalar.muli v27 c1024_i32_15
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c256_i32_16 : BitVec 32 := 256#32
  let v29 : BitVec 32 := Scalar.muli v13 c256_i32_16
  let v30 : BitVec 32 := Scalar.addi v28 v29
  let c7_i32 : BitVec 32 := 7#32
  let c0_i32_72 : BitVec 32 := 0#32
  ![0, v30.toNat, 7, 0]
def k0_off9 (d0 : Dev nD) : Fin 4 → Nat :=
  let c0_i32_73 : BitVec 32 := 0#32
  let c1_i32_14 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v27 : BitVec 32 := Scalar.subi c1_i32_14 v8
  let c1024_i32_15 : BitVec 32 := 1024#32
  let v28 : BitVec 32 := Scalar.muli v27 c1024_i32_15
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c256_i32_16 : BitVec 32 := 256#32
  let v29 : BitVec 32 := Scalar.muli v13 c256_i32_16
  let v30 : BitVec 32 := Scalar.addi v28 v29
  let c8_i32 : BitVec 32 := 8#32
  let c0_i32_78 : BitVec 32 := 0#32
  ![0, v30.toNat, 8, 0]
def k0_off10 (d0 : Dev nD) : Fin 4 → Nat :=
  let c0_i32_79 : BitVec 32 := 0#32
  let c1_i32_14 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v27 : BitVec 32 := Scalar.subi c1_i32_14 v8
  let c1024_i32_15 : BitVec 32 := 1024#32
  let v28 : BitVec 32 := Scalar.muli v27 c1024_i32_15
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c256_i32_16 : BitVec 32 := 256#32
  let v29 : BitVec 32 := Scalar.muli v13 c256_i32_16
  let v30 : BitVec 32 := Scalar.addi v28 v29
  let c9_i32 : BitVec 32 := 9#32
  let c0_i32_83 : BitVec 32 := 0#32
  ![0, v30.toNat, 9, 0]
def k0_off11 (d0 : Dev nD) : Fin 4 → Nat :=
  let c0_i32_84 : BitVec 32 := 0#32
  let c1_i32_14 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v27 : BitVec 32 := Scalar.subi c1_i32_14 v8
  let c1024_i32_15 : BitVec 32 := 1024#32
  let v28 : BitVec 32 := Scalar.muli v27 c1024_i32_15
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c256_i32_16 : BitVec 32 := 256#32
  let v29 : BitVec 32 := Scalar.muli v13 c256_i32_16
  let v30 : BitVec 32 := Scalar.addi v28 v29
  let c10_i32 : BitVec 32 := 10#32
  let c0_i32_88 : BitVec 32 := 0#32
  ![0, v30.toNat, 10, 0]
def k0_off12 (d0 : Dev nD) : Fin 4 → Nat :=
  let c0_i32_89 : BitVec 32 := 0#32
  let c1_i32_14 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v27 : BitVec 32 := Scalar.subi c1_i32_14 v8
  let c1024_i32_15 : BitVec 32 := 1024#32
  let v28 : BitVec 32 := Scalar.muli v27 c1024_i32_15
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c256_i32_16 : BitVec 32 := 256#32
  let v29 : BitVec 32 := Scalar.muli v13 c256_i32_16
  let v30 : BitVec 32 := Scalar.addi v28 v29
  let c11_i32 : BitVec 32 := 11#32
  let c0_i32_93 : BitVec 32 := 0#32
  ![0, v30.toNat, 11, 0]
def k0_off13 (d0 : Dev nD) : Fin 4 → Nat :=
  let c0_i32_94 : BitVec 32 := 0#32
  let c1_i32_14 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v27 : BitVec 32 := Scalar.subi c1_i32_14 v8
  let c1024_i32_15 : BitVec 32 := 1024#32
  let v28 : BitVec 32 := Scalar.muli v27 c1024_i32_15
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c256_i32_16 : BitVec 32 := 256#32
  let v29 : BitVec 32 := Scalar.muli v13 c256_i32_16
  let v30 : BitVec 32 := Scalar.addi v28 v29
  let c12_i32 : BitVec 32 := 12#32
  let c0_i32_98 : BitVec 32 := 0#32
  ![0, v30.toNat, 12, 0]
def k0_off14 (d0 : Dev nD) : Fin 4 → Nat :=
  let c0_i32_99 : BitVec 32 := 0#32
  let c1_i32_14 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v27 : BitVec 32 := Scalar.subi c1_i32_14 v8
  let c1024_i32_15 : BitVec 32 := 1024#32
  let v28 : BitVec 32 := Scalar.muli v27 c1024_i32_15
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c256_i32_16 : BitVec 32 := 256#32
  let v29 : BitVec 32 := Scalar.muli v13 c256_i32_16
  let v30 : BitVec 32 := Scalar.addi v28 v29
  let c13_i32 : BitVec 32 := 13#32
  let c0_i32_103 : BitVec 32 := 0#32
  ![0, v30.toNat, 13, 0]
def k0_off15 (d0 : Dev nD) : Fin 4 → Nat :=
  let c0_i32_104 : BitVec 32 := 0#32
  let c1_i32_14 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v27 : BitVec 32 := Scalar.subi c1_i32_14 v8
  let c1024_i32_15 : BitVec 32 := 1024#32
  let v28 : BitVec 32 := Scalar.muli v27 c1024_i32_15
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c256_i32_16 : BitVec 32 := 256#32
  let v29 : BitVec 32 := Scalar.muli v13 c256_i32_16
  let v30 : BitVec 32 := Scalar.addi v28 v29
  let c14_i32 : BitVec 32 := 14#32
  let c0_i32_108 : BitVec 32 := 0#32
  ![0, v30.toNat, 14, 0]
def k0_off16 (d0 : Dev nD) : Fin 4 → Nat :=
  let c0_i32_109 : BitVec 32 := 0#32
  let c1_i32_14 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v27 : BitVec 32 := Scalar.subi c1_i32_14 v8
  let c1024_i32_15 : BitVec 32 := 1024#32
  let v28 : BitVec 32 := Scalar.muli v27 c1024_i32_15
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c256_i32_16 : BitVec 32 := 256#32
  let v29 : BitVec 32 := Scalar.muli v13 c256_i32_16
  let v30 : BitVec 32 := Scalar.addi v28 v29
  let c15_i32 : BitVec 32 := 15#32
  let c0_i32_113 : BitVec 32 := 0#32
  ![0, v30.toNat, 15, 0]
def k0_off17 (d0 : Dev nD) : Fin 4 → Nat :=
  let c0_i32_114 : BitVec 32 := 0#32
  let c1_i32_14 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v27 : BitVec 32 := Scalar.subi c1_i32_14 v8
  let c1024_i32_15 : BitVec 32 := 1024#32
  let v28 : BitVec 32 := Scalar.muli v27 c1024_i32_15
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c256_i32_16 : BitVec 32 := 256#32
  let v29 : BitVec 32 := Scalar.muli v13 c256_i32_16
  let v30 : BitVec 32 := Scalar.addi v28 v29
  let c16_i32_115 : BitVec 32 := 16#32
  let c0_i32_119 : BitVec 32 := 0#32
  ![0, v30.toNat, 16, 0]
def k0_off18 (d0 : Dev nD) : Fin 4 → Nat :=
  let c0_i32_120 : BitVec 32 := 0#32
  let c1_i32_14 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v27 : BitVec 32 := Scalar.subi c1_i32_14 v8
  let c1024_i32_15 : BitVec 32 := 1024#32
  let v28 : BitVec 32 := Scalar.muli v27 c1024_i32_15
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c256_i32_16 : BitVec 32 := 256#32
  let v29 : BitVec 32 := Scalar.muli v13 c256_i32_16
  let v30 : BitVec 32 := Scalar.addi v28 v29
  let c17_i32_121 : BitVec 32 := 17#32
  let c0_i32_125 : BitVec 32 := 0#32
  ![0, v30.toNat, 17, 0]
def k0_off19 (d0 : Dev nD) : Fin 4 → Nat :=
  let c0_i32_126 : BitVec 32 := 0#32
  let c1_i32_14 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v27 : BitVec 32 := Scalar.subi c1_i32_14 v8
  let c1024_i32_15 : BitVec 32 := 1024#32
  let v28 : BitVec 32 := Scalar.muli v27 c1024_i32_15
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c256_i32_16 : BitVec 32 := 256#32
  let v29 : BitVec 32 := Scalar.muli v13 c256_i32_16
  let v30 : BitVec 32 := Scalar.addi v28 v29
  let c18_i32_127 : BitVec 32 := 18#32
  let c0_i32_131 : BitVec 32 := 0#32
  ![0, v30.toNat, 18, 0]
def k0_off20 (d0 : Dev nD) : Fin 4 → Nat :=
  let c0_i32_132 : BitVec 32 := 0#32
  let c1_i32_14 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v27 : BitVec 32 := Scalar.subi c1_i32_14 v8
  let c1024_i32_15 : BitVec 32 := 1024#32
  let v28 : BitVec 32 := Scalar.muli v27 c1024_i32_15
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c256_i32_16 : BitVec 32 := 256#32
  let v29 : BitVec 32 := Scalar.muli v13 c256_i32_16
  let v30 : BitVec 32 := Scalar.addi v28 v29
  let c19_i32 : BitVec 32 := 19#32
  let c0_i32_136 : BitVec 32 := 0#32
  ![0, v30.toNat, 19, 0]
def k0_off21 (d0 : Dev nD) : Fin 4 → Nat :=
  let c0_i32_137 : BitVec 32 := 0#32
  let c1_i32_14 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v27 : BitVec 32 := Scalar.subi c1_i32_14 v8
  let c1024_i32_15 : BitVec 32 := 1024#32
  let v28 : BitVec 32 := Scalar.muli v27 c1024_i32_15
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c256_i32_16 : BitVec 32 := 256#32
  let v29 : BitVec 32 := Scalar.muli v13 c256_i32_16
  let v30 : BitVec 32 := Scalar.addi v28 v29
  let c20_i32 : BitVec 32 := 20#32
  let c0_i32_141 : BitVec 32 := 0#32
  ![0, v30.toNat, 20, 0]
def k0_off22 (d0 : Dev nD) : Fin 4 → Nat :=
  let c0_i32_142 : BitVec 32 := 0#32
  let c1_i32_14 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v27 : BitVec 32 := Scalar.subi c1_i32_14 v8
  let c1024_i32_15 : BitVec 32 := 1024#32
  let v28 : BitVec 32 := Scalar.muli v27 c1024_i32_15
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c256_i32_16 : BitVec 32 := 256#32
  let v29 : BitVec 32 := Scalar.muli v13 c256_i32_16
  let v30 : BitVec 32 := Scalar.addi v28 v29
  let c21_i32 : BitVec 32 := 21#32
  let c0_i32_146 : BitVec 32 := 0#32
  ![0, v30.toNat, 21, 0]
def k0_off23 (d0 : Dev nD) : Fin 4 → Nat :=
  let c0_i32_147 : BitVec 32 := 0#32
  let c1_i32_14 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v27 : BitVec 32 := Scalar.subi c1_i32_14 v8
  let c1024_i32_15 : BitVec 32 := 1024#32
  let v28 : BitVec 32 := Scalar.muli v27 c1024_i32_15
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c256_i32_16 : BitVec 32 := 256#32
  let v29 : BitVec 32 := Scalar.muli v13 c256_i32_16
  let v30 : BitVec 32 := Scalar.addi v28 v29
  let c22_i32 : BitVec 32 := 22#32
  let c0_i32_151 : BitVec 32 := 0#32
  ![0, v30.toNat, 22, 0]
def k0_off24 (d0 : Dev nD) : Fin 4 → Nat :=
  let c0_i32_152 : BitVec 32 := 0#32
  let c1_i32_14 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v27 : BitVec 32 := Scalar.subi c1_i32_14 v8
  let c1024_i32_15 : BitVec 32 := 1024#32
  let v28 : BitVec 32 := Scalar.muli v27 c1024_i32_15
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c256_i32_16 : BitVec 32 := 256#32
  let v29 : BitVec 32 := Scalar.muli v13 c256_i32_16
  let v30 : BitVec 32 := Scalar.addi v28 v29
  let c23_i32 : BitVec 32 := 23#32
  let c0_i32_156 : BitVec 32 := 0#32
  ![0, v30.toNat, 23, 0]
def k0_off25 (d0 : Dev nD) : Fin 4 → Nat :=
  let c0_i32_157 : BitVec 32 := 0#32
  let c1_i32_14 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v27 : BitVec 32 := Scalar.subi c1_i32_14 v8
  let c1024_i32_15 : BitVec 32 := 1024#32
  let v28 : BitVec 32 := Scalar.muli v27 c1024_i32_15
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c256_i32_16 : BitVec 32 := 256#32
  let v29 : BitVec 32 := Scalar.muli v13 c256_i32_16
  let v30 : BitVec 32 := Scalar.addi v28 v29
  let c24_i32 : BitVec 32 := 24#32
  let c0_i32_161 : BitVec 32 := 0#32
  ![0, v30.toNat, 24, 0]
def k0_off26 (d0 : Dev nD) : Fin 4 → Nat :=
  let c0_i32_162 : BitVec 32 := 0#32
  let c1_i32_14 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v27 : BitVec 32 := Scalar.subi c1_i32_14 v8
  let c1024_i32_15 : BitVec 32 := 1024#32
  let v28 : BitVec 32 := Scalar.muli v27 c1024_i32_15
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c256_i32_16 : BitVec 32 := 256#32
  let v29 : BitVec 32 := Scalar.muli v13 c256_i32_16
  let v30 : BitVec 32 := Scalar.addi v28 v29
  let c25_i32 : BitVec 32 := 25#32
  let c0_i32_166 : BitVec 32 := 0#32
  ![0, v30.toNat, 25, 0]
def k0_off27 (d0 : Dev nD) : Fin 4 → Nat :=
  let c0_i32_167 : BitVec 32 := 0#32
  let c1_i32_14 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v27 : BitVec 32 := Scalar.subi c1_i32_14 v8
  let c1024_i32_15 : BitVec 32 := 1024#32
  let v28 : BitVec 32 := Scalar.muli v27 c1024_i32_15
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c256_i32_16 : BitVec 32 := 256#32
  let v29 : BitVec 32 := Scalar.muli v13 c256_i32_16
  let v30 : BitVec 32 := Scalar.addi v28 v29
  let c26_i32 : BitVec 32 := 26#32
  let c0_i32_171 : BitVec 32 := 0#32
  ![0, v30.toNat, 26, 0]
def k0_off28 (d0 : Dev nD) : Fin 4 → Nat :=
  let c0_i32_172 : BitVec 32 := 0#32
  let c1_i32_14 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v27 : BitVec 32 := Scalar.subi c1_i32_14 v8
  let c1024_i32_15 : BitVec 32 := 1024#32
  let v28 : BitVec 32 := Scalar.muli v27 c1024_i32_15
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c256_i32_16 : BitVec 32 := 256#32
  let v29 : BitVec 32 := Scalar.muli v13 c256_i32_16
  let v30 : BitVec 32 := Scalar.addi v28 v29
  let c27_i32 : BitVec 32 := 27#32
  let c0_i32_176 : BitVec 32 := 0#32
  ![0, v30.toNat, 27, 0]
def k0_off29 (d0 : Dev nD) : Fin 4 → Nat :=
  let c0_i32_177 : BitVec 32 := 0#32
  let c1_i32_14 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v27 : BitVec 32 := Scalar.subi c1_i32_14 v8
  let c1024_i32_15 : BitVec 32 := 1024#32
  let v28 : BitVec 32 := Scalar.muli v27 c1024_i32_15
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c256_i32_16 : BitVec 32 := 256#32
  let v29 : BitVec 32 := Scalar.muli v13 c256_i32_16
  let v30 : BitVec 32 := Scalar.addi v28 v29
  let c28_i32 : BitVec 32 := 28#32
  let c0_i32_181 : BitVec 32 := 0#32
  ![0, v30.toNat, 28, 0]
def k0_off30 (d0 : Dev nD) : Fin 4 → Nat :=
  let c0_i32_182 : BitVec 32 := 0#32
  let c1_i32_14 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v27 : BitVec 32 := Scalar.subi c1_i32_14 v8
  let c1024_i32_15 : BitVec 32 := 1024#32
  let v28 : BitVec 32 := Scalar.muli v27 c1024_i32_15
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c256_i32_16 : BitVec 32 := 256#32
  let v29 : BitVec 32 := Scalar.muli v13 c256_i32_16
  let v30 : BitVec 32 := Scalar.addi v28 v29
  let c29_i32 : BitVec 32 := 29#32
  let c0_i32_186 : BitVec 32 := 0#32
  ![0, v30.toNat, 29, 0]
def k0_off31 (d0 : Dev nD) : Fin 4 → Nat :=
  let c0_i32_187 : BitVec 32 := 0#32
  let c1_i32_14 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v27 : BitVec 32 := Scalar.subi c1_i32_14 v8
  let c1024_i32_15 : BitVec 32 := 1024#32
  let v28 : BitVec 32 := Scalar.muli v27 c1024_i32_15
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c256_i32_16 : BitVec 32 := 256#32
  let v29 : BitVec 32 := Scalar.muli v13 c256_i32_16
  let v30 : BitVec 32 := Scalar.addi v28 v29
  let c30_i32 : BitVec 32 := 30#32
  let c0_i32_191 : BitVec 32 := 0#32
  ![0, v30.toNat, 30, 0]
def k0_off32 (d0 : Dev nD) : Fin 4 → Nat :=
  let c0_i32_192 : BitVec 32 := 0#32
  let c1_i32_14 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v27 : BitVec 32 := Scalar.subi c1_i32_14 v8
  let c1024_i32_15 : BitVec 32 := 1024#32
  let v28 : BitVec 32 := Scalar.muli v27 c1024_i32_15
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c256_i32_16 : BitVec 32 := 256#32
  let v29 : BitVec 32 := Scalar.muli v13 c256_i32_16
  let v30 : BitVec 32 := Scalar.addi v28 v29
  let c31_i32 : BitVec 32 := 31#32
  let c0_i32_196 : BitVec 32 := 0#32
  ![0, v30.toNat, 31, 0]
def k0_off33 (d0 : Dev nD) : Fin 4 → Nat :=
  let c0_i32_197 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32 : BitVec 32 := 1024#32
  let v24 : BitVec 32 := Scalar.muli v8 c1024_i32
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c256_i32 : BitVec 32 := 256#32
  let v25 : BitVec 32 := Scalar.muli v13 c256_i32
  let v26 : BitVec 32 := Scalar.addi v24 v25
  let c0_i32_198 : BitVec 32 := 0#32
  let c0_i32_203 : BitVec 32 := 0#32
  ![0, v26.toNat, 0, 0]
def k0_off34 (d0 : Dev nD) : Fin 4 → Nat :=
  let c0_i32_204 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32 : BitVec 32 := 1024#32
  let v24 : BitVec 32 := Scalar.muli v8 c1024_i32
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c256_i32 : BitVec 32 := 256#32
  let v25 : BitVec 32 := Scalar.muli v13 c256_i32
  let v26 : BitVec 32 := Scalar.addi v24 v25
  let c1_i32_205 : BitVec 32 := 1#32
  let c0_i32_210 : BitVec 32 := 0#32
  ![0, v26.toNat, 1, 0]
def k0_off35 (d0 : Dev nD) : Fin 4 → Nat :=
  let c0_i32_211 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32 : BitVec 32 := 1024#32
  let v24 : BitVec 32 := Scalar.muli v8 c1024_i32
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c256_i32 : BitVec 32 := 256#32
  let v25 : BitVec 32 := Scalar.muli v13 c256_i32
  let v26 : BitVec 32 := Scalar.addi v24 v25
  let c2_i32_212 : BitVec 32 := 2#32
  let c0_i32_217 : BitVec 32 := 0#32
  ![0, v26.toNat, 2, 0]
def k0_off36 (d0 : Dev nD) : Fin 4 → Nat :=
  let c0_i32_218 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32 : BitVec 32 := 1024#32
  let v24 : BitVec 32 := Scalar.muli v8 c1024_i32
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c256_i32 : BitVec 32 := 256#32
  let v25 : BitVec 32 := Scalar.muli v13 c256_i32
  let v26 : BitVec 32 := Scalar.addi v24 v25
  let c3_i32_219 : BitVec 32 := 3#32
  let c0_i32_224 : BitVec 32 := 0#32
  ![0, v26.toNat, 3, 0]
def k0_off37 (d0 : Dev nD) : Fin 4 → Nat :=
  let c0_i32_225 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32 : BitVec 32 := 1024#32
  let v24 : BitVec 32 := Scalar.muli v8 c1024_i32
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c256_i32 : BitVec 32 := 256#32
  let v25 : BitVec 32 := Scalar.muli v13 c256_i32
  let v26 : BitVec 32 := Scalar.addi v24 v25
  let c4_i32_226 : BitVec 32 := 4#32
  let c0_i32_231 : BitVec 32 := 0#32
  ![0, v26.toNat, 4, 0]
def k0_off38 (d0 : Dev nD) : Fin 4 → Nat :=
  let c0_i32_232 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32 : BitVec 32 := 1024#32
  let v24 : BitVec 32 := Scalar.muli v8 c1024_i32
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c256_i32 : BitVec 32 := 256#32
  let v25 : BitVec 32 := Scalar.muli v13 c256_i32
  let v26 : BitVec 32 := Scalar.addi v24 v25
  let c5_i32_233 : BitVec 32 := 5#32
  let c0_i32_238 : BitVec 32 := 0#32
  ![0, v26.toNat, 5, 0]
def k0_off39 (d0 : Dev nD) : Fin 4 → Nat :=
  let c0_i32_239 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32 : BitVec 32 := 1024#32
  let v24 : BitVec 32 := Scalar.muli v8 c1024_i32
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c256_i32 : BitVec 32 := 256#32
  let v25 : BitVec 32 := Scalar.muli v13 c256_i32
  let v26 : BitVec 32 := Scalar.addi v24 v25
  let c6_i32_240 : BitVec 32 := 6#32
  let c0_i32_245 : BitVec 32 := 0#32
  ![0, v26.toNat, 6, 0]
def k0_off40 (d0 : Dev nD) : Fin 4 → Nat :=
  let c0_i32_246 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32 : BitVec 32 := 1024#32
  let v24 : BitVec 32 := Scalar.muli v8 c1024_i32
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c256_i32 : BitVec 32 := 256#32
  let v25 : BitVec 32 := Scalar.muli v13 c256_i32
  let v26 : BitVec 32 := Scalar.addi v24 v25
  let c7_i32_247 : BitVec 32 := 7#32
  let c0_i32_252 : BitVec 32 := 0#32
  ![0, v26.toNat, 7, 0]
def k0_off41 (d0 : Dev nD) : Fin 4 → Nat :=
  let c0_i32_253 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32 : BitVec 32 := 1024#32
  let v24 : BitVec 32 := Scalar.muli v8 c1024_i32
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c256_i32 : BitVec 32 := 256#32
  let v25 : BitVec 32 := Scalar.muli v13 c256_i32
  let v26 : BitVec 32 := Scalar.addi v24 v25
  let c8_i32_254 : BitVec 32 := 8#32
  let c0_i32_259 : BitVec 32 := 0#32
  ![0, v26.toNat, 8, 0]
def k0_off42 (d0 : Dev nD) : Fin 4 → Nat :=
  let c0_i32_260 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32 : BitVec 32 := 1024#32
  let v24 : BitVec 32 := Scalar.muli v8 c1024_i32
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c256_i32 : BitVec 32 := 256#32
  let v25 : BitVec 32 := Scalar.muli v13 c256_i32
  let v26 : BitVec 32 := Scalar.addi v24 v25
  let c9_i32_261 : BitVec 32 := 9#32
  let c0_i32_266 : BitVec 32 := 0#32
  ![0, v26.toNat, 9, 0]
def k0_off43 (d0 : Dev nD) : Fin 4 → Nat :=
  let c0_i32_267 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32 : BitVec 32 := 1024#32
  let v24 : BitVec 32 := Scalar.muli v8 c1024_i32
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c256_i32 : BitVec 32 := 256#32
  let v25 : BitVec 32 := Scalar.muli v13 c256_i32
  let v26 : BitVec 32 := Scalar.addi v24 v25
  let c10_i32_268 : BitVec 32 := 10#32
  let c0_i32_273 : BitVec 32 := 0#32
  ![0, v26.toNat, 10, 0]
def k0_off44 (d0 : Dev nD) : Fin 4 → Nat :=
  let c0_i32_274 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32 : BitVec 32 := 1024#32
  let v24 : BitVec 32 := Scalar.muli v8 c1024_i32
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c256_i32 : BitVec 32 := 256#32
  let v25 : BitVec 32 := Scalar.muli v13 c256_i32
  let v26 : BitVec 32 := Scalar.addi v24 v25
  let c11_i32_275 : BitVec 32 := 11#32
  let c0_i32_280 : BitVec 32 := 0#32
  ![0, v26.toNat, 11, 0]
def k0_off45 (d0 : Dev nD) : Fin 4 → Nat :=
  let c0_i32_281 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32 : BitVec 32 := 1024#32
  let v24 : BitVec 32 := Scalar.muli v8 c1024_i32
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c256_i32 : BitVec 32 := 256#32
  let v25 : BitVec 32 := Scalar.muli v13 c256_i32
  let v26 : BitVec 32 := Scalar.addi v24 v25
  let c12_i32_282 : BitVec 32 := 12#32
  let c0_i32_287 : BitVec 32 := 0#32
  ![0, v26.toNat, 12, 0]
def k0_off46 (d0 : Dev nD) : Fin 4 → Nat :=
  let c0_i32_288 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32 : BitVec 32 := 1024#32
  let v24 : BitVec 32 := Scalar.muli v8 c1024_i32
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c256_i32 : BitVec 32 := 256#32
  let v25 : BitVec 32 := Scalar.muli v13 c256_i32
  let v26 : BitVec 32 := Scalar.addi v24 v25
  let c13_i32_289 : BitVec 32 := 13#32
  let c0_i32_294 : BitVec 32 := 0#32
  ![0, v26.toNat, 13, 0]
def k0_off47 (d0 : Dev nD) : Fin 4 → Nat :=
  let c0_i32_295 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32 : BitVec 32 := 1024#32
  let v24 : BitVec 32 := Scalar.muli v8 c1024_i32
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c256_i32 : BitVec 32 := 256#32
  let v25 : BitVec 32 := Scalar.muli v13 c256_i32
  let v26 : BitVec 32 := Scalar.addi v24 v25
  let c14_i32_296 : BitVec 32 := 14#32
  let c0_i32_301 : BitVec 32 := 0#32
  ![0, v26.toNat, 14, 0]
def k0_off48 (d0 : Dev nD) : Fin 4 → Nat :=
  let c0_i32_302 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32 : BitVec 32 := 1024#32
  let v24 : BitVec 32 := Scalar.muli v8 c1024_i32
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c256_i32 : BitVec 32 := 256#32
  let v25 : BitVec 32 := Scalar.muli v13 c256_i32
  let v26 : BitVec 32 := Scalar.addi v24 v25
  let c15_i32_303 : BitVec 32 := 15#32
  let c0_i32_308 : BitVec 32 := 0#32
  ![0, v26.toNat, 15, 0]
def k0_off49 (d0 : Dev nD) : Fin 4 → Nat :=
  let c0_i32_309 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32 : BitVec 32 := 1024#32
  let v24 : BitVec 32 := Scalar.muli v8 c1024_i32
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c256_i32 : BitVec 32 := 256#32
  let v25 : BitVec 32 := Scalar.muli v13 c256_i32
  let v26 : BitVec 32 := Scalar.addi v24 v25
  let c16_i32_310 : BitVec 32 := 16#32
  let c0_i32_315 : BitVec 32 := 0#32
  ![0, v26.toNat, 16, 0]
def k0_off50 (d0 : Dev nD) : Fin 4 → Nat :=
  let c0_i32_316 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32 : BitVec 32 := 1024#32
  let v24 : BitVec 32 := Scalar.muli v8 c1024_i32
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c256_i32 : BitVec 32 := 256#32
  let v25 : BitVec 32 := Scalar.muli v13 c256_i32
  let v26 : BitVec 32 := Scalar.addi v24 v25
  let c17_i32_317 : BitVec 32 := 17#32
  let c0_i32_322 : BitVec 32 := 0#32
  ![0, v26.toNat, 17, 0]
def k0_off51 (d0 : Dev nD) : Fin 4 → Nat :=
  let c0_i32_323 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32 : BitVec 32 := 1024#32
  let v24 : BitVec 32 := Scalar.muli v8 c1024_i32
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c256_i32 : BitVec 32 := 256#32
  let v25 : BitVec 32 := Scalar.muli v13 c256_i32
  let v26 : BitVec 32 := Scalar.addi v24 v25
  let c18_i32_324 : BitVec 32 := 18#32
  let c0_i32_329 : BitVec 32 := 0#32
  ![0, v26.toNat, 18, 0]
def k0_off52 (d0 : Dev nD) : Fin 4 → Nat :=
  let c0_i32_330 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32 : BitVec 32 := 1024#32
  let v24 : BitVec 32 := Scalar.muli v8 c1024_i32
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c256_i32 : BitVec 32 := 256#32
  let v25 : BitVec 32 := Scalar.muli v13 c256_i32
  let v26 : BitVec 32 := Scalar.addi v24 v25
  let c19_i32_331 : BitVec 32 := 19#32
  let c0_i32_336 : BitVec 32 := 0#32
  ![0, v26.toNat, 19, 0]
def k0_off53 (d0 : Dev nD) : Fin 4 → Nat :=
  let c0_i32_337 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32 : BitVec 32 := 1024#32
  let v24 : BitVec 32 := Scalar.muli v8 c1024_i32
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c256_i32 : BitVec 32 := 256#32
  let v25 : BitVec 32 := Scalar.muli v13 c256_i32
  let v26 : BitVec 32 := Scalar.addi v24 v25
  let c20_i32_338 : BitVec 32 := 20#32
  let c0_i32_343 : BitVec 32 := 0#32
  ![0, v26.toNat, 20, 0]
def k0_off54 (d0 : Dev nD) : Fin 4 → Nat :=
  let c0_i32_344 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32 : BitVec 32 := 1024#32
  let v24 : BitVec 32 := Scalar.muli v8 c1024_i32
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c256_i32 : BitVec 32 := 256#32
  let v25 : BitVec 32 := Scalar.muli v13 c256_i32
  let v26 : BitVec 32 := Scalar.addi v24 v25
  let c21_i32_345 : BitVec 32 := 21#32
  let c0_i32_350 : BitVec 32 := 0#32
  ![0, v26.toNat, 21, 0]
def k0_off55 (d0 : Dev nD) : Fin 4 → Nat :=
  let c0_i32_351 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32 : BitVec 32 := 1024#32
  let v24 : BitVec 32 := Scalar.muli v8 c1024_i32
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c256_i32 : BitVec 32 := 256#32
  let v25 : BitVec 32 := Scalar.muli v13 c256_i32
  let v26 : BitVec 32 := Scalar.addi v24 v25
  let c22_i32_352 : BitVec 32 := 22#32
  let c0_i32_357 : BitVec 32 := 0#32
  ![0, v26.toNat, 22, 0]
def k0_off56 (d0 : Dev nD) : Fin 4 → Nat :=
  let c0_i32_358 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32 : BitVec 32 := 1024#32
  let v24 : BitVec 32 := Scalar.muli v8 c1024_i32
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c256_i32 : BitVec 32 := 256#32
  let v25 : BitVec 32 := Scalar.muli v13 c256_i32
  let v26 : BitVec 32 := Scalar.addi v24 v25
  let c23_i32_359 : BitVec 32 := 23#32
  let c0_i32_364 : BitVec 32 := 0#32
  ![0, v26.toNat, 23, 0]
def k0_off57 (d0 : Dev nD) : Fin 4 → Nat :=
  let c0_i32_365 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32 : BitVec 32 := 1024#32
  let v24 : BitVec 32 := Scalar.muli v8 c1024_i32
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c256_i32 : BitVec 32 := 256#32
  let v25 : BitVec 32 := Scalar.muli v13 c256_i32
  let v26 : BitVec 32 := Scalar.addi v24 v25
  let c24_i32_366 : BitVec 32 := 24#32
  let c0_i32_371 : BitVec 32 := 0#32
  ![0, v26.toNat, 24, 0]
def k0_off58 (d0 : Dev nD) : Fin 4 → Nat :=
  let c0_i32_372 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32 : BitVec 32 := 1024#32
  let v24 : BitVec 32 := Scalar.muli v8 c1024_i32
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c256_i32 : BitVec 32 := 256#32
  let v25 : BitVec 32 := Scalar.muli v13 c256_i32
  let v26 : BitVec 32 := Scalar.addi v24 v25
  let c25_i32_373 : BitVec 32 := 25#32
  let c0_i32_378 : BitVec 32 := 0#32
  ![0, v26.toNat, 25, 0]
def k0_off59 (d0 : Dev nD) : Fin 4 → Nat :=
  let c0_i32_379 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32 : BitVec 32 := 1024#32
  let v24 : BitVec 32 := Scalar.muli v8 c1024_i32
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c256_i32 : BitVec 32 := 256#32
  let v25 : BitVec 32 := Scalar.muli v13 c256_i32
  let v26 : BitVec 32 := Scalar.addi v24 v25
  let c26_i32_380 : BitVec 32 := 26#32
  let c0_i32_385 : BitVec 32 := 0#32
  ![0, v26.toNat, 26, 0]
def k0_off60 (d0 : Dev nD) : Fin 4 → Nat :=
  let c0_i32_386 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32 : BitVec 32 := 1024#32
  let v24 : BitVec 32 := Scalar.muli v8 c1024_i32
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c256_i32 : BitVec 32 := 256#32
  let v25 : BitVec 32 := Scalar.muli v13 c256_i32
  let v26 : BitVec 32 := Scalar.addi v24 v25
  let c27_i32_387 : BitVec 32 := 27#32
  let c0_i32_392 : BitVec 32 := 0#32
  ![0, v26.toNat, 27, 0]
def k0_off61 (d0 : Dev nD) : Fin 4 → Nat :=
  let c0_i32_393 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32 : BitVec 32 := 1024#32
  let v24 : BitVec 32 := Scalar.muli v8 c1024_i32
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c256_i32 : BitVec 32 := 256#32
  let v25 : BitVec 32 := Scalar.muli v13 c256_i32
  let v26 : BitVec 32 := Scalar.addi v24 v25
  let c28_i32_394 : BitVec 32 := 28#32
  let c0_i32_399 : BitVec 32 := 0#32
  ![0, v26.toNat, 28, 0]
def k0_off62 (d0 : Dev nD) : Fin 4 → Nat :=
  let c0_i32_400 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32 : BitVec 32 := 1024#32
  let v24 : BitVec 32 := Scalar.muli v8 c1024_i32
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c256_i32 : BitVec 32 := 256#32
  let v25 : BitVec 32 := Scalar.muli v13 c256_i32
  let v26 : BitVec 32 := Scalar.addi v24 v25
  let c29_i32_401 : BitVec 32 := 29#32
  let c0_i32_406 : BitVec 32 := 0#32
  ![0, v26.toNat, 29, 0]
def k0_off63 (d0 : Dev nD) : Fin 4 → Nat :=
  let c0_i32_407 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32 : BitVec 32 := 1024#32
  let v24 : BitVec 32 := Scalar.muli v8 c1024_i32
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c256_i32 : BitVec 32 := 256#32
  let v25 : BitVec 32 := Scalar.muli v13 c256_i32
  let v26 : BitVec 32 := Scalar.addi v24 v25
  let c30_i32_408 : BitVec 32 := 30#32
  let c0_i32_413 : BitVec 32 := 0#32
  ![0, v26.toNat, 30, 0]
def k0_off64 (d0 : Dev nD) : Fin 4 → Nat :=
  let c0_i32_414 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32 : BitVec 32 := 1024#32
  let v24 : BitVec 32 := Scalar.muli v8 c1024_i32
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c256_i32 : BitVec 32 := 256#32
  let v25 : BitVec 32 := Scalar.muli v13 c256_i32
  let v26 : BitVec 32 := Scalar.addi v24 v25
  let c31_i32_415 : BitVec 32 := 31#32
  let c0_i32_420 : BitVec 32 := 0#32
  ![0, v26.toNat, 31, 0]
def k0_dev1 (d0 : Dev nD) : Nat :=
  let c0_i32_423 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_422 : BitVec 32 := 4#32
  let v438 : BitVec 32 := Scalar.muli v2 c4_i32_422
  let v439 : BitVec 32 := Scalar.addi c0_i32_423 v438
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_424 : BitVec 32 := 2#32
  let v440 : BitVec 32 := Scalar.muli v5 c2_i32_424
  let v441 : BitVec 32 := Scalar.addi v439 v440
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_425 : BitVec 32 := 1#32
  let v442 : BitVec 32 := Scalar.muli v9 c1_i32_425
  let v443 : BitVec 32 := Scalar.addi v441 v442
  v443.toNat
def k0_dev2 (d0 : Dev nD) : Nat :=
  let c0_i32_428 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_427 : BitVec 32 := 4#32
  let v444 : BitVec 32 := Scalar.muli v10 c4_i32_427
  let v445 : BitVec 32 := Scalar.addi c0_i32_428 v444
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_429 : BitVec 32 := 2#32
  let v446 : BitVec 32 := Scalar.muli v5 c2_i32_429
  let v447 : BitVec 32 := Scalar.addi v445 v446
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_430 : BitVec 32 := 1#32
  let v448 : BitVec 32 := Scalar.muli v8 c1_i32_430
  let v449 : BitVec 32 := Scalar.addi v447 v448
  v449.toNat
def k0_dev3 (d0 : Dev nD) : Nat :=
  let c0_i32_433 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_432 : BitVec 32 := 4#32
  let v450 : BitVec 32 := Scalar.muli v2 c4_i32_432
  let v451 : BitVec 32 := Scalar.addi c0_i32_433 v450
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_434 : BitVec 32 := 2#32
  let v452 : BitVec 32 := Scalar.muli v11 c2_i32_434
  let v453 : BitVec 32 := Scalar.addi v451 v452
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_435 : BitVec 32 := 1#32
  let v454 : BitVec 32 := Scalar.muli v8 c1_i32_435
  let v455 : BitVec 32 := Scalar.addi v453 v454
  v455.toNat
def k0_cond2 (i : grid0.Coords) : BitVec 1 :=
  let arg0 : BitVec 32 := BitVec.ofNat 32 (i 0).val
  let c16_i32 : BitVec 32 := 16#32
  let v34 : BitVec 1 := Scalar.cmpi .slt arg0 c16_i32
  let v35 : BitVec 32 := Scalar.extui v34
  let c0_i32_18 : BitVec 32 := 0#32
  let v36 : BitVec 1 := Scalar.cmpi .ne v35 c0_i32_18
  v36

def k0_cond3 (i : grid0.Coords) : BitVec 1 :=
  let arg0 : BitVec 32 := BitVec.ofNat 32 (i 0).val
  let c2_i32_28 : BitVec 32 := 2#32
  let v55 : BitVec 1 := Scalar.cmpi .sge arg0 c2_i32_28
  let v56 : BitVec 32 := Scalar.extui v55
  let c0_i32_29 : BitVec 32 := 0#32
  let v57 : BitVec 1 := Scalar.cmpi .ne v56 c0_i32_29
  v57

def k0_off65 (i : grid0.Coords) : Fin 1 → Nat :=
  let arg0 : BitVec 32 := BitVec.ofNat 32 (i 0).val
  let c2_i32_26 : BitVec 32 := 2#32
  let v53 : BitVec 32 := Scalar.remsi arg0 c2_i32_26
  ![v53.toNat]
def k0_off66 (i : grid0.Coords) : Fin 3 → Nat :=
  let arg0 : BitVec 32 := BitVec.ofNat 32 (i 0).val
  let c2_i32_26 : BitVec 32 := 2#32
  let v53 : BitVec 32 := Scalar.remsi arg0 c2_i32_26
  let c0_i32_58 : BitVec 32 := 0#32
  let c0_i32_59 : BitVec 32 := 0#32
  ![v53.toNat, 0, 0]
def k0_off67 (i : grid0.Coords) : Fin 3 → Nat :=
  let arg0 : BitVec 32 := BitVec.ofNat 32 (i 0).val
  let c4_i32_27 : BitVec 32 := 4#32
  let v54 : BitVec 32 := Scalar.remsi arg0 c4_i32_27
  let c0_i32_60 : BitVec 32 := 0#32
  let c0_i32_61 : BitVec 32 := 0#32
  ![v54.toNat, 0, 0]
def k0_off68 (i : grid0.Coords) : Fin 3 → Nat :=
  let arg0 : BitVec 32 := BitVec.ofNat 32 (i 0).val
  let c2_i32_26 : BitVec 32 := 2#32
  let v53 : BitVec 32 := Scalar.remsi arg0 c2_i32_26
  let v63 : Index := Scalar.indexCast v53
  let c0_34 : Index := 0#32
  let c0_35 : Index := 0#32
  ![v63.toNat, 0, 0]
def k0_cond4 (i : grid0.Coords) : BitVec 1 :=
  let arg0 : BitVec 32 := BitVec.ofNat 32 (i 0).val
  let c4_i32_36 : BitVec 32 := 4#32
  let v67 : BitVec 1 := Scalar.cmpi .sge arg0 c4_i32_36
  let v68 : BitVec 32 := Scalar.extui v67
  let c0_i32_37 : BitVec 32 := 0#32
  let v69 : BitVec 1 := Scalar.cmpi .ne v68 c0_i32_37
  v69

def k0_off69 (i : grid0.Coords) : Fin 1 → Nat :=
  let arg0 : BitVec 32 := BitVec.ofNat 32 (i 0).val
  let c4_i32_27 : BitVec 32 := 4#32
  let v54 : BitVec 32 := Scalar.remsi arg0 c4_i32_27
  ![v54.toNat]
def k0_off70 (i : grid0.Coords) : Fin 1 → Nat :=
  let arg0 : BitVec 32 := BitVec.ofNat 32 (i 0).val
  let c2_i32_26 : BitVec 32 := 2#32
  let v53 : BitVec 32 := Scalar.remsi arg0 c2_i32_26
  ![v53.toNat]
def k0_off71 (i : grid0.Coords) : Fin 1 → Nat :=
  let arg0 : BitVec 32 := BitVec.ofNat 32 (i 0).val
  let c4_i32_27 : BitVec 32 := 4#32
  let v54 : BitVec 32 := Scalar.remsi arg0 c4_i32_27
  ![v54.toNat]
def k0_off72 (i : grid0.Coords) : Fin 3 → Nat :=
  let arg0 : BitVec 32 := BitVec.ofNat 32 (i 0).val
  let c4_i32_27 : BitVec 32 := 4#32
  let v54 : BitVec 32 := Scalar.remsi arg0 c4_i32_27
  let c0_i32_42 : BitVec 32 := 0#32
  let c0_i32_43 : BitVec 32 := 0#32
  ![v54.toNat, 0, 0]
def k0_off73 (i : grid0.Coords) : Fin 3 → Nat :=
  let arg0 : BitVec 32 := BitVec.ofNat 32 (i 0).val
  let c2_i32_26 : BitVec 32 := 2#32
  let v53 : BitVec 32 := Scalar.remsi arg0 c2_i32_26
  let c0_i32_44 : BitVec 32 := 0#32
  let c0_i32_45 : BitVec 32 := 0#32
  ![v53.toNat, 0, 0]
def k0_dev4 (d0 : Dev nD) : Nat :=
  let c0_i32_39 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_38 : BitVec 32 := 4#32
  let v70 : BitVec 32 := Scalar.muli v2 c4_i32_38
  let v71 : BitVec 32 := Scalar.addi c0_i32_39 v70
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_40 : BitVec 32 := 2#32
  let v72 : BitVec 32 := Scalar.muli v5 c2_i32_40
  let v73 : BitVec 32 := Scalar.addi v71 v72
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_41 : BitVec 32 := 1#32
  let v74 : BitVec 32 := Scalar.muli v9 c1_i32_41
  let v75 : BitVec 32 := Scalar.addi v73 v74
  v75.toNat
def k0_cond5 (i : grid0.Coords) : BitVec 1 :=
  let arg0 : BitVec 32 := BitVec.ofNat 32 (i 0).val
  let c0_i32_46 : BitVec 32 := 0#32
  let v84 : BitVec 1 := Scalar.cmpi .eq arg0 c0_i32_46
  let v85 : BitVec 32 := Scalar.extui v84
  let c0_i32_47 : BitVec 32 := 0#32
  let v86 : BitVec 1 := Scalar.cmpi .ne v85 c0_i32_47
  v86

def k0_off74 (d0 : Dev nD) : Fin 4 → Nat :=
  let c0_i32_57 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32 : BitVec 32 := 1024#32
  let v24 : BitVec 32 := Scalar.muli v8 c1024_i32
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c256_i32 : BitVec 32 := 256#32
  let v25 : BitVec 32 := Scalar.muli v13 c256_i32
  let v26 : BitVec 32 := Scalar.addi v24 v25
  let c0_i32_58 : BitVec 32 := 0#32
  let c0_i32_63 : BitVec 32 := 0#32
  ![0, v26.toNat, 0, 0]
def k0_off75 (d0 : Dev nD) : Fin 4 → Nat :=
  let c0_i32_64 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32 : BitVec 32 := 1024#32
  let v24 : BitVec 32 := Scalar.muli v8 c1024_i32
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c256_i32 : BitVec 32 := 256#32
  let v25 : BitVec 32 := Scalar.muli v13 c256_i32
  let v26 : BitVec 32 := Scalar.addi v24 v25
  let c1_i32_65 : BitVec 32 := 1#32
  let c0_i32_69 : BitVec 32 := 0#32
  ![0, v26.toNat, 1, 0]
def k0_off76 (d0 : Dev nD) : Fin 4 → Nat :=
  let c0_i32_70 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32 : BitVec 32 := 1024#32
  let v24 : BitVec 32 := Scalar.muli v8 c1024_i32
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c256_i32 : BitVec 32 := 256#32
  let v25 : BitVec 32 := Scalar.muli v13 c256_i32
  let v26 : BitVec 32 := Scalar.addi v24 v25
  let c2_i32_71 : BitVec 32 := 2#32
  let c0_i32_76 : BitVec 32 := 0#32
  ![0, v26.toNat, 2, 0]
def k0_off77 (d0 : Dev nD) : Fin 4 → Nat :=
  let c0_i32_77 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32 : BitVec 32 := 1024#32
  let v24 : BitVec 32 := Scalar.muli v8 c1024_i32
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c256_i32 : BitVec 32 := 256#32
  let v25 : BitVec 32 := Scalar.muli v13 c256_i32
  let v26 : BitVec 32 := Scalar.addi v24 v25
  let c3_i32_78 : BitVec 32 := 3#32
  let c0_i32_82 : BitVec 32 := 0#32
  ![0, v26.toNat, 3, 0]
def k0_off78 (d0 : Dev nD) : Fin 4 → Nat :=
  let c0_i32_83 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32 : BitVec 32 := 1024#32
  let v24 : BitVec 32 := Scalar.muli v8 c1024_i32
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c256_i32 : BitVec 32 := 256#32
  let v25 : BitVec 32 := Scalar.muli v13 c256_i32
  let v26 : BitVec 32 := Scalar.addi v24 v25
  let c4_i32_84 : BitVec 32 := 4#32
  let c0_i32_88 : BitVec 32 := 0#32
  ![0, v26.toNat, 4, 0]
def k0_off79 (d0 : Dev nD) : Fin 4 → Nat :=
  let c0_i32_89 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32 : BitVec 32 := 1024#32
  let v24 : BitVec 32 := Scalar.muli v8 c1024_i32
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c256_i32 : BitVec 32 := 256#32
  let v25 : BitVec 32 := Scalar.muli v13 c256_i32
  let v26 : BitVec 32 := Scalar.addi v24 v25
  let c5_i32 : BitVec 32 := 5#32
  let c0_i32_93 : BitVec 32 := 0#32
  ![0, v26.toNat, 5, 0]
def k0_off80 (d0 : Dev nD) : Fin 4 → Nat :=
  let c0_i32_94 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32 : BitVec 32 := 1024#32
  let v24 : BitVec 32 := Scalar.muli v8 c1024_i32
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c256_i32 : BitVec 32 := 256#32
  let v25 : BitVec 32 := Scalar.muli v13 c256_i32
  let v26 : BitVec 32 := Scalar.addi v24 v25
  let c6_i32 : BitVec 32 := 6#32
  let c0_i32_98 : BitVec 32 := 0#32
  ![0, v26.toNat, 6, 0]
def k0_off81 (d0 : Dev nD) : Fin 4 → Nat :=
  let c0_i32_99 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32 : BitVec 32 := 1024#32
  let v24 : BitVec 32 := Scalar.muli v8 c1024_i32
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c256_i32 : BitVec 32 := 256#32
  let v25 : BitVec 32 := Scalar.muli v13 c256_i32
  let v26 : BitVec 32 := Scalar.addi v24 v25
  let c7_i32 : BitVec 32 := 7#32
  let c0_i32_103 : BitVec 32 := 0#32
  ![0, v26.toNat, 7, 0]
def k0_off82 (d0 : Dev nD) : Fin 4 → Nat :=
  let c0_i32_104 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32 : BitVec 32 := 1024#32
  let v24 : BitVec 32 := Scalar.muli v8 c1024_i32
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c256_i32 : BitVec 32 := 256#32
  let v25 : BitVec 32 := Scalar.muli v13 c256_i32
  let v26 : BitVec 32 := Scalar.addi v24 v25
  let c8_i32 : BitVec 32 := 8#32
  let c0_i32_109 : BitVec 32 := 0#32
  ![0, v26.toNat, 8, 0]
def k0_off83 (d0 : Dev nD) : Fin 4 → Nat :=
  let c0_i32_110 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32 : BitVec 32 := 1024#32
  let v24 : BitVec 32 := Scalar.muli v8 c1024_i32
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c256_i32 : BitVec 32 := 256#32
  let v25 : BitVec 32 := Scalar.muli v13 c256_i32
  let v26 : BitVec 32 := Scalar.addi v24 v25
  let c9_i32 : BitVec 32 := 9#32
  let c0_i32_114 : BitVec 32 := 0#32
  ![0, v26.toNat, 9, 0]
def k0_off84 (d0 : Dev nD) : Fin 4 → Nat :=
  let c0_i32_115 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32 : BitVec 32 := 1024#32
  let v24 : BitVec 32 := Scalar.muli v8 c1024_i32
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c256_i32 : BitVec 32 := 256#32
  let v25 : BitVec 32 := Scalar.muli v13 c256_i32
  let v26 : BitVec 32 := Scalar.addi v24 v25
  let c10_i32 : BitVec 32 := 10#32
  let c0_i32_119 : BitVec 32 := 0#32
  ![0, v26.toNat, 10, 0]
def k0_off85 (d0 : Dev nD) : Fin 4 → Nat :=
  let c0_i32_120 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32 : BitVec 32 := 1024#32
  let v24 : BitVec 32 := Scalar.muli v8 c1024_i32
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c256_i32 : BitVec 32 := 256#32
  let v25 : BitVec 32 := Scalar.muli v13 c256_i32
  let v26 : BitVec 32 := Scalar.addi v24 v25
  let c11_i32 : BitVec 32 := 11#32
  let c0_i32_124 : BitVec 32 := 0#32
  ![0, v26.toNat, 11, 0]
def k0_off86 (d0 : Dev nD) : Fin 4 → Nat :=
  let c0_i32_125 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32 : BitVec 32 := 1024#32
  let v24 : BitVec 32 := Scalar.muli v8 c1024_i32
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c256_i32 : BitVec 32 := 256#32
  let v25 : BitVec 32 := Scalar.muli v13 c256_i32
  let v26 : BitVec 32 := Scalar.addi v24 v25
  let c12_i32 : BitVec 32 := 12#32
  let c0_i32_129 : BitVec 32 := 0#32
  ![0, v26.toNat, 12, 0]
def k0_off87 (d0 : Dev nD) : Fin 4 → Nat :=
  let c0_i32_130 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32 : BitVec 32 := 1024#32
  let v24 : BitVec 32 := Scalar.muli v8 c1024_i32
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c256_i32 : BitVec 32 := 256#32
  let v25 : BitVec 32 := Scalar.muli v13 c256_i32
  let v26 : BitVec 32 := Scalar.addi v24 v25
  let c13_i32 : BitVec 32 := 13#32
  let c0_i32_134 : BitVec 32 := 0#32
  ![0, v26.toNat, 13, 0]
def k0_off88 (d0 : Dev nD) : Fin 4 → Nat :=
  let c0_i32_135 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32 : BitVec 32 := 1024#32
  let v24 : BitVec 32 := Scalar.muli v8 c1024_i32
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c256_i32 : BitVec 32 := 256#32
  let v25 : BitVec 32 := Scalar.muli v13 c256_i32
  let v26 : BitVec 32 := Scalar.addi v24 v25
  let c14_i32 : BitVec 32 := 14#32
  let c0_i32_139 : BitVec 32 := 0#32
  ![0, v26.toNat, 14, 0]
def k0_off89 (d0 : Dev nD) : Fin 4 → Nat :=
  let c0_i32_140 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32 : BitVec 32 := 1024#32
  let v24 : BitVec 32 := Scalar.muli v8 c1024_i32
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c256_i32 : BitVec 32 := 256#32
  let v25 : BitVec 32 := Scalar.muli v13 c256_i32
  let v26 : BitVec 32 := Scalar.addi v24 v25
  let c15_i32 : BitVec 32 := 15#32
  let c0_i32_144 : BitVec 32 := 0#32
  ![0, v26.toNat, 15, 0]
def k0_off90 (d0 : Dev nD) : Fin 4 → Nat :=
  let c0_i32_145 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32 : BitVec 32 := 1024#32
  let v24 : BitVec 32 := Scalar.muli v8 c1024_i32
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c256_i32 : BitVec 32 := 256#32
  let v25 : BitVec 32 := Scalar.muli v13 c256_i32
  let v26 : BitVec 32 := Scalar.addi v24 v25
  let c16_i32_146 : BitVec 32 := 16#32
  let c0_i32_150 : BitVec 32 := 0#32
  ![0, v26.toNat, 16, 0]
def k0_off91 (d0 : Dev nD) : Fin 4 → Nat :=
  let c0_i32_151 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32 : BitVec 32 := 1024#32
  let v24 : BitVec 32 := Scalar.muli v8 c1024_i32
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c256_i32 : BitVec 32 := 256#32
  let v25 : BitVec 32 := Scalar.muli v13 c256_i32
  let v26 : BitVec 32 := Scalar.addi v24 v25
  let c17_i32_152 : BitVec 32 := 17#32
  let c0_i32_156 : BitVec 32 := 0#32
  ![0, v26.toNat, 17, 0]
def k0_off92 (d0 : Dev nD) : Fin 4 → Nat :=
  let c0_i32_157 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32 : BitVec 32 := 1024#32
  let v24 : BitVec 32 := Scalar.muli v8 c1024_i32
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c256_i32 : BitVec 32 := 256#32
  let v25 : BitVec 32 := Scalar.muli v13 c256_i32
  let v26 : BitVec 32 := Scalar.addi v24 v25
  let c18_i32_158 : BitVec 32 := 18#32
  let c0_i32_162 : BitVec 32 := 0#32
  ![0, v26.toNat, 18, 0]
def k0_off93 (d0 : Dev nD) : Fin 4 → Nat :=
  let c0_i32_163 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32 : BitVec 32 := 1024#32
  let v24 : BitVec 32 := Scalar.muli v8 c1024_i32
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c256_i32 : BitVec 32 := 256#32
  let v25 : BitVec 32 := Scalar.muli v13 c256_i32
  let v26 : BitVec 32 := Scalar.addi v24 v25
  let c19_i32 : BitVec 32 := 19#32
  let c0_i32_167 : BitVec 32 := 0#32
  ![0, v26.toNat, 19, 0]
def k0_off94 (d0 : Dev nD) : Fin 4 → Nat :=
  let c0_i32_168 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32 : BitVec 32 := 1024#32
  let v24 : BitVec 32 := Scalar.muli v8 c1024_i32
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c256_i32 : BitVec 32 := 256#32
  let v25 : BitVec 32 := Scalar.muli v13 c256_i32
  let v26 : BitVec 32 := Scalar.addi v24 v25
  let c20_i32 : BitVec 32 := 20#32
  let c0_i32_172 : BitVec 32 := 0#32
  ![0, v26.toNat, 20, 0]
def k0_off95 (d0 : Dev nD) : Fin 4 → Nat :=
  let c0_i32_173 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32 : BitVec 32 := 1024#32
  let v24 : BitVec 32 := Scalar.muli v8 c1024_i32
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c256_i32 : BitVec 32 := 256#32
  let v25 : BitVec 32 := Scalar.muli v13 c256_i32
  let v26 : BitVec 32 := Scalar.addi v24 v25
  let c21_i32 : BitVec 32 := 21#32
  let c0_i32_177 : BitVec 32 := 0#32
  ![0, v26.toNat, 21, 0]
def k0_off96 (d0 : Dev nD) : Fin 4 → Nat :=
  let c0_i32_178 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32 : BitVec 32 := 1024#32
  let v24 : BitVec 32 := Scalar.muli v8 c1024_i32
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c256_i32 : BitVec 32 := 256#32
  let v25 : BitVec 32 := Scalar.muli v13 c256_i32
  let v26 : BitVec 32 := Scalar.addi v24 v25
  let c22_i32 : BitVec 32 := 22#32
  let c0_i32_182 : BitVec 32 := 0#32
  ![0, v26.toNat, 22, 0]
def k0_off97 (d0 : Dev nD) : Fin 4 → Nat :=
  let c0_i32_183 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32 : BitVec 32 := 1024#32
  let v24 : BitVec 32 := Scalar.muli v8 c1024_i32
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c256_i32 : BitVec 32 := 256#32
  let v25 : BitVec 32 := Scalar.muli v13 c256_i32
  let v26 : BitVec 32 := Scalar.addi v24 v25
  let c23_i32 : BitVec 32 := 23#32
  let c0_i32_187 : BitVec 32 := 0#32
  ![0, v26.toNat, 23, 0]
def k0_off98 (d0 : Dev nD) : Fin 4 → Nat :=
  let c0_i32_188 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32 : BitVec 32 := 1024#32
  let v24 : BitVec 32 := Scalar.muli v8 c1024_i32
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c256_i32 : BitVec 32 := 256#32
  let v25 : BitVec 32 := Scalar.muli v13 c256_i32
  let v26 : BitVec 32 := Scalar.addi v24 v25
  let c24_i32 : BitVec 32 := 24#32
  let c0_i32_192 : BitVec 32 := 0#32
  ![0, v26.toNat, 24, 0]
def k0_off99 (d0 : Dev nD) : Fin 4 → Nat :=
  let c0_i32_193 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32 : BitVec 32 := 1024#32
  let v24 : BitVec 32 := Scalar.muli v8 c1024_i32
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c256_i32 : BitVec 32 := 256#32
  let v25 : BitVec 32 := Scalar.muli v13 c256_i32
  let v26 : BitVec 32 := Scalar.addi v24 v25
  let c25_i32 : BitVec 32 := 25#32
  let c0_i32_197 : BitVec 32 := 0#32
  ![0, v26.toNat, 25, 0]
def k0_off100 (d0 : Dev nD) : Fin 4 → Nat :=
  let c0_i32_198 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32 : BitVec 32 := 1024#32
  let v24 : BitVec 32 := Scalar.muli v8 c1024_i32
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c256_i32 : BitVec 32 := 256#32
  let v25 : BitVec 32 := Scalar.muli v13 c256_i32
  let v26 : BitVec 32 := Scalar.addi v24 v25
  let c26_i32 : BitVec 32 := 26#32
  let c0_i32_202 : BitVec 32 := 0#32
  ![0, v26.toNat, 26, 0]
def k0_off101 (d0 : Dev nD) : Fin 4 → Nat :=
  let c0_i32_203 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32 : BitVec 32 := 1024#32
  let v24 : BitVec 32 := Scalar.muli v8 c1024_i32
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c256_i32 : BitVec 32 := 256#32
  let v25 : BitVec 32 := Scalar.muli v13 c256_i32
  let v26 : BitVec 32 := Scalar.addi v24 v25
  let c27_i32 : BitVec 32 := 27#32
  let c0_i32_207 : BitVec 32 := 0#32
  ![0, v26.toNat, 27, 0]
def k0_off102 (d0 : Dev nD) : Fin 4 → Nat :=
  let c0_i32_208 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32 : BitVec 32 := 1024#32
  let v24 : BitVec 32 := Scalar.muli v8 c1024_i32
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c256_i32 : BitVec 32 := 256#32
  let v25 : BitVec 32 := Scalar.muli v13 c256_i32
  let v26 : BitVec 32 := Scalar.addi v24 v25
  let c28_i32 : BitVec 32 := 28#32
  let c0_i32_212 : BitVec 32 := 0#32
  ![0, v26.toNat, 28, 0]
def k0_off103 (d0 : Dev nD) : Fin 4 → Nat :=
  let c0_i32_213 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32 : BitVec 32 := 1024#32
  let v24 : BitVec 32 := Scalar.muli v8 c1024_i32
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c256_i32 : BitVec 32 := 256#32
  let v25 : BitVec 32 := Scalar.muli v13 c256_i32
  let v26 : BitVec 32 := Scalar.addi v24 v25
  let c29_i32 : BitVec 32 := 29#32
  let c0_i32_217 : BitVec 32 := 0#32
  ![0, v26.toNat, 29, 0]
def k0_off104 (d0 : Dev nD) : Fin 4 → Nat :=
  let c0_i32_218 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32 : BitVec 32 := 1024#32
  let v24 : BitVec 32 := Scalar.muli v8 c1024_i32
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c256_i32 : BitVec 32 := 256#32
  let v25 : BitVec 32 := Scalar.muli v13 c256_i32
  let v26 : BitVec 32 := Scalar.addi v24 v25
  let c30_i32 : BitVec 32 := 30#32
  let c0_i32_222 : BitVec 32 := 0#32
  ![0, v26.toNat, 30, 0]
def k0_off105 (d0 : Dev nD) : Fin 4 → Nat :=
  let c0_i32_223 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32 : BitVec 32 := 1024#32
  let v24 : BitVec 32 := Scalar.muli v8 c1024_i32
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c256_i32 : BitVec 32 := 256#32
  let v25 : BitVec 32 := Scalar.muli v13 c256_i32
  let v26 : BitVec 32 := Scalar.addi v24 v25
  let c31_i32 : BitVec 32 := 31#32
  let c0_i32_227 : BitVec 32 := 0#32
  ![0, v26.toNat, 31, 0]
def k0_cond6 (i : grid0.Coords) : BitVec 1 :=
  let arg0 : BitVec 32 := BitVec.ofNat 32 (i 0).val
  let c4_i32_48 : BitVec 32 := 4#32
  let v87 : BitVec 1 := Scalar.cmpi .sge arg0 c4_i32_48
  let v88 : BitVec 32 := Scalar.extui v87
  let c0_i32_49 : BitVec 32 := 0#32
  let v89 : BitVec 1 := Scalar.cmpi .ne v88 c0_i32_49
  v89

def k0_off106 (i : grid0.Coords) : Fin 1 → Nat :=
  let arg0 : BitVec 32 := BitVec.ofNat 32 (i 0).val
  let c4_i32_27 : BitVec 32 := 4#32
  let v54 : BitVec 32 := Scalar.remsi arg0 c4_i32_27
  ![v54.toNat]
def k0_off107 (i : grid0.Coords) : Fin 3 → Nat :=
  let arg0 : BitVec 32 := BitVec.ofNat 32 (i 0).val
  let c4_i32_27 : BitVec 32 := 4#32
  let v54 : BitVec 32 := Scalar.remsi arg0 c4_i32_27
  let c0_i32_58 : BitVec 32 := 0#32
  let c0_i32_59 : BitVec 32 := 0#32
  ![v54.toNat, 0, 0]
def k0_off108 (i : grid0.Coords) : Fin 3 → Nat :=
  let arg0 : BitVec 32 := BitVec.ofNat 32 (i 0).val
  let c4_i32_27 : BitVec 32 := 4#32
  let v54 : BitVec 32 := Scalar.remsi arg0 c4_i32_27
  let c0_i32_68 : BitVec 32 := 0#32
  let c0_i32_69 : BitVec 32 := 0#32
  ![v54.toNat, 0, 0]
def k0_off109 (i : grid0.Coords) : Fin 3 → Nat :=
  let arg0 : BitVec 32 := BitVec.ofNat 32 (i 0).val
  let c4_i32_27 : BitVec 32 := 4#32
  let v54 : BitVec 32 := Scalar.remsi arg0 c4_i32_27
  let c0_i32_73 : BitVec 32 := 0#32
  let c256_i32_74 : BitVec 32 := 256#32
  ![v54.toNat, 0, 256]
def k0_dev5 (d0 : Dev nD) : Nat :=
  let c0_i32_79 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_78 : BitVec 32 := 4#32
  let v125 : BitVec 32 := Scalar.muli v10 c4_i32_78
  let v126 : BitVec 32 := Scalar.addi c0_i32_79 v125
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_80 : BitVec 32 := 2#32
  let v127 : BitVec 32 := Scalar.muli v5 c2_i32_80
  let v128 : BitVec 32 := Scalar.addi v126 v127
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_81 : BitVec 32 := 1#32
  let v129 : BitVec 32 := Scalar.muli v8 c1_i32_81
  let v130 : BitVec 32 := Scalar.addi v128 v129
  v130.toNat
def k0_dev6 (d0 : Dev nD) : Nat :=
  let c0_i32_84 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_83 : BitVec 32 := 4#32
  let v133 : BitVec 32 := Scalar.muli v2 c4_i32_83
  let v134 : BitVec 32 := Scalar.addi c0_i32_84 v133
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_85 : BitVec 32 := 2#32
  let v135 : BitVec 32 := Scalar.muli v11 c2_i32_85
  let v136 : BitVec 32 := Scalar.addi v134 v135
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_86 : BitVec 32 := 1#32
  let v137 : BitVec 32 := Scalar.muli v8 c1_i32_86
  let v138 : BitVec 32 := Scalar.addi v136 v137
  v138.toNat
def k0_off110 (i : grid0.Coords) : Fin 3 → Nat :=
  let arg0 : BitVec 32 := BitVec.ofNat 32 (i 0).val
  let c4_i32_27 : BitVec 32 := 4#32
  let v54 : BitVec 32 := Scalar.remsi arg0 c4_i32_27
  let v95 : Index := Scalar.indexCast v54
  let c0_55 : Index := 0#32
  let c0_56 : Index := 0#32
  ![v95.toNat, 0, 0]
def k0_cond7 (i : grid0.Coords) : BitVec 1 :=
  let arg0 : BitVec 32 := BitVec.ofNat 32 (i 0).val
  let c1_i32_19 : BitVec 32 := 1#32
  let v37 : BitVec 1 := Scalar.cmpi .sge arg0 c1_i32_19
  let c16_i32_20 : BitVec 32 := 16#32
  let v38 : BitVec 1 := Scalar.cmpi .sle arg0 c16_i32_20
  let v39 : BitVec 1 := Scalar.andi v37 v38
  let v40 : BitVec 32 := Scalar.extui v39
  let c0_i32_21 : BitVec 32 := 0#32
  let v41 : BitVec 1 := Scalar.cmpi .ne v40 c0_i32_21
  v41

def k0_off111 (i : grid0.Coords) : Fin 1 → Nat :=
  let arg0 : BitVec 32 := BitVec.ofNat 32 (i 0).val
  let c1_i32_26 : BitVec 32 := 1#32
  let v53 : BitVec 32 := Scalar.subi arg0 c1_i32_26
  let c4_i32_27 : BitVec 32 := 4#32
  let v54 : BitVec 32 := Scalar.remsi v53 c4_i32_27
  ![v54.toNat]
def k0_off112 (i : grid0.Coords) : Fin 3 → Nat :=
  let arg0 : BitVec 32 := BitVec.ofNat 32 (i 0).val
  let c1_i32_26 : BitVec 32 := 1#32
  let v53 : BitVec 32 := Scalar.subi arg0 c1_i32_26
  let c4_i32_27 : BitVec 32 := 4#32
  let v54 : BitVec 32 := Scalar.remsi v53 c4_i32_27
  let c0_i32_33 : BitVec 32 := 0#32
  let c0_i32_34 : BitVec 32 := 0#32
  ![v54.toNat, 0, 0]
def k0_off113 (i : grid0.Coords) : Fin 3 → Nat :=
  let arg0 : BitVec 32 := BitVec.ofNat 32 (i 0).val
  let c1_i32_26 : BitVec 32 := 1#32
  let v53 : BitVec 32 := Scalar.subi arg0 c1_i32_26
  let c2_i32_28 : BitVec 32 := 2#32
  let v55 : BitVec 32 := Scalar.remsi v53 c2_i32_28
  let c0_i32_35 : BitVec 32 := 0#32
  let c0_i32_36 : BitVec 32 := 0#32
  ![v55.toNat, 0, 0]
def k0_off114 (i : grid0.Coords) : Fin 3 → Nat :=
  let arg0 : BitVec 32 := BitVec.ofNat 32 (i 0).val
  let c1_i32_26 : BitVec 32 := 1#32
  let v53 : BitVec 32 := Scalar.subi arg0 c1_i32_26
  let c4_i32_27 : BitVec 32 := 4#32
  let v54 : BitVec 32 := Scalar.remsi v53 c4_i32_27
  let v68 : Index := Scalar.indexCast v54
  let c0 : Index := 0#32
  let c0_37 : Index := 0#32
  ![v68.toNat, 0, 0]
def k0_cond8 (i : grid0.Coords) : BitVec 1 :=
  let arg0 : BitVec 32 := BitVec.ofNat 32 (i 0).val
  let c1_i32_26 : BitVec 32 := 1#32
  let v53 : BitVec 32 := Scalar.subi arg0 c1_i32_26
  let c11_i32 : BitVec 32 := 11#32
  let v79 : BitVec 1 := Scalar.cmpi .sle v53 c11_i32
  let v80 : BitVec 32 := Scalar.extui v79
  let c0_i32_42 : BitVec 32 := 0#32
  let v81 : BitVec 1 := Scalar.cmpi .ne v80 c0_i32_42
  v81

def k0_off115 (i : grid0.Coords) : Fin 1 → Nat :=
  let arg0 : BitVec 32 := BitVec.ofNat 32 (i 0).val
  let c1_i32_26 : BitVec 32 := 1#32
  let v53 : BitVec 32 := Scalar.subi arg0 c1_i32_26
  let c4_i32_27 : BitVec 32 := 4#32
  let v54 : BitVec 32 := Scalar.remsi v53 c4_i32_27
  ![v54.toNat]
def k0_dev7 (d0 : Dev nD) : Nat :=
  let c0_i32_63 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_62 : BitVec 32 := 4#32
  let v115 : BitVec 32 := Scalar.muli v2 c4_i32_62
  let v116 : BitVec 32 := Scalar.addi c0_i32_63 v115
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_64 : BitVec 32 := 2#32
  let v117 : BitVec 32 := Scalar.muli v5 c2_i32_64
  let v118 : BitVec 32 := Scalar.addi v116 v117
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_65 : BitVec 32 := 1#32
  let v119 : BitVec 32 := Scalar.muli v9 c1_i32_65
  let v120 : BitVec 32 := Scalar.addi v118 v119
  v120.toNat
def k0_cond9 (i : grid0.Coords) : BitVec 1 :=
  let arg0 : BitVec 32 := BitVec.ofNat 32 (i 0).val
  let c1_i32_26 : BitVec 32 := 1#32
  let v53 : BitVec 32 := Scalar.subi arg0 c1_i32_26
  let c4_i32_43 : BitVec 32 := 4#32
  let v82 : BitVec 1 := Scalar.cmpi .sge v53 c4_i32_43
  let v83 : BitVec 32 := Scalar.extui v82
  let c0_i32_44 : BitVec 32 := 0#32
  let v84 : BitVec 1 := Scalar.cmpi .ne v83 c0_i32_44
  v84

def k0_off116 (i : grid0.Coords) : Fin 1 → Nat :=
  let arg0 : BitVec 32 := BitVec.ofNat 32 (i 0).val
  let c1_i32_26 : BitVec 32 := 1#32
  let v53 : BitVec 32 := Scalar.subi arg0 c1_i32_26
  let c4_i32_27 : BitVec 32 := 4#32
  let v54 : BitVec 32 := Scalar.remsi v53 c4_i32_27
  ![v54.toNat]
def k0_dev8 (d0 : Dev nD) : Nat :=
  let c0_i32_46 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_45 : BitVec 32 := 4#32
  let v85 : BitVec 32 := Scalar.muli v10 c4_i32_45
  let v86 : BitVec 32 := Scalar.addi c0_i32_46 v85
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_47 : BitVec 32 := 2#32
  let v87 : BitVec 32 := Scalar.muli v5 c2_i32_47
  let v88 : BitVec 32 := Scalar.addi v86 v87
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_48 : BitVec 32 := 1#32
  let v89 : BitVec 32 := Scalar.muli v8 c1_i32_48
  let v90 : BitVec 32 := Scalar.addi v88 v89
  v90.toNat
def k0_dev9 (d0 : Dev nD) : Nat :=
  let c0_i32_54 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_53 : BitVec 32 := 4#32
  let v99 : BitVec 32 := Scalar.muli v2 c4_i32_53
  let v100 : BitVec 32 := Scalar.addi c0_i32_54 v99
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_55 : BitVec 32 := 2#32
  let v101 : BitVec 32 := Scalar.muli v11 c2_i32_55
  let v102 : BitVec 32 := Scalar.addi v100 v101
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_56 : BitVec 32 := 1#32
  let v103 : BitVec 32 := Scalar.muli v8 c1_i32_56
  let v104 : BitVec 32 := Scalar.addi v102 v103
  v104.toNat
def k0_cond10 (i : grid0.Coords) : BitVec 1 :=
  let arg0 : BitVec 32 := BitVec.ofNat 32 (i 0).val
  let c2_i32_22 : BitVec 32 := 2#32
  let v42 : BitVec 1 := Scalar.cmpi .sge arg0 c2_i32_22
  let c17_i32 : BitVec 32 := 17#32
  let v43 : BitVec 1 := Scalar.cmpi .sle arg0 c17_i32
  let v44 : BitVec 1 := Scalar.andi v42 v43
  let v45 : BitVec 32 := Scalar.extui v44
  let c0_i32_23 : BitVec 32 := 0#32
  let v46 : BitVec 1 := Scalar.cmpi .ne v45 c0_i32_23
  v46

def k0_off117 (i : grid0.Coords) : Fin 1 → Nat :=
  let arg0 : BitVec 32 := BitVec.ofNat 32 (i 0).val
  let c2_i32_26 : BitVec 32 := 2#32
  let v53 : BitVec 32 := Scalar.subi arg0 c2_i32_26
  let c4_i32_27 : BitVec 32 := 4#32
  let v54 : BitVec 32 := Scalar.remsi v53 c4_i32_27
  ![v54.toNat]
def k0_off118 (i : grid0.Coords) : Fin 3 → Nat :=
  let arg0 : BitVec 32 := BitVec.ofNat 32 (i 0).val
  let c2_i32_26 : BitVec 32 := 2#32
  let v53 : BitVec 32 := Scalar.subi arg0 c2_i32_26
  let c4_i32_27 : BitVec 32 := 4#32
  let v54 : BitVec 32 := Scalar.remsi v53 c4_i32_27
  let c0_i32_32 : BitVec 32 := 0#32
  let c0_i32_33 : BitVec 32 := 0#32
  ![v54.toNat, 0, 0]
def k0_cond11 (i : grid0.Coords) : BitVec 1 :=
  let arg0 : BitVec 32 := BitVec.ofNat 32 (i 0).val
  let c2_i32_26 : BitVec 32 := 2#32
  let v53 : BitVec 32 := Scalar.subi arg0 c2_i32_26
  let c4_i32_44 : BitVec 32 := 4#32
  let v79 : BitVec 1 := Scalar.cmpi .sge v53 c4_i32_44
  let v80 : BitVec 32 := Scalar.extui v79
  let c0_i32_45 : BitVec 32 := 0#32
  let v81 : BitVec 1 := Scalar.cmpi .ne v80 c0_i32_45
  v81

def k0_off119 (i : grid0.Coords) : Fin 1 → Nat :=
  let arg0 : BitVec 32 := BitVec.ofNat 32 (i 0).val
  let c2_i32_26 : BitVec 32 := 2#32
  let v53 : BitVec 32 := Scalar.subi arg0 c2_i32_26
  let c4_i32_27 : BitVec 32 := 4#32
  let v54 : BitVec 32 := Scalar.remsi v53 c4_i32_27
  ![v54.toNat]
def k0_off120 (i : grid0.Coords) : Fin 3 → Nat :=
  let arg0 : BitVec 32 := BitVec.ofNat 32 (i 0).val
  let c2_i32_26 : BitVec 32 := 2#32
  let v53 : BitVec 32 := Scalar.subi arg0 c2_i32_26
  let c4_i32_27 : BitVec 32 := 4#32
  let v54 : BitVec 32 := Scalar.remsi v53 c4_i32_27
  let c0_i32_50 : BitVec 32 := 0#32
  let c0_i32_51 : BitVec 32 := 0#32
  ![v54.toNat, 0, 0]
def k0_dev10 (d0 : Dev nD) : Nat :=
  let c0_i32_47 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_46 : BitVec 32 := 4#32
  let v82 : BitVec 32 := Scalar.muli v2 c4_i32_46
  let v83 : BitVec 32 := Scalar.addi c0_i32_47 v82
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_48 : BitVec 32 := 2#32
  let v84 : BitVec 32 := Scalar.muli v11 c2_i32_48
  let v85 : BitVec 32 := Scalar.addi v83 v84
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_49 : BitVec 32 := 1#32
  let v86 : BitVec 32 := Scalar.muli v8 c1_i32_49
  let v87 : BitVec 32 := Scalar.addi v85 v86
  v87.toNat
def k0_off121 (i : grid0.Coords) : Fin 3 → Nat :=
  let arg0 : BitVec 32 := BitVec.ofNat 32 (i 0).val
  let c2_i32_26 : BitVec 32 := 2#32
  let v53 : BitVec 32 := Scalar.subi arg0 c2_i32_26
  let c4_i32_27 : BitVec 32 := 4#32
  let v54 : BitVec 32 := Scalar.remsi v53 c4_i32_27
  let c0_i32_58 : BitVec 32 := 0#32
  let c256_i32_59 : BitVec 32 := 256#32
  ![v54.toNat, 0, 256]
def k0_dev11 (d0 : Dev nD) : Nat :=
  let c0_i32_55 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_54 : BitVec 32 := 4#32
  let v96 : BitVec 32 := Scalar.muli v10 c4_i32_54
  let v97 : BitVec 32 := Scalar.addi c0_i32_55 v96
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_56 : BitVec 32 := 2#32
  let v98 : BitVec 32 := Scalar.muli v5 c2_i32_56
  let v99 : BitVec 32 := Scalar.addi v97 v98
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_57 : BitVec 32 := 1#32
  let v100 : BitVec 32 := Scalar.muli v8 c1_i32_57
  let v101 : BitVec 32 := Scalar.addi v99 v100
  v101.toNat
def k0_cond12 (i : grid0.Coords) : BitVec 1 :=
  let arg0 : BitVec 32 := BitVec.ofNat 32 (i 0).val
  let c3_i32 : BitVec 32 := 3#32
  let v47 : BitVec 1 := Scalar.cmpi .sge arg0 c3_i32
  let v48 : BitVec 32 := Scalar.extui v47
  let c0_i32_24 : BitVec 32 := 0#32
  let v49 : BitVec 1 := Scalar.cmpi .ne v48 c0_i32_24
  v49

def k0_off122 (i : grid0.Coords) : Fin 1 → Nat :=
  let arg0 : BitVec 32 := BitVec.ofNat 32 (i 0).val
  let c3_i32_26 : BitVec 32 := 3#32
  let v53 : BitVec 32 := Scalar.subi arg0 c3_i32_26
  let c4_i32_27 : BitVec 32 := 4#32
  let v54 : BitVec 32 := Scalar.remsi v53 c4_i32_27
  ![v54.toNat]
def k0_off123 (i : grid0.Coords) : Fin 3 → Nat :=
  let arg0 : BitVec 32 := BitVec.ofNat 32 (i 0).val
  let c3_i32_26 : BitVec 32 := 3#32
  let v53 : BitVec 32 := Scalar.subi arg0 c3_i32_26
  let c4_i32_27 : BitVec 32 := 4#32
  let v54 : BitVec 32 := Scalar.remsi v53 c4_i32_27
  let c0_i32_32 : BitVec 32 := 0#32
  let c0_i32_33 : BitVec 32 := 0#32
  ![v54.toNat, 0, 0]
def k0_off124 (i : grid0.Coords) : Fin 3 → Nat :=
  let arg0 : BitVec 32 := BitVec.ofNat 32 (i 0).val
  let c3_i32_26 : BitVec 32 := 3#32
  let v53 : BitVec 32 := Scalar.subi arg0 c3_i32_26
  let c4_i32_27 : BitVec 32 := 4#32
  let v54 : BitVec 32 := Scalar.remsi v53 c4_i32_27
  let c0_i32_40 : BitVec 32 := 0#32
  let c256_i32_41 : BitVec 32 := 256#32
  ![v54.toNat, 0, 256]
def k0_off125 (i : grid0.Coords) : Fin 3 → Nat :=
  let arg0 : BitVec 32 := BitVec.ofNat 32 (i 0).val
  let c3_i32_26 : BitVec 32 := 3#32
  let v53 : BitVec 32 := Scalar.subi arg0 c3_i32_26
  let c4_i32_27 : BitVec 32 := 4#32
  let v54 : BitVec 32 := Scalar.remsi v53 c4_i32_27
  let v79 : Index := Scalar.indexCast v54
  let c0 : Index := 0#32
  let c0_44 : Index := 0#32
  ![v79.toNat, 0, 0]
def k0_off126 (d0 : Dev nD) : Fin 3 → Nat :=
  let c0_46 : Index := 0#32
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c256_i32_45 : BitVec 32 := 256#32
  let v82 : BitVec 32 := Scalar.muli v13 c256_i32_45
  let v83 : Index := Scalar.indexCast v82
  let c0_47 : Index := 0#32
  ![0, v83.toNat, 0]
def k0_off127 (d0 : Dev nD) : Fin 3 → Nat :=
  let c0_51 : Index := 0#32
  let c2_i32_8 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let v15 : BitVec 32 := Scalar.muli c2_i32_8 v14
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.addi v15 v5
  let c256_i32_50 : BitVec 32 := 256#32
  let v90 : BitVec 32 := Scalar.muli v16 c256_i32_50
  let v91 : Index := Scalar.indexCast v90
  let c0_52 : Index := 0#32
  ![0, v91.toNat, 0]
def k0_off128 (d0 : Dev nD) : Fin 3 → Nat :=
  let c0_56 : Index := 0#32
  let c2_i32_9 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.muli c2_i32_9 v2
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v18 : BitVec 32 := Scalar.subi c1_i32_10 v5
  let v19 : BitVec 32 := Scalar.addi v17 v18
  let c256_i32_55 : BitVec 32 := 256#32
  let v98 : BitVec 32 := Scalar.muli v19 c256_i32_55
  let v99 : Index := Scalar.indexCast v98
  let c0_57 : Index := 0#32
  ![0, v99.toNat, 0]
def k0_off129 (d0 : Dev nD) : Fin 3 → Nat :=
  let c0_61 : Index := 0#32
  let c2_i32_12 : BitVec 32 := 2#32
  let c1_i32_11 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.subi c1_i32_11 v2
  let v21 : BitVec 32 := Scalar.muli c2_i32_12 v20
  let c1_i32_13 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_13 v5
  let v23 : BitVec 32 := Scalar.addi v21 v22
  let c256_i32_60 : BitVec 32 := 256#32
  let v106 : BitVec 32 := Scalar.muli v23 c256_i32_60
  let v107 : Index := Scalar.indexCast v106
  let c0_62 : Index := 0#32
  ![0, v107.toNat, 0]
def k0_cond13 (i : grid0.Coords) : BitVec 1 :=
  let arg0 : BitVec 32 := BitVec.ofNat 32 (i 0).val
  let c3_i32_26 : BitVec 32 := 3#32
  let v53 : BitVec 32 := Scalar.subi arg0 c3_i32_26
  let c11_i32 : BitVec 32 := 11#32
  let v111 : BitVec 1 := Scalar.cmpi .sle v53 c11_i32
  let v112 : BitVec 32 := Scalar.extui v111
  let c0_i32_63 : BitVec 32 := 0#32
  let v113 : BitVec 1 := Scalar.cmpi .ne v112 c0_i32_63
  v113

def k0_off130 (i : grid0.Coords) : Fin 1 → Nat :=
  let arg0 : BitVec 32 := BitVec.ofNat 32 (i 0).val
  let c3_i32_26 : BitVec 32 := 3#32
  let v53 : BitVec 32 := Scalar.subi arg0 c3_i32_26
  let c4_i32_27 : BitVec 32 := 4#32
  let v54 : BitVec 32 := Scalar.remsi v53 c4_i32_27
  ![v54.toNat]
def k0_dev12 (d0 : Dev nD) : Nat :=
  let c0_i32_66 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_65 : BitVec 32 := 4#32
  let v116 : BitVec 32 := Scalar.muli v2 c4_i32_65
  let v117 : BitVec 32 := Scalar.addi c0_i32_66 v116
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_67 : BitVec 32 := 2#32
  let v118 : BitVec 32 := Scalar.muli v11 c2_i32_67
  let v119 : BitVec 32 := Scalar.addi v117 v118
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_68 : BitVec 32 := 1#32
  let v120 : BitVec 32 := Scalar.muli v8 c1_i32_68
  let v121 : BitVec 32 := Scalar.addi v119 v120
  v121.toNat
def k0_dev13 (d0 : Dev nD) : Nat :=
  let c0_i32_71 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_70 : BitVec 32 := 4#32
  let v124 : BitVec 32 := Scalar.muli v10 c4_i32_70
  let v125 : BitVec 32 := Scalar.addi c0_i32_71 v124
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_72 : BitVec 32 := 2#32
  let v126 : BitVec 32 := Scalar.muli v5 c2_i32_72
  let v127 : BitVec 32 := Scalar.addi v125 v126
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_73 : BitVec 32 := 1#32
  let v128 : BitVec 32 := Scalar.muli v8 c1_i32_73
  let v129 : BitVec 32 := Scalar.addi v127 v128
  v129.toNat
def cc0_transform_1 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![c0_i32.toNat, v0.toNat]

def cc0_transform_2 (i : grid0.Coords) : Fin 3 → Nat :=
  let arg0 : BitVec 32 := BitVec.ofNat 32 (i 0).val
  let c3_i32 : BitVec 32 := 3#32
  let v0 : BitVec 32 := Scalar.subi arg0 c3_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![c0_i32_0.toNat, c0_i32_1.toNat, v1.toNat]

abbrev stage0_0 : Fin 2 → Memref sig .tc .vmem S4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S1x2048x64x128 : Shape := ⟨4, ![1, 2048, 64, 128]⟩
abbrev S8192x8192 : Shape := ⟨2, ![8192, 8192]⟩
abbrev S1x2048x8192 : Shape := ⟨3, ![1, 2048, 8192]⟩

abbrev nBuf : Space → Nat
  | .hbm => 4
  | .vmem => 0
  | .smem => 0
  | _ => 0

abbrev bufTy : (tb : Table) → Fin (tcTables nBuf tb) → BufTy
  | .hbm, ⟨0, _⟩ => ⟨S1x2048x64x128, .f32⟩
  | .hbm, ⟨1, _⟩ => ⟨S8192x8192, .f32⟩
  | .hbm, ⟨2, _⟩ => ⟨S1x2048x8192, .f32⟩
  | .hbm, ⟨3, _⟩ => ⟨S1x2048x8192, .f32⟩
  | _, _ => ⟨S1x2048x64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Base.lean ====
/-
  The devices, the semaphore cells and the buffers of the kernel, in the terms the proof speaks of: the three peers of a
  device on the 2×2×2 mesh, the five CHANNELS blocks travel on (to the z peer, then to the x and y peers, then on to the
  y and x peers), each channel's receive, send and credit cells by block number, and the slots of the landing buffers.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Batch
public import Idealize.ShloMosaic.Lib.Memref
public import Idealize.ShloMosaic.Lib.Exec.Geometry
public import Idealize.ShloMosaic.Lib.Tactic

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's rounds, the kernel's own rounds, and the counters of the local loads -/

abbrev UB : Type := URounds (GSem nD τ sig) (Fin 3)
abbrev UU : Type := UR sig nD τ × (UB × Counters)

local notation "𝕄" => MT nD τ sig ℕ (Elt F) ℕ UU ℕ

abbrev EP : Emb (UR sig nD τ) (MT nD τ sig ℕ (Elt F) ℕ UU ℕ) := embL
def ER : Emb UB (MT nD τ sig ℕ (Elt F) ℕ UU ℕ) :=
  ((Emb.inl : Emb UB (UB × Counters)).trans (Emb.inr : Emb (UB × Counters) UU)).trans
    (uEmb (nD := nD) (τ := τ) (sig := sig) (Ix := ℕ) (Val := Elt F) (Name := ℕ) (U := UU) (Lvl := ℕ)).toEmb
instance ER_landsIn : (ER : Emb UB 𝕄).LandsIn (upEmb : UEmb _ 𝕄) := by unfold ER; infer_instance

/-! ## The peers -/

/-- The device across the x axis, across the y axis, across the z axis; device `4x + 2y + z`. -/
def px (c : Dev nD) : Dev nD := ⟨(c.val + 4) % 8, Nat.mod_lt _ (by decide)⟩
def py (c : Dev nD) : Dev nD := ⟨if c.val / 2 % 2 = 0 then c.val + 2 else c.val - 2, by have := c.isLt; simp only [nD] at *; split <;> omega⟩
def pz (c : Dev nD) : Dev nD := ⟨if c.val % 2 = 0 then c.val + 1 else c.val - 1, by have := c.isLt; simp only [nD] at *; split <;> omega⟩

theorem px_px (c : Dev nD) : px (px c) = c := by revert c; decide
theorem py_py (c : Dev nD) : py (py c) = c := by revert c; decide
theorem pz_pz (c : Dev nD) : pz (pz c) = c := by revert c; decide
theorem py_px (c : Dev nD) : py (px c) = px (py c) := by revert c; decide

/-- The peer a channel sends to (and receives from). -/
def pr (ch : Fin 5) (c : Dev nD) : Dev nD := if ch = 0 then pz c else if ch = 1 ∨ ch = 4 then px c else py c
theorem pr_pr (ch : Fin 5) (c : Dev nD) : pr ch (pr ch c) = c := by revert ch c; decide
theorem pr_0 (c : Dev nD) : pr 0 c = pz c := rfl
theorem pr_1 (c : Dev nD) : pr 1 c = px c := rfl
theorem pr_2 (c : Dev nD) : pr 2 c = py c := rfl
theorem pr_3 (c : Dev nD) : pr 3 c = py c := rfl
theorem pr_4 (c : Dev nD) : pr 4 c = px c := rfl

/-- A channel's peers as a permutation of the devices. -/
def prEquiv (ch : Fin 5) : Dev nD ≃ Dev nD := ⟨pr ch, pr ch, pr_pr ch, pr_pr ch⟩

/-- The barrier's three neighbours. -/
def bpr (j : Fin 3) (c : Dev nD) : Dev nD := if j = 0 then pz c else if j = 1 then px c else py c
theorem bpr_bpr (j : Fin 3) (c : Dev nD) : bpr j (bpr j c) = c := by revert j c; decide
def bprEquiv (j : Fin 3) : Dev nD ≃ Dev nD := ⟨bpr j, bpr j, bpr_bpr j, bpr_bpr j⟩

/-! ## The cells -/

theorem nDma : sig.nDmaSem = 44 := rfl
theorem nReg : sig.nSem = 21 := rfl

/-- The DMA semaphore on which channel `ch`'s block `b` is received; is sent; the semaphore crediting its slot. -/
def recvQ (ch : Fin 5) (b : ℕ) : DmaSem sig := ⟨8 + 8 * ch.val + b % 4, by have := ch.isLt; have := Nat.mod_lt b (show 0 < 4 by decide); show _ < 44; omega⟩
def sendQ (ch : Fin 5) (b : ℕ) : DmaSem sig :=
  ⟨if ch.val = 0 then 6 + b % 2 else 4 + 8 * ch.val + b % 4, by
    have := ch.isLt; have := Nat.mod_lt b (show 0 < 4 by decide); have := Nat.mod_lt b (show 0 < 2 by decide); show _ < 44; split <;> omega⟩
def credQ (ch : Fin 5) (b : ℕ) : Sem sig := ⟨4 * ch.val + b % 4, by have := ch.isLt; have := Nat.mod_lt b (show 0 < 4 by decide); show _ < 21; omega⟩
def barQ : Sem sig := ⟨20, by decide⟩

/-- The number of the round in which block `b` is sent on its send cell. -/
def sendR (ch : Fin 5) (b : ℕ) : ℕ := if ch.val = 0 then b / 2 else b / 4

abbrev recvCell (c : Dev nD) (ch : Fin 5) (b : ℕ) : GSem nD τ sig := ((c : Thread nD τ), .dma (recvQ ch b))
abbrev sendCell (c : Dev nD) (ch : Fin 5) (b : ℕ) : GSem nD τ sig := ((c : Thread nD τ), .dma (sendQ ch b))
abbrev credCell (c : Dev nD) (ch : Fin 5) (b : ℕ) : GSem nD τ sig := ((c : Thread nD τ), .reg (credQ ch b))
abbrev barCell (c : Dev nD) : GSem nD τ sig := ((c : Thread nD τ), .reg barQ)

theorem recvQ_add (ch : Fin 5) (b : ℕ) : recvQ ch (b + 4) = recvQ ch b := Fin.ext (by show 8 + 8 * ch.val + (b + 4) % 4 = 8 + 8 * ch.val + b % 4; omega)
theorem credQ_add (ch : Fin 5) (b : ℕ) : credQ ch (b + 4) = credQ ch b := Fin.ext (by show 4 * ch.val + (b + 4) % 4 = 4 * ch.val + b % 4; omega)

/-- A semaphore picked out of an array of consecutive ones by a one-element slice is the base's plus the offset. -/
theorem sem_slice {N lo n : ℕ} {h : lo + (⟨1, ![n]⟩ : Shape).numel ≤ N} (off sz : Fin 1 → ℕ) (hi) (hsq : (Rect.unit (s := ⟨1, ![n]⟩) off sz hi).shape.Squeezes ⟨0, ![]⟩)
    (hs : sz 0 = 1) :
    (((SemArray.consecutive lo ⟨1, ![n]⟩ h : SemArray (Fin N) ⟨1, ![n]⟩).slice (Rect.unit off sz hi)).squeeze ⟨0, ![]⟩ hsq).sem.val = lo + off 0 := by
  show lo + ((⟨1, ![n]⟩ : Shape).rowMajor _).val = _
  rw [Shape.rowMajor_val_one]
  have hj : ∀ j : (Rect.unit (s := ⟨1, ![n]⟩) off sz hi).shape.Idx, (((Rect.unit (s := ⟨1, ![n]⟩) off sz hi).emb j) 0).val = off 0 + 1 * (j 0).val := fun j => rfl
  rw [hj]
  have : ∀ j : (Rect.unit (s := ⟨1, ![n]⟩) off sz hi).shape.Idx, (j 0).val < 1 := fun j => by have := (j 0).isLt; simpa [hs] using this
  have := this (Shape.reshapeEquiv hsq.numel_eq fun i => i.elim0)
  omega

/-! ## Views owned at a value -/

section Pv
variable {s s' : Shape} {sp : Space}

/-- The elements of view `v` on device `c`, at share `q`, holding `X`. -/
def pv (c : Dev nD) (v : View sig .tc sp s .f32) (q : PosShare TreeShare) (X : s.Idx → Elt F .f32) : sProp 𝕄 :=
  v.loc (c : Thread nD τ) ↦[v.set]{q} v.rep X

/-- The elements of view `v` on device `c`, holding anything. -/
def pvAny (c : Dev nD) (v : View sig .tc sp s .f32) : sProp 𝕄 :=
  iprop(∃ f : Buf (Elt F) (v.loc (c : Thread nD τ)), v.loc (c : Thread nD τ) ↦[v.set]{fullShare} f)

instance pv_storable (c : Dev nD) (v : View sig .tc sp s .f32) (q) (X) : BI.Storable (upEmb : UEmb _ 𝕄) (pv (F := F) c v q X) := by unfold pv; infer_instance
instance pvAny_storable (c : Dev nD) (v : View sig .tc sp s .f32) : BI.Storable (upEmb : UEmb _ 𝕄) (pvAny (F := F) c v) := by unfold pvAny; infer_instance

theorem rep_eq_of_read (v : View sig .tc sp s .f32) (f : v.ty.Contents (Elt F)) (X : s.Idx → Elt F .f32) (h : v.read (Elt F) f = X) :
    ∀ i ∈ v.set, f i = v.rep X i := by
  intro i hi
  obtain ⟨y, -, rfl⟩ := Finset.mem_map.mp hi
  rw [View.rep_emb, ← h, View.read_apply]
  simp

/-- Ownership at contents the view reads as `X`, either way. -/
theorem pv_eq (c : Dev nD) (v : View sig .tc sp s .f32) (q) (X : s.Idx → Elt F .f32) (f : Buf (Elt F) (v.loc (c : Thread nD τ)))
    (h : v.read (Elt F) f = X) : (v.loc (c : Thread nD τ) ↦[v.set]{q} f : sProp 𝕄) = pv c v q X := by
  unfold pv; exact pointsTo_congr (rep_eq_of_read v f X h)

theorem pv_any (c : Dev nD) (v : View sig .tc sp s .f32) (X : s.Idx → Elt F .f32) : (pv c v fullShare X : sProp 𝕄) ⊢ pvAny c v := by
  unfold pv pvAny; iintro H; iexists (v.rep X); iexact H

end Pv

end Cert.KProof

end
-- ==== Proof.Views.lean ====
/-
  The slots of the landing buffers and how ownership of them is stated: a view owned at the value it reads, its loads,
  its stores, what a copy between two views leaves, and its cutting into two halves.
-/
module

public import proofs.«01_k».proof.Proof.Base

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI Idealize.SL.RA.PCS
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

section Gen
variable {s s' : Shape} {sp sp' : Space}

theorem pvAny_intro (c : Dev nD) (v : View sig .tc sp s .f32) (f : Buf (Elt F) (v.loc (c : Thread nD τ))) :
    (v.loc (c : Thread nD τ) ↦[v.set]{fullShare} f : sProp 𝕄) ⊢ pvAny c v := by
  unfold pvAny; iintro H; iexists f; iexact H

/-! ## Cutting -/

/-- A rectangle's elements owned at `X` are two disjoint rectangles' that make it up, each at its part of `X`. -/
theorem pv_split2 (c : Dev nD) (u : View sig .tc sp s .f32) (q) (r r1 r2 : Rect s) (e1 : r1.shape.Idx → r.shape.Idx) (e2 : r2.shape.Idx → r.shape.Idx)
    (h1 : ∀ y, r.emb (e1 y) = r1.emb y) (h2 : ∀ y, r.emb (e2 y) = r2.emb y) (hs : r.set = r1.set ∪ r2.set) (hd : Disjoint r1.set r2.set)
    (X : r.shape.Idx → Elt F .f32) :
    (pv c (u.slice r) q X : sProp 𝕄) = iprop(pv c (u.slice r1) q (fun y => X (e1 y)) ∗ pv c (u.slice r2) q (fun y => X (e2 y))) := by
  have hR : ∀ (r' : Rect s) (e : r'.shape.Idx → r.shape.Idx) (h : ∀ y, r.emb (e y) = r'.emb y),
      (u.slice r').read (Elt F) ((u.slice r).rep X) = fun y => X (e y) := by
    intro r' e h
    funext y
    have hx : (u.slice r').emb y = (u.slice r).emb (e y) := by
      rw [View.emb_slice, View.emb_slice]; exact congrArg u.emb (h y).symm
    have := congrFun (View.read_rep (Val := Elt F) (u.slice r) X) (e y)
    rw [View.read_apply] at this ⊢
    rw [← this]
    have hx' : (u.slice r).rep X ((u.slice r').emb y) = (u.slice r).rep X ((u.slice r).emb (e y)) := congrArg _ hx
    exact congrArg _ hx'
  have e1' : (u.slice r).set = (u.slice r1).set ∪ (u.slice r2).set := by
    rw [View.set_slice, View.set_slice, View.set_slice, hs, Finset.map_union]
  have hd' : Disjoint (u.slice r1).set (u.slice r2).set := by
    rw [View.set_slice, View.set_slice]; exact (Finset.disjoint_map _).mpr hd
  rw [← pv_eq c (u.slice r1) q _ ((u.slice r).rep X) (hR r1 e1 h1), ← pv_eq c (u.slice r2) q _ ((u.slice r).rep X) (hR r2 e2 h2)]
  unfold pv
  rw [e1']
  have := pointsTo_union (nD := nD) (τ := τ) (sig := sig) (Ix := ℕ) (Val := Elt F) (Name := ℕ) (U := UU) (Lvl := ℕ) (ℓ := (u.slice r).loc (c : Thread nD τ)) (q := q) (f := (u.slice r).rep X) hd'
  exact BI.equiv_iff.mp ⟨this.1, this.2⟩

/-- The same of ownership at unknown contents. -/
theorem any_split2 (c : Dev nD) (u : View sig .tc sp s .f32) (r r1 r2 : Rect s) (hs : r.set = r1.set ∪ r2.set) (hd : Disjoint r1.set r2.set) :
    (pvAny c (u.slice r) : sProp 𝕄) ⊣⊢ iprop(pvAny c (u.slice r1) ∗ pvAny c (u.slice r2)) := by
  have e1' : (u.slice r).set = (u.slice r1).set ∪ (u.slice r2).set := by
    rw [View.set_slice, View.set_slice, View.set_slice, hs, Finset.map_union]
  have hd' : Disjoint (u.slice r1).set (u.slice r2).set := by
    rw [View.set_slice, View.set_slice]; exact (Finset.disjoint_map _).mpr hd
  unfold pvAny
  rw [e1']
  constructor
  · iintro ⟨%f, H⟩
    ihave H := (pointsTo_union hd').1 $$ H
    icases H with ⟨H1, H2⟩
    isplitl [H1]
    · iexists f; iexact H1
    · iexists f; iexact H2
  · iintro ⟨⟨%f, H1⟩, ⟨%g, H2⟩⟩
    iexists _
    iapply (pointsTo_join hd')
    isplitl [H1]; · iexact H1
    iexact H2

/-- A view's elements at unknown contents are its parts', for any family of disjoint rectangles that covers it. -/
theorem any_biUnion (c : Dev nD) (u : View sig .tc sp s .f32) (S : Finset ℕ) (R : ℕ → Rect s) (hS : S.Nonempty)
    (hd : ∀ t ∈ S, ∀ t' ∈ S, t ≠ t' → Disjoint (R t).set (R t').set) (hc : S.biUnion (fun t => (R t).set) = Finset.univ) :
    (pvAny c u : sProp 𝕄) ⊣⊢ bigSep S fun t => pvAny c (u.slice (R t)) := by
  have e1 : u.set = S.biUnion fun t => (u.slice (R t)).set := by
    have : (S.biUnion fun t => (u.slice (R t)).set) = S.biUnion fun t => (R t).set.map u.emb := by
      refine Finset.biUnion_congr rfl fun t _ => View.set_slice _ _
    rw [this]
    show Finset.univ.map u.emb = _
    rw [← hc]
    ext i; simp only [Finset.mem_map, Finset.mem_biUnion]; constructor
    · rintro ⟨a, ⟨t, ht, ha⟩, rfl⟩; exact ⟨t, ht, a, ha, rfl⟩
    · rintro ⟨t, ht, a, ha, rfl⟩; exact ⟨a, ⟨t, ht, ha⟩, rfl⟩
  have hd' : ∀ t ∈ S, ∀ t' ∈ S, t ≠ t' → Disjoint (u.slice (R t)).set (u.slice (R t')).set := by
    intro t ht t' ht' hne
    rw [View.set_slice, View.set_slice]; exact (Finset.disjoint_map _).mpr (hd t ht t' ht' hne)
  unfold pvAny
  rw [e1]
  constructor
  · iintro ⟨%f, H⟩
    ihave H := (Entails.of_eq (pointsTo_biUnion S _ hd')) $$ H
    have hm : bigSep S (fun t => (u.loc (c : Thread nD τ) ↦[(u.slice (R t)).set]{fullShare} f : sProp 𝕄))
        ⊢ bigSep S (fun t => (iprop(∃ f : Buf (Elt F) ((u.slice (R t)).loc (c : Thread nD τ)), (u.slice (R t)).loc (c : Thread nD τ) ↦[(u.slice (R t)).set]{fullShare} f) : sProp 𝕄)) :=
      bigSep_mono fun t _ => pvAny_intro c (u.slice (R t)) f
    ihave H := hm $$ H
    iexact H
  · refine (BI.bigSep_exists_pi S _).trans ?_
    iintro ⟨%fs, H⟩
    obtain ⟨t₀, ht₀⟩ := hS
    ihave H := (pointsTo_biUnion_join S _ fs (fs t₀) hd') $$ H
    icases H with ⟨%g, -, H⟩
    iexists g
    iexact H

theorem pv_share (c : Dev nD) (v : View sig .tc sp s .f32) (q q₁ q₂ : PosShare TreeShare) (h : q ∈ q₁ ·? q₂) (X : s.Idx → Elt F .f32) :
    (pv c v q X : sProp 𝕄) ⊣⊢ iprop(pv c v q₁ X ∗ pv c v q₂ X) := by
  unfold pv; exact pointsTo_share h

/-! ## Copies -/

/-- What a copy between two views leaves in the target: the value of the source. -/
theorem pv_land (c c' : Dev nD) (vs : View sig .tc sp s .f32) (vd : View sig .tc sp' s .f32) (h h' : s'.numel = s.numel)
    (fd : Buf (Elt F) ((vd.reshape s' h').loc (c' : Thread nD τ))) (X : s.Idx → Elt F .f32) :
    ((vd.reshape s' h').loc (c' : Thread nD τ) ↦[(vd.reshape s' h').set]{fullShare}
        (vd.reshape s' h').write (Elt F) fd ((vs.reshape s' h).read (Elt F) (vs.rep X)) Finset.univ : sProp 𝕄) ⊢ pv c' vd fullShare X := by
  rw [View.set_reshape]
  refine Entails.of_eq (pv_eq c' vd fullShare X _ ?_)
  funext y
  obtain ⟨x, rfl⟩ := (Shape.reshapeEquiv h').surjective y
  have h1 := congrFun (View.read_write_univ (Val := Elt F) (v := vd.reshape s' h') fd ((vs.reshape s' h).read (Elt F) (vs.rep X))) x
  have h2 := congrFun (View.read_rep (Val := Elt F) vs X) (Shape.reshapeEquiv h' x)
  rw [← h2]
  exact h1

theorem pv_squeeze (c : Dev nD) (v : View sig .tc sp s .f32) (h : s'.numel = s.numel) (q) (X : s.Idx → Elt F .f32) :
    (pv c v q X : sProp 𝕄) = ((v.reshape s' h).loc (c : Thread nD τ) ↦[(v.reshape s' h).set]{q} v.rep X) := by
  rw [View.set_reshape]; rfl

theorem pvAny_squeeze (c : Dev nD) (v : View sig .tc sp s .f32) (h : s'.numel = s.numel) :
    (pvAny c v : sProp 𝕄) = iprop(∃ f : Buf (Elt F) ((v.reshape s' h).loc (c : Thread nD τ)), (v.reshape s' h).loc (c : Thread nD τ) ↦[(v.reshape s' h).set]{fullShare} f) := by
  rw [View.set_reshape]; rfl

end Gen

/-! ## Loads and stores -/

section Ops
variable {s : Shape} {sp : Space} {α : Type} {Q : α → sProp (MT nD τ sig ℕ (Elt F) ℕ UU ℕ)} {defs : Defs nD τ sig (Elt F) Λ₀} {𝒱 : Variants} {c : Dev nD} {bd : Option 𝒱.V} {E : Set ℕ}

/-- A load of a rectangle owned at `X` reads `X`. -/
theorem wp_load_pv {cs : CoreSpace} {m : Memref sig .tc cs s .f32} {off off' sz : Fin s.rank → ℕ} {hi hi'} (ho : off = off') {hl} {q : PosShare TreeShare}
    {X : (Rect.unit (s := s) off' sz hi').shape.Idx → Elt F .f32} {k : ((Rect.unit (s := s) off sz hi).shape.Idx → Elt F .f32) → Prog (TpuEff nD τ sig (Elt F) Λ₀ .tc) α} :
    (pv c (m.view.slice (Rect.unit off' sz hi')) q X : sProp 𝕄)
      ⊢ iprop((pv c (m.view.slice (Rect.unit off' sz hi')) q X -∗ wp frame (wpE defs 𝒱 (c : Thread nD τ) bd) E (k X) Q)
        -∗ wp frame (wpE defs 𝒱 (c : Thread nD τ) bd) E (.op (.load m (Rect.unit (s := s) off sz hi).toLoadRect hl) k) Q) := by
  subst ho
  have hr : (m.access (Rect.unit (s := s) off sz hi)).read (Elt F) ((m.view.slice (Rect.unit off sz hi)).rep X) = X := View.read_rep _ X
  iintro H Hk
  iapply (wp_load_rect (defs := defs) 𝒱 (c : Thread nD τ) bd E (Q := Q) (m := m) (r := Rect.unit (s := s) off sz hi) (hl := hl) (k := k) (q := q)
    (f := (m.view.slice (Rect.unit off sz hi)).rep X) (S := (m.access (Rect.unit (s := s) off sz hi)).set) (Finset.Subset.refl _)) $$ [H]
  · unfold pv; iexact H
  rw [hr]
  iintro H
  iapply Hk
  unfold pv; iexact H

/-- A store over a rectangle owned at anything leaves it owned at what was stored. -/
theorem wp_store_pv {cs : CoreSpace} {m : Memref sig .tc cs s .f32} {off off' sz : Fin s.rank → ℕ} {hi hi'} (ho : off = off') {hx hm}
    {w : (Rect.unit (s := s) off sz hi).shape.Idx → Elt F .f32} {k : PUnit → Prog (TpuEff nD τ sig (Elt F) Λ₀ .tc) α} :
    (pvAny c (m.view.slice (Rect.unit off' sz hi')) : sProp 𝕄)
      ⊢ iprop((pv c (m.view.slice (Rect.unit off' sz hi')) fullShare w -∗ wp frame (wpE defs 𝒱 (c : Thread nD τ) bd) E (k ⟨⟩) Q)
        -∗ wp frame (wpE defs 𝒱 (c : Thread nD τ) bd) E (.op (.store m (Rect.unit (s := s) off sz hi) w Finset.univ hx hm) k) Q) := by
  subst ho
  unfold pvAny
  iintro ⟨%f, H⟩ Hk
  iapply (wp_store (defs := defs) 𝒱 (c : Thread nD τ) bd E (Q := Q) (m := m) (r := Rect.unit (s := s) off sz hi) (w := w) (Mk := Finset.univ) (hx := hx) (hm := hm) (k := k)
    (f := f) (S := (m.access (Rect.unit (s := s) off sz hi)).set) (Finset.Subset.refl _)) $$ [H]
  · iexact H
  iintro H
  iapply Hk
  have hr : (m.access (Rect.unit (s := s) off sz hi)).read (Elt F) ((m.access (Rect.unit (s := s) off sz hi)).write (Elt F) f w Finset.univ) = w := View.read_write_univ _ _
  iapply (Entails.of_eq (pv_eq c (m.view.slice (Rect.unit off sz hi)) fullShare w _ hr))
  iexact H

/-- A load of a rectangle owned at anything reads something. -/
theorem wp_load_any {cs : CoreSpace} {m : Memref sig .tc cs s .f32} {off off' sz : Fin s.rank → ℕ} {hi hi'} (ho : off = off') {hl}
    {k : ((Rect.unit (s := s) off sz hi).shape.Idx → Elt F .f32) → Prog (TpuEff nD τ sig (Elt F) Λ₀ .tc) α} :
    (pvAny c (m.view.slice (Rect.unit off' sz hi')) : sProp 𝕄)
      ⊢ iprop((∀ X, pvAny c (m.view.slice (Rect.unit off' sz hi')) -∗ wp frame (wpE defs 𝒱 (c : Thread nD τ) bd) E (k X) Q)
        -∗ wp frame (wpE defs 𝒱 (c : Thread nD τ) bd) E (.op (.load m (Rect.unit (s := s) off sz hi).toLoadRect hl) k) Q) := by
  subst ho
  unfold pvAny
  iintro ⟨%f, H⟩ Hk
  iapply (wp_load_rect (defs := defs) 𝒱 (c : Thread nD τ) bd E (Q := Q) (m := m) (r := Rect.unit (s := s) off sz hi) (hl := hl) (k := k) (q := fullShare)
    (f := f) (S := (m.access (Rect.unit (s := s) off sz hi)).set) (Finset.Subset.refl _)) $$ [H]
  · iexact H
  iintro H
  iapply Hk
  iexists f
  iexact H

end Ops

/-! ## The slots -/

theorem inb_slot (b : ℕ) : ∀ a, (![b % 4, 0, 0] : Fin 3 → ℕ) a + S1x256x512.size a ≤ S4x256x512.size a := by
  intro a; have := Nat.mod_lt b (show 0 < 4 by decide)
  match a with
  | 0 => show b % 4 + 1 ≤ 4; omega
  | 1 => show 0 + 256 ≤ 256; omega
  | 2 => show 0 + 512 ≤ 512; omega
theorem inb_lo (b : ℕ) : ∀ a, (![b % 4, 0, 0] : Fin 3 → ℕ) a + S1x256x256.size a ≤ S4x256x512.size a := by
  intro a; have := Nat.mod_lt b (show 0 < 4 by decide)
  match a with
  | 0 => show b % 4 + 1 ≤ 4; omega
  | 1 => show 0 + 256 ≤ 256; omega
  | 2 => show 0 + 256 ≤ 512; omega
theorem inb_hi (b : ℕ) : ∀ a, (![b % 4, 0, 256] : Fin 3 → ℕ) a + S1x256x256.size a ≤ S4x256x512.size a := by
  intro a; have := Nat.mod_lt b (show 0 < 4 by decide)
  match a with
  | 0 => show b % 4 + 1 ≤ 4; omega
  | 1 => show 0 + 256 ≤ 256; omega
  | 2 => show 256 + 256 ≤ 512; omega
theorem inb_slot2 (b : ℕ) : ∀ a, (![b % 2, 0, 0] : Fin 3 → ℕ) a + S1x256x512.size a ≤ S2x256x512.size a := by
  intro a; have := Nat.mod_lt b (show 0 < 2 by decide)
  match a with
  | 0 => show b % 2 + 1 ≤ 2; omega
  | 1 => show 0 + 256 ≤ 256; omega
  | 2 => show 0 + 512 ≤ 512; omega

/-- The slot of block `b` in a buffer of four slots, its lower and its upper columns; the slot in the buffer of two. -/
abbrev rS (b : ℕ) : Rect S4x256x512 := Rect.unit (s := S4x256x512) ![b % 4, 0, 0] S1x256x512.size (inb_slot b)
abbrev rL (b : ℕ) : Rect S4x256x512 := Rect.unit (s := S4x256x512) ![b % 4, 0, 0] S1x256x256.size (inb_lo b)
abbrev rH (b : ℕ) : Rect S4x256x512 := Rect.unit (s := S4x256x512) ![b % 4, 0, 256] S1x256x256.size (inb_hi b)
abbrev rS2 (b : ℕ) : Rect S2x256x512 := Rect.unit (s := S2x256x512) ![b % 2, 0, 0] S1x256x512.size (inb_slot2 b)

abbrev slotV (m : Memref sig .tc .vmem S4x256x512 .f32) (b : ℕ) : View sig .tc .vmem S1x256x512 .f32 := m.view.slice (rS b)
abbrev loV (m : Memref sig .tc .vmem S4x256x512 .f32) (b : ℕ) : View sig .tc .vmem S1x256x256 .f32 := m.view.slice (rL b)
abbrev hiV (m : Memref sig .tc .vmem S4x256x512 .f32) (b : ℕ) : View sig .tc .vmem S1x256x256 .f32 := m.view.slice (rH b)
abbrev slot2V (m : Memref sig .tc .vmem S2x256x512 .f32) (b : ℕ) : View sig .tc .vmem S1x256x512 .f32 := m.view.slice (rS2 b)

/-- A block's lower and upper columns. -/
def loE (y : S1x256x256.Idx) : S1x256x512.Idx := fun a => ⟨(y a).val, by
  have := (y a).isLt
  match a with
  | 0 => exact this
  | 1 => exact this
  | 2 => have h : (y 2).val < 256 := this; show (y 2).val < 512; omega⟩
def hiE (y : S1x256x256.Idx) : S1x256x512.Idx := fun a => ⟨(y a).val + (if a.val = 2 then 256 else 0), by
  have := (y a).isLt
  match a with
  | 0 => exact this
  | 1 => exact this
  | 2 => have h : (y 2).val < 256 := this; show (y 2).val + 256 < 512; omega⟩
def lo (X : S1x256x512.Idx → Elt F .f32) : S1x256x256.Idx → Elt F .f32 := fun y => X (loE y)
def hi (X : S1x256x512.Idx → Elt F .f32) : S1x256x256.Idx → Elt F .f32 := fun y => X (hiE y)

theorem rS_union (b : ℕ) : (rS b).set = (rL b).set ∪ (rH b).set := by
  ext i
  rw [Finset.mem_union, Rect.mem_set_unit, Rect.mem_set_unit, Rect.mem_set_unit]
  have h2 : (i 2).val < 512 := (i 2).isLt
  have h1 : (i 1).val < 256 := (i 1).isLt
  constructor
  · intro h
    have h0 : b % 4 ≤ (i 0).val ∧ (i 0).val < b % 4 + 1 := h 0
    by_cases hc : (i 2).val < 256
    · left; intro a
      match a with
      | 0 => exact h0
      | 1 => show 0 ≤ (i 1).val ∧ (i 1).val < 0 + 256; omega
      | 2 => show 0 ≤ (i 2).val ∧ (i 2).val < 0 + 256; omega
    · right; intro a
      match a with
      | 0 => exact h0
      | 1 => show 0 ≤ (i 1).val ∧ (i 1).val < 0 + 256; omega
      | 2 => show 256 ≤ (i 2).val ∧ (i 2).val < 256 + 256; omega
  · intro h
    have h0 : b % 4 ≤ (i 0).val ∧ (i 0).val < b % 4 + 1 := h.elim (fun h => h 0) (fun h => h 0)
    intro a
    match a with
    | 0 => exact h0
    | 1 => show 0 ≤ (i 1).val ∧ (i 1).val < 0 + 256; omega
    | 2 => show 0 ≤ (i 2).val ∧ (i 2).val < 0 + 512; omega

theorem rLH_disj (b b' : ℕ) : Disjoint (rL b).set (rH b').set := by
  rw [Finset.disjoint_left]; intro i h h'
  rw [Rect.mem_set_unit] at h h'
  have h2 : 0 ≤ (i 2).val ∧ (i 2).val < 0 + 256 := h 2
  have h2' : 256 ≤ (i 2).val ∧ (i 2).val < 256 + 256 := h' 2
  omega

theorem pv_halves (c : Dev nD) (m : Memref sig .tc .vmem S4x256x512 .f32) (b : ℕ) (q) (X : S1x256x512.Idx → Elt F .f32) :
    (pv c (slotV m b) q X : sProp 𝕄) = iprop(pv c (loV m b) q (lo X) ∗ pv c (hiV m b) q (hi X)) := by
  refine pv_split2 c m.view q (rS b) (rL b) (rH b) loE hiE (fun y => funext fun a => Fin.ext ?_) (fun y => funext fun a => Fin.ext ?_) (rS_union b) (rLH_disj b b) X
  · match a with
    | 0 => rfl
    | 1 => rfl
    | 2 => rfl
  · match a with
    | 0 => rfl
    | 1 => rfl
    | 2 => show 0 + 1 * ((y 2).val + 256) = 256 + 1 * (y 2).val; omega

theorem any_halves (c : Dev nD) (m : Memref sig .tc .vmem S4x256x512 .f32) (b : ℕ) :
    (pvAny c (slotV m b) : sProp 𝕄) ⊣⊢ iprop(pvAny c (loV m b) ∗ pvAny c (hiV m b)) :=
  any_split2 c m.view (rS b) (rL b) (rH b) (rS_union b) (rLH_disj b b)

/-- A buffer of four slots, at unknown contents, by its slots. -/
theorem any_slots (c : Dev nD) (m : Memref sig .tc .vmem S4x256x512 .f32) (lo : ℕ) :
    (pvAny c m.view : sProp 𝕄) ⊣⊢ bigSep (Finset.Ico lo (lo + 4)) fun b => pvAny c (slotV m b) := by
  refine any_biUnion c m.view (Finset.Ico lo (lo + 4)) rS ⟨lo, by simp⟩ (fun t ht t' ht' hne => ?_) ?_
  · rw [Finset.disjoint_left]; intro i h h'
    rw [Rect.mem_set_unit] at h h'
    have h0 : t % 4 ≤ (i 0).val ∧ (i 0).val < t % 4 + 1 := h 0
    have h0' : t' % 4 ≤ (i 0).val ∧ (i 0).val < t' % 4 + 1 := h' 0
    rw [Finset.mem_Ico] at ht ht'
    omega
  · rw [Finset.eq_univ_iff_forall]; intro i
    have h0 : (i 0).val < 4 := (i 0).isLt
    have h1 : (i 1).val < 256 := (i 1).isLt
    have h2 : (i 2).val < 512 := (i 2).isLt
    rw [Finset.mem_biUnion]
    refine ⟨lo + ((i 0).val + 4 - lo % 4) % 4, by rw [Finset.mem_Ico]; omega, ?_⟩
    rw [Rect.mem_set_unit]; intro a
    match a with
    | 0 => show (lo + ((i 0).val + 4 - lo % 4) % 4) % 4 ≤ (i 0).val ∧ (i 0).val < (lo + ((i 0).val + 4 - lo % 4) % 4) % 4 + 1; omega
    | 1 => show 0 ≤ (i 1).val ∧ (i 1).val < 0 + 256; omega
    | 2 => show 0 ≤ (i 2).val ∧ (i 2).val < 0 + 512; omega

theorem any_slots2 (c : Dev nD) (m : Memref sig .tc .vmem S2x256x512 .f32) (lo : ℕ) :
    (pvAny c m.view : sProp 𝕄) ⊣⊢ bigSep (Finset.Ico lo (lo + 2)) fun b => pvAny c (slot2V m b) := by
  refine any_biUnion c m.view (Finset.Ico lo (lo + 2)) rS2 ⟨lo, by simp⟩ (fun t ht t' ht' hne => ?_) ?_
  · rw [Finset.disjoint_left]; intro i h h'
    rw [Rect.mem_set_unit] at h h'
    have h0 : t % 2 ≤ (i 0).val ∧ (i 0).val < t % 2 + 1 := h 0
    have h0' : t' % 2 ≤ (i 0).val ∧ (i 0).val < t' % 2 + 1 := h' 0
    rw [Finset.mem_Ico] at ht ht'
    omega
  · rw [Finset.eq_univ_iff_forall]; intro i
    have h0 : (i 0).val < 2 := (i 0).isLt
    have h1 : (i 1).val < 256 := (i 1).isLt
    have h2 : (i 2).val < 512 := (i 2).isLt
    rw [Finset.mem_biUnion]
    refine ⟨lo + ((i 0).val + 2 - lo % 2) % 2, by rw [Finset.mem_Ico]; omega, ?_⟩
    rw [Rect.mem_set_unit]; intro a
    match a with
    | 0 => show (lo + ((i 0).val + 2 - lo % 2) % 2) % 2 ≤ (i 0).val ∧ (i 0).val < (lo + ((i 0).val + 2 - lo % 2) % 2) % 2 + 1; omega
    | 1 => show 0 ≤ (i 1).val ∧ (i 1).val < 0 + 256; omega
    | 2 => show 0 ≤ (i 2).val ∧ (i 2).val < 0 + 512; omega

/-- A slot is the same four blocks on (and, of the buffer of two, two blocks on). -/
theorem slice_off (m : Memref sig .tc .vmem S4x256x512 .f32) {o o' sz : Fin 3 → ℕ} (h : o = o') (hi hi') :
    m.view.slice (Rect.unit (s := S4x256x512) o sz hi) = m.view.slice (Rect.unit (s := S4x256x512) o' sz hi') := by subst h; rfl
theorem slotV_add (m : Memref sig .tc .vmem S4x256x512 .f32) (b : ℕ) : slotV m (b + 4) = slotV m b :=
  slice_off m (by rw [Nat.add_mod_right]) _ _
theorem loV_add (m : Memref sig .tc .vmem S4x256x512 .f32) (b : ℕ) : loV m (b + 4) = loV m b :=
  slice_off m (by rw [Nat.add_mod_right]) _ _
theorem hiV_add (m : Memref sig .tc .vmem S4x256x512 .f32) (b : ℕ) : hiV m (b + 4) = hiV m b :=
  slice_off m (by rw [Nat.add_mod_right]) _ _
theorem slice_off2 (m : Memref sig .tc .vmem S2x256x512 .f32) {o o' sz : Fin 3 → ℕ} (h : o = o') (hi hi') :
    m.view.slice (Rect.unit (s := S2x256x512) o sz hi) = m.view.slice (Rect.unit (s := S2x256x512) o' sz hi') := by subst h; rfl
theorem slot2V_add (m : Memref sig .tc .vmem S2x256x512 .f32) (b : ℕ) : slot2V m (b + 2) = slot2V m b :=
  slice_off2 m (by rw [Nat.add_mod_right]) _ _

end Cert.KProof

end
-- ==== Proof.Sched.lean ====
/-
  The protocol. For each semaphore: who waits on it, who pays it, how much, and what a payment hands over.

  * Receive cells (per channel, four slots): paid by the peer's copy of block `b` in round `b / 4`, waited by the owner.
    The landing hands over the slot at the peer's value, and that the peer's credit cell for the slot is in round `b / 4`.
  * Send cells: paid by the owner's own copy; the landing returns the share of the source it had lent.
  * Credit cells (per channel, four slots): paid by the peer once it has used up block `e`; the credit hands over the
    peer's slot, free again, and that the peer's receive cell for the slot is in the next round.
  * The barrier cell: paid once by each of the three neighbours; a neighbour's unit hands over all its landing slots that
    this device's copies fill.
-/
module

public import proofs.«01_k».proof.Proof.Views

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

/-! ## The values -/

/-- What the launch gives each device: its two row blocks of `O`, by heads side by side, and its column blocks of `Wo`. -/
structure Vals (F : FTy → Type) where
  a0 : Dev nD → (S1x256x4096.Idx → Elt F .f32)
  a1 : Dev nD → (S1x256x4096.Idx → Elt F .f32)
  w : Dev nD → ℕ → (S4096x512.Idx → Elt F .f32)

variable (U : Vals F)

/-- The partial product sent to the z peer; the device's own; their sum with the peer's. -/
def zs (c : Dev nD) (b : ℕ) : S1x256x512.Idx → Elt F .f32 := k0_pay5 (U.a0 c) (U.w c b)
def m0 (c : Dev nD) (b : ℕ) : S1x256x512.Idx → Elt F .f32 := k0_pay1 (U.a1 c) (U.w c b)
def mq (c : Dev nD) (b : ℕ) : S1x256x512.Idx → Elt F .f32 := k0_pay6 (m0 U c b) (zs U (pz c) b)

/-! ## The buffers -/

abbrev Ba : Memref sig .tc .vmem S2x256x4096 .f32 := Memref.whole cc0_scratch0
abbrev Bz : Memref sig .tc .vmem S2x256x512 .f32 := Memref.whole cc0_scratch1
abbrev Br : Memref sig .tc .vmem S4x256x512 .f32 := Memref.whole cc0_scratch2
abbrev Bm : Memref sig .tc .vmem S4x256x512 .f32 := Memref.whole cc0_scratch3
abbrev Bx : Memref sig .tc .vmem S4x256x512 .f32 := Memref.whole cc0_scratch4
abbrev By : Memref sig .tc .vmem S4x256x512 .f32 := Memref.whole cc0_scratch5
abbrev Bq : Memref sig .tc .vmem S4x256x512 .f32 := Memref.whole cc0_scratch6

abbrev qL : PosShare TreeShare := (fullShare : PosShare TreeShare).left
abbrev qR : PosShare TreeShare := (fullShare : PosShare TreeShare).right
abbrev qRL : PosShare TreeShare := qR.left
abbrev qRR : PosShare TreeShare := qR.right

/-! ## What the channels lend, need free, and deliver -/

/-- The share of its source that channel `ch`'s copy of block `b` holds while it runs. -/
def lent (ch : Fin 5) (c : Dev nD) (b : ℕ) : sProp 𝕄 :=
  match ch with
  | 0 => pv c (slot2V Bz b) fullShare (zs U c b)
  | 1 => pv c (slotV Bm b) qL (mq U c b)
  | 2 => pv c (slotV Bm b) qRL (mq U c b)
  | 3 => pv c (loV Bx b) qL (lo (mq U (px c) b))
  | 4 => pv c (hiV By b) qL (hi (mq U (py c) b))

/-- Channel `ch`'s landing slot for block `b` on device `c`, free. -/
def room (ch : Fin 5) (c : Dev nD) (b : ℕ) : sProp 𝕄 :=
  match ch with
  | 0 => pvAny c (slotV Br b)
  | 1 => pvAny c (slotV Bx b)
  | 2 => pvAny c (slotV By b)
  | 3 => pvAny c (loV Bq b)
  | 4 => pvAny c (hiV Bq b)

/-- The landing slot on device `c` holding its peer's block `b`. -/
def land (ch : Fin 5) (c : Dev nD) (b : ℕ) : sProp 𝕄 :=
  match ch with
  | 0 => pv c (slotV Br b) fullShare (zs U (pz c) b)
  | 1 => pv c (slotV Bx b) fullShare (mq U (px c) b)
  | 2 => pv c (slotV By b) fullShare (mq U (py c) b)
  | 3 => pv c (loV Bq b) fullShare (lo (mq U (px (py c)) b))
  | 4 => pv c (hiV Bq b) fullShare (hi (mq U (py (px c)) b))

instance lent_storable (ch c b) : BI.Storable (upEmb : UEmb _ 𝕄) (lent U ch c b) := by
  unfold lent; split <;> infer_instance
instance room_storable (ch c b) : BI.Storable (upEmb : UEmb _ 𝕄) (room (F := F) ch c b) := by
  unfold room; split <;> infer_instance
instance land_storable (ch c b) : BI.Storable (upEmb : UEmb _ 𝕄) (land U ch c b) := by
  unfold land; split <;> infer_instance

theorem room_add (ch : Fin 5) (c : Dev nD) (b : ℕ) : (room ch c (b + 4) : sProp 𝕄) = room ch c b := by
  unfold room
  split <;> simp only [slotV_add, loV_add, hiV_add]
theorem room_mod (ch : Fin 5) (c : Dev nD) (b : ℕ) : (room ch c (b % 4) : sProp 𝕄) = room ch c b := by
  have : ∀ k, (room ch c (b % 4 + 4 * k) : sProp 𝕄) = room ch c (b % 4) := by
    intro k
    induction k with
    | zero => rfl
    | succ k ih => rw [← ih, ← room_add ch c (b % 4 + 4 * k)]; congr 1
  rw [← this (b / 4)]; congr 1; omega

/-- All four landing slots of a channel. -/
def rooms (ch : Fin 5) (c : Dev nD) : sProp 𝕄 := bigSep (Finset.Ico 0 4) fun b => room ch c b
instance rooms_storable (ch c) : BI.Storable (upEmb : UEmb _ 𝕄) (rooms (F := F) ch c) := by unfold rooms; infer_instance

/-- What a neighbour's barrier unit hands over: its landing slots of the channels to it. -/
def barPay (j : Fin 3) (c : Dev nD) : sProp 𝕄 :=
  match j with
  | 0 => rooms 0 (pz c)
  | 1 => iprop(rooms 1 (px c) ∗ rooms 4 (px c))
  | 2 => iprop(rooms 2 (py c) ∗ rooms 3 (py c))
instance barPay_storable (j c) : BI.Storable (upEmb : UEmb _ 𝕄) (barPay (F := F) j c) := by
  unfold barPay; split <;> infer_instance

/-! ## The cells' roles -/

/-- A cell's role: a channel's receive, send or credit cell for a slot, the barrier cell, or none of the kernel's. -/
inductive Role where
  | recv (ch : Fin 5) (s : ℕ)
  | send (ch : Fin 5) (s : ℕ)
  | cred (ch : Fin 5) (s : ℕ)
  | bar
  | none
deriving DecidableEq

def role : SemLoc sig → Role
  | .dma j =>
    if j.val < 6 then .none
    else if h : j.val < 8 then .send 0 (j.val - 6)
    else if h : (j.val - 8) % 8 < 4 then .recv ⟨(j.val - 8) / 8, by have : j.val < 44 := j.isLt; omega⟩ ((j.val - 8) % 8)
    else .send ⟨(j.val - 4) / 8, by have : j.val < 44 := j.isLt; omega⟩ ((j.val - 4) % 8)
  | .reg j => if h : j.val < 20 then .cred ⟨j.val / 4, by omega⟩ (j.val % 4) else .bar

/-- Slots per send channel: two to the z peer, four elsewhere. -/
def sw (ch : Fin 5) : ℕ := if ch.val = 0 then 2 else 4

theorem role_recv (ch : Fin 5) (b : ℕ) : role (.dma (recvQ ch b)) = .recv ch (b % 4) := by
  have h : ∀ (ch : Fin 5) (s : Fin 4), role (.dma (recvQ ch s.val)) = .recv ch s.val := by decide
  have h4 := Nat.mod_lt b (show 0 < 4 by decide)
  have e : recvQ ch b = recvQ ch (b % 4) := Fin.ext (by show 8 + 8 * ch.val + b % 4 = 8 + 8 * ch.val + b % 4 % 4; omega)
  rw [e]; exact h ch ⟨b % 4, h4⟩
theorem role_send (ch : Fin 5) (b : ℕ) : role (.dma (sendQ ch b)) = .send ch (b % sw ch) := by
  have h : ∀ (ch : Fin 5) (s : Fin 4), role (.dma (sendQ ch s.val)) = .send ch (s.val % sw ch) := by decide
  have h4 := Nat.mod_lt b (show 0 < 4 by decide)
  have e : sendQ ch b = sendQ ch (b % 4) := Fin.ext (by
    show (if ch.val = 0 then 6 + b % 2 else 4 + 8 * ch.val + b % 4) = (if ch.val = 0 then 6 + b % 4 % 2 else 4 + 8 * ch.val + b % 4 % 4)
    split <;> omega)
  have e2 : b % sw ch = b % 4 % sw ch := by unfold sw; split <;> omega
  rw [e, e2]; exact h ch ⟨b % 4, h4⟩
theorem role_cred (ch : Fin 5) (b : ℕ) : role (.reg (credQ ch b)) = .cred ch (b % 4) := by
  have h : ∀ (ch : Fin 5) (s : Fin 4), role (.reg (credQ ch s.val)) = .cred ch s.val := by decide
  have h4 := Nat.mod_lt b (show 0 < 4 by decide)
  have e : credQ ch b = credQ ch (b % 4) := Fin.ext (by show 4 * ch.val + b % 4 = 4 * ch.val + b % 4 % 4; omega)
  rw [e]; exact h ch ⟨b % 4, h4⟩
theorem role_bar : role (.reg barQ) = .bar := by decide

/-- The units a copy on channel `ch` credits. -/
def NC (ch : Fin 5) : ℕ := if ch.val < 3 then (slotV Br 0).dmaCredit else (loV Bq 0).dmaCredit

theorem NC_pos (ch : Fin 5) : 0 < NC ch := by
  revert ch; decide

/-! ## The schedule -/

/-- The duties of a role's round, their units, and what they hand to the owner `c`. -/
def dutiesOf (ro : Role) (r : ℕ) : Finset (Fin 3) :=
  match ro with
  | .recv _ _ => if r < 4 then {0} else ∅
  | .send ch _ => if r < 16 / sw ch then {0} else ∅
  | .cred _ _ => if r < 3 then {0} else ∅
  | .bar => if r = 0 then Finset.univ else ∅
  | .none => ∅
def unitsOf (ro : Role) : ℕ :=
  match ro with
  | .recv ch _ => NC ch
  | .send ch _ => NC ch
  | _ => 1
def payOf (c : Dev nD) (ro : Role) (r : ℕ) (d : Fin 3) : sProp 𝕄 :=
  match ro with
  | .recv ch s => iprop(land U ch c (4 * r + s) ∗ reached ER (credCell (pr ch c) ch s) r)
  | .send ch s => lent U ch c (sw ch * r + s)
  | .cred ch s => iprop(room ch (pr ch c) s ∗ reached ER (recvCell (pr ch c) ch s) (r + 1))
  | .bar => barPay d c
  | .none => iprop(emp)

instance payOf_storable (c ro r d) : BI.Storable (upEmb : UEmb _ 𝕄) (payOf U c ro r d) := by
  unfold payOf; split <;> infer_instance

def sched : Rounds.Schedule (GSem nD τ sig) (Fin 3) 𝕄 where
  duties g r := if g.1.2 = .tc then dutiesOf (role g.2) r else ∅
  amount g r d := unitsOf (role g.2)
  payload g r d := payOf U g.1.1 (role g.2) r d
  amount_pos g r d _ := by
    unfold unitsOf
    split
    · exact NC_pos _
    · exact NC_pos _
    · exact Nat.one_pos

instance sched_storable (g r d) : BI.Storable (upEmb : UEmb _ 𝕄) ((sched U).payload g r d) := payOf_storable U g.1.1 (role g.2) r d

section Facts
variable (c : Dev nD) (ch : Fin 5) (b : ℕ)

theorem duties_tc (q : SemLoc sig) (r : ℕ) : (sched U).duties ((c : Thread nD τ), q) r = dutiesOf (role q) r := by
  show (if (Proc.tc : Proc τ) = Proc.tc then dutiesOf (role q) r else ∅) = _
  exact if_pos rfl

theorem duties_recv (hb : b < 16) : (sched U).duties (recvCell c ch b) (b / 4) = {0} := by
  rw [duties_tc, role_recv]; exact if_pos (by omega)
theorem sendR_eq : sendR ch b = b / sw ch := by unfold sendR sw; split <;> rfl
theorem duties_send (hb : b < 16) : (sched U).duties (sendCell c ch b) (sendR ch b) = {0} := by
  rw [duties_tc, role_send]
  refine if_pos ?_
  rw [sendR_eq]; unfold sw; split <;> omega
theorem duties_cred (hb : b < 12) : (sched U).duties (credCell c ch b) (b / 4) = {0} := by
  rw [duties_tc, role_cred]; exact if_pos (by omega)
theorem duties_bar : (sched U).duties (barCell c) 0 = Finset.univ := by
  rw [duties_tc, role_bar]; rfl

/-- Past its last round a cell has no duty. -/
theorem duties_recv_end (r : ℕ) (hr : 4 ≤ r) : (sched U).duties (recvCell c ch b) r = ∅ := by
  rw [duties_tc, role_recv]; exact if_neg (by omega)
theorem duties_send_end (r : ℕ) (hr : 16 / sw ch ≤ r) : (sched U).duties (sendCell c ch b) r = ∅ := by
  rw [duties_tc, role_send]; exact if_neg (by omega)
theorem duties_cred_end (r : ℕ) (hr : 3 ≤ r) : (sched U).duties (credCell c ch b) r = ∅ := by
  rw [duties_tc, role_cred]; exact if_neg (by omega)
theorem duties_bar_end (r : ℕ) (hr : 1 ≤ r) : (sched U).duties (barCell c) r = ∅ := by
  rw [duties_tc, role_bar]; exact if_neg (by omega)

theorem amount_recv (r d) : (sched U).amount (recvCell c ch b) r d = NC ch := by
  show unitsOf (role (.dma (recvQ ch b))) = _; rw [role_recv]; rfl
theorem amount_send (r d) : (sched U).amount (sendCell c ch b) r d = NC ch := by
  show unitsOf (role (.dma (sendQ ch b))) = _; rw [role_send]; rfl
theorem amount_cred (r d) : (sched U).amount (credCell c ch b) r d = 1 := by
  show unitsOf (role (.reg (credQ ch b))) = _; rw [role_cred]; rfl
theorem amount_bar (r d) : (sched U).amount (barCell c) r d = 1 := by
  show unitsOf (role (.reg barQ)) = _; rw [role_bar]; rfl

theorem expect_recv (hb : b < 16) : (sched U).expect (recvCell c ch b) (b / 4) = NC ch := by
  unfold Schedule.expect Schedule.amountOf; rw [duties_recv U c ch b hb, Finset.sum_singleton, amount_recv]
theorem expect_send (hb : b < 16) : (sched U).expect (sendCell c ch b) (sendR ch b) = NC ch := by
  unfold Schedule.expect Schedule.amountOf; rw [duties_send U c ch b hb, Finset.sum_singleton, amount_send]
theorem expect_cred (hb : b < 12) : (sched U).expect (credCell c ch b) (b / 4) = 1 := by
  unfold Schedule.expect Schedule.amountOf; rw [duties_cred U c ch b hb, Finset.sum_singleton, amount_cred]
theorem expect_bar : (sched U).expect (barCell c) 0 = 3 := by
  unfold Schedule.expect Schedule.amountOf; rw [duties_bar U c]
  rw [Finset.sum_congr rfl (fun d _ => amount_bar U c 0 d)]; rfl

theorem recvQ_mod : recvQ ch (b % 4) = recvQ ch b := Fin.ext (by show 8 + 8 * ch.val + b % 4 % 4 = 8 + 8 * ch.val + b % 4; omega)
theorem credQ_mod : credQ ch (b % 4) = credQ ch b := Fin.ext (by show 4 * ch.val + b % 4 % 4 = 4 * ch.val + b % 4; omega)

theorem payload_recv (d) : (sched U).payload (recvCell c ch b) (b / 4) d = iprop(land U ch c b ∗ reached ER (credCell (pr ch c) ch b) (b / 4)) := by
  show payOf U c (role (.dma (recvQ ch b))) (b / 4) d = _
  rw [role_recv]
  show iprop(land U ch c (4 * (b / 4) + b % 4) ∗ reached ER (credCell (pr ch c) ch (b % 4)) (b / 4)) = _
  rw [Nat.div_add_mod]; unfold credCell; rw [credQ_mod]
theorem payload_send (d) : (sched U).payload (sendCell c ch b) (sendR ch b) d = lent U ch c b := by
  show payOf U c (role (.dma (sendQ ch b))) (sendR ch b) d = _
  rw [role_send]
  show lent U ch c (sw ch * (sendR ch b) + b % sw ch) = _
  rw [sendR_eq, Nat.div_add_mod]
theorem payload_cred (d) : (sched U).payload (credCell c ch b) (b / 4) d = iprop(room ch (pr ch c) b ∗ reached ER (recvCell (pr ch c) ch b) (b / 4 + 1)) := by
  show payOf U c (role (.reg (credQ ch b))) (b / 4) d = _
  rw [role_cred]
  show iprop(room ch (pr ch c) (b % 4) ∗ reached ER (recvCell (pr ch c) ch (b % 4)) (b / 4 + 1)) = _
  rw [room_mod]; unfold recvCell; rw [recvQ_mod]
theorem payload_bar (d) : (sched U).payload (barCell c) 0 d = barPay d c := by
  show payOf U c (role (.reg barQ)) 0 d = _
  rw [role_bar]; rfl

end Facts

/-! ## The cells' invariants and what is known of every cell at launch -/

/-- The kernel's cells on one device: its DMA cells from 6 on, its regular cells. -/
abbrev CI : Type := Fin 38 ⊕ Fin 21
def ciSem : CI → SemLoc sig
  | .inl j => .dma ⟨6 + j.val, by have := j.isLt; show _ < 44; omega⟩
  | .inr j => .reg ⟨j.val, by have := j.isLt; show _ < 21; omega⟩
def ciCell (x : Dev nD × CI) : GSem nD τ sig := ((x.1 : Thread nD τ), ciSem x.2)

def ciRecv (ch : Fin 5) (b : ℕ) : CI := .inl ⟨(recvQ ch b).val - 6, by have := (recvQ ch b).isLt; have h : sig.nDmaSem = 44 := rfl; omega⟩
def ciSend (ch : Fin 5) (b : ℕ) : CI := .inl ⟨(sendQ ch b).val - 6, by have := (sendQ ch b).isLt; have h : sig.nDmaSem = 44 := rfl; omega⟩
def ciCred (ch : Fin 5) (b : ℕ) : CI := .inr ⟨(credQ ch b).val, (credQ ch b).isLt⟩
def ciBar : CI := .inr 20

theorem ciCell_recv (c : Dev nD) (ch : Fin 5) (b : ℕ) : ciCell (c, ciRecv ch b) = recvCell c ch b := by
  unfold ciCell recvCell; congr 1; show SemLoc.dma _ = SemLoc.dma _; congr 1; apply Fin.ext
  show 6 + ((recvQ ch b).val - 6) = (recvQ ch b).val
  have : 6 ≤ (recvQ ch b).val := by show 6 ≤ 8 + 8 * ch.val + b % 4; omega
  omega
theorem ciCell_send (c : Dev nD) (ch : Fin 5) (b : ℕ) : ciCell (c, ciSend ch b) = sendCell c ch b := by
  unfold ciCell sendCell; congr 1; show SemLoc.dma _ = SemLoc.dma _; congr 1; apply Fin.ext
  show 6 + ((sendQ ch b).val - 6) = (sendQ ch b).val
  have : 6 ≤ (sendQ ch b).val := by show 6 ≤ (if ch.val = 0 then 6 + b % 2 else 4 + 8 * ch.val + b % 4); split <;> omega
  omega
theorem ciCell_cred (c : Dev nD) (ch : Fin 5) (b : ℕ) : ciCell (c, ciCred ch b) = credCell c ch b := rfl
theorem ciCell_bar (c : Dev nD) : ciCell (c, ciBar) = barCell c := rfl

/-- Every cell's invariant, and that every cell has reached round 0. -/
def Recs (K : Dev nD × CI → ℕ) : sProp 𝕄 :=
  bigSep Finset.univ fun x : Dev nD × CI => iprop(cellInv ER (sched U) (K x) (ciCell x) ∗ reached ER (ciCell x) 0)

instance Recs_persistent (K) : BI.Persistent (Recs U K) := by unfold Recs; infer_instance

theorem Recs_at (K : Dev nD × CI → ℕ) (x : Dev nD × CI) : Recs U K ⊢ iprop(cellInv ER (sched U) (K x) (ciCell x) ∗ reached ER (ciCell x) 0) := by
  unfold Recs; exact bigSep_elim (Finset.mem_univ x)
theorem Recs_recv (K) (c : Dev nD) (ch b) : Recs U K ⊢ iprop(cellInv ER (sched U) (K (c, ciRecv ch b)) (recvCell c ch b) ∗ reached ER (recvCell c ch b) 0) := by
  have := Recs_at U K (c, ciRecv ch b); rwa [ciCell_recv] at this
theorem Recs_send (K) (c : Dev nD) (ch b) : Recs U K ⊢ iprop(cellInv ER (sched U) (K (c, ciSend ch b)) (sendCell c ch b) ∗ reached ER (sendCell c ch b) 0) := by
  have := Recs_at U K (c, ciSend ch b); rwa [ciCell_send] at this
theorem Recs_cred (K) (c : Dev nD) (ch b) : Recs U K ⊢ iprop(cellInv ER (sched U) (K (c, ciCred ch b)) (credCell c ch b) ∗ reached ER (credCell c ch b) 0) :=
  Recs_at U K (c, ciCred ch b)
theorem Recs_bar (K) (c : Dev nD) : Recs U K ⊢ iprop(cellInv ER (sched U) (K (c, ciBar)) (barCell c) ∗ reached ER (barCell c) 0) :=
  Recs_at U K (c, ciBar)

end Cert.KProof

end
-- ==== Proof.Owed.lean ====
/-
  What a device still owes its peers as it runs, and the levels its waits are ordered by: every payment a device makes
  has a POSITION in the order it makes them, the same on every device, and a wait on a cell is below every payment still
  owed because the cell's own payment came at an earlier position.
-/
module

public import proofs.«01_k».proof.Proof.Sched

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

/-! ## The payments in order -/

/-- A device's payments: a copy of each block on each channel, a credit for each of the first twelve blocks used up on
    each channel, the three barrier units. -/
abbrev Pay : Type := (Fin 5 × Fin 16) ⊕ ((Fin 5 × Fin 12) ⊕ Fin 3)

def posR (ch : Fin 5) (b : ℕ) : ℕ := 16 * (b + (![3, 4, 4, 5, 5] : Fin 5 → ℕ) ch) + (![0, 4, 5, 6, 7] : Fin 5 → ℕ) ch
def posC (ch : Fin 5) (e : ℕ) : ℕ := 16 * (e + (![4, 7, 7, 6, 6] : Fin 5 → ℕ) ch) + (![3, 1, 2, 8, 9] : Fin 5 → ℕ) ch

def pos : Pay → ℕ
  | .inl (ch, b) => posR ch b.val
  | .inr (.inl (ch, e)) => posC ch e.val
  | .inr (.inr j) => j.val + 1

def tall (c : Dev nD) : Pay → CellTallies nD τ sig ℕ
  | .inl (ch, b) => tallyAt (recvCell (pr ch c) ch b.val) b.val (NC ch)
  | .inr (.inl (ch, e)) => tallyAt (credCell (pr ch c) ch e.val) e.val 1
  | .inr (.inr j) => tallyAt (barCell (bpr j c)) 0 1

/-- What device `c` owes before position `P`. -/
def O (c : Dev nD) (P : ℕ) : CellTallies nD τ sig ℕ := ∑ p ∈ Finset.univ.filter (fun p : Pay => P ≤ pos p), tall c p

theorem posR_cases (ch : Fin 5) (b : ℕ) : (ch = 0 ∧ posR ch b = 16 * (b + 3)) ∨ (ch = 1 ∧ posR ch b = 16 * (b + 4) + 4) ∨ (ch = 2 ∧ posR ch b = 16 * (b + 4) + 5)
    ∨ (ch = 3 ∧ posR ch b = 16 * (b + 5) + 6) ∨ (ch = 4 ∧ posR ch b = 16 * (b + 5) + 7) := by
  match ch with
  | 0 => exact .inl ⟨rfl, rfl⟩
  | 1 => exact .inr (.inl ⟨rfl, rfl⟩)
  | 2 => exact .inr (.inr (.inl ⟨rfl, rfl⟩))
  | 3 => exact .inr (.inr (.inr (.inl ⟨rfl, rfl⟩)))
  | 4 => exact .inr (.inr (.inr (.inr ⟨rfl, rfl⟩)))
theorem posC_cases (ch : Fin 5) (e : ℕ) : (ch = 0 ∧ posC ch e = 16 * (e + 4) + 3) ∨ (ch = 1 ∧ posC ch e = 16 * (e + 7) + 1) ∨ (ch = 2 ∧ posC ch e = 16 * (e + 7) + 2)
    ∨ (ch = 3 ∧ posC ch e = 16 * (e + 6) + 8) ∨ (ch = 4 ∧ posC ch e = 16 * (e + 6) + 9) := by
  match ch with
  | 0 => exact .inl ⟨rfl, rfl⟩
  | 1 => exact .inr (.inl ⟨rfl, rfl⟩)
  | 2 => exact .inr (.inr (.inl ⟨rfl, rfl⟩))
  | 3 => exact .inr (.inr (.inr (.inl ⟨rfl, rfl⟩)))
  | 4 => exact .inr (.inr (.inr (.inr ⟨rfl, rfl⟩)))

theorem pos_inj : Function.Injective pos := by
  rintro (⟨ch, b⟩ | ⟨ch, e⟩ | j) (⟨ch', b'⟩ | ⟨ch', e'⟩ | j') h
  · simp only [pos] at h
    have : ch = ch' ∧ b.val = b'.val := by
      rcases posR_cases ch b with ⟨rfl, h1⟩ | ⟨rfl, h1⟩ | ⟨rfl, h1⟩ | ⟨rfl, h1⟩ | ⟨rfl, h1⟩ <;>
      rcases posR_cases ch' b' with ⟨rfl, h2⟩ | ⟨rfl, h2⟩ | ⟨rfl, h2⟩ | ⟨rfl, h2⟩ | ⟨rfl, h2⟩ <;>
      first | exact ⟨rfl, by omega⟩ | (exfalso; omega)
    rw [this.1, Fin.ext this.2]
  · exfalso; simp only [pos] at h
    rcases posR_cases ch b with ⟨rfl, h1⟩ | ⟨rfl, h1⟩ | ⟨rfl, h1⟩ | ⟨rfl, h1⟩ | ⟨rfl, h1⟩ <;>
    rcases posC_cases ch' e' with ⟨rfl, h2⟩ | ⟨rfl, h2⟩ | ⟨rfl, h2⟩ | ⟨rfl, h2⟩ | ⟨rfl, h2⟩ <;> omega
  · exfalso; simp only [pos] at h
    have := j'.isLt
    rcases posR_cases ch b with ⟨rfl, h1⟩ | ⟨rfl, h1⟩ | ⟨rfl, h1⟩ | ⟨rfl, h1⟩ | ⟨rfl, h1⟩ <;> omega
  · exfalso; simp only [pos] at h
    rcases posC_cases ch e with ⟨rfl, h1⟩ | ⟨rfl, h1⟩ | ⟨rfl, h1⟩ | ⟨rfl, h1⟩ | ⟨rfl, h1⟩ <;>
    rcases posR_cases ch' b' with ⟨rfl, h2⟩ | ⟨rfl, h2⟩ | ⟨rfl, h2⟩ | ⟨rfl, h2⟩ | ⟨rfl, h2⟩ <;> omega
  · simp only [pos] at h
    have : ch = ch' ∧ e.val = e'.val := by
      rcases posC_cases ch e with ⟨rfl, h1⟩ | ⟨rfl, h1⟩ | ⟨rfl, h1⟩ | ⟨rfl, h1⟩ | ⟨rfl, h1⟩ <;>
      rcases posC_cases ch' e' with ⟨rfl, h2⟩ | ⟨rfl, h2⟩ | ⟨rfl, h2⟩ | ⟨rfl, h2⟩ | ⟨rfl, h2⟩ <;>
      first | exact ⟨rfl, by omega⟩ | (exfalso; omega)
    rw [this.1, Fin.ext this.2]
  · exfalso; simp only [pos] at h
    have := j'.isLt
    rcases posC_cases ch e with ⟨rfl, h1⟩ | ⟨rfl, h1⟩ | ⟨rfl, h1⟩ | ⟨rfl, h1⟩ | ⟨rfl, h1⟩ <;> omega
  · exfalso; simp only [pos] at h
    have := j.isLt
    rcases posR_cases ch' b' with ⟨rfl, h1⟩ | ⟨rfl, h1⟩ | ⟨rfl, h1⟩ | ⟨rfl, h1⟩ | ⟨rfl, h1⟩ <;> omega
  · exfalso; simp only [pos] at h
    have := j.isLt
    rcases posC_cases ch' e' with ⟨rfl, h1⟩ | ⟨rfl, h1⟩ | ⟨rfl, h1⟩ | ⟨rfl, h1⟩ | ⟨rfl, h1⟩ <;> omega
  · simp only [pos] at h
    rw [Fin.ext (show j.val = j'.val by omega)]

/-- Making the payment at position `P`. -/
theorem O_pay (c : Dev nD) (p : Pay) (P : ℕ) (h : pos p = P) : O c P = O c (P + 1) + tall c p := by
  classical
  subst h
  unfold O
  have : (Finset.univ.filter (fun q : Pay => pos p ≤ pos q)) = insert p (Finset.univ.filter (fun q : Pay => pos p + 1 ≤ pos q)) := by
    ext q
    simp only [Finset.mem_filter, Finset.mem_univ, true_and, Finset.mem_insert]
    constructor
    · intro hq
      rcases Nat.lt_or_ge (pos p) (pos q) with h | h
      · exact .inr h
      · exact .inl (pos_inj (le_antisymm h hq))
    · rintro (rfl | hq)
      · exact le_rfl
      · omega
  rw [this, Finset.sum_insert (by simp), add_comm]

theorem O_recv (c : Dev nD) (ch : Fin 5) (b : ℕ) (hb : b < 16) (P : ℕ) (h : posR ch b = P) :
    O c P = O c (P + 1) + tallyAt (recvCell (pr ch c) ch b) b (NC ch) := O_pay c (.inl (ch, ⟨b, hb⟩)) P h
theorem O_cred (c : Dev nD) (ch : Fin 5) (e : ℕ) (he : e < 12) (P : ℕ) (h : posC ch e = P) :
    O c P = O c (P + 1) + tallyAt (credCell (pr ch c) ch e) e 1 := O_pay c (.inr (.inl (ch, ⟨e, he⟩))) P h
theorem O_bar (c : Dev nD) (j : Fin 3) (P : ℕ) (h : j.val + 1 = P) :
    O c P = O c (P + 1) + tallyAt (barCell (bpr j c)) 0 1 := O_pay c (.inr (.inr j)) P h

/-- Passing positions at which no payment is made. -/
theorem O_skip (c : Dev nD) (P P' : ℕ) (hP : P ≤ P') (hR : ∀ ch b, b < 16 → posR ch b < P ∨ P' ≤ posR ch b) (hC : ∀ ch e, e < 12 → posC ch e < P ∨ P' ≤ posC ch e)
    (hB : 4 ≤ P ∨ P' ≤ 1) : O c P = O c P' := by
  unfold O
  congr 1
  ext p
  simp only [Finset.mem_filter, Finset.mem_univ, true_and]
  rcases p with ⟨ch, b⟩ | ⟨ch, e⟩ | j
  · have := hR ch b b.isLt; simp only [pos]; omega
  · have := hC ch e e.isLt; simp only [pos]; omega
  · have := j.isLt; simp only [pos]; omega

/-- At the end nothing is owed. -/
theorem O_end (c : Dev nD) (P : ℕ) (hP : 336 ≤ P) : O c P = 0 := by
  unfold O
  rw [Finset.filter_eq_empty_iff.mpr, Finset.sum_empty]
  rintro (⟨ch, b⟩ | ⟨ch, e⟩ | j) -
  · have := b.isLt; simp only [pos]
    rcases posR_cases ch b with ⟨rfl, h1⟩ | ⟨rfl, h1⟩ | ⟨rfl, h1⟩ | ⟨rfl, h1⟩ | ⟨rfl, h1⟩ <;> omega
  · have := e.isLt; simp only [pos]
    rcases posC_cases ch e with ⟨rfl, h1⟩ | ⟨rfl, h1⟩ | ⟨rfl, h1⟩ | ⟨rfl, h1⟩ | ⟨rfl, h1⟩ <;> omega
  · have := j.isLt; simp only [pos]; omega

/-! ## The levels -/

def L (g : GSem nD τ sig) : Finset ℕ := if g.1.2 = .tc then Finset.range 16 else ∅
def lvR (ro : Role) (ι : ℕ) : ℕ :=
  match ro with
  | .recv ch _ => posR ch ι
  | .cred ch _ => posC ch ι
  | .bar => 3
  | _ => 0
def lv (g : GSem nD τ sig) (ι : ℕ) : ℕ := lvR (role g.2) ι

theorem L_tc (c : Dev nD) (q : SemLoc sig) : L ((c : Thread nD τ), q) = Finset.range 16 := by
  show (if (Proc.tc : Proc τ) = Proc.tc then Finset.range 16 else ∅) = _
  exact if_pos rfl

theorem lv_recv (c : Dev nD) (ch b ι) : lv (recvCell c ch b) ι = posR ch ι := by
  show lvR (role (.dma (recvQ ch b))) ι = _; rw [role_recv]; rfl
theorem lv_cred (c : Dev nD) (ch b ι) : lv (credCell c ch b) ι = posC ch ι := by
  show lvR (role (.reg (credQ ch b))) ι = _; rw [role_cred]; rfl
theorem lv_send (c : Dev nD) (ch b ι) : lv (sendCell c ch b) ι = 0 := by
  show lvR (role (.dma (sendQ ch b))) ι = _; rw [role_send]; rfl
theorem lv_bar (c : Dev nD) (ι) : lv (barCell c) ι = 3 := by
  show lvR (role (.reg barQ)) ι = _; rw [role_bar]; rfl
theorem lv_low (c : Dev nD) (j : DmaSem sig) (hj : j.val < 6) (ι) : lv ((c : Thread nD τ), .dma j) ι = 0 := by
  show lvR (if j.val < 6 then Role.none else _) ι = 0; rw [if_pos hj]; rfl

theorem tall_pos (c : Dev nD) (p : Pay) (g : GSem nD τ sig) (ι : ℕ) (h : 0 < tall c p g ι) : ι ∈ L g ∧ pos p ≤ lv g ι := by
  rcases p with ⟨ch, b⟩ | ⟨ch, e⟩ | j
  · simp only [tall] at h
    rw [tallyAt_apply] at h
    by_cases hc : g = recvCell (pr ch c) ch b.val ∧ ι = b.val
    · obtain ⟨rfl, rfl⟩ := hc
      exact ⟨by rw [L_tc, Finset.mem_range]; exact b.isLt, by rw [lv_recv]; exact le_rfl⟩
    · rw [if_neg hc] at h; exact absurd h (Nat.lt_irrefl 0)
  · simp only [tall] at h
    rw [tallyAt_apply] at h
    by_cases hc : g = credCell (pr ch c) ch e.val ∧ ι = e.val
    · obtain ⟨rfl, rfl⟩ := hc
      exact ⟨by rw [L_tc, Finset.mem_range]; have := e.isLt; omega, by rw [lv_cred]; exact le_rfl⟩
    · rw [if_neg hc] at h; exact absurd h (Nat.lt_irrefl 0)
  · simp only [tall] at h
    rw [tallyAt_apply] at h
    by_cases hc : g = barCell (bpr j c) ∧ ι = 0
    · obtain ⟨rfl, rfl⟩ := hc
      exact ⟨by rw [L_tc, Finset.mem_range]; omega, by rw [lv_bar]; have := j.isLt; simp only [pos]; omega⟩
    · rw [if_neg hc] at h; exact absurd h (Nat.lt_irrefl 0)

theorem O_pos (c : Dev nD) (P : ℕ) (g : GSem nD τ sig) (ι : ℕ) (h : 0 < O c P g ι) : ι ∈ L g ∧ P ≤ lv g ι := by
  unfold O at h
  rw [Finset.sum_apply, Finsupp.finset_sum_apply] at h
  obtain ⟨p, hp, hpos⟩ := Finset.exists_ne_zero_of_sum_ne_zero (Nat.pos_iff_ne_zero.mp h)
  have := tall_pos c p g ι (Nat.pos_of_ne_zero hpos)
  exact ⟨this.1, le_trans (Finset.mem_filter.mp hp).2 this.2⟩

/-- A wait below position `P` is allowed to a device that owes what comes from `P` on. -/
theorem mayWait (c : Dev nD) (sm : SemLoc sig) (ι P : ℕ) (hι : ι < 16) (hlv : lv ((c : Thread nD τ), sm) ι < P) :
    (levAts L lv : sProp 𝕄) ⊢ MayWait (c : Thread nD τ) sm ι (O c P) :=
  MayOwe.of_cut (L := L) (lev := lv) (P - 1) (fun p hp => by rw [Finset.mem_singleton.mp hp, L_tc]; exact Finset.mem_range.mpr hι)
    (fun g u hg => (O_pos c P g u hg).1)
    (fun p hp => by rw [Finset.mem_singleton.mp hp]; show lv ((c : Thread nD τ), sm) ι ≤ P - 1; omega)
    (fun g u hg => by have := (O_pos c P g u hg).2; omega)

end Cert.KProof

end
-- ==== Proof.Chan.lean ====
/-
  A channel's state on one device, by how far it has run: tokens and credit tokens still to be used, the positions of the
  cells it waits on, and the landing slots of its peer that are free; and the five operations on a channel, each moving
  one count by one.
-/
module

public import proofs.«01_k».proof.Proof.Owed
public import Idealize.SL.BI.BigOpNat

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

/-! ## Runs of numbered assertions -/

/-- The assertions numbered from `a` up to `b`. -/
def win (a b : ℕ) (A : ℕ → sProp (MT nD τ sig ℕ (Elt F) ℕ UU ℕ)) : sProp (MT nD τ sig ℕ (Elt F) ℕ UU ℕ) := bigSep (Finset.Ico a b) A

theorem win_pop {a b : ℕ} (h : a < b) (A : ℕ → sProp (MT nD τ sig ℕ (Elt F) ℕ UU ℕ)) : (win a b A : sProp 𝕄) = iprop(A a ∗ win (a + 1) b A) := by
  unfold win; exact bigSep_Ico_succ_bot h A
theorem win_push {a b : ℕ} (h : a ≤ b) (A : ℕ → sProp (MT nD τ sig ℕ (Elt F) ℕ UU ℕ)) : (win a (b + 1) A : sProp 𝕄) = iprop(A b ∗ win a b A) := by
  unfold win; exact bigSep_Ico_succ_top h A
theorem win_nil {a b : ℕ} (h : b ≤ a) (A : ℕ → sProp (MT nD τ sig ℕ (Elt F) ℕ UU ℕ)) : (win a b A : sProp 𝕄) = iprop(emp) := by
  unfold win; rw [Finset.Ico_eq_empty_of_le h, bigSep_empty]; rfl
/-- A lasting fact that one of the assertions of a run gives. -/
theorem win_look {a b x : ℕ} (hx : a ≤ x ∧ x < b) (A : ℕ → sProp (MT nD τ sig ℕ (Elt F) ℕ UU ℕ)) (R : sProp (MT nD τ sig ℕ (Elt F) ℕ UU ℕ)) [BI.Persistent R] (h : A x ⊢ R) :
    (win a b A : sProp 𝕄) ⊢ iprop(win a b A ∗ R) :=
  persistent_entails_left ((bigSep_elim (Finset.mem_Ico.mpr hx)).trans h)

/-! ## A channel's assertions by block -/

section Chan
variable (ch : Fin 5) (c : Dev nD)

/-- The tokens with which this device's copy of block `b` pays its peer's receive cell and its own send cell. -/
def tokS (b : ℕ) : sProp 𝕄 := iprop(dutyTok ER (recvCell (pr ch c) ch b) (b / 4) (0 : Fin 3) ∗ dutyTok ER (sendCell c ch b) (sendR ch b) (0 : Fin 3))
/-- The peer's landing slot for block `b`, free, its receive cell in block `b`'s round. -/
def roomP (b : ℕ) : sProp 𝕄 := iprop(room ch (pr ch c) b ∗ reached ER (recvCell (pr ch c) ch b) (b / 4))
def credR (b : ℕ) : sProp 𝕄 := cred (tallyAt (recvCell c ch b) b (NC ch))
def posRv (b : ℕ) : sProp 𝕄 := iprop(atPos ER (recvCell c ch b) (b / 4) ∅ 0 ∗ reached ER (recvCell c ch b) (b / 4))
def posCr (e : ℕ) : sProp 𝕄 := iprop(atPos ER (credCell c ch e) (e / 4) ∅ 0 ∗ reached ER (credCell c ch e) (e / 4))
def credC (e : ℕ) : sProp 𝕄 := cred (tallyAt (credCell c ch e) e 1)
def tokC (e : ℕ) : sProp 𝕄 := dutyTok ER (credCell (pr ch c) ch e) (e / 4) (0 : Fin 3)
def posSd (b : ℕ) : sProp 𝕄 := iprop(atPos ER (sendCell c ch b) (sendR ch b) ∅ 0 ∗ reached ER (sendCell c ch b) (sendR ch b))
def credS (b : ℕ) : sProp 𝕄 := cred (tallyAt (sendCell c ch b) b (NC ch))
def gotR (e : ℕ) : sProp 𝕄 := reached ER (credCell (pr ch c) ch e) (e / 4)

theorem tokS_def (b : ℕ) : (tokS ch c b : sProp 𝕄) = iprop(dutyTok ER (recvCell (pr ch c) ch b) (b / 4) (0 : Fin 3) ∗ dutyTok ER (sendCell c ch b) (sendR ch b) (0 : Fin 3)) := rfl
theorem roomP_def (b : ℕ) : (roomP ch c b : sProp 𝕄) = iprop(room ch (pr ch c) b ∗ reached ER (recvCell (pr ch c) ch b) (b / 4)) := rfl
theorem credR_def (b : ℕ) : (credR ch c b : sProp 𝕄) = cred (tallyAt (recvCell c ch b) b (NC ch)) := rfl
theorem posRv_def (b : ℕ) : (posRv ch c b : sProp 𝕄) = iprop(atPos ER (recvCell c ch b) (b / 4) ∅ 0 ∗ reached ER (recvCell c ch b) (b / 4)) := rfl
theorem posCr_def (e : ℕ) : (posCr ch c e : sProp 𝕄) = iprop(atPos ER (credCell c ch e) (e / 4) ∅ 0 ∗ reached ER (credCell c ch e) (e / 4)) := rfl
theorem credC_def (e : ℕ) : (credC ch c e : sProp 𝕄) = cred (tallyAt (credCell c ch e) e 1) := rfl
theorem tokC_def (e : ℕ) : (tokC ch c e : sProp 𝕄) = dutyTok ER (credCell (pr ch c) ch e) (e / 4) (0 : Fin 3) := rfl
theorem posSd_def (b : ℕ) : (posSd ch c b : sProp 𝕄) = iprop(atPos ER (sendCell c ch b) (sendR ch b) ∅ 0 ∗ reached ER (sendCell c ch b) (sendR ch b)) := rfl
theorem credS_def (b : ℕ) : (credS ch c b : sProp 𝕄) = cred (tallyAt (sendCell c ch b) b (NC ch)) := rfl
theorem gotR_def (e : ℕ) : (gotR ch c e : sProp 𝕄) = reached ER (credCell (pr ch c) ch e) (e / 4) := rfl

/-- The channel on device `c` after `S` sends, `R` receives, `C` credits given, `E` credits taken, `V` sends waited for;
    the peer's free slots apart. -/
def Core (S R C E V : ℕ) : sProp 𝕄 :=
  iprop(win S 16 (tokS ch c) ∗ win R 16 (credR ch c) ∗ win R (R + 4) (posRv ch c) ∗ win E (E + 4) (posCr ch c) ∗ win E 12 (credC ch c)
    ∗ win C 12 (tokC ch c) ∗ win V (V + sw ch) (posSd ch c) ∗ win V S (credS ch c) ∗ win C R (gotR ch c))
/-- The same with the peer's free slots. -/
def Chan (S R C E V : ℕ) : sProp 𝕄 := iprop(Core ch c S R C E V ∗ win S (E + 4) (roomP ch c))

end Chan

/-- What device `c` owes at position `P`, after any waits. -/
def ow (c : Dev nD) (P : ℕ) : sProp 𝕄 := iprop(∃ W : Waits sig ℕ, owes (c : Thread nD τ) (O c P) W)

theorem ow_skip (c : Dev nD) (P P' : ℕ) (h : O c P = O c P') : (ow c P : sProp 𝕄) = ow c P' := by unfold ow; rw [h]

/-- The lasting facts: the cells' invariants and the levels. -/
def Ctx (U : Vals F) (K : Dev nD × CI → ℕ) : sProp 𝕄 := iprop(Recs U K ∗ levAts L lv)
instance Ctx_persistent (U : Vals F) (K) : BI.Persistent (Ctx U K) := by unfold Ctx; infer_instance

section Ops
variable (U : Vals F) (K : Dev nD × CI → ℕ) {α : Type} {Q : α → sProp (MT nD τ sig ℕ (Elt F) ℕ UU ℕ)} {defs : Defs nD τ sig (Elt F) Λ₀} {𝒱 : Variants} {c : Dev nD} {bd : Option 𝒱.V}
  {ch : Fin 5} {S R C E V P : ℕ}

theorem recv_round (ch : Fin 5) (c : Dev nD) (b : ℕ) : recvCell c ch (b + 4) = recvCell c ch b := by unfold recvCell; rw [recvQ_add]
theorem cred_round (ch : Fin 5) (c : Dev nD) (b : ℕ) : credCell c ch (b + 4) = credCell c ch b := by unfold credCell; rw [credQ_add]
theorem send_round (ch : Fin 5) (c : Dev nD) (b : ℕ) : sendCell c ch (b + sw ch) = sendCell c ch b := by
  unfold sendCell
  have : sendQ ch (b + sw ch) = sendQ ch b := Fin.ext (by
    show (if ch.val = 0 then 6 + (b + sw ch) % 2 else 4 + 8 * ch.val + (b + sw ch) % 4) = (if ch.val = 0 then 6 + b % 2 else 4 + 8 * ch.val + b % 4)
    unfold sw; split <;> omega)
  rw [this]
theorem sendR_add (ch : Fin 5) (b : ℕ) : sendR ch (b + sw ch) = sendR ch b + 1 := by
  unfold sendR sw; split <;> omega

theorem posRv_step (ch : Fin 5) (c : Dev nD) (b : ℕ) : (iprop(atPos ER (recvCell c ch b) (b / 4 + 1) ∅ 0 ∗ reached ER (recvCell c ch b) (b / 4 + 1)) : sProp 𝕄) = posRv ch c (b + 4) := by
  unfold posRv; rw [recv_round, show (b + 4) / 4 = b / 4 + 1 by omega]
theorem posCr_step (ch : Fin 5) (c : Dev nD) (b : ℕ) : (iprop(atPos ER (credCell c ch b) (b / 4 + 1) ∅ 0 ∗ reached ER (credCell c ch b) (b / 4 + 1)) : sProp 𝕄) = posCr ch c (b + 4) := by
  unfold posCr; rw [cred_round, show (b + 4) / 4 = b / 4 + 1 by omega]
theorem posSd_step (ch : Fin 5) (c : Dev nD) (b : ℕ) : (iprop(atPos ER (sendCell c ch b) (sendR ch b + 1) ∅ 0 ∗ reached ER (sendCell c ch b) (sendR ch b + 1)) : sProp 𝕄) = posSd ch c (b + sw ch) := by
  unfold posSd; rw [send_round, sendR_add]

/-- A wait for the whole of a round that has one duty. -/
theorem wait_one (sm : SemLoc sig) (r ι N : ℕ) (x : CI) (hx : ciSem x = sm) (hd : (sched U).duties ((c : Thread nD τ), sm) r = {0}) (he : (sched U).expect ((c : Thread nD τ), sm) r = N)
    (hι : ι < 16) (hlv : lv ((c : Thread nD τ), sm) ι < P) {w : TpuEff nD τ sig (Elt F) Λ₀ .tc PUnit}
    (hw : ∀ K : PUnit → sProp (MT nD τ sig ℕ (Elt F) ℕ UU ℕ), wpE defs 𝒱 (c : Thread nD τ) bd Set.univ w K = waitSpec (c : Thread nD τ) Set.univ sm N K)
    {k : PUnit → Prog (TpuEff nD τ sig (Elt F) Λ₀ .tc) α} :
    iprop(Ctx U K ∗ cred (tallyAt ((c : Thread nD τ), sm) ι N) ∗ ow c P ∗ atPos ER ((c : Thread nD τ), sm) r ∅ 0)
      ⊢ iprop(((ow c P ∗ atPos ER ((c : Thread nD τ), sm) (r + 1) ∅ 0 ∗ reached ER ((c : Thread nD τ), sm) (r + 1) ∗ (sched U).payload ((c : Thread nD τ), sm) r 0)
            -∗ wp frame (wpE defs 𝒱 (c : Thread nD τ) bd) Set.univ (k ⟨⟩) Q)
          -∗ wp frame (wpE defs 𝒱 (c : Thread nD τ) bd) Set.univ (.op w k) Q) := by
  subst hx
  unfold Ctx ow
  iintro ⟨⟨#HR, #HL⟩, Hc, ⟨%W, HO⟩, Hat⟩ Hk
  ihave #HI := (Recs_at U K (c, x)) $$ HR
  icases HI with ⟨#HI, -⟩
  iapply (Rounds.wp_wait_rest_token 𝒱 ER (sched U) (c : Thread nD τ) bd (κ := K (c, x)) hw (Set.mem_univ _) ι (O := O c P) (W := W) (R := r) (m := 0) (T := ∅)
      (by rw [Nat.zero_add, he])) $$ [Hc HO Hat]
  · isplitr; · iexact HI
    isplitl [Hc]; · iexact Hc
    isplitl [HO]; · iexact HO
    isplitr [Hat]
    · iapply (mayWait c (ciSem x) ι P hι hlv); iexact HL
    iexact Hat
  iintro ⟨HO, Hat, Hr, Hpay⟩
  iapply Hk
  isplitl [HO]; · iexists _; iexact HO
  isplitl [Hat]; · iexact Hat
  isplitl [Hr]; · iexact Hr
  iapply (Entails.of_eq (show bigSep ((sched U).duties ((c : Thread nD τ), ciSem x) r \ ∅) (fun d => (sched U).payload ((c : Thread nD τ), ciSem x) r d) = (sched U).payload ((c : Thread nD τ), ciSem x) r 0 by
    rw [hd, Finset.sdiff_empty, bigSep_singleton]))
  iexact Hpay

/-- Receiving block `R`. -/
theorem recv_wait (hR : R < 16) (hC : C ≤ R) (hP : posR ch R < P) {sem : DmaSem sig} (hs : sem = recvQ ch R) {sp sp' : Space} {s s' : Shape} {src : Memref sig .tc sp s .f32} {dst : Memref sig .tc sp' s' .f32}
    {hsrc : src.view.WordExact} {hdst : dst.view.WordExact} (hN : dst.view.dmaCredit = NC ch)
    {k : PUnit → Prog (TpuEff nD τ sig (Elt F) Λ₀ .tc) α} :
    iprop(Ctx U K ∗ ow c P ∗ Chan ch c S R C E V)
      ⊢ iprop(((ow c P ∗ Chan ch c S (R + 1) C E V ∗ land U ch c R) -∗ wp frame (wpE defs 𝒱 (c : Thread nD τ) bd) Set.univ (k ⟨⟩) Q)
          -∗ wp frame (wpE defs 𝒱 (c : Thread nD τ) bd) Set.univ (.op (.waitDma2 sem src dst hsrc hdst) k) Q) := by
  subst hs
  iintro ⟨#HC, HO, HCh⟩ Hk
  unfold Chan Core
  rw [win_pop hR (credR ch c), win_pop (show R < R + 4 by omega) (posRv ch c), credR_def ch c R, posRv_def ch c R]
  icases HCh with ⟨⟨Hts, ⟨Hcr, Hcrs⟩, ⟨⟨Hat, -⟩, Hps⟩, Hpc, Hcc, Htc, Hpd, Hcs, Hgot⟩, Hroom⟩
  iapply (wait_one U K (c := c) (.dma (recvQ ch R)) (R / 4) R (NC ch) (ciRecv ch R) (congrArg Prod.snd (ciCell_recv c ch R)) (duties_recv U c ch R hR) (expect_recv U c ch R hR) hR
      (show lv (recvCell c ch R) R < P by rw [lv_recv]; exact hP)
      (w := .waitDma2 (recvQ ch R) src dst hsrc hdst) (by rw [← hN]; exact wpE_waitDma2_eq 𝒱 (c : Thread nD τ) bd Set.univ)) $$ [Hcr HO Hat]
  · isplitr; · iexact HC
    isplitl [Hcr]; · iexact Hcr
    isplitl [HO]; · iexact HO
    iexact Hat
  iintro ⟨HO, Hat, Hr, Hpay⟩
  iapply Hk
  isplitl [HO]; · iexact HO
  ihave Hpay := (Entails.of_eq (payload_recv U c ch R 0)) $$ Hpay
  icases Hpay with ⟨Hland, Hg⟩
  isplitr [Hland]
  · isplitr [Hroom]
    · isplitl [Hts]; · iexact Hts
      isplitl [Hcrs]; · iexact Hcrs
      isplitl [Hps Hat Hr]
      · rw [show R + 1 + 4 = R + 4 + 1 by omega, win_push (show R + 1 ≤ R + 4 by omega) (posRv ch c), ← posRv_step]
        isplitr [Hps]
        · isplitl [Hat]; · iexact Hat
          iexact Hr
        · iexact Hps
      isplitl [Hpc]; · iexact Hpc
      isplitl [Hcc]; · iexact Hcc
      isplitl [Htc]; · iexact Htc
      isplitl [Hpd]; · iexact Hpd
      isplitl [Hcs]; · iexact Hcs
      rw [win_push hC (gotR ch c), gotR_def ch c R]
      isplitl [Hg]; · iexact Hg
      iexact Hgot
    · iexact Hroom
  · iexact Hland

/-- Taking credit `E`: the peer's slot of block `E` is free for block `E + 4`. -/
theorem cred_wait (hE : E < 12) (hS : S ≤ E + 4) (hP : posC ch E < P) {sem : Sem sig} (hs : sem = credQ ch E)
    {k : PUnit → Prog (TpuEff nD τ sig (Elt F) Λ₀ .tc) α} {n : Int} (hn : n = ((1 : ℕ) : Int)) :
    iprop(Ctx U K ∗ ow c P ∗ Chan ch c S R C E V)
      ⊢ iprop(((ow c P ∗ Chan ch c S R C (E + 1) V) -∗ wp frame (wpE defs 𝒱 (c : Thread nD τ) bd) Set.univ (k ⟨⟩) Q)
          -∗ wp frame (wpE defs 𝒱 (c : Thread nD τ) bd) Set.univ (.op (.semWait sem n) k) Q) := by
  subst hs; subst hn
  iintro ⟨#HC, HO, HCh⟩ Hk
  unfold Chan Core
  rw [win_pop hE (credC ch c), win_pop (show E < E + 4 by omega) (posCr ch c), credC_def ch c E, posCr_def ch c E]
  icases HCh with ⟨⟨Hts, Hcrs, Hps, ⟨⟨Hat, -⟩, Hpc⟩, ⟨Hcr, Hcc⟩, Htc, Hpd, Hcs, Hgot⟩, Hroom⟩
  iapply (wait_one U K (c := c) (.reg (credQ ch E)) (E / 4) E 1 (ciCred ch E) (congrArg Prod.snd (ciCell_cred c ch E)) (duties_cred U c ch E hE) (expect_cred U c ch E hE) (by omega)
      (show lv (credCell c ch E) E < P by rw [lv_cred]; exact hP)
      (w := .semWait (credQ ch E) 1) (wpE_semWait_eq 𝒱 (c : Thread nD τ) bd Set.univ)) $$ [Hcr HO Hat]
  · isplitr; · iexact HC
    isplitl [Hcr]; · iexact Hcr
    isplitl [HO]; · iexact HO
    iexact Hat
  iintro ⟨HO, Hat, Hr, Hpay⟩
  iapply Hk
  isplitl [HO]; · iexact HO
  ihave Hpay := (Entails.of_eq (payload_cred U c ch E 0)) $$ Hpay
  isplitr [Hroom Hpay]
  · isplitl [Hts]; · iexact Hts
    isplitl [Hcrs]; · iexact Hcrs
    isplitl [Hps]; · iexact Hps
    isplitl [Hpc Hat Hr]
    · rw [show E + 1 + 4 = E + 4 + 1 by omega, win_push (show E + 1 ≤ E + 4 by omega) (posCr ch c), ← posCr_step]
      isplitr [Hpc]
      · isplitl [Hat]; · iexact Hat
        iexact Hr
      · iexact Hpc
    isplitl [Hcc]; · iexact Hcc
    isplitl [Htc]; · iexact Htc
    isplitl [Hpd]; · iexact Hpd
    isplitl [Hcs]; · iexact Hcs
    iexact Hgot
  · rw [show E + 1 + 4 = E + 4 + 1 by omega, win_push hS (roomP ch c), roomP_def ch c (E + 4)]
    isplitl [Hpay]
    · rw [room_add, recv_round, show (E + 4) / 4 = E / 4 + 1 by omega]
      iexact Hpay
    · iexact Hroom

/-- Giving credit `C`: this device's slot of block `C` back to the peer. -/
theorem cred_give (hC : C < 12) (hR : C < R ∧ R ≤ C + 4) (hP : posC ch C = P) {sem : Sem sig} (hs : sem = credQ ch C) {n : Dev nD} (hn : n = pr ch c)
    {k : PUnit → Prog (TpuEff nD τ sig (Elt F) Λ₀ .tc) α} {u : Int} (hu : u = ((1 : ℕ) : Int)) :
    iprop(Ctx U K ∗ ow c P ∗ Chan ch c S R C E V ∗ room ch c C)
      ⊢ iprop(((ow c (P + 1) ∗ Chan ch c S R (C + 1) E V) -∗ wp frame (wpE defs 𝒱 (c : Thread nD τ) bd) Set.univ (k ⟨⟩) Q)
          -∗ wp frame (wpE defs 𝒱 (c : Thread nD τ) bd) Set.univ (.op (.semSignal (Dev.tc n : Thread nD τ) sem u) k) Q) := by
  subst hs; subst hn; subst hu
  iintro ⟨#HC, HO, HCh, Hroom⟩ Hk
  unfold Chan Core
  rw [win_pop hC (tokC ch c), win_pop hR.1 (gotR ch c), tokC_def ch c C, gotR_def ch c C]
  unfold ow Ctx
  icases HC with ⟨#HRecs, #HL⟩
  icases HO with ⟨%W, HO⟩
  icases HCh with ⟨⟨Hts, Hcrs, Hps, Hpc, Hcc, ⟨Ht, Htc⟩, Hpd, Hcs, ⟨Hg, Hgot⟩⟩, Hrooms⟩
  ihave #HI := (Recs_cred U K (pr ch c) ch C) $$ HRecs
  icases HI with ⟨#HI, -⟩
  ihave Hps := (win_look (a := R) (b := R + 4) (x := C + 4) (by omega) (posRv ch c) (reached ER (recvCell c ch C) (C / 4 + 1))
    (by unfold posRv; rw [recv_round, show (C + 4) / 4 = C / 4 + 1 by omega]; iintro ⟨-, H⟩; iexact H)) $$ Hps
  icases Hps with ⟨Hps, Hr⟩
  iapply (Rounds.wp_signal 𝒱 ER (sched U) (c : Thread nD τ) bd (dst := (pr ch c : Thread nD τ)) (κ := K (pr ch c, ciCred ch C)) (d := (0 : Fin 3)) (r := C / 4)
      (by rw [duties_cred U (pr ch c) ch C hC]; exact Finset.mem_singleton_self _) (amount_cred U (pr ch c) ch C _ _) C (O c (P + 1)) (O_cred c ch C hC P hP) (W := W)) $$ [HO Ht Hg Hr Hroom]
  · isplitr; · iexact HI
    isplitl [HO]; · iexact HO
    isplitl [Ht]; · iexact Ht
    isplitr [Hg]
    · rw [payload_cred, pr_pr]
      isplitl [Hroom]; · iexact Hroom
      iexact Hr
    · iexact Hg
  iintro HO
  iapply Hk
  isplitl [HO]; · iexists _; iexact HO
  isplitr [Hrooms]
  · isplitl [Hts]; · iexact Hts
    isplitl [Hcrs]; · iexact Hcrs
    isplitl [Hps]; · iexact Hps
    isplitl [Hpc]; · iexact Hpc
    isplitl [Hcc]; · iexact Hcc
    isplitl [Htc]; · iexact Htc
    isplitl [Hpd]; · iexact Hpd
    isplitl [Hcs]; · iexact Hcs
    iexact Hgot
  · iexact Hrooms

/-- Sending block `S`. -/
theorem send (hS : S < 16) (hE : E ≤ S ∧ S < E + 4) (hV : V ≤ S ∧ S < V + sw ch) (hP : posR ch S = P) {s : Shape} {src dst : Memref sig .tc .vmem s .f32}
    {sS sem : DmaSem sig} (hsS : sS = sendQ ch S) (hsm : sem = recvQ ch S) {n : Dev nD} (hn : n = pr ch c)
    (hN : dst.view.dmaCredit = NC ch) (q : PosShare TreeShare) (fs : Buf (Elt F) (src.view.loc (c : Thread nD τ)))
    (hlent : lent U ch c S = (src.view.loc (c : Thread nD τ) ↦[src.view.set]{q} fs))
    (hroom : (room ch (pr ch c) S : sProp (MT nD τ sig ℕ (Elt F) ℕ UU ℕ)) = iprop(∃ fd : Buf (Elt F) (dst.view.loc (pr ch c : Thread nD τ)), dst.view.loc (pr ch c : Thread nD τ) ↦[dst.view.set]{fullShare} fd))
    (hland : ∀ fd : Buf (Elt F) (dst.view.loc (pr ch c : Thread nD τ)), (dst.view.loc (pr ch c : Thread nD τ) ↦[dst.view.set]{fullShare} dst.view.write (Elt F) fd (src.view.read (Elt F) fs) Finset.univ) ⊢ land U ch (pr ch c) S)
    {hsc : (dst : Memref sig (Dev.tc n : Thread nD τ).2.kind .vmem s .f32).view.ref.isScScratch = false} {hsrc : src.view.WordExact} {hdst : dst.view.WordExact}
    {hty : DmaTarget.Typed .vmem (.dma sem) (.remote (Dev.tc n : Thread nD τ) (dst : Memref sig .tc .vmem s .f32) (.dma sS) hsc)}
    {k : PUnit → Prog (TpuEff nD τ sig (Elt F) Λ₀ .tc) α} :
    iprop(Ctx U K ∗ ow c P ∗ Chan ch c S R C E V ∗ lent U ch c S)
      ⊢ iprop(((ow c (P + 1) ∗ Chan ch c (S + 1) R C E V) -∗ wp frame (wpE defs 𝒱 (c : Thread nD τ) bd) Set.univ (k ⟨⟩) Q)
          -∗ wp frame (wpE defs 𝒱 (c : Thread nD τ) bd) Set.univ (.op (.enqueueDma src (.remote (Dev.tc n : Thread nD τ) dst (.dma sS) hsc) (.dma sem) hsrc hdst hty) k) Q) := by
  subst hsS; subst hsm; subst hn
  iintro ⟨#HC, HO, HCh, Hlent⟩ Hk
  unfold Chan Core
  rw [win_pop hS (tokS ch c), win_pop hE.2 (roomP ch c), tokS_def ch c S, roomP_def ch c S]
  unfold ow Ctx
  icases HC with ⟨#HRecs, #HL⟩
  icases HO with ⟨%W, HO⟩
  icases HCh with ⟨⟨⟨⟨Ht1, Ht2⟩, Hts⟩, Hcrs, Hps, Hpc, Hcc, Htc, Hpd, Hcs, Hgot⟩, ⟨⟨Hroom, Hrr⟩, Hrooms⟩⟩
  ihave #HI := (Recs_send U K c ch S) $$ HRecs
  icases HI with ⟨#HI, -⟩
  ihave #HJ := (Recs_recv U K (pr ch c) ch S) $$ HRecs
  icases HJ with ⟨#HJ, -⟩
  ihave Hpd := (win_look (a := V) (b := V + sw ch) (x := S) hV (posSd ch c) (reached ER (sendCell c ch S) (sendR ch S)) (by unfold posSd; iintro ⟨-, H⟩; iexact H)) $$ Hpd
  icases Hpd with ⟨Hpd, Hrs⟩
  ihave Hpc := (win_look (a := E) (b := E + 4) (x := S) hE (posCr ch c) (reached ER (credCell c ch S) (S / 4)) (by unfold posCr; iintro ⟨-, H⟩; iexact H)) $$ Hpc
  icases Hpc with ⟨Hpc, Hrc⟩
  ihave Hroom := (Entails.of_eq hroom) $$ Hroom
  icases Hroom with ⟨%fd, Hroom⟩
  ihave Hlent := (Entails.of_eq hlent) $$ Hlent
  iapply (Rounds.wp_send_pointsTo_with 𝒱 ER (sched U) (c : Thread nD τ) bd (c' := (pr ch c : Thread nD τ)) (src := src) (dst := dst) (sS := .dma (sendQ ch S)) (sem := .dma (recvQ ch S))
      (κ₁ := K (c, ciSend ch S)) (κ₂ := K (pr ch c, ciRecv ch S)) (r₁ := sendR ch S) (r₂ := S / 4) (d₁ := (0 : Fin 3)) (d₂ := (0 : Fin 3)) (fd := fd) (fs := fs) (q := q)
      (F := reached ER (credCell c ch S) (S / 4))
      (by rw [duties_send U c ch S hS]; exact Finset.mem_singleton_self _) (by rw [duties_recv U (pr ch c) ch S hS]; exact Finset.mem_singleton_self _)
      S S (NC ch) hN (amount_send U c ch S _ _) (amount_recv U (pr ch c) ch S _ _) (O c (P + 1)) (O_recv c ch S hS P hP) (W := W)
      (by rw [payload_send, hlent])
      (by rw [payload_recv, pr_pr]; exact sep_mono_left (hland fd))) $$ [HO Ht1 Ht2 Hrs Hrc Hrr Hroom Hlent]
  · isplitr; · iexact HI
    isplitr; · iexact HJ
    isplitl [Hlent]; · iexact Hlent
    isplitl [Hroom Hrc]
    · isplitl [Hroom]; · iexact Hroom
      iexact Hrc
    isplitl [HO]; · iexact HO
    isplitl [Ht2]; · iexact Ht2
    isplitl [Hrs]; · iexact Hrs
    isplitl [Ht1]; · iexact Ht1
    iexact Hrr
  iintro ⟨Hcr, HO⟩
  iapply Hk
  isplitl [HO]; · iexists _; iexact HO
  isplitr [Hrooms]
  · isplitl [Hts]; · iexact Hts
    isplitl [Hcrs]; · iexact Hcrs
    isplitl [Hps]; · iexact Hps
    isplitl [Hpc]; · iexact Hpc
    isplitl [Hcc]; · iexact Hcc
    isplitl [Htc]; · iexact Htc
    isplitl [Hpd]; · iexact Hpd
    isplitl [Hcs Hcr]
    · rw [win_push hV.1 (credS ch c)]
      isplitl [Hcr]; · unfold credS; iexact Hcr
      iexact Hcs
    iexact Hgot
  · iexact Hrooms

/-- Waiting for the send of block `V`: its source is the device's own again. -/
theorem send_wait (hV : V < S) (hS : S ≤ 16) (hP : 0 < P) {sem : DmaSem sig} (hs : sem = sendQ ch V) {sp sp' : Space} {s s' : Shape} {src : Memref sig .tc sp s .f32} {dst : Memref sig .tc sp' s' .f32}
    {hsrc : src.view.WordExact} {hdst : dst.view.WordExact} (hN : dst.view.dmaCredit = NC ch)
    {k : PUnit → Prog (TpuEff nD τ sig (Elt F) Λ₀ .tc) α} :
    iprop(Ctx U K ∗ ow c P ∗ Chan ch c S R C E V)
      ⊢ iprop(((ow c P ∗ Chan ch c S R C E (V + 1) ∗ lent U ch c V) -∗ wp frame (wpE defs 𝒱 (c : Thread nD τ) bd) Set.univ (k ⟨⟩) Q)
          -∗ wp frame (wpE defs 𝒱 (c : Thread nD τ) bd) Set.univ (.op (.waitDma2 sem src dst hsrc hdst) k) Q) := by
  subst hs
  iintro ⟨#HC, HO, HCh⟩ Hk
  have hsw : 2 ≤ sw ch := by unfold sw; split <;> omega
  unfold Chan Core
  rw [win_pop hV (credS ch c), win_pop (show V < V + sw ch by omega) (posSd ch c), credS_def ch c V, posSd_def ch c V]
  icases HCh with ⟨⟨Hts, Hcrs, Hps, Hpc, Hcc, Htc, ⟨⟨Hat, -⟩, Hpd⟩, ⟨Hcr, Hcs⟩, Hgot⟩, Hroom⟩
  iapply (wait_one U K (c := c) (.dma (sendQ ch V)) (sendR ch V) V (NC ch) (ciSend ch V) (congrArg Prod.snd (ciCell_send c ch V)) (duties_send U c ch V (by omega)) (expect_send U c ch V (by omega)) (by omega)
      (show lv (sendCell c ch V) V < P by rw [lv_send]; exact hP)
      (w := .waitDma2 (sendQ ch V) src dst hsrc hdst) (by rw [← hN]; exact wpE_waitDma2_eq 𝒱 (c : Thread nD τ) bd Set.univ)) $$ [Hcr HO Hat]
  · isplitr; · iexact HC
    isplitl [Hcr]; · iexact Hcr
    isplitl [HO]; · iexact HO
    iexact Hat
  iintro ⟨HO, Hat, Hr, Hpay⟩
  iapply Hk
  isplitl [HO]; · iexact HO
  ihave Hpay := (Entails.of_eq (payload_send U c ch V 0)) $$ Hpay
  isplitr [Hpay]
  · isplitr [Hroom]
    · isplitl [Hts]; · iexact Hts
      isplitl [Hcrs]; · iexact Hcrs
      isplitl [Hps]; · iexact Hps
      isplitl [Hpc]; · iexact Hpc
      isplitl [Hcc]; · iexact Hcc
      isplitl [Htc]; · iexact Htc
      isplitl [Hpd Hat Hr]
      · rw [show V + 1 + sw ch = V + sw ch + 1 by omega, win_push (show V + 1 ≤ V + sw ch by omega) (posSd ch c), ← posSd_step]
        isplitr [Hpd]
        · isplitl [Hat]; · iexact Hat
          iexact Hr
        · iexact Hpd
      isplitl [Hcs]; · iexact Hcs
      iexact Hgot
    · iexact Hroom
  · iexact Hpay

end Ops

end Cert.KProof

end
-- ==== Proof.Facts.lean ====
/-
  What the kernel's conditions, offsets and device numbers come to at grid step `n`, by block number.
-/
module

public import proofs.«01_k».proof.Proof.Chan

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

/-! ## The conditions -/

theorem cond1_iff : ∀ i : grid0.Coords, k0_cond1 i = 1#1 ↔ ((i 0).val = 0) := by decide +kernel
theorem cond2_iff : ∀ i : grid0.Coords, k0_cond2 i = 1#1 ↔ ((i 0).val < 16) := by decide +kernel
theorem cond3_iff : ∀ i : grid0.Coords, k0_cond3 i = 1#1 ↔ (2 ≤ (i 0).val) := by decide +kernel
theorem cond4_iff : ∀ i : grid0.Coords, k0_cond4 i = 1#1 ↔ (4 ≤ (i 0).val) := by decide +kernel
theorem cond5_iff : ∀ i : grid0.Coords, k0_cond5 i = 1#1 ↔ ((i 0).val = 0) := by decide +kernel
theorem cond6_iff : ∀ i : grid0.Coords, k0_cond6 i = 1#1 ↔ (4 ≤ (i 0).val) := by decide +kernel
theorem cond7_iff : ∀ i : grid0.Coords, k0_cond7 i = 1#1 ↔ (1 ≤ (i 0).val ∧ (i 0).val ≤ 16) := by decide +kernel
theorem cond8_iff : ∀ i : grid0.Coords, k0_cond8 i = 1#1 ↔ ((i 0).val ≤ 12) := by decide +kernel
theorem cond9_iff : ∀ i : grid0.Coords, k0_cond9 i = 1#1 ↔ (5 ≤ (i 0).val) := by decide +kernel
theorem cond10_iff : ∀ i : grid0.Coords, k0_cond10 i = 1#1 ↔ (2 ≤ (i 0).val ∧ (i 0).val ≤ 17) := by decide +kernel
theorem cond11_iff : ∀ i : grid0.Coords, k0_cond11 i = 1#1 ↔ (6 ≤ (i 0).val) := by decide +kernel
theorem cond12_iff : ∀ i : grid0.Coords, k0_cond12 i = 1#1 ↔ (3 ≤ (i 0).val) := by decide +kernel
theorem cond13_iff : ∀ i : grid0.Coords, k0_cond13 i = 1#1 ↔ ((i 0).val ≤ 14) := by decide +kernel
theorem cond14_iff : ∀ i : grid0.Coords, Scalar.cmpi .ne (Scalar.extui (Scalar.cmpi .eq (BitVec.ofNat 32 (i 0).val) 18#32) : BitVec 32) 0#32 = 1#1 ↔ (i 0).val = 18 := by decide +kernel

/-! ## The offsets -/

section Off
variable (i : grid0.Coords) (b : ℕ)

theorem off111_aux : ∀ i : grid0.Coords, 1 ≤ (i 0).val → k0_off111 i = ![((i 0).val - 1) % 4] := by decide +kernel
theorem off111 (h : (i 0).val = b + 1) : k0_off111 i = ![b % 4] := by rw [off111_aux i (by omega), h, Nat.add_sub_cancel]
theorem off112_aux : ∀ i : grid0.Coords, 1 ≤ (i 0).val → k0_off112 i = ![((i 0).val - 1) % 4, 0, 0] := by decide +kernel
theorem off112 (h : (i 0).val = b + 1) : k0_off112 i = ![b % 4, 0, 0] := by rw [off112_aux i (by omega), h, Nat.add_sub_cancel]
theorem off113_aux : ∀ i : grid0.Coords, 1 ≤ (i 0).val → k0_off113 i = ![((i 0).val - 1) % 2, 0, 0] := by decide +kernel
theorem off113 (h : (i 0).val = b + 1) : k0_off113 i = ![b % 2, 0, 0] := by rw [off113_aux i (by omega), h, Nat.add_sub_cancel]
theorem off114_aux : ∀ i : grid0.Coords, 1 ≤ (i 0).val → k0_off114 i = ![((i 0).val - 1) % 4, 0, 0] := by decide +kernel
theorem off114 (h : (i 0).val = b + 1) : k0_off114 i = ![b % 4, 0, 0] := by rw [off114_aux i (by omega), h, Nat.add_sub_cancel]
theorem off115_aux : ∀ i : grid0.Coords, 1 ≤ (i 0).val → k0_off115 i = ![((i 0).val - 1) % 4] := by decide +kernel
theorem off115 (h : (i 0).val = b + 1) : k0_off115 i = ![b % 4] := by rw [off115_aux i (by omega), h, Nat.add_sub_cancel]
theorem off116_aux : ∀ i : grid0.Coords, 1 ≤ (i 0).val → k0_off116 i = ![((i 0).val - 1) % 4] := by decide +kernel
theorem off116 (h : (i 0).val = b + 1) : k0_off116 i = ![b % 4] := by rw [off116_aux i (by omega), h, Nat.add_sub_cancel]
theorem off117_aux : ∀ i : grid0.Coords, 2 ≤ (i 0).val → k0_off117 i = ![((i 0).val - 2) % 4] := by decide +kernel
theorem off117 (h : (i 0).val = b + 2) : k0_off117 i = ![b % 4] := by rw [off117_aux i (by omega), h, Nat.add_sub_cancel]
theorem off118_aux : ∀ i : grid0.Coords, 2 ≤ (i 0).val → k0_off118 i = ![((i 0).val - 2) % 4, 0, 0] := by decide +kernel
theorem off118 (h : (i 0).val = b + 2) : k0_off118 i = ![b % 4, 0, 0] := by rw [off118_aux i (by omega), h, Nat.add_sub_cancel]
theorem off119_aux : ∀ i : grid0.Coords, 2 ≤ (i 0).val → k0_off119 i = ![((i 0).val - 2) % 4] := by decide +kernel
theorem off119 (h : (i 0).val = b + 2) : k0_off119 i = ![b % 4] := by rw [off119_aux i (by omega), h, Nat.add_sub_cancel]
theorem off120_aux : ∀ i : grid0.Coords, 2 ≤ (i 0).val → k0_off120 i = ![((i 0).val - 2) % 4, 0, 0] := by decide +kernel
theorem off120 (h : (i 0).val = b + 2) : k0_off120 i = ![b % 4, 0, 0] := by rw [off120_aux i (by omega), h, Nat.add_sub_cancel]
theorem off121_aux : ∀ i : grid0.Coords, 2 ≤ (i 0).val → k0_off121 i = ![((i 0).val - 2) % 4, 0, 256] := by decide +kernel
theorem off121 (h : (i 0).val = b + 2) : k0_off121 i = ![b % 4, 0, 256] := by rw [off121_aux i (by omega), h, Nat.add_sub_cancel]
theorem off122_aux : ∀ i : grid0.Coords, 3 ≤ (i 0).val → k0_off122 i = ![((i 0).val - 3) % 4] := by decide +kernel
theorem off122 (h : (i 0).val = b + 3) : k0_off122 i = ![b % 4] := by rw [off122_aux i (by omega), h, Nat.add_sub_cancel]
theorem off123_aux : ∀ i : grid0.Coords, 3 ≤ (i 0).val → k0_off123 i = ![((i 0).val - 3) % 4, 0, 0] := by decide +kernel
theorem off123 (h : (i 0).val = b + 3) : k0_off123 i = ![b % 4, 0, 0] := by rw [off123_aux i (by omega), h, Nat.add_sub_cancel]
theorem off124_aux : ∀ i : grid0.Coords, 3 ≤ (i 0).val → k0_off124 i = ![((i 0).val - 3) % 4, 0, 256] := by decide +kernel
theorem off124 (h : (i 0).val = b + 3) : k0_off124 i = ![b % 4, 0, 256] := by rw [off124_aux i (by omega), h, Nat.add_sub_cancel]
theorem off125_aux : ∀ i : grid0.Coords, 3 ≤ (i 0).val → k0_off125 i = ![((i 0).val - 3) % 4, 0, 0] := by decide +kernel
theorem off125 (h : (i 0).val = b + 3) : k0_off125 i = ![b % 4, 0, 0] := by rw [off125_aux i (by omega), h, Nat.add_sub_cancel]
theorem off130_aux : ∀ i : grid0.Coords, 3 ≤ (i 0).val → k0_off130 i = ![((i 0).val - 3) % 4] := by decide +kernel
theorem off130 (h : (i 0).val = b + 3) : k0_off130 i = ![b % 4] := by rw [off130_aux i (by omega), h, Nat.add_sub_cancel]
theorem off65 (h : (i 0).val = b) : k0_off65 i = ![b % 2] := by rw [k0_off65_eq, h]
theorem off66 (h : (i 0).val = b) : k0_off66 i = ![b % 2, 0, 0] := by rw [k0_off66_eq, h]
theorem off67 (h : (i 0).val = b) : k0_off67 i = ![b % 4, 0, 0] := by rw [k0_off67_eq, h]
theorem off68 (h : (i 0).val = b) : k0_off68 i = ![b % 2, 0, 0] := by rw [k0_off68_eq, h]
theorem off69 (h : (i 0).val = b) : k0_off69 i = ![b % 4] := by rw [k0_off69_eq, h]
theorem off70 (h : (i 0).val = b) : k0_off70 i = ![b % 2] := by rw [k0_off70_eq, h]
theorem off71 (h : (i 0).val = b) : k0_off71 i = ![b % 4] := by rw [k0_off71_eq, h]
theorem off72 (h : (i 0).val = b) : k0_off72 i = ![b % 4, 0, 0] := by rw [k0_off72_eq, h]
theorem off73 (h : (i 0).val = b) : k0_off73 i = ![b % 2, 0, 0] := by rw [k0_off73_eq, h]
theorem off106 (h : (i 0).val = b) : k0_off106 i = ![b % 4] := by rw [k0_off106_eq, h]
theorem off107 (h : (i 0).val = b) : k0_off107 i = ![b % 4, 0, 0] := by rw [k0_off107_eq, h]
theorem off108 (h : (i 0).val = b) : k0_off108 i = ![b % 4, 0, 0] := by rw [k0_off108_eq, h]
theorem off109 (h : (i 0).val = b) : k0_off109 i = ![b % 4, 0, 256] := by rw [k0_off109_eq, h]
theorem off110 (h : (i 0).val = b) : k0_off110 i = ![b % 4, 0, 0] := by rw [k0_off110_eq, h]

end Off

/-! ## The devices -/

section Devs
variable (c : Dev nD)

theorem dev4 (h) : (⟨k0_dev4 c, h⟩ : Dev nD) = pr 0 c := Fin.ext (by revert c; decide +kernel)
theorem dev5 (h) : (⟨k0_dev5 c, h⟩ : Dev nD) = pr 1 c := Fin.ext (by revert c; decide +kernel)
theorem dev6 (h) : (⟨k0_dev6 c, h⟩ : Dev nD) = pr 2 c := Fin.ext (by revert c; decide +kernel)
theorem dev7 (h) : (⟨k0_dev7 c, h⟩ : Dev nD) = pr 0 c := Fin.ext (by revert c; decide +kernel)
theorem dev8 (h) : (⟨k0_dev8 c, h⟩ : Dev nD) = pr 1 c := Fin.ext (by revert c; decide +kernel)
theorem dev9 (h) : (⟨k0_dev9 c, h⟩ : Dev nD) = pr 2 c := Fin.ext (by revert c; decide +kernel)
theorem dev10 (h) : (⟨k0_dev10 c, h⟩ : Dev nD) = pr 3 c := Fin.ext (by revert c; decide +kernel)
theorem dev11 (h) : (⟨k0_dev11 c, h⟩ : Dev nD) = pr 4 c := Fin.ext (by revert c; decide +kernel)
theorem dev12 (h) : (⟨k0_dev12 c, h⟩ : Dev nD) = pr 3 c := Fin.ext (by revert c; decide +kernel)
theorem dev13 (h) : (⟨k0_dev13 c, h⟩ : Dev nD) = pr 4 c := Fin.ext (by revert c; decide +kernel)
theorem dev1 (h) : (⟨k0_dev1 c, h⟩ : Dev nD) = bpr 0 c := Fin.ext (by revert c; decide +kernel)
theorem dev2 (h) : (⟨k0_dev2 c, h⟩ : Dev nD) = bpr 1 c := Fin.ext (by revert c; decide +kernel)
theorem dev3 (h) : (⟨k0_dev3 c, h⟩ : Dev nD) = bpr 2 c := Fin.ext (by revert c; decide +kernel)

end Devs

/-! ## The semaphores -/

/-- A semaphore of an array of consecutive ones, by its number. -/
theorem sem_eq {N lo n : ℕ} {h : lo + (⟨1, ![n]⟩ : Shape).numel ≤ N} (off sz : Fin 1 → ℕ) (hi) (hsq : (Rect.unit (s := ⟨1, ![n]⟩) off sz hi).shape.Squeezes ⟨0, ![]⟩)
    (hs : sz 0 = 1) (x : ℕ) (ho : off = ![x]) (q : Fin N) (hq : lo + x = q.val) :
    (((SemArray.consecutive lo ⟨1, ![n]⟩ h : SemArray (Fin N) ⟨1, ![n]⟩).slice (Rect.unit off sz hi)).squeeze ⟨0, ![]⟩ hsq).sem = q := by
  apply Fin.ext
  rw [sem_slice off sz hi hsq hs, ho, ← hq]
  rfl

/-! ## The credits -/

theorem credit_all1 : ∀ b : Fin (sig.nNear .tc .vmem), sig.dmaCredit .tc (Kind.tc.table .vmem) b S256x512 .f32 = NC 0 := by decide +kernel
theorem credit_all2 : ∀ b : Fin (sig.nNear .tc .vmem), sig.dmaCredit .tc (Kind.tc.table .vmem) b S256x256 .f32 = NC 3 := by decide +kernel
/-- A whole block's copy, half a block's copy, credits its channel's units, whichever buffer it lands in. -/
theorem credit_big (ch : Fin 5) (h : ch.val < 3) (v : View sig .tc .vmem S256x512 .f32) : v.dmaCredit = NC ch := by
  have e : NC ch = NC 0 := by unfold NC; rw [if_pos h, if_pos (by decide)]
  rw [e]; unfold View.dmaCredit; exact credit_all1 _
theorem credit_half (ch : Fin 5) (h : ¬ ch.val < 3) (v : View sig .tc .vmem S256x256 .f32) : v.dmaCredit = NC ch := by
  have e : NC ch = NC 3 := by unfold NC; rw [if_neg h, if_neg (by decide)]
  rw [e]; unfold View.dmaCredit; exact credit_all2 _

/-! ## What the channels carry, one by one -/

section Parts
variable (U : Vals F) (c : Dev nD) (b : ℕ)
theorem lent_0 : lent U 0 c b = pv c (slot2V Bz b) fullShare (zs U c b) := rfl
theorem lent_1 : lent U 1 c b = pv c (slotV Bm b) qL (mq U c b) := rfl
theorem lent_2 : lent U 2 c b = pv c (slotV Bm b) qRL (mq U c b) := rfl
theorem lent_3 : lent U 3 c b = pv c (loV Bx b) qL (lo (mq U (px c) b)) := rfl
theorem lent_4 : lent U 4 c b = pv c (hiV By b) qL (hi (mq U (py c) b)) := rfl
theorem room_0 : (room 0 c b : sProp 𝕄) = pvAny c (slotV Br b) := rfl
theorem room_1 : (room 1 c b : sProp 𝕄) = pvAny c (slotV Bx b) := rfl
theorem room_2 : (room 2 c b : sProp 𝕄) = pvAny c (slotV By b) := rfl
theorem room_3 : (room 3 c b : sProp 𝕄) = pvAny c (loV Bq b) := rfl
theorem room_4 : (room 4 c b : sProp 𝕄) = pvAny c (hiV Bq b) := rfl
theorem land_0 : land U 0 c b = pv c (slotV Br b) fullShare (zs U (pz c) b) := rfl
theorem land_1 : land U 1 c b = pv c (slotV Bx b) fullShare (mq U (px c) b) := rfl
theorem land_2 : land U 2 c b = pv c (slotV By b) fullShare (mq U (py c) b) := rfl
theorem land_3 : land U 3 c b = pv c (loV Bq b) fullShare (lo (mq U (px (py c)) b)) := rfl
theorem land_4 : land U 4 c b = pv c (hiV Bq b) fullShare (hi (mq U (py (px c)) b)) := rfl
end Parts

end Cert.KProof

end
-- ==== Proof.Steps.lean ====
/-
  Building blocks of a device's step: a step taken on a condition, a block sent between two slots, and what a device holds
  of its own buffers.
-/
module

public import proofs.«01_k».proof.Proof.Facts

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI Idealize.SL.RA.PCS
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable {α : Type} {defs : Defs nD τ sig (Elt F) Λ₀} {𝒱 : Variants} {c : Dev nD} {bd : Option 𝒱.V}

/-- A conditional step followed by `k` on both sides: both leave `M`, and `k` runs from `M`. -/
theorem wp_opt {p : Prop} [Decidable p] {f : p → Prog (TpuEff nD τ sig (Elt F) Λ₀ .tc) α} {k : Prog (TpuEff nD τ sig (Elt F) Λ₀ .tc) α} {Q : α → sProp (MT nD τ sig ℕ (Elt F) ℕ UU ℕ)}
    (P M : sProp (MT nD τ sig ℕ (Elt F) ℕ UU ℕ))
    (h1 : ∀ h : p, P ⊢ iprop((M -∗ wp frame (wpE defs 𝒱 (c : Thread nD τ) bd) Set.univ k Q) -∗ wp frame (wpE defs 𝒱 (c : Thread nD τ) bd) Set.univ (f h) Q))
    (h2 : ¬ p → P ⊢ M) :
    P ⊢ iprop((M -∗ wp frame (wpE defs 𝒱 (c : Thread nD τ) bd) Set.univ k Q) -∗ wp frame (wpE defs 𝒱 (c : Thread nD τ) bd) Set.univ (if h : p then f h else k) Q) := by
  by_cases h : p
  · rw [dif_pos h]; exact h1 h
  · rw [dif_neg h]
    iintro HP Hk
    iapply Hk
    iapply (h2 h)
    iexact HP

/-! ## What a device holds of its buffers -/

/-- A free slot of the z send buffer; of the block buffer. -/
def zfree (c : Dev nD) (b : ℕ) : sProp 𝕄 := pvAny c (slot2V Bz b)
def mfree (c : Dev nD) (b : ℕ) : sProp 𝕄 := pvAny c (slotV Bm b)
/-- A block of the block buffer: with the device's own part only, and, its sum being on its way, the share kept. -/
def mnew (U : Vals F) (c : Dev nD) (b : ℕ) : sProp 𝕄 := pv c (slotV Bm b) fullShare (m0 U c b)
def mkept (U : Vals F) (c : Dev nD) (b : ℕ) : sProp 𝕄 := pv c (slotV Bm b) qRR (mq U c b)
/-- What is kept of a block from the x peer, of one from the y peer, while a half travels on. -/
def xkept (U : Vals F) (c : Dev nD) (b : ℕ) : sProp 𝕄 := iprop(pv c (slotV Bx b) qR (mq U (px c) b) ∗ pv c (hiV Bx b) qL (hi (mq U (px c) b)))
def ykept (U : Vals F) (c : Dev nD) (b : ℕ) : sProp 𝕄 := iprop(pv c (slotV By b) qR (mq U (py c) b) ∗ pv c (loV By b) qL (lo (mq U (py c) b)))

theorem zfree_def (c : Dev nD) (b : ℕ) : (zfree c b : sProp 𝕄) = pvAny c (slot2V Bz b) := rfl
theorem mfree_def (c : Dev nD) (b : ℕ) : (mfree c b : sProp 𝕄) = pvAny c (slotV Bm b) := rfl
theorem mnew_def (U : Vals F) (c : Dev nD) (b : ℕ) : mnew U c b = pv c (slotV Bm b) fullShare (m0 U c b) := rfl
theorem mkept_def (U : Vals F) (c : Dev nD) (b : ℕ) : mkept U c b = pv c (slotV Bm b) qRR (mq U c b) := rfl
theorem xkept_def (U : Vals F) (c : Dev nD) (b : ℕ) : xkept U c b = iprop(pv c (slotV Bx b) qR (mq U (px c) b) ∗ pv c (hiV Bx b) qL (hi (mq U (px c) b))) := rfl
theorem ykept_def (U : Vals F) (c : Dev nD) (b : ℕ) : ykept U c b = iprop(pv c (slotV By b) qR (mq U (py c) b) ∗ pv c (loV By b) qL (lo (mq U (py c) b))) := rfl

/-- The rows of the two row blocks of `O`; the whole of a block of `Wo`. -/
abbrev a0V : View sig .tc .vmem S1x256x4096 .f32 := Ba.view.slice (Rect.unit (s := S2x256x4096) ![0, 0, 0] S1x256x4096.size inb_S2x256x4096_S1x256x4096_0_0_0)
abbrev a1V : View sig .tc .vmem S1x256x4096 .f32 := Ba.view.slice (Rect.unit (s := S2x256x4096) ![1, 0, 0] S1x256x4096.size inb_S2x256x4096_S1x256x4096_1_0_0)
abbrev woV (aw : Memref sig .tc .vmem S4096x512 .f32) : View sig .tc .vmem S4096x512 .f32 := aw.view.slice (Rect.unit (s := S4096x512) ![0, 0] S4096x512.size inb_S4096x512_S4096x512_0_0)

/-! ## A block's shares -/

section
variable (U : Vals F) (c : Dev nD) (b : ℕ)

theorem full_op : (fullShare : PosShare TreeShare) ∈ qL ·? qR := PosShare.mem_left_op_right fullShare
theorem qR_op : qR ∈ qRL ·? qRR := PosShare.mem_left_op_right qR

/-- A summed block lent to the two copies of it, and the rest; and joined again, free for the block four on. -/
theorem m_split : (pv c (slotV Bm b) fullShare (mq U c b) : sProp 𝕄) ⊢ iprop(lent U 1 c b ∗ lent U 2 c b ∗ mkept U c b) := by
  rw [lent_1, lent_2, mkept_def]
  iintro H
  ihave H := (pv_share c _ _ _ _ full_op _).1 $$ H
  icases H with ⟨HL, H⟩
  ihave H := (pv_share c _ _ _ _ qR_op _).1 $$ H
  icases H with ⟨H1, H2⟩
  isplitl [HL]; · iexact HL
  isplitl [H1]; · iexact H1
  iexact H2
theorem m_join : (iprop(lent U 1 c b ∗ lent U 2 c b ∗ mkept U c b) : sProp 𝕄) ⊢ mfree c (b + 4) := by
  rw [lent_1, lent_2, mkept_def, mfree_def, slotV_add]
  iintro ⟨HL, H1, H2⟩
  iapply (pv_any c (slotV Bm b) (mq U c b))
  iapply (pv_share c _ _ _ _ full_op _).2
  isplitl [HL]; · iexact HL
  iapply (pv_share c _ _ _ _ qR_op _).2
  isplitl [H1]; · iexact H1
  iexact H2

/-- A block from the x peer: its lower half lent to travel on, the rest kept; and joined again, free. -/
theorem x_split : (land U 1 c b : sProp 𝕄) ⊢ iprop(lent U 3 c b ∗ xkept U c b) := by
  rw [lent_3, land_1, xkept_def]
  iintro H
  ihave H := (pv_share c _ _ _ _ full_op _).1 $$ H
  icases H with ⟨HL, HR⟩
  ihave HL := (Entails.of_eq (pv_halves c Bx b qL (mq U (px c) b))) $$ HL
  icases HL with ⟨H1, H2⟩
  isplitl [H1]; · iexact H1
  isplitl [HR]; · iexact HR
  iexact H2
theorem x_join : (iprop(lent U 3 c b ∗ xkept U c b) : sProp 𝕄) ⊢ room 1 c b := by
  rw [lent_3, room_1, xkept_def]
  iintro ⟨H1, HR, H2⟩
  iapply (pv_any c (slotV Bx b) (mq U (px c) b))
  iapply (pv_share c _ _ _ _ full_op _).2
  isplitr [HR]
  · iapply (Entails.of_eq (pv_halves c Bx b qL (mq U (px c) b)).symm)
    isplitl [H1]; · iexact H1
    iexact H2
  · iexact HR
/-- A block from the y peer: its upper half lent to travel on, the rest kept; and joined again, free. -/
theorem y_split : (land U 2 c b : sProp 𝕄) ⊢ iprop(lent U 4 c b ∗ ykept U c b) := by
  rw [lent_4, land_2, ykept_def]
  iintro H
  ihave H := (pv_share c _ _ _ _ full_op _).1 $$ H
  icases H with ⟨HL, HR⟩
  ihave HL := (Entails.of_eq (pv_halves c By b qL (mq U (py c) b))) $$ HL
  icases HL with ⟨H1, H2⟩
  isplitl [H2]; · iexact H2
  isplitl [HR]; · iexact HR
  iexact H1
theorem y_join : (iprop(lent U 4 c b ∗ ykept U c b) : sProp 𝕄) ⊢ room 2 c b := by
  rw [lent_4, room_2, ykept_def]
  iintro ⟨H2, HR, H1⟩
  iapply (pv_any c (slotV By b) (mq U (py c) b))
  iapply (pv_share c _ _ _ _ full_op _).2
  isplitr [HR]
  · iapply (Entails.of_eq (pv_halves c By b qL (mq U (py c) b)).symm)
    isplitl [H1]; · iexact H1
    iexact H2
  · iexact HR

end

/-! ## A block sent from slot to slot -/

theorem sq_view {κ : Kind} {sp : Space} {s s' : Shape} (m : Memref sig κ sp s .f32) {off off' sz : Fin s.rank → ℕ} {hi hi'} (ho : off = off') {hs} {hq : (Rect.unit (s := s) off sz hi).shape.Squeezes s'} :
    ((m.slice (Rect.unit (s := s) off sz hi) hs).squeeze s' hq).view = (m.view.slice (Rect.unit (s := s) off' sz hi')).reshape s' hq.numel_eq := by
  subst ho; rfl

section
variable (U : Vals F) (K : Dev nD × CI → ℕ)  {Q : α → sProp (MT nD τ sig ℕ (Elt F) ℕ UU ℕ)} {ch : Fin 5} {S R C E V P : ℕ}

theorem send_pv (hS : S < 16) (hE : E ≤ S ∧ S < E + 4) (hV : V ≤ S ∧ S < V + sw ch) (hP : posR ch S = P) {s s' : Shape} {src dst : Memref sig .tc .vmem s' .f32}
    {sS sem : DmaSem sig} (hsS : sS = sendQ ch S) (hsm : sem = recvQ ch S) {n : Dev nD} (hn : n = pr ch c) (hN : dst.view.dmaCredit = NC ch)
    (vs vd : View sig .tc .vmem s .f32) {h h' : s'.numel = s.numel} (hvs : src.view = vs.reshape s' h) (hvd : dst.view = vd.reshape s' h')
    (q : PosShare TreeShare) (X : s.Idx → Elt F .f32)
    (hlent : lent U ch c S = pv c vs q X) (hroom : (room ch (pr ch c) S : sProp (MT nD τ sig ℕ (Elt F) ℕ UU ℕ)) = pvAny (pr ch c) vd)
    (hland : land U ch (pr ch c) S = pv (pr ch c) vd fullShare X)
    {hsc : (dst : Memref sig (Dev.tc n : Thread nD τ).2.kind .vmem s' .f32).view.ref.isScScratch = false} {hsrc : src.view.WordExact} {hdst : dst.view.WordExact}
    {hty : DmaTarget.Typed .vmem (.dma sem) (.remote (Dev.tc n : Thread nD τ) (dst : Memref sig .tc .vmem s' .f32) (.dma sS) hsc)}
    {k : PUnit → Prog (TpuEff nD τ sig (Elt F) Λ₀ .tc) α} :
    iprop(Ctx U K ∗ ow c P ∗ Chan ch c S R C E V ∗ lent U ch c S)
      ⊢ iprop(((ow c (P + 1) ∗ Chan ch c (S + 1) R C E V) -∗ wp frame (wpE defs 𝒱 (c : Thread nD τ) bd) Set.univ (k ⟨⟩) Q)
          -∗ wp frame (wpE defs 𝒱 (c : Thread nD τ) bd) Set.univ (.op (.enqueueDma src (.remote (Dev.tc n : Thread nD τ) dst (.dma sS) hsc) (.dma sem) hsrc hdst hty) k) Q) := by
  obtain ⟨sv, sm⟩ := src
  obtain ⟨dv, dm⟩ := dst
  simp only at hvs hvd
  subst hvs; subst hvd
  have h1 := hlent.trans (pv_squeeze c vs h q X)
  have h2 := hroom.trans (pvAny_squeeze (pr ch c) vd h')
  have h3 : ∀ fd : Buf (Elt F) ((vd.reshape s' h').loc (pr ch c : Thread nD τ)), ((vd.reshape s' h').loc (pr ch c : Thread nD τ) ↦[(vd.reshape s' h').set]{fullShare}
        (vd.reshape s' h').write (Elt F) fd ((vs.reshape s' h).read (Elt F) (vs.rep X)) Finset.univ : sProp 𝕄) ⊢ land U ch (pr ch c) S := by
    intro fd; rw [hland]
    exact pv_land c (pr ch c) vs vd h h' fd X
  exact send U K (src := ⟨vs.reshape s' h, sm⟩) (dst := ⟨vd.reshape s' h', dm⟩) hS hE hV hP hsS hsm hn hN q (vs.rep X) h1 h2 h3

end
end Cert.KProof
end
-- ==== Proof.Out.lean ====
/-
  A view owned at a value, cut into any family of rectangles; and the block of the result a device writes, cut into the four
  row blocks of the devices of its z half.
-/
module

public import proofs.«01_k».proof.Proof.Steps

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

theorem map_biUnion' {α β : Type} [DecidableEq α] [DecidableEq β] (S : Finset ℕ) (A : ℕ → Finset α) (f : α ↪ β) : (S.biUnion A).map f = S.biUnion fun t => (A t).map f := by
  ext i; simp only [Finset.mem_map, Finset.mem_biUnion]; constructor
  · rintro ⟨a, ⟨t, ht, ha⟩, rfl⟩; exact ⟨t, ht, a, ha, rfl⟩
  · rintro ⟨t, ht, a, ha, rfl⟩; exact ⟨a, ⟨t, ht, ha⟩, rfl⟩

section Gen
variable {s s' : Shape} {sp sp' : Space}

/-- A set of a buffer's elements is the disjoint rectangles of a view that make it up, each at what the view reads there. -/
theorem pv_parts (c : Dev nD) (u : View sig .tc sp s .f32) (q : PosShare TreeShare) (f : Buf (Elt F) (u.loc (c : Thread nD τ))) (S : Finset ℕ) (R : ℕ → Rect s)
    (hd : ∀ t ∈ S, ∀ t' ∈ S, t ≠ t' → Disjoint (R t).set (R t').set) :
    (u.loc (c : Thread nD τ) ↦[S.biUnion fun t => (u.slice (R t)).set]{q} f : sProp 𝕄) = bigSep S fun t => pv c (u.slice (R t)) q ((u.slice (R t)).read (Elt F) f) := by
  have hd' : ∀ t ∈ S, ∀ t' ∈ S, t ≠ t' → Disjoint (u.slice (R t)).set (u.slice (R t')).set := by
    intro t ht t' ht' hne
    rw [View.set_slice, View.set_slice]; exact (Finset.disjoint_map _).mpr (hd t ht t' ht' hne)
  rw [pointsTo_biUnion S _ hd']
  refine bigSep_congr fun t _ => ?_
  exact pv_eq c (u.slice (R t)) q _ f rfl

/-- A rectangle owned at `X` is the rectangles that make it up, each at its part of `X`. -/
theorem pv_rects (c : Dev nD) (u : View sig .tc sp s .f32) (q : PosShare TreeShare) (r : Rect s) (X : r.shape.Idx → Elt F .f32) (S : Finset ℕ) (R : ℕ → Rect s)
    (e : ∀ t, (R t).shape.Idx → r.shape.Idx) (he : ∀ t y, r.emb (e t y) = (R t).emb y)
    (hd : ∀ t ∈ S, ∀ t' ∈ S, t ≠ t' → Disjoint (R t).set (R t').set) (hc : r.set = S.biUnion fun t => (R t).set) :
    (pv c (u.slice r) q X : sProp 𝕄) = bigSep S fun t => pv c (u.slice (R t)) q (fun y => X (e t y)) := by
  have e1 : (u.slice r).set = S.biUnion fun t => (u.slice (R t)).set := by
    rw [View.set_slice, hc, map_biUnion']
    exact Finset.biUnion_congr rfl fun t _ => (View.set_slice _ _).symm
  have h1 := pv_parts (F := F) c u q ((u.slice r).rep X) S R hd
  unfold pv at h1 ⊢
  rw [e1]
  refine h1.trans (bigSep_congr fun t _ => ?_)
  have hR : (u.slice (R t)).read (Elt F) ((u.slice r).rep X) = fun y => X (e t y) := by
    funext y
    have hx : (u.slice (R t)).emb y = (u.slice r).emb (e t y) := by
      rw [View.emb_slice, View.emb_slice]; exact congrArg u.emb (he t y).symm
    have := congrFun (View.read_rep (Val := Elt F) (u.slice r) X) (e t y)
    rw [View.read_apply] at this ⊢
    rw [← this]
    have hx' : (u.slice r).rep X ((u.slice (R t)).emb y) = (u.slice r).rep X ((u.slice r).emb (e t y)) := congrArg _ hx
    exact congrArg _ hx'
  rw [hR]

/-- A whole view owned at `X` is the rectangles that cover it, each at its part of `X`. -/
theorem pv_cover (c : Dev nD) (u : View sig .tc sp s .f32) (q : PosShare TreeShare) (X : s.Idx → Elt F .f32) (S : Finset ℕ) (R : ℕ → Rect s)
    (hd : ∀ t ∈ S, ∀ t' ∈ S, t ≠ t' → Disjoint (R t).set (R t').set) (hc : S.biUnion (fun t => (R t).set) = Finset.univ) :
    (pv c u q X : sProp 𝕄) = bigSep S fun t => pv c (u.slice (R t)) q (fun y => X ((R t).emb y)) := by
  have e1 : u.set = S.biUnion fun t => (u.slice (R t)).set := by
    have : (S.biUnion fun t => (u.slice (R t)).set) = (S.biUnion fun t => (R t).set).map u.emb := by
      rw [map_biUnion']
      exact Finset.biUnion_congr rfl fun t _ => View.set_slice _ _
    rw [this, hc]; rfl
  have h1 := pv_parts (F := F) c u q (u.rep X) S R hd
  unfold pv at h1 ⊢
  rw [e1]
  refine h1.trans (bigSep_congr fun t _ => ?_)
  have hR : (u.slice (R t)).read (Elt F) (u.rep X) = fun y => X ((R t).emb y) := by
    funext y
    have := congrFun (View.read_rep (Val := Elt F) u X) ((R t).emb y)
    rw [View.read_apply] at this ⊢
    rw [← this]
    rfl
  rw [hR]
end Gen

/-! ## The result's block -/

/-- The row block of device `d` in its z half's result. -/
def qi (d : Dev nD) : ℕ := d.val / 2

theorem inb_o (q : ℕ) : ∀ a, (![0, 256 * (q % 4), 0] : Fin 3 → ℕ) a + S1x256x512.size a ≤ S1x1024x512.size a := by
  intro a; have := Nat.mod_lt q (show 0 < 4 by decide)
  match a with
  | 0 => show 0 + 1 ≤ 1; omega
  | 1 => show 256 * (q % 4) + 256 ≤ 1024; omega
  | 2 => show 0 + 512 ≤ 512; omega
abbrev rO (q : ℕ) : Rect S1x1024x512 := Rect.unit (s := S1x1024x512) ![0, 256 * (q % 4), 0] S1x256x512.size (inb_o q)

theorem rO_disj : ∀ t ∈ Finset.range 4, ∀ t' ∈ Finset.range 4, t ≠ t' → Disjoint (rO t).set (rO t').set := by
  intro t ht t' ht' hne
  rw [Finset.disjoint_left]; intro i h h'
  rw [Rect.mem_set_unit] at h h'
  have h0 : 256 * (t % 4) ≤ (i 1).val ∧ (i 1).val < 256 * (t % 4) + 256 := h 1
  have h0' : 256 * (t' % 4) ≤ (i 1).val ∧ (i 1).val < 256 * (t' % 4) + 256 := h' 1
  rw [Finset.mem_range] at ht ht'
  omega
theorem rO_cover : (Finset.range 4).biUnion (fun t => (rO t).set) = Finset.univ := by
  rw [Finset.eq_univ_iff_forall]; intro i
  have h0 : (i 0).val < 1 := (i 0).isLt
  have h1 : (i 1).val < 1024 := (i 1).isLt
  have h2 : (i 2).val < 512 := (i 2).isLt
  rw [Finset.mem_biUnion]
  refine ⟨(i 1).val / 256, by rw [Finset.mem_range]; omega, ?_⟩
  rw [Rect.mem_set_unit]; intro a
  match a with
  | 0 => show 0 ≤ (i 0).val ∧ (i 0).val < 0 + 1; omega
  | 1 => show 256 * ((i 1).val / 256 % 4) ≤ (i 1).val ∧ (i 1).val < 256 * ((i 1).val / 256 % 4) + 256; omega
  | 2 => show 0 ≤ (i 2).val ∧ (i 2).val < 0 + 512; omega

/-- The device of `c`'s z half whose row block is `q`. -/
def qdev (c : Dev nD) (q : ℕ) : Dev nD := ⟨2 * (q % 4) + c.val % 2, by show _ < 8; omega⟩

/-- A row of the result's block, within its row block. -/
def obE (i : S1x1024x512.Idx) : S1x256x512.Idx := fun a => ⟨if a.val = 1 then (i 1).val % 256 else (i a).val, by
  match a with
  | 0 => exact (i 0).isLt
  | 1 => exact Nat.mod_lt _ (by decide)
  | 2 => exact (i 2).isLt⟩
/-- Block `b` of device `c`'s result: at each row block its device's summed block. -/
def ob (U : Vals F) (c : Dev nD) (b : ℕ) : S1x1024x512.Idx → Elt F .f32 := fun i => mq U (qdev c ((i 1).val / 256)) b (obE i)

theorem ob_emb (U : Vals F) (c : Dev nD) (b q : ℕ) : (fun y => ob U c b ((rO q).emb y)) = mq U (qdev c q) b := by
  funext y
  have hy : (y 1).val < 256 := (y 1).isLt
  have hq := Nat.mod_lt q (show 0 < 4 by decide)
  have h1 : (((rO q).emb y) 1).val = 256 * (q % 4) + 1 * (y 1).val := rfl
  have h2 : (((rO q).emb y) 1).val / 256 = q % 4 := by omega
  have e2 : obE ((rO q).emb y) = y := by
    funext a; apply Fin.ext
    match a with
    | 0 => show 0 + 1 * (y 0).val = (y 0).val; omega
    | 1 => show (((rO q).emb y) 1).val % 256 = (y 1).val; omega
    | 2 => show 0 + 1 * (y 2).val = (y 2).val; omega
  show mq U (qdev c ((((rO q).emb y) 1).val / 256)) b (obE ((rO q).emb y)) = _
  rw [e2, h2]
  have : qdev c (q % 4) = qdev c q := Fin.ext (by show 2 * (q % 4 % 4) + c.val % 2 = 2 * (q % 4) + c.val % 2; omega)
  rw [this]

abbrev oV (ao : Memref sig .tc .vmem S1x1024x512 .f32) (q : ℕ) : View sig .tc .vmem S1x256x512 .f32 := ao.view.slice (rO q)

theorem qis : ∀ c : Dev nD, Finset.range 4 = {qi c, qi (px c), qi (py c), qi (px (py c))} := by decide
theorem qis_ne : ∀ c : Dev nD, qi c ≠ qi (px c) ∧ qi c ≠ qi (py c) ∧ qi c ≠ qi (px (py c)) ∧ qi (px c) ≠ qi (py c) ∧ qi (px c) ≠ qi (px (py c)) ∧ qi (py c) ≠ qi (px (py c)) := by decide
theorem qdev_c : ∀ c : Dev nD, qdev c (qi c) = c ∧ qdev c (qi (px c)) = px c ∧ qdev c (qi (py c)) = py c ∧ qdev c (qi (px (py c))) = px (py c) := by decide

theorem bigSep_qi (c : Dev nD) (P : ℕ → sProp (MT nD τ sig ℕ (Elt F) ℕ UU ℕ)) :
    bigSep (Finset.range 4) P = iprop(P (qi c) ∗ P (qi (px c)) ∗ P (qi (py c)) ∗ P (qi (px (py c)))) := by
  obtain ⟨h1, h2, h3, h4, h5, h6⟩ := qis_ne c
  rw [qis c, BI.bigSep_insert (by simp [h1, h2, h3]), BI.bigSep_insert (by simp [h4, h5]), BI.bigSep_insert (by simp [h6]), BI.bigSep_singleton]
  rfl

/-- The result's block at unknown contents, by its row blocks; and joined, once each is written. -/
theorem out_split (c : Dev nD) (ao : Memref sig .tc .vmem S1x1024x512 .f32) :
    (pvAny c ao.view : sProp 𝕄) ⊢ iprop(pvAny c (oV ao (qi c)) ∗ pvAny c (oV ao (qi (px c))) ∗ pvAny c (oV ao (qi (py c))) ∗ pvAny c (oV ao (qi (px (py c))))) := by
  refine ((any_biUnion c ao.view (Finset.range 4) rO ⟨0, by simp⟩ rO_disj rO_cover).1).trans (Entails.of_eq ?_)
  exact bigSep_qi c (fun q => pvAny c (oV ao q))
theorem out_join (U : Vals F) (c : Dev nD) (b : ℕ) (ao : Memref sig .tc .vmem S1x1024x512 .f32) :
    (iprop(pv c (oV ao (qi c)) fullShare (mq U c b) ∗ pv c (oV ao (qi (px c))) fullShare (mq U (px c) b) ∗ pv c (oV ao (qi (py c))) fullShare (mq U (py c) b)
      ∗ pv c (oV ao (qi (px (py c)))) fullShare (mq U (px (py c)) b)) : sProp 𝕄) ⊢ pv c ao.view fullShare (ob U c b) := by
  rw [pv_cover c ao.view fullShare (ob U c b) (Finset.range 4) rO rO_disj rO_cover]
  simp only [ob_emb]
  rw [bigSep_qi c (fun q => pv c (oV ao q) fullShare (mq U (qdev c q) b))]
  obtain ⟨h1, h2, h3, h4⟩ := qdev_c c
  rw [h1, h2, h3, h4]

/-! ## Where the kernel writes it -/

theorem off126' (c : Dev nD) : k0_off126 c = ![0, 256 * (qi c % 4), 0] := by revert c; decide +kernel
theorem off127' (c : Dev nD) : k0_off127 c = ![0, 256 * (qi (px c) % 4), 0] := by revert c; decide +kernel
theorem off128' (c : Dev nD) : k0_off128 c = ![0, 256 * (qi (py c) % 4), 0] := by revert c; decide +kernel
theorem off129' (c : Dev nD) : k0_off129 c = ![0, 256 * (qi (px (py c)) % 4), 0] := by revert c; decide +kernel

/-- A block written to the result is the block read. -/
theorem pay7_eq (X : S1x256x512.Idx → Elt F .f32) : k0_pay7 (F := F) X = X := by
  unfold k0_pay7; exact funext fun i => congrArg X (by show Shape.reshapeEquiv _ (Shape.reshapeEquiv _ i) = i; rw [Shape.reshapeEquiv_reshapeEquiv, Shape.reshapeEquiv_self])
theorem pay2_eq (X : S1x256x512.Idx → Elt F .f32) : k0_pay2 (F := F) X = X := by
  unfold k0_pay2; exact funext fun i => congrArg X (by show Shape.reshapeEquiv _ (Shape.reshapeEquiv _ i) = i; rw [Shape.reshapeEquiv_reshapeEquiv, Shape.reshapeEquiv_self])
theorem pay3_eq (X : S1x256x512.Idx → Elt F .f32) : k0_pay3 (F := F) X = X := by
  unfold k0_pay3; exact funext fun i => congrArg X (by show Shape.reshapeEquiv _ (Shape.reshapeEquiv _ i) = i; rw [Shape.reshapeEquiv_reshapeEquiv, Shape.reshapeEquiv_self])
theorem pay4_eq (X : S1x256x512.Idx → Elt F .f32) : k0_pay4 (F := F) X = X := by
  unfold k0_pay4; exact funext fun i => congrArg X (by show Shape.reshapeEquiv _ (Shape.reshapeEquiv _ i) = i; rw [Shape.reshapeEquiv_reshapeEquiv, Shape.reshapeEquiv_self])

end Cert.KProof
end
-- ==== Proof.Loads.lean ====
/-
  The device's local loads: two row blocks of its part of `O`, copied head by head so that the heads lie side by side. Each
  row block's thirty-two copies credit one semaphore, and thirty-two waits on it deliver the row block.
-/
module

public import proofs.«01_k».proof.Proof.Out
public import Idealize.ShloMosaic.Lib.ValueLayout
public import Idealize.ShloMosaic.Lib.Ring

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

section Gen
variable {s s2 s' : Shape} {sp sp' : Space}

/-- What a copy between two views of differing shapes leaves in the target: the source's value, matched element by element. -/
theorem pv_land2 (c c' : Dev nD) (vs : View sig .tc sp s .f32) (vd : View sig .tc sp' s2 .f32) (h : s'.numel = s.numel) (h' : s'.numel = s2.numel) (hh : s2.numel = s.numel)
    (fd : Buf (Elt F) ((vd.reshape s' h').loc (c' : Thread nD τ))) (X : s.Idx → Elt F .f32) :
    ((vd.reshape s' h').loc (c' : Thread nD τ) ↦[(vd.reshape s' h').set]{fullShare}
        (vd.reshape s' h').write (Elt F) fd ((vs.reshape s' h).read (Elt F) (vs.rep X)) Finset.univ : sProp 𝕄) ⊢ pv c' vd fullShare (fun y => X (Shape.reshapeEquiv hh y)) := by
  rw [View.set_reshape]
  refine Entails.of_eq (pv_eq c' vd fullShare _ _ ?_)
  funext y
  obtain ⟨x, rfl⟩ := (Shape.reshapeEquiv h').surjective y
  have h1 := congrFun (View.read_write_univ (Val := Elt F) (v := vd.reshape s' h') fd ((vs.reshape s' h).read (Elt F) (vs.rep X))) x
  have h2 := congrFun (View.read_rep (Val := Elt F) vs X) (Shape.reshapeEquiv h x)
  rw [Shape.reshapeEquiv_reshapeEquiv]
  refine Eq.trans ?_ h2
  exact h1
end Gen

/-! ## The row blocks -/

abbrev Om : Memref sig .tc .hbm S1x2048x32x128 .f32 := Memref.whole main_arg0

/-- Where row block `k` starts: in the other z half for the block whose partial product is sent away, in its own for the other. -/
def srcRow (k : Fin 2) (c : Dev nD) : ℕ :=
  match k with
  | 0 => (512 * (c.val / 4) + 256 * ((c.val / 2) % 2) + 1024) - 1024 * (c.val % 2)
  | 1 => 1024 * (c.val % 2) + 512 * (c.val / 4) + 256 * ((c.val / 2) % 2)

theorem srcRow_le : ∀ (k : Fin 2) (c : Dev nD), srcRow k c + 256 ≤ 2048 := by decide

theorem inb_oR (k : Fin 2) (c : Dev nD) (h : ℕ) : ∀ a, (![0, srcRow k c, h % 32, 0] : Fin 4 → ℕ) a + S1x256x1x128.size a ≤ S1x2048x32x128.size a := by
  intro a; have := Nat.mod_lt h (show 0 < 32 by decide); have := srcRow_le k c
  match a with
  | 0 => show 0 + 1 ≤ 1; omega
  | 1 => show srcRow k c + 256 ≤ 2048; omega
  | 2 => show h % 32 + 1 ≤ 32; omega
  | 3 => show 0 + 128 ≤ 128; omega
theorem inb_oB (k : Fin 2) (c : Dev nD) : ∀ a, (![0, srcRow k c, 0, 0] : Fin 4 → ℕ) a + (![1, 256, 32, 128] : Fin 4 → ℕ) a ≤ S1x2048x32x128.size a := by
  intro a; have := srcRow_le k c
  match a with
  | 0 => show 0 + 1 ≤ 1; omega
  | 1 => show srcRow k c + 256 ≤ 2048; omega
  | 2 => show 0 + 32 ≤ 32; omega
  | 3 => show 0 + 128 ≤ 128; omega
theorem inb_dR (k : Fin 2) (h : ℕ) : ∀ a, (![k.val, 0, 128 * (h % 32)] : Fin 3 → ℕ) a + S1x256x128.size a ≤ S2x256x4096.size a := by
  intro a; have := Nat.mod_lt h (show 0 < 32 by decide); have := k.isLt
  match a with
  | 0 => show k.val + 1 ≤ 2; omega
  | 1 => show 0 + 256 ≤ 256; omega
  | 2 => show 128 * (h % 32) + 128 ≤ 4096; omega
theorem inb_aR (k : Fin 2) : ∀ a, (![k.val, 0, 0] : Fin 3 → ℕ) a + S1x256x4096.size a ≤ S2x256x4096.size a := by
  intro a; have := k.isLt
  match a with
  | 0 => show k.val + 1 ≤ 2; omega
  | 1 => show 0 + 256 ≤ 256; omega
  | 2 => show 0 + 4096 ≤ 4096; omega

/-- One head of the source block, the whole of it; one head's columns of the target, the whole of it. -/
abbrev oR (k : Fin 2) (c : Dev nD) (h : ℕ) : Rect S1x2048x32x128 := Rect.unit (s := S1x2048x32x128) ![0, srcRow k c, h % 32, 0] S1x256x1x128.size (inb_oR k c h)
abbrev oB (k : Fin 2) (c : Dev nD) : Rect S1x2048x32x128 := Rect.unit (s := S1x2048x32x128) ![0, srcRow k c, 0, 0] ![1, 256, 32, 128] (inb_oB k c)
abbrev dR (k : Fin 2) (h : ℕ) : Rect S2x256x4096 := Rect.unit (s := S2x256x4096) ![k.val, 0, 128 * (h % 32)] S1x256x128.size (inb_dR k h)
abbrev aR (k : Fin 2) : Rect S2x256x4096 := Rect.unit (s := S2x256x4096) ![k.val, 0, 0] S1x256x4096.size (inb_aR k)
abbrev srcV (k : Fin 2) (c : Dev nD) (h : ℕ) : View sig .tc .hbm S1x256x1x128 .f32 := Om.view.slice (oR k c h)
abbrev dstV (k : Fin 2) (h : ℕ) : View sig .tc .vmem S1x256x128 .f32 := Ba.view.slice (dR k h)
abbrev aV (k : Fin 2) : View sig .tc .vmem S1x256x4096 .f32 := Ba.view.slice (aR k)

/-- The heads of row block `k` side by side. -/
def gE (k : Fin 2) (c : Dev nD) (y : S1x256x4096.Idx) : S1x2048x32x128.Idx := fun a => ⟨(![0, srcRow k c + (y 1).val, (y 2).val / 128, (y 2).val % 128] : Fin 4 → ℕ) a, by
  have h1 : (y 1).val < 256 := (y 1).isLt
  have h2 : (y 2).val < 4096 := (y 2).isLt
  have := srcRow_le k c
  match a with
  | 0 => show 0 < 1; omega
  | 1 => show srcRow k c + (y 1).val < 2048; omega
  | 2 => show (y 2).val / 128 < 32; omega
  | 3 => show (y 2).val % 128 < 128; omega⟩
def gath (k : Fin 2) (c : Dev nD) (X : S1x2048x32x128.Idx → Elt F .f32) : S1x256x4096.Idx → Elt F .f32 := fun y => X (gE k c y)

theorem numel_hd : S1x256x128.numel = S1x256x1x128.numel := by decide

/-- A head as copied. -/
def hdX (k : Fin 2) (c : Dev nD) (X : S1x2048x32x128.Idx → Elt F .f32) (h : ℕ) : S1x256x128.Idx → Elt F .f32 := fun y => X ((oR k c h).emb (Shape.reshapeEquiv numel_hd y))

def hdE (h : ℕ) (y : S1x256x128.Idx) : S1x256x4096.Idx := fun a => ⟨(y a).val + (if a.val = 2 then 128 * (h % 32) else 0), by
  have := (y a).isLt
  match a with
  | 0 => exact this
  | 1 => exact this
  | 2 => have h : (y 2).val < 128 := this; show (y 2).val + 128 * _ < 4096; omega⟩

theorem hd_eq (k : Fin 2) (c : Dev nD) (X : S1x2048x32x128.Idx → Elt F .f32) (h : ℕ) : (fun y => gath k c X (hdE h y)) = hdX k c X h := by
  funext y
  unfold gath hdX
  refine congrArg X ?_
  have hy0 : (y 0).val < 1 := (y 0).isLt
  have hy1 : (y 1).val < 256 := (y 1).isLt
  have hy2 : (y 2).val < 128 := (y 2).isLt
  have e : Shape.reshapeEquiv numel_hd y = (fun a => ⟨(![0, (y 1).val, 0, (y 2).val] : Fin 4 → ℕ) a, by
      match a with
      | 0 => exact Nat.one_pos
      | 1 => exact hy1
      | 2 => exact Nat.one_pos
      | 3 => exact hy2⟩ : S1x256x1x128.Idx) := by
    refine Shape.reshapeEquiv_eq_of_rowMajor numel_hd ?_
    rw [Shape.rowMajor_val_four, Shape.rowMajor_val_three]
    show (((0 * 256 + (y 1).val) * 1 + 0) * 128 + (y 2).val) = ((y 0).val * 256 + (y 1).val) * 128 + (y 2).val
    omega
  rw [e]
  funext a; apply Fin.ext
  match a with
  | 0 => rfl
  | 1 => show srcRow k c + ((y 1).val + 0) = srcRow k c + 1 * (y 1).val; omega
  | 2 => show ((y 2).val + 128 * (h % 32)) / 128 = h % 32 + 1 * 0; omega
  | 3 => show ((y 2).val + 128 * (h % 32)) % 128 = 0 + 1 * (y 2).val; omega

section
variable (k : Fin 2) (c : Dev nD) (X : S1x2048x32x128.Idx → Elt F .f32) (q : PosShare TreeShare)

theorem dR_disj : ∀ t ∈ Finset.range 32, ∀ t' ∈ Finset.range 32, t ≠ t' → Disjoint (dR k t).set (dR k t').set := by
  intro t ht t' ht' hne
  rw [Finset.disjoint_left]; intro i h h'
  rw [Rect.mem_set_unit] at h h'
  have h0 : 128 * (t % 32) ≤ (i 2).val ∧ (i 2).val < 128 * (t % 32) + 128 := h 2
  have h0' : 128 * (t' % 32) ≤ (i 2).val ∧ (i 2).val < 128 * (t' % 32) + 128 := h' 2
  rw [Finset.mem_range] at ht ht'
  omega
theorem dR_cover : (aR k).set = (Finset.range 32).biUnion fun t => (dR k t).set := by
  ext i
  rw [Finset.mem_biUnion, Rect.mem_set_unit]
  have h2 : (i 2).val < 4096 := (i 2).isLt
  constructor
  · intro h
    refine ⟨(i 2).val / 128, by rw [Finset.mem_range]; omega, ?_⟩
    rw [Rect.mem_set_unit]; intro a
    match a with
    | 0 => exact h 0
    | 1 => exact h 1
    | 2 => show 128 * ((i 2).val / 128 % 32) ≤ (i 2).val ∧ (i 2).val < 128 * ((i 2).val / 128 % 32) + 128; omega
  · rintro ⟨t, ht, h⟩
    rw [Rect.mem_set_unit] at h; intro a
    match a with
    | 0 => exact h 0
    | 1 => exact h 1
    | 2 => show 0 ≤ (i 2).val ∧ (i 2).val < 0 + 4096; omega
theorem oR_disj : ∀ t ∈ Finset.range 32, ∀ t' ∈ Finset.range 32, t ≠ t' → Disjoint (oR k c t).set (oR k c t').set := by
  intro t ht t' ht' hne
  rw [Finset.disjoint_left]; intro i h h'
  rw [Rect.mem_set_unit] at h h'
  have h0 : t % 32 ≤ (i 2).val ∧ (i 2).val < t % 32 + 1 := h 2
  have h0' : t' % 32 ≤ (i 2).val ∧ (i 2).val < t' % 32 + 1 := h' 2
  rw [Finset.mem_range] at ht ht'
  omega
theorem oR_cover : (oB k c).set = (Finset.range 32).biUnion fun t => (oR k c t).set := by
  ext i
  rw [Finset.mem_biUnion, Rect.mem_set_unit]
  have h2 : (i 2).val < 32 := (i 2).isLt
  constructor
  · intro h
    refine ⟨(i 2).val, by rw [Finset.mem_range]; omega, ?_⟩
    rw [Rect.mem_set_unit]; intro a
    match a with
    | 0 => exact h 0
    | 1 => exact h 1
    | 2 => show (i 2).val % 32 ≤ (i 2).val ∧ (i 2).val < (i 2).val % 32 + 1; omega
    | 3 => exact h 3
  · rintro ⟨t, ht, h⟩
    rw [Rect.mem_set_unit] at h; intro a
    match a with
    | 0 => exact h 0
    | 1 => exact h 1
    | 2 => show 0 ≤ (i 2).val ∧ (i 2).val < 0 + 32; omega
    | 3 => exact h 3

/-- The landed heads are the row block. -/
theorem heads_join : (pv c (aV k) fullShare (gath k c X) : sProp 𝕄) = bigSep (Finset.range 32) fun h => pv c (dstV k h) fullShare (hdX k c X h) := by
  refine (pv_rects c Ba.view fullShare (aR k) (gath k c X) (Finset.range 32) (dR k) hdE (fun t y => funext fun a => Fin.ext ?_) (dR_disj k) (dR_cover k)).trans
    (bigSep_congr fun h _ => ?_)
  · match a with
    | 0 => show k.val + 1 * ((y 0).val + 0) = k.val + 1 * (y 0).val; omega
    | 1 => show 0 + 1 * ((y 1).val + 0) = 0 + 1 * (y 1).val; omega
    | 2 => show 0 + 1 * ((y 2).val + 128 * (t % 32)) = 128 * (t % 32) + 1 * (y 2).val; omega
  · exact congrArg (pv c (dstV k h) fullShare) (hd_eq k c X h)
theorem any_heads : (pvAny c (aV k) : sProp 𝕄) ⊢ bigSep (Finset.range 32) fun h => pvAny c (dstV k h) := by
  unfold pvAny
  have hd' : ∀ t ∈ Finset.range 32, ∀ t' ∈ Finset.range 32, t ≠ t' → Disjoint (dstV k t).set (dstV k t').set := by
    intro t ht t' ht' hne
    rw [View.set_slice, View.set_slice]; exact (Finset.disjoint_map _).mpr (dR_disj k t ht t' ht' hne)
  have e1 : (aV k).set = (Finset.range 32).biUnion fun t => (dstV k t).set := by
    rw [View.set_slice, dR_cover, map_biUnion']
    exact Finset.biUnion_congr rfl fun t _ => (View.set_slice _ _).symm
  rw [e1]
  iintro ⟨%f, H⟩
  ihave H := (Entails.of_eq (pointsTo_biUnion (Finset.range 32) _ hd')) $$ H
  have hm : bigSep (Finset.range 32) (fun t => ((aV k).loc (c : Thread nD τ) ↦[(dstV k t).set]{fullShare} f : sProp 𝕄))
      ⊢ bigSep (Finset.range 32) (fun t => (iprop(∃ f : Buf (Elt F) ((dstV k t).loc (c : Thread nD τ)), (dstV k t).loc (c : Thread nD τ) ↦[(dstV k t).set]{fullShare} f) : sProp 𝕄)) :=
    bigSep_mono fun t _ => pvAny_intro c (dstV k t) f
  iapply hm
  iexact H

/-- The rest of `O`, at a share, beside row block `k`. -/
def oRest : sProp 𝕄 := (Om.view.loc (c : Thread nD τ) ↦[Om.view.set \ (Om.view.slice (oB k c)).set]{q} Om.view.rep X)
/-- `O` at a share is the heads of row block `k` and the rest. -/
theorem o_split : (pv c Om.view q X : sProp 𝕄) ⊣⊢ iprop(bigSep (Finset.range 32) (fun h => pv c (srcV k c h) q (fun y => X ((oR k c h).emb y))) ∗ oRest k c X q) := by
  have hsub : (Om.view.slice (oB k c)).set ⊆ Om.view.set := by
    rw [View.set_slice]; exact Finset.map_subset_map.mpr (Finset.subset_univ _)
  have e1 : (Om.view.slice (oB k c)).set = (Finset.range 32).biUnion fun t => (srcV k c t).set := by
    rw [View.set_slice, oR_cover, map_biUnion']
    exact Finset.biUnion_congr rfl fun t _ => (View.set_slice _ _).symm
  have h2 : (Om.view.loc (c : Thread nD τ) ↦[(Om.view.slice (oB k c)).set]{q} Om.view.rep X : sProp 𝕄) = bigSep (Finset.range 32) (fun h => pv c (srcV k c h) q (fun y => X ((oR k c h).emb y))) := by
    rw [e1, pv_parts c Om.view q (Om.view.rep X) (Finset.range 32) (oR k c) (oR_disj k c)]
    refine bigSep_congr fun t _ => ?_
    have hR : (srcV k c t).read (Elt F) (Om.view.rep X) = fun y => X ((oR k c t).emb y) := by
      funext y
      have := congrFun (View.read_rep (Val := Elt F) Om.view X) ((oR k c t).emb y)
      rw [View.read_apply] at this ⊢
      rw [← this]
      rfl
    rw [hR]; rfl
  rw [← h2]
  unfold oRest pv
  exact pointsTo_split_subset hsub

/-! ## The copies -/

/-- Row block `k`'s semaphore, the share of `O` its copies read, the units of one copy. -/
def ldQ (k : Fin 2) : DmaSem sig := ⟨4 + k.val, by have := k.isLt; show _ < 44; omega⟩
def ldS (k : Fin 2) : PosShare TreeShare := match k with | 0 => qL | 1 => qR
def NL : ℕ := (dstV 0 0).dmaCredit
theorem NL_pos : 0 < NL := by decide
theorem credit_ld_all : ∀ b : Fin (sig.nNear .tc .vmem), sig.dmaCredit .tc (Kind.tc.table .vmem) b S256x128 .f32 = NL := by decide +kernel
theorem credit_ld (v : View sig .tc .vmem S256x128 .f32) : v.dmaCredit = NL := by
  unfold View.dmaCredit; exact credit_ld_all _

/-- What head `h`'s copy delivers. -/
def ldD (h : Fin 32) : sProp 𝕄 := iprop(pv c (dstV k h.val) fullShare (hdX k c X h.val) ∗ pv c (srcV k c h.val) (ldS k) (fun y => X ((oR k c h.val).emb y)))
instance ldD_storable (h) : BI.Storable (upEmb : UEmb _ 𝕄) (ldD k c X h) := by unfold ldD; infer_instance

/-- Row block `k` with its first `j` copies issued and none waited for; with all issued and `u` waited for. -/
def ldI (j : ℕ) : sProp 𝕄 := iprop(Transfers.Batch (countersEmb (U := UU)) (c : Thread nD τ) (.dma (ldQ k)) 0 NL (ldD k c X) j 0
  ∗ win j 32 (fun h => pv c (srcV k c h) (ldS k) (fun y => X ((oR k c h).emb y))) ∗ win j 32 (fun h => pvAny c (dstV k h)))
def ldW (u : ℕ) : sProp 𝕄 := Transfers.Batch (countersEmb (U := UU)) (c : Thread nD τ) (.dma (ldQ k)) 0 NL (ldD k c X) 32 (u * NL)

theorem ld_start : (iprop(semVal ((c : Thread nD τ), .dma (ldQ k)) 0 ∗ pv c Om.view (ldS k) X ∗ pvAny c (aV k)) : sProp 𝕄) ⊢ |={Set.univ}=> iprop(ldI k c X 0 ∗ oRest k c X (ldS k)) := by
  iintro ⟨Hv, Ho, Ha⟩
  imod (Transfers.batch_alloc' (countersEmb (U := UU)) (c : Thread nD τ) (sm := .dma (ldQ k)) 0 NL (ldD k c X) (E := Set.univ)) $$ Hv with HB
  imodintro
  ihave Ho := (o_split k c X (ldS k)).1 $$ Ho
  icases Ho with ⟨Ho, Hr⟩
  isplitr [Hr]
  · unfold ldI win
    isplitl [HB]; · iexact HB
    isplitl [Ho]
    · rw [← Finset.range_eq_Ico]; iexact Ho
    · rw [← Finset.range_eq_Ico]; iapply (any_heads k c); iexact Ha
  · iexact Hr

theorem ld_all : (ldI k c X 32 : sProp 𝕄) ⊢ ldW k c X 0 := by
  unfold ldI ldW
  rw [Nat.zero_mul]
  iintro ⟨H, -⟩
  iexact H

theorem ld_done : (iprop(bigSep Finset.univ (ldD k c X) ∗ oRest k c X (ldS k)) : sProp 𝕄) ⊢ iprop(pv c (aV k) fullShare (gath k c X) ∗ pv c Om.view (ldS k) X) := by
  have e : bigSep Finset.univ (ldD k c X) = iprop(bigSep (Finset.range 32) (fun h => pv c (dstV k h) fullShare (hdX k c X h)) ∗ bigSep (Finset.range 32) (fun h => pv c (srcV k c h) (ldS k) (fun y => X ((oR k c h).emb y)))) := by
    rw [← bigSep_sep']
    exact Ring.bigSep_fin_eq_range 32 _ _ (fun t h => rfl)
  rw [e]
  iintro ⟨⟨H1, H2⟩, Hr⟩
  isplitl [H1]
  · iapply (Entails.of_eq (heads_join k c X).symm); iexact H1
  · iapply (o_split k c X (ldS k)).2
    isplitl [H2]; · iexact H2
    iexact Hr

end

section Ops
variable {α : Type} {Q : α → sProp (MT nD τ sig ℕ (Elt F) ℕ UU ℕ)} {defs : Defs nD τ sig (Elt F) Λ₀} {𝒱 : Variants} {c : Dev nD} {bd : Option 𝒱.V}
  {k : Fin 2} {X : S1x2048x32x128.Idx → Elt F .f32}

theorem ld_D (k : Fin 2) (c : Dev nD) (X : S1x2048x32x128.Idx → Elt F .f32) (h : ℕ) (hh : h < 32) (hr : S256x128.numel = S1x256x1x128.numel) (hr' : S256x128.numel = S1x256x128.numel)
    (fd : Buf (Elt F) (((dstV k h).reshape S256x128 hr').loc (c : Thread nD τ))) :
    iprop((((dstV k h).reshape S256x128 hr').loc (c : Thread nD τ) ↦[((dstV k h).reshape S256x128 hr').set]{fullShare}
        (((dstV k h).reshape S256x128 hr').write (Elt F) fd (((srcV k c h).reshape S256x128 hr).read (Elt F) ((srcV k c h).rep (fun y => X ((oR k c h).emb y)))) Finset.univ))
      ∗ (((srcV k c h).reshape S256x128 hr).loc (c : Thread nD τ) ↦[((srcV k c h).reshape S256x128 hr).set]{ldS k} ((srcV k c h).rep (fun y => X ((oR k c h).emb y))))) ⊢ (ldD k c X ⟨h, hh⟩ : sProp (MT nD τ sig ℕ (Elt F) ℕ UU ℕ)) := by
  unfold ldD
  iintro ⟨H1, H2⟩
  isplitl [H1]
  · iapply (pv_land2 c c (srcV k c h) (dstV k h) hr hr' numel_hd fd (fun y => X ((oR k c h).emb y))); iexact H1
  · iapply (Entails.of_eq (pv_squeeze c (srcV k c h) hr (ldS k) (fun y => X ((oR k c h).emb y))).symm); iexact H2

/-- Issuing head `h`'s copy. -/
theorem ld_issue (h : ℕ) (hh : h < 32) {src : Memref sig .tc .hbm S256x128 .f32} {dst : Memref sig .tc .vmem S256x128 .f32} {sem : DmaSem sig} (hs : sem = ldQ k)
    {hr : S256x128.numel = S1x256x1x128.numel} {hr' : S256x128.numel = S1x256x128.numel} (hvs : src.view = (srcV k c h).reshape S256x128 hr) (hvd : dst.view = (dstV k h).reshape S256x128 hr')
    {hsrc : src.view.WordExact} {hdst : dst.view.WordExact} {hty : DmaTarget.Typed (nD := nD) .hbm (.dma sem) (DmaTarget.here (p := (Proc.tc : Proc τ)) dst)}
    {kk : PUnit → Prog (TpuEff nD τ sig (Elt F) Λ₀ .tc) α} :
    (ldI k c X h : sProp 𝕄)
      ⊢ iprop((ldI k c X (h + 1) -∗ wp frame (wpE defs 𝒱 (c : Thread nD τ) bd) Set.univ (kk ⟨⟩) Q)
          -∗ wp frame (wpE defs 𝒱 (c : Thread nD τ) bd) Set.univ (.op (.enqueueDma src (.here dst) (.dma sem) hsrc hdst hty) kk) Q) := by
  subst hs
  obtain ⟨sv, sm⟩ := src
  obtain ⟨dv, dm⟩ := dst
  simp only at hvs hvd
  subst hvs; subst hvd
  unfold ldI
  rw [win_pop hh (fun h => pv c (srcV k c h) (ldS k) (fun y => X ((oR k c h).emb y))), win_pop hh (fun h => pvAny c (dstV k h))]
  iintro ⟨HB, ⟨Hs, Hss⟩, ⟨Hd, Hds⟩⟩ Hk
  ihave Hs := (Entails.of_eq (pv_squeeze c (srcV k c h) hr (ldS k) (fun y => X ((oR k c h).emb y)))) $$ Hs
  ihave Hd := (Entails.of_eq (pvAny_squeeze c (dstV k h) hr')) $$ Hd
  icases Hd with ⟨%fd, Hd⟩
  iapply (Transfers.wp_dmaBatch (countersEmb (U := UU)) 𝒱 (c : Thread nD τ) bd (src := ⟨(srcV k c h).reshape S256x128 hr, sm⟩) (dst := ⟨(dstV k h).reshape S256x128 hr', dm⟩) (D := ldD k c X) (j := h) (u := 0)
    0 NL (sm := .dma (ldQ k)) (via := .same) (credit_ld ((dstV k h).reshape S256x128 hr')) (Finset.Subset.refl _) hh (Nat.zero_le _) (ld_D k c X h hh hr hr' fd)) $$ [HB Hs Hd]
  · isplitl [Hs]; · iexact Hs
    isplitl [Hd]; · iexact Hd
    iexact HB
  iintro HB
  iapply Hk
  isplitl [HB]; · iexact HB
  isplitl [Hss]; · iexact Hss
  iexact Hds

/-- A wait for one copy that is not the last. -/
theorem ld_wait (U : Vals F) (K : Dev nD × CI → ℕ) (u P : ℕ) (hu : u + 1 < 32) (hP : 0 < P) {sem : DmaSem sig} (hs : sem = ldQ k) {src : Memref sig .tc .hbm S256x128 .f32} {dst : Memref sig .tc .vmem S256x128 .f32}
    {hsrc : src.view.WordExact} {hdst : dst.view.WordExact} {kk : PUnit → Prog (TpuEff nD τ sig (Elt F) Λ₀ .tc) α} :
    iprop(Ctx U K ∗ ow c P ∗ ldW k c X u)
      ⊢ iprop(((ow c P ∗ ldW k c X (u + 1)) -∗ wp frame (wpE defs 𝒱 (c : Thread nD τ) bd) Set.univ (kk ⟨⟩) Q)
          -∗ wp frame (wpE defs 𝒱 (c : Thread nD τ) bd) Set.univ (.op (.waitDma2 sem src dst hsrc hdst) kk) Q) := by
  subst hs
  unfold ldW ow Ctx
  iintro ⟨⟨-, #HL⟩, ⟨%W, HO⟩, HB⟩ Hk
  iapply (Transfers.wp_waitBatchO (countersEmb (U := UU)) 𝒱 (c : Thread nD τ) bd (D := ldD k c X) (u := u * NL) 0 (credit_ld dst.view)
    (by have := NL_pos; rw [Nat.mul_comm NL 32, ← Nat.succ_mul]; exact Nat.mul_lt_mul_of_pos_right hu this) (O := O c P) (W := W)) $$ [HB HO]
  · isplitl [HB]; · iexact HB
    isplitl [HO]; · iexact HO
    iapply (mayWait c (.dma (ldQ k)) 0 P (by decide) (by rw [lv_low c (ldQ k) (by show 4 + k.val < 6; have := k.isLt; omega)]; exact hP)); iexact HL
  iintro ⟨HB, HO⟩
  iapply Hk
  isplitl [HO]; · iexists _; iexact HO
  rw [Nat.succ_mul]; iexact HB

/-- The last wait delivers the row block. -/
theorem ld_last (U : Vals F) (K : Dev nD × CI → ℕ) (P : ℕ) (hP : 0 < P) {sem : DmaSem sig} (hs : sem = ldQ k) {src : Memref sig .tc .hbm S256x128 .f32} {dst : Memref sig .tc .vmem S256x128 .f32}
    {hsrc : src.view.WordExact} {hdst : dst.view.WordExact} {kk : PUnit → Prog (TpuEff nD τ sig (Elt F) Λ₀ .tc) α} :
    iprop(Ctx U K ∗ ow c P ∗ ldW k c X 31 ∗ oRest k c X (ldS k))
      ⊢ iprop(((ow c P ∗ pv c (aV k) fullShare (gath k c X) ∗ pv c Om.view (ldS k) X ∗ semVal ((c : Thread nD τ), .dma (ldQ k)) 0) -∗ wp frame (wpE defs 𝒱 (c : Thread nD τ) bd) Set.univ (kk ⟨⟩) Q)
          -∗ wp frame (wpE defs 𝒱 (c : Thread nD τ) bd) Set.univ (.op (.waitDma2 sem src dst hsrc hdst) kk) Q) := by
  subst hs
  unfold ldW ow Ctx
  iintro ⟨⟨-, #HL⟩, ⟨%W, HO⟩, HB, Hr⟩ Hk
  iapply (Transfers.wp_waitBatchLastO (countersEmb (U := UU)) 𝒱 (c : Thread nD τ) bd (D := ldD k c X) (u := 31 * NL) 0 (credit_ld dst.view) NL_pos
    (by rw [Nat.mul_comm NL 32, ← Nat.succ_mul]) (O := O c P) (W := W)) $$ [HB HO]
  · isplitl [HB]; · iexact HB
    isplitl [HO]; · iexact HO
    iapply (mayWait c (.dma (ldQ k)) 0 P (by decide) (by rw [lv_low c (ldQ k) (by show 4 + k.val < 6; have := k.isLt; omega)]; exact hP)); iexact HL
  iintro ⟨HB, Hv, HO⟩
  iapply Hk
  isplitl [HO]; · iexists _; iexact HO
  ihave H := (ld_done k c X) $$ [HB Hr]
  · isplitl [HB]; · iexact HB
    iexact Hr
  icases H with ⟨H1, H2⟩
  isplitl [H1]; · iexact H1
  isplitl [H2]; · iexact H2
  iexact Hv
end Ops
end Cert.KProof
end
-- ==== Proof.LoadP.lean ====
/-
  The runs of loads and of waits for them, part by part of the body.
-/
module

public import proofs.«01_k».proof.Proof.Loads

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

section
variable {defs : Defs nD τ sig (Elt F) Λ₀} {𝒱 : Variants} {c : Dev nD} {bd : Option 𝒱.V} (X : S1x2048x32x128.Idx → Elt F .f32)

theorem part1_spec (i : grid0.Coords) {h1 : (Memref.whole main_arg0 : Memref sig .tc .hbm S1x2048x32x128 .f32).IsWhole} {aw : Memref sig .tc .vmem S4096x512 .f32} {h2 : aw.IsWhole} {ao : Memref sig .tc .vmem S1x1024x512 .f32} {h3 : ao.IsWhole}
  {h4 : (Ba : Memref sig .tc .vmem S2x256x4096 .f32).IsWhole} {h5 : (Bz : Memref sig .tc .vmem S2x256x512 .f32).IsWhole} {h6 : (Br : Memref sig .tc .vmem S4x256x512 .f32).IsWhole} {h7 : (Bm : Memref sig .tc .vmem S4x256x512 .f32).IsWhole}
  {h8 : (Bx : Memref sig .tc .vmem S4x256x512 .f32).IsWhole} {h9 : (By : Memref sig .tc .vmem S4x256x512 .f32).IsWhole} {h10 : (Bq : Memref sig .tc .vmem S4x256x512 .f32).IsWhole} (hc : k0_cond1 i = 1#1) {Q : PUnit → sProp (MT nD τ sig ℕ (Elt F) ℕ UU ℕ)} :
    iprop(ldI 0 c X 0) ⊢ iprop(((ldI 0 c X 4) -∗ Q ⟨⟩) -∗ wp frame (wpE defs 𝒱 (c : Thread nD τ) bd) Set.univ (k0_part1 i (Memref.whole main_arg0) h1 aw h2 ao h3 Ba h4 Bz h5 Br h6 Bm h7 Bx h8 By h9 Bq h10 cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 c hc) Q) := by
  rw [k0_part1_eq_skeleton]; unfold k0_part1_skel
  simp only [Prog.lift, Prog.bind_op, Prog.bind_ret, Prog.pure_eq_ret, Prog.bind_assoc]
  iintro H0 HQ
  iapply (ld_issue 0 (by decide) rfl (sq_view Om (k0_off1_eq c)) (sq_view Ba rfl)) $$ H0
  iintro H0
  iapply (ld_issue 1 (by decide) rfl (sq_view Om (k0_off2_eq c)) (sq_view Ba rfl)) $$ H0
  iintro H0
  iapply (ld_issue 2 (by decide) rfl (sq_view Om (k0_off3_eq c)) (sq_view Ba rfl)) $$ H0
  iintro H0
  iapply (ld_issue 3 (by decide) rfl (sq_view Om (k0_off4_eq c)) (sq_view Ba rfl)) $$ H0
  iintro H0
  rw [wp_ret]; imodintro
  iapply HQ
  iexact H0

theorem part2_spec (i : grid0.Coords) {h1 : (Memref.whole main_arg0 : Memref sig .tc .hbm S1x2048x32x128 .f32).IsWhole} {aw : Memref sig .tc .vmem S4096x512 .f32} {h2 : aw.IsWhole} {ao : Memref sig .tc .vmem S1x1024x512 .f32} {h3 : ao.IsWhole}
  {h4 : (Ba : Memref sig .tc .vmem S2x256x4096 .f32).IsWhole} {h5 : (Bz : Memref sig .tc .vmem S2x256x512 .f32).IsWhole} {h6 : (Br : Memref sig .tc .vmem S4x256x512 .f32).IsWhole} {h7 : (Bm : Memref sig .tc .vmem S4x256x512 .f32).IsWhole}
  {h8 : (Bx : Memref sig .tc .vmem S4x256x512 .f32).IsWhole} {h9 : (By : Memref sig .tc .vmem S4x256x512 .f32).IsWhole} {h10 : (Bq : Memref sig .tc .vmem S4x256x512 .f32).IsWhole} (hc : k0_cond1 i = 1#1) {Q : PUnit → sProp (MT nD τ sig ℕ (Elt F) ℕ UU ℕ)} :
    iprop(ldI 0 c X 4) ⊢ iprop(((ldI 0 c X 8) -∗ Q ⟨⟩) -∗ wp frame (wpE defs 𝒱 (c : Thread nD τ) bd) Set.univ (k0_part2 i (Memref.whole main_arg0) h1 aw h2 ao h3 Ba h4 Bz h5 Br h6 Bm h7 Bx h8 By h9 Bq h10 cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 c hc) Q) := by
  rw [k0_part2_eq_skeleton]; unfold k0_part2_skel
  simp only [Prog.lift, Prog.bind_op, Prog.bind_ret, Prog.pure_eq_ret, Prog.bind_assoc]
  iintro H0 HQ
  iapply (ld_issue 4 (by decide) rfl (sq_view Om (k0_off5_eq c)) (sq_view Ba rfl)) $$ H0
  iintro H0
  iapply (ld_issue 5 (by decide) rfl (sq_view Om (k0_off6_eq c)) (sq_view Ba rfl)) $$ H0
  iintro H0
  iapply (ld_issue 6 (by decide) rfl (sq_view Om (k0_off7_eq c)) (sq_view Ba rfl)) $$ H0
  iintro H0
  iapply (ld_issue 7 (by decide) rfl (sq_view Om (k0_off8_eq c)) (sq_view Ba rfl)) $$ H0
  iintro H0
  rw [wp_ret]; imodintro
  iapply HQ
  iexact H0

theorem part3_spec (i : grid0.Coords) {h1 : (Memref.whole main_arg0 : Memref sig .tc .hbm S1x2048x32x128 .f32).IsWhole} {aw : Memref sig .tc .vmem S4096x512 .f32} {h2 : aw.IsWhole} {ao : Memref sig .tc .vmem S1x1024x512 .f32} {h3 : ao.IsWhole}
  {h4 : (Ba : Memref sig .tc .vmem S2x256x4096 .f32).IsWhole} {h5 : (Bz : Memref sig .tc .vmem S2x256x512 .f32).IsWhole} {h6 : (Br : Memref sig .tc .vmem S4x256x512 .f32).IsWhole} {h7 : (Bm : Memref sig .tc .vmem S4x256x512 .f32).IsWhole}
  {h8 : (Bx : Memref sig .tc .vmem S4x256x512 .f32).IsWhole} {h9 : (By : Memref sig .tc .vmem S4x256x512 .f32).IsWhole} {h10 : (Bq : Memref sig .tc .vmem S4x256x512 .f32).IsWhole} (hc : k0_cond1 i = 1#1) {Q : PUnit → sProp (MT nD τ sig ℕ (Elt F) ℕ UU ℕ)} :
    iprop(ldI 0 c X 8) ⊢ iprop(((ldI 0 c X 12) -∗ Q ⟨⟩) -∗ wp frame (wpE defs 𝒱 (c : Thread nD τ) bd) Set.univ (k0_part3 i (Memref.whole main_arg0) h1 aw h2 ao h3 Ba h4 Bz h5 Br h6 Bm h7 Bx h8 By h9 Bq h10 cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 c hc) Q) := by
  rw [k0_part3_eq_skeleton]; unfold k0_part3_skel
  simp only [Prog.lift, Prog.bind_op, Prog.bind_ret, Prog.pure_eq_ret, Prog.bind_assoc]
  iintro H0 HQ
  iapply (ld_issue 8 (by decide) rfl (sq_view Om (k0_off9_eq c)) (sq_view Ba rfl)) $$ H0
  iintro H0
  iapply (ld_issue 9 (by decide) rfl (sq_view Om (k0_off10_eq c)) (sq_view Ba rfl)) $$ H0
  iintro H0
  iapply (ld_issue 10 (by decide) rfl (sq_view Om (k0_off11_eq c)) (sq_view Ba rfl)) $$ H0
  iintro H0
  iapply (ld_issue 11 (by decide) rfl (sq_view Om (k0_off12_eq c)) (sq_view Ba rfl)) $$ H0
  iintro H0
  rw [wp_ret]; imodintro
  iapply HQ
  iexact H0

theorem part4_spec (i : grid0.Coords) {h1 : (Memref.whole main_arg0 : Memref sig .tc .hbm S1x2048x32x128 .f32).IsWhole} {aw : Memref sig .tc .vmem S4096x512 .f32} {h2 : aw.IsWhole} {ao : Memref sig .tc .vmem S1x1024x512 .f32} {h3 : ao.IsWhole}
  {h4 : (Ba : Memref sig .tc .vmem S2x256x4096 .f32).IsWhole} {h5 : (Bz : Memref sig .tc .vmem S2x256x512 .f32).IsWhole} {h6 : (Br : Memref sig .tc .vmem S4x256x512 .f32).IsWhole} {h7 : (Bm : Memref sig .tc .vmem S4x256x512 .f32).IsWhole}
  {h8 : (Bx : Memref sig .tc .vmem S4x256x512 .f32).IsWhole} {h9 : (By : Memref sig .tc .vmem S4x256x512 .f32).IsWhole} {h10 : (Bq : Memref sig .tc .vmem S4x256x512 .f32).IsWhole} (hc : k0_cond1 i = 1#1) {Q : PUnit → sProp (MT nD τ sig ℕ (Elt F) ℕ UU ℕ)} :
    iprop(ldI 0 c X 12) ⊢ iprop(((ldI 0 c X 17) -∗ Q ⟨⟩) -∗ wp frame (wpE defs 𝒱 (c : Thread nD τ) bd) Set.univ (k0_part4 i (Memref.whole main_arg0) h1 aw h2 ao h3 Ba h4 Bz h5 Br h6 Bm h7 Bx h8 By h9 Bq h10 cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 c hc) Q) := by
  rw [k0_part4_eq_skeleton]; unfold k0_part4_skel
  simp only [Prog.lift, Prog.bind_op, Prog.bind_ret, Prog.pure_eq_ret, Prog.bind_assoc]
  iintro H0 HQ
  iapply (ld_issue 12 (by decide) rfl (sq_view Om (k0_off13_eq c)) (sq_view Ba rfl)) $$ H0
  iintro H0
  iapply (ld_issue 13 (by decide) rfl (sq_view Om (k0_off14_eq c)) (sq_view Ba rfl)) $$ H0
  iintro H0
  iapply (ld_issue 14 (by decide) rfl (sq_view Om (k0_off15_eq c)) (sq_view Ba rfl)) $$ H0
  iintro H0
  iapply (ld_issue 15 (by decide) rfl (sq_view Om (k0_off16_eq c)) (sq_view Ba rfl)) $$ H0
  iintro H0
  iapply (ld_issue 16 (by decide) rfl (sq_view Om (k0_off17_eq c)) (sq_view Ba rfl)) $$ H0
  iintro H0
  rw [wp_ret]; imodintro
  iapply HQ
  iexact H0

theorem part5_spec (i : grid0.Coords) {h1 : (Memref.whole main_arg0 : Memref sig .tc .hbm S1x2048x32x128 .f32).IsWhole} {aw : Memref sig .tc .vmem S4096x512 .f32} {h2 : aw.IsWhole} {ao : Memref sig .tc .vmem S1x1024x512 .f32} {h3 : ao.IsWhole}
  {h4 : (Ba : Memref sig .tc .vmem S2x256x4096 .f32).IsWhole} {h5 : (Bz : Memref sig .tc .vmem S2x256x512 .f32).IsWhole} {h6 : (Br : Memref sig .tc .vmem S4x256x512 .f32).IsWhole} {h7 : (Bm : Memref sig .tc .vmem S4x256x512 .f32).IsWhole}
  {h8 : (Bx : Memref sig .tc .vmem S4x256x512 .f32).IsWhole} {h9 : (By : Memref sig .tc .vmem S4x256x512 .f32).IsWhole} {h10 : (Bq : Memref sig .tc .vmem S4x256x512 .f32).IsWhole} (hc : k0_cond1 i = 1#1) {Q : PUnit → sProp (MT nD τ sig ℕ (Elt F) ℕ UU ℕ)} :
    iprop(ldI 0 c X 17) ⊢ iprop(((ldI 0 c X 21) -∗ Q ⟨⟩) -∗ wp frame (wpE defs 𝒱 (c : Thread nD τ) bd) Set.univ (k0_part5 i (Memref.whole main_arg0) h1 aw h2 ao h3 Ba h4 Bz h5 Br h6 Bm h7 Bx h8 By h9 Bq h10 cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 c hc) Q) := by
  rw [k0_part5_eq_skeleton]; unfold k0_part5_skel
  simp only [Prog.lift, Prog.bind_op, Prog.bind_ret, Prog.pure_eq_ret, Prog.bind_assoc]
  iintro H0 HQ
  iapply (ld_issue 17 (by decide) rfl (sq_view Om (k0_off18_eq c)) (sq_view Ba rfl)) $$ H0
  iintro H0
  iapply (ld_issue 18 (by decide) rfl (sq_view Om (k0_off19_eq c)) (sq_view Ba rfl)) $$ H0
  iintro H0
  iapply (ld_issue 19 (by decide) rfl (sq_view Om (k0_off20_eq c)) (sq_view Ba rfl)) $$ H0
  iintro H0
  iapply (ld_issue 20 (by decide) rfl (sq_view Om (k0_off21_eq c)) (sq_view Ba rfl)) $$ H0
  iintro H0
  rw [wp_ret]; imodintro
  iapply HQ
  iexact H0

theorem part6_spec (i : grid0.Coords) {h1 : (Memref.whole main_arg0 : Memref sig .tc .hbm S1x2048x32x128 .f32).IsWhole} {aw : Memref sig .tc .vmem S4096x512 .f32} {h2 : aw.IsWhole} {ao : Memref sig .tc .vmem S1x1024x512 .f32} {h3 : ao.IsWhole}
  {h4 : (Ba : Memref sig .tc .vmem S2x256x4096 .f32).IsWhole} {h5 : (Bz : Memref sig .tc .vmem S2x256x512 .f32).IsWhole} {h6 : (Br : Memref sig .tc .vmem S4x256x512 .f32).IsWhole} {h7 : (Bm : Memref sig .tc .vmem S4x256x512 .f32).IsWhole}
  {h8 : (Bx : Memref sig .tc .vmem S4x256x512 .f32).IsWhole} {h9 : (By : Memref sig .tc .vmem S4x256x512 .f32).IsWhole} {h10 : (Bq : Memref sig .tc .vmem S4x256x512 .f32).IsWhole} (hc : k0_cond1 i = 1#1) {Q : PUnit → sProp (MT nD τ sig ℕ (Elt F) ℕ UU ℕ)} :
    iprop(ldI 0 c X 21) ⊢ iprop(((ldI 0 c X 25) -∗ Q ⟨⟩) -∗ wp frame (wpE defs 𝒱 (c : Thread nD τ) bd) Set.univ (k0_part6 i (Memref.whole main_arg0) h1 aw h2 ao h3 Ba h4 Bz h5 Br h6 Bm h7 Bx h8 By h9 Bq h10 cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 c hc) Q) := by
  rw [k0_part6_eq_skeleton]; unfold k0_part6_skel
  simp only [Prog.lift, Prog.bind_op, Prog.bind_ret, Prog.pure_eq_ret, Prog.bind_assoc]
  iintro H0 HQ
  iapply (ld_issue 21 (by decide) rfl (sq_view Om (k0_off22_eq c)) (sq_view Ba rfl)) $$ H0
  iintro H0
  iapply (ld_issue 22 (by decide) rfl (sq_view Om (k0_off23_eq c)) (sq_view Ba rfl)) $$ H0
  iintro H0
  iapply (ld_issue 23 (by decide) rfl (sq_view Om (k0_off24_eq c)) (sq_view Ba rfl)) $$ H0
  iintro H0
  iapply (ld_issue 24 (by decide) rfl (sq_view Om (k0_off25_eq c)) (sq_view Ba rfl)) $$ H0
  iintro H0
  rw [wp_ret]; imodintro
  iapply HQ
  iexact H0

theorem part7_spec (i : grid0.Coords) {h1 : (Memref.whole main_arg0 : Memref sig .tc .hbm S1x2048x32x128 .f32).IsWhole} {aw : Memref sig .tc .vmem S4096x512 .f32} {h2 : aw.IsWhole} {ao : Memref sig .tc .vmem S1x1024x512 .f32} {h3 : ao.IsWhole}
  {h4 : (Ba : Memref sig .tc .vmem S2x256x4096 .f32).IsWhole} {h5 : (Bz : Memref sig .tc .vmem S2x256x512 .f32).IsWhole} {h6 : (Br : Memref sig .tc .vmem S4x256x512 .f32).IsWhole} {h7 : (Bm : Memref sig .tc .vmem S4x256x512 .f32).IsWhole}
  {h8 : (Bx : Memref sig .tc .vmem S4x256x512 .f32).IsWhole} {h9 : (By : Memref sig .tc .vmem S4x256x512 .f32).IsWhole} {h10 : (Bq : Memref sig .tc .vmem S4x256x512 .f32).IsWhole} (hc : k0_cond1 i = 1#1) {Q : PUnit → sProp (MT nD τ sig ℕ (Elt F) ℕ UU ℕ)} :
    iprop(ldI 0 c X 25) ⊢ iprop(((ldI 0 c X 30) -∗ Q ⟨⟩) -∗ wp frame (wpE defs 𝒱 (c : Thread nD τ) bd) Set.univ (k0_part7 i (Memref.whole main_arg0) h1 aw h2 ao h3 Ba h4 Bz h5 Br h6 Bm h7 Bx h8 By h9 Bq h10 cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 c hc) Q) := by
  rw [k0_part7_eq_skeleton]; unfold k0_part7_skel
  simp only [Prog.lift, Prog.bind_op, Prog.bind_ret, Prog.pure_eq_ret, Prog.bind_assoc]
  iintro H0 HQ
  iapply (ld_issue 25 (by decide) rfl (sq_view Om (k0_off26_eq c)) (sq_view Ba rfl)) $$ H0
  iintro H0
  iapply (ld_issue 26 (by decide) rfl (sq_view Om (k0_off27_eq c)) (sq_view Ba rfl)) $$ H0
  iintro H0
  iapply (ld_issue 27 (by decide) rfl (sq_view Om (k0_off28_eq c)) (sq_view Ba rfl)) $$ H0
  iintro H0
  iapply (ld_issue 28 (by decide) rfl (sq_view Om (k0_off29_eq c)) (sq_view Ba rfl)) $$ H0
  iintro H0
  iapply (ld_issue 29 (by decide) rfl (sq_view Om (k0_off30_eq c)) (sq_view Ba rfl)) $$ H0
  iintro H0
  rw [wp_ret]; imodintro
  iapply HQ
  iexact H0

theorem part8_spec (i : grid0.Coords) {h1 : (Memref.whole main_arg0 : Memref sig .tc .hbm S1x2048x32x128 .f32).IsWhole} {aw : Memref sig .tc .vmem S4096x512 .f32} {h2 : aw.IsWhole} {ao : Memref sig .tc .vmem S1x1024x512 .f32} {h3 : ao.IsWhole}
  {h4 : (Ba : Memref sig .tc .vmem S2x256x4096 .f32).IsWhole} {h5 : (Bz : Memref sig .tc .vmem S2x256x512 .f32).IsWhole} {h6 : (Br : Memref sig .tc .vmem S4x256x512 .f32).IsWhole} {h7 : (Bm : Memref sig .tc .vmem S4x256x512 .f32).IsWhole}
  {h8 : (Bx : Memref sig .tc .vmem S4x256x512 .f32).IsWhole} {h9 : (By : Memref sig .tc .vmem S4x256x512 .f32).IsWhole} {h10 : (Bq : Memref sig .tc .vmem S4x256x512 .f32).IsWhole} (hc : k0_cond1 i = 1#1) {Q : PUnit → sProp (MT nD τ sig ℕ (Elt F) ℕ UU ℕ)} :
    iprop(ldI 0 c X 30 ∗ ldI 1 c X 0) ⊢ iprop(((ldI 0 c X 32 ∗ ldI 1 c X 2) -∗ Q ⟨⟩) -∗ wp frame (wpE defs 𝒱 (c : Thread nD τ) bd) Set.univ (k0_part8 i (Memref.whole main_arg0) h1 aw h2 ao h3 Ba h4 Bz h5 Br h6 Bm h7 Bx h8 By h9 Bq h10 cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 c hc) Q) := by
  rw [k0_part8_eq_skeleton]; unfold k0_part8_skel
  simp only [Prog.lift, Prog.bind_op, Prog.bind_ret, Prog.pure_eq_ret, Prog.bind_assoc]
  iintro ⟨H0, H1⟩ HQ
  iapply (ld_issue 30 (by decide) rfl (sq_view Om (k0_off31_eq c)) (sq_view Ba rfl)) $$ H0
  iintro H0
  iapply (ld_issue 31 (by decide) rfl (sq_view Om (k0_off32_eq c)) (sq_view Ba rfl)) $$ H0
  iintro H0
  iapply (ld_issue 0 (by decide) rfl (sq_view Om (k0_off33_eq c)) (sq_view Ba rfl)) $$ H1
  iintro H1
  iapply (ld_issue 1 (by decide) rfl (sq_view Om (k0_off34_eq c)) (sq_view Ba rfl)) $$ H1
  iintro H1
  rw [wp_ret]; imodintro
  iapply HQ
  isplitl [H0]; · iexact H0
  iexact H1

theorem part9_spec (i : grid0.Coords) {h1 : (Memref.whole main_arg0 : Memref sig .tc .hbm S1x2048x32x128 .f32).IsWhole} {aw : Memref sig .tc .vmem S4096x512 .f32} {h2 : aw.IsWhole} {ao : Memref sig .tc .vmem S1x1024x512 .f32} {h3 : ao.IsWhole}
  {h4 : (Ba : Memref sig .tc .vmem S2x256x4096 .f32).IsWhole} {h5 : (Bz : Memref sig .tc .vmem S2x256x512 .f32).IsWhole} {h6 : (Br : Memref sig .tc .vmem S4x256x512 .f32).IsWhole} {h7 : (Bm : Memref sig .tc .vmem S4x256x512 .f32).IsWhole}
  {h8 : (Bx : Memref sig .tc .vmem S4x256x512 .f32).IsWhole} {h9 : (By : Memref sig .tc .vmem S4x256x512 .f32).IsWhole} {h10 : (Bq : Memref sig .tc .vmem S4x256x512 .f32).IsWhole} (hc : k0_cond1 i = 1#1) {Q : PUnit → sProp (MT nD τ sig ℕ (Elt F) ℕ UU ℕ)} :
    iprop(ldI 1 c X 2) ⊢ iprop(((ldI 1 c X 6) -∗ Q ⟨⟩) -∗ wp frame (wpE defs 𝒱 (c : Thread nD τ) bd) Set.univ (k0_part9 i (Memref.whole main_arg0) h1 aw h2 ao h3 Ba h4 Bz h5 Br h6 Bm h7 Bx h8 By h9 Bq h10 cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 c hc) Q) := by
  rw [k0_part9_eq_skeleton]; unfold k0_part9_skel
  simp only [Prog.lift, Prog.bind_op, Prog.bind_ret, Prog.pure_eq_ret, Prog.bind_assoc]
  iintro H1 HQ
  iapply (ld_issue 2 (by decide) rfl (sq_view Om (k0_off35_eq c)) (sq_view Ba rfl)) $$ H1
  iintro H1
  iapply (ld_issue 3 (by decide) rfl (sq_view Om (k0_off36_eq c)) (sq_view Ba rfl)) $$ H1
  iintro H1
  iapply (ld_issue 4 (by decide) rfl (sq_view Om (k0_off37_eq c)) (sq_view Ba rfl)) $$ H1
  iintro H1
  iapply (ld_issue 5 (by decide) rfl (sq_view Om (k0_off38_eq c)) (sq_view Ba rfl)) $$ H1
  iintro H1
  rw [wp_ret]; imodintro
  iapply HQ
  iexact H1

theorem part10_spec (i : grid0.Coords) {h1 : (Memref.whole main_arg0 : Memref sig .tc .hbm S1x2048x32x128 .f32).IsWhole} {aw : Memref sig .tc .vmem S4096x512 .f32} {h2 : aw.IsWhole} {ao : Memref sig .tc .vmem S1x1024x512 .f32} {h3 : ao.IsWhole}
  {h4 : (Ba : Memref sig .tc .vmem S2x256x4096 .f32).IsWhole} {h5 : (Bz : Memref sig .tc .vmem S2x256x512 .f32).IsWhole} {h6 : (Br : Memref sig .tc .vmem S4x256x512 .f32).IsWhole} {h7 : (Bm : Memref sig .tc .vmem S4x256x512 .f32).IsWhole}
  {h8 : (Bx : Memref sig .tc .vmem S4x256x512 .f32).IsWhole} {h9 : (By : Memref sig .tc .vmem S4x256x512 .f32).IsWhole} {h10 : (Bq : Memref sig .tc .vmem S4x256x512 .f32).IsWhole} (hc : k0_cond1 i = 1#1) {Q : PUnit → sProp (MT nD τ sig ℕ (Elt F) ℕ UU ℕ)} :
    iprop(ldI 1 c X 6) ⊢ iprop(((ldI 1 c X 10) -∗ Q ⟨⟩) -∗ wp frame (wpE defs 𝒱 (c : Thread nD τ) bd) Set.univ (k0_part10 i (Memref.whole main_arg0) h1 aw h2 ao h3 Ba h4 Bz h5 Br h6 Bm h7 Bx h8 By h9 Bq h10 cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 c hc) Q) := by
  rw [k0_part10_eq_skeleton]; unfold k0_part10_skel
  simp only [Prog.lift, Prog.bind_op, Prog.bind_ret, Prog.pure_eq_ret, Prog.bind_assoc]
  iintro H1 HQ
  iapply (ld_issue 6 (by decide) rfl (sq_view Om (k0_off39_eq c)) (sq_view Ba rfl)) $$ H1
  iintro H1
  iapply (ld_issue 7 (by decide) rfl (sq_view Om (k0_off40_eq c)) (sq_view Ba rfl)) $$ H1
  iintro H1
  iapply (ld_issue 8 (by decide) rfl (sq_view Om (k0_off41_eq c)) (sq_view Ba rfl)) $$ H1
  iintro H1
  iapply (ld_issue 9 (by decide) rfl (sq_view Om (k0_off42_eq c)) (sq_view Ba rfl)) $$ H1
  iintro H1
  rw [wp_ret]; imodintro
  iapply HQ
  iexact H1

theorem part11_spec (i : grid0.Coords) {h1 : (Memref.whole main_arg0 : Memref sig .tc .hbm S1x2048x32x128 .f32).IsWhole} {aw : Memref sig .tc .vmem S4096x512 .f32} {h2 : aw.IsWhole} {ao : Memref sig .tc .vmem S1x1024x512 .f32} {h3 : ao.IsWhole}
  {h4 : (Ba : Memref sig .tc .vmem S2x256x4096 .f32).IsWhole} {h5 : (Bz : Memref sig .tc .vmem S2x256x512 .f32).IsWhole} {h6 : (Br : Memref sig .tc .vmem S4x256x512 .f32).IsWhole} {h7 : (Bm : Memref sig .tc .vmem S4x256x512 .f32).IsWhole}
  {h8 : (Bx : Memref sig .tc .vmem S4x256x512 .f32).IsWhole} {h9 : (By : Memref sig .tc .vmem S4x256x512 .f32).IsWhole} {h10 : (Bq : Memref sig .tc .vmem S4x256x512 .f32).IsWhole} (hc : k0_cond1 i = 1#1) {Q : PUnit → sProp (MT nD τ sig ℕ (Elt F) ℕ UU ℕ)} :
    iprop(ldI 1 c X 10) ⊢ iprop(((ldI 1 c X 15) -∗ Q ⟨⟩) -∗ wp frame (wpE defs 𝒱 (c : Thread nD τ) bd) Set.univ (k0_part11 i (Memref.whole main_arg0) h1 aw h2 ao h3 Ba h4 Bz h5 Br h6 Bm h7 Bx h8 By h9 Bq h10 cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 c hc) Q) := by
  rw [k0_part11_eq_skeleton]; unfold k0_part11_skel
  simp only [Prog.lift, Prog.bind_op, Prog.bind_ret, Prog.pure_eq_ret, Prog.bind_assoc]
  iintro H1 HQ
  iapply (ld_issue 10 (by decide) rfl (sq_view Om (k0_off43_eq c)) (sq_view Ba rfl)) $$ H1
  iintro H1
  iapply (ld_issue 11 (by decide) rfl (sq_view Om (k0_off44_eq c)) (sq_view Ba rfl)) $$ H1
  iintro H1
  iapply (ld_issue 12 (by decide) rfl (sq_view Om (k0_off45_eq c)) (sq_view Ba rfl)) $$ H1
  iintro H1
  iapply (ld_issue 13 (by decide) rfl (sq_view Om (k0_off46_eq c)) (sq_view Ba rfl)) $$ H1
  iintro H1
  iapply (ld_issue 14 (by decide) rfl (sq_view Om (k0_off47_eq c)) (sq_view Ba rfl)) $$ H1
  iintro H1
  rw [wp_ret]; imodintro
  iapply HQ
  iexact H1

theorem part12_spec (i : grid0.Coords) {h1 : (Memref.whole main_arg0 : Memref sig .tc .hbm S1x2048x32x128 .f32).IsWhole} {aw : Memref sig .tc .vmem S4096x512 .f32} {h2 : aw.IsWhole} {ao : Memref sig .tc .vmem S1x1024x512 .f32} {h3 : ao.IsWhole}
  {h4 : (Ba : Memref sig .tc .vmem S2x256x4096 .f32).IsWhole} {h5 : (Bz : Memref sig .tc .vmem S2x256x512 .f32).IsWhole} {h6 : (Br : Memref sig .tc .vmem S4x256x512 .f32).IsWhole} {h7 : (Bm : Memref sig .tc .vmem S4x256x512 .f32).IsWhole}
  {h8 : (Bx : Memref sig .tc .vmem S4x256x512 .f32).IsWhole} {h9 : (By : Memref sig .tc .vmem S4x256x512 .f32).IsWhole} {h10 : (Bq : Memref sig .tc .vmem S4x256x512 .f32).IsWhole} (hc : k0_cond1 i = 1#1) {Q : PUnit → sProp (MT nD τ sig ℕ (Elt F) ℕ UU ℕ)} :
    iprop(ldI 1 c X 15) ⊢ iprop(((ldI 1 c X 19) -∗ Q ⟨⟩) -∗ wp frame (wpE defs 𝒱 (c : Thread nD τ) bd) Set.univ (k0_part12 i (Memref.whole main_arg0) h1 aw h2 ao h3 Ba h4 Bz h5 Br h6 Bm h7 Bx h8 By h9 Bq h10 cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 c hc) Q) := by
  rw [k0_part12_eq_skeleton]; unfold k0_part12_skel
  simp only [Prog.lift, Prog.bind_op, Prog.bind_ret, Prog.pure_eq_ret, Prog.bind_assoc]
  iintro H1 HQ
  iapply (ld_issue 15 (by decide) rfl (sq_view Om (k0_off48_eq c)) (sq_view Ba rfl)) $$ H1
  iintro H1
  iapply (ld_issue 16 (by decide) rfl (sq_view Om (k0_off49_eq c)) (sq_view Ba rfl)) $$ H1
  iintro H1
  iapply (ld_issue 17 (by decide) rfl (sq_view Om (k0_off50_eq c)) (sq_view Ba rfl)) $$ H1
  iintro H1
  iapply (ld_issue 18 (by decide) rfl (sq_view Om (k0_off51_eq c)) (sq_view Ba rfl)) $$ H1
  iintro H1
  rw [wp_ret]; imodintro
  iapply HQ
  iexact H1

theorem part13_spec (i : grid0.Coords) {h1 : (Memref.whole main_arg0 : Memref sig .tc .hbm S1x2048x32x128 .f32).IsWhole} {aw : Memref sig .tc .vmem S4096x512 .f32} {h2 : aw.IsWhole} {ao : Memref sig .tc .vmem S1x1024x512 .f32} {h3 : ao.IsWhole}
  {h4 : (Ba : Memref sig .tc .vmem S2x256x4096 .f32).IsWhole} {h5 : (Bz : Memref sig .tc .vmem S2x256x512 .f32).IsWhole} {h6 : (Br : Memref sig .tc .vmem S4x256x512 .f32).IsWhole} {h7 : (Bm : Memref sig .tc .vmem S4x256x512 .f32).IsWhole}
  {h8 : (Bx : Memref sig .tc .vmem S4x256x512 .f32).IsWhole} {h9 : (By : Memref sig .tc .vmem S4x256x512 .f32).IsWhole} {h10 : (Bq : Memref sig .tc .vmem S4x256x512 .f32).IsWhole} (hc : k0_cond1 i = 1#1) {Q : PUnit → sProp (MT nD τ sig ℕ (Elt F) ℕ UU ℕ)} :
    iprop(ldI 1 c X 19) ⊢ iprop(((ldI 1 c X 23) -∗ Q ⟨⟩) -∗ wp frame (wpE defs 𝒱 (c : Thread nD τ) bd) Set.univ (k0_part13 i (Memref.whole main_arg0) h1 aw h2 ao h3 Ba h4 Bz h5 Br h6 Bm h7 Bx h8 By h9 Bq h10 cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 c hc) Q) := by
  rw [k0_part13_eq_skeleton]; unfold k0_part13_skel
  simp only [Prog.lift, Prog.bind_op, Prog.bind_ret, Prog.pure_eq_ret, Prog.bind_assoc]
  iintro H1 HQ
  iapply (ld_issue 19 (by decide) rfl (sq_view Om (k0_off52_eq c)) (sq_view Ba rfl)) $$ H1
  iintro H1
  iapply (ld_issue 20 (by decide) rfl (sq_view Om (k0_off53_eq c)) (sq_view Ba rfl)) $$ H1
  iintro H1
  iapply (ld_issue 21 (by decide) rfl (sq_view Om (k0_off54_eq c)) (sq_view Ba rfl)) $$ H1
  iintro H1
  iapply (ld_issue 22 (by decide) rfl (sq_view Om (k0_off55_eq c)) (sq_view Ba rfl)) $$ H1
  iintro H1
  rw [wp_ret]; imodintro
  iapply HQ
  iexact H1

theorem part14_spec (i : grid0.Coords) {h1 : (Memref.whole main_arg0 : Memref sig .tc .hbm S1x2048x32x128 .f32).IsWhole} {aw : Memref sig .tc .vmem S4096x512 .f32} {h2 : aw.IsWhole} {ao : Memref sig .tc .vmem S1x1024x512 .f32} {h3 : ao.IsWhole}
  {h4 : (Ba : Memref sig .tc .vmem S2x256x4096 .f32).IsWhole} {h5 : (Bz : Memref sig .tc .vmem S2x256x512 .f32).IsWhole} {h6 : (Br : Memref sig .tc .vmem S4x256x512 .f32).IsWhole} {h7 : (Bm : Memref sig .tc .vmem S4x256x512 .f32).IsWhole}
  {h8 : (Bx : Memref sig .tc .vmem S4x256x512 .f32).IsWhole} {h9 : (By : Memref sig .tc .vmem S4x256x512 .f32).IsWhole} {h10 : (Bq : Memref sig .tc .vmem S4x256x512 .f32).IsWhole} (hc : k0_cond1 i = 1#1) {Q : PUnit → sProp (MT nD τ sig ℕ (Elt F) ℕ UU ℕ)} :
    iprop(ldI 1 c X 23) ⊢ iprop(((ldI 1 c X 28) -∗ Q ⟨⟩) -∗ wp frame (wpE defs 𝒱 (c : Thread nD τ) bd) Set.univ (k0_part14 i (Memref.whole main_arg0) h1 aw h2 ao h3 Ba h4 Bz h5 Br h6 Bm h7 Bx h8 By h9 Bq h10 cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 c hc) Q) := by
  rw [k0_part14_eq_skeleton]; unfold k0_part14_skel
  simp only [Prog.lift, Prog.bind_op, Prog.bind_ret, Prog.pure_eq_ret, Prog.bind_assoc]
  iintro H1 HQ
  iapply (ld_issue 23 (by decide) rfl (sq_view Om (k0_off56_eq c)) (sq_view Ba rfl)) $$ H1
  iintro H1
  iapply (ld_issue 24 (by decide) rfl (sq_view Om (k0_off57_eq c)) (sq_view Ba rfl)) $$ H1
  iintro H1
  iapply (ld_issue 25 (by decide) rfl (sq_view Om (k0_off58_eq c)) (sq_view Ba rfl)) $$ H1
  iintro H1
  iapply (ld_issue 26 (by decide) rfl (sq_view Om (k0_off59_eq c)) (sq_view Ba rfl)) $$ H1
  iintro H1
  iapply (ld_issue 27 (by decide) rfl (sq_view Om (k0_off60_eq c)) (sq_view Ba rfl)) $$ H1
  iintro H1
  rw [wp_ret]; imodintro
  iapply HQ
  iexact H1

theorem part15_spec (i : grid0.Coords) {h1 : (Memref.whole main_arg0 : Memref sig .tc .hbm S1x2048x32x128 .f32).IsWhole} {aw : Memref sig .tc .vmem S4096x512 .f32} {h2 : aw.IsWhole} {ao : Memref sig .tc .vmem S1x1024x512 .f32} {h3 : ao.IsWhole}
  {h4 : (Ba : Memref sig .tc .vmem S2x256x4096 .f32).IsWhole} {h5 : (Bz : Memref sig .tc .vmem S2x256x512 .f32).IsWhole} {h6 : (Br : Memref sig .tc .vmem S4x256x512 .f32).IsWhole} {h7 : (Bm : Memref sig .tc .vmem S4x256x512 .f32).IsWhole}
  {h8 : (Bx : Memref sig .tc .vmem S4x256x512 .f32).IsWhole} {h9 : (By : Memref sig .tc .vmem S4x256x512 .f32).IsWhole} {h10 : (Bq : Memref sig .tc .vmem S4x256x512 .f32).IsWhole} {v2 : BitVec 32} (hc : k0_cond1 i = 1#1) {Q : (_ : Sems sig S_) ×' BitVec 32 → sProp (MT nD τ sig ℕ (Elt F) ℕ UU ℕ)} :
    iprop(ldI 1 c X 28) ⊢ iprop((∀ x, (ldI 1 c X 32) -∗ Q ⟨SemArray.scalar (sig.barrier 0 rfl), x⟩) -∗ wp frame (wpE defs 𝒱 (c : Thread nD τ) bd) Set.univ (k0_part15 i (Memref.whole main_arg0) h1 aw h2 ao h3 Ba h4 Bz h5 Br h6 Bm h7 Bx h8 By h9 Bq h10 cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 c v2 hc) Q) := by
  rw [k0_part15_eq_skeleton]; unfold k0_part15_skel
  simp only [Prog.lift, Prog.bind_op, Prog.bind_ret, Prog.pure_eq_ret, Prog.bind_assoc]
  iintro H1 HQ
  iapply (ld_issue 28 (by decide) rfl (sq_view Om (k0_off61_eq c)) (sq_view Ba rfl)) $$ H1
  iintro H1
  iapply (ld_issue 29 (by decide) rfl (sq_view Om (k0_off62_eq c)) (sq_view Ba rfl)) $$ H1
  iintro H1
  iapply (ld_issue 30 (by decide) rfl (sq_view Om (k0_off63_eq c)) (sq_view Ba rfl)) $$ H1
  iintro H1
  iapply (ld_issue 31 (by decide) rfl (sq_view Om (k0_off64_eq c)) (sq_view Ba rfl)) $$ H1
  iintro H1
  rw [wp_ret]; imodintro
  iapply HQ
  iexact H1
end
end Cert.KProof
end
-- ==== Proof.LoadQ.lean ====
/-
  The runs of loads and of waits for them, part by part of the body.
-/
module

public import proofs.«01_k».proof.Proof.Loads

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

section
variable {defs : Defs nD τ sig (Elt F) Λ₀} {𝒱 : Variants} {c : Dev nD} {bd : Option 𝒱.V} (U : Vals F) (K : Dev nD × CI → ℕ) (X : S1x2048x32x128.Idx → Elt F .f32)

theorem part17_spec (i : grid0.Coords) {h1 : (Memref.whole main_arg0 : Memref sig .tc .hbm S1x2048x32x128 .f32).IsWhole} {aw : Memref sig .tc .vmem S4096x512 .f32} {h2 : aw.IsWhole} {ao : Memref sig .tc .vmem S1x1024x512 .f32} {h3 : ao.IsWhole}
  {h4 : (Ba : Memref sig .tc .vmem S2x256x4096 .f32).IsWhole} {h5 : (Bz : Memref sig .tc .vmem S2x256x512 .f32).IsWhole} {h6 : (Br : Memref sig .tc .vmem S4x256x512 .f32).IsWhole} {h7 : (Bm : Memref sig .tc .vmem S4x256x512 .f32).IsWhole}
  {h8 : (Bx : Memref sig .tc .vmem S4x256x512 .f32).IsWhole} {h9 : (By : Memref sig .tc .vmem S4x256x512 .f32).IsWhole} {h10 : (Bq : Memref sig .tc .vmem S4x256x512 .f32).IsWhole} (hc : k0_cond1 i = 1#1) {P : ℕ} (hP : 0 < P) {Q : PUnit → sProp (MT nD τ sig ℕ (Elt F) ℕ UU ℕ)} :
    iprop(Ctx U K ∗ ow c P ∗ ldW 0 c X 1) ⊢ iprop(((ow c P ∗ ldW 0 c X 6) -∗ Q ⟨⟩) -∗ wp frame (wpE defs 𝒱 (c : Thread nD τ) bd) Set.univ (k0_part17 i (Memref.whole main_arg0) h1 aw h2 ao h3 Ba h4 Bz h5 Br h6 Bm h7 Bx h8 By h9 Bq h10 cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 c hc) Q) := by
  rw [k0_part17_eq_skeleton]; unfold k0_part17_skel
  simp only [Prog.lift, Prog.bind_op, Prog.bind_ret, Prog.pure_eq_ret, Prog.bind_assoc]
  iintro ⟨#HC, HO, H⟩ HQ
  iapply (ld_wait U K 1 P (by decide) hP rfl) $$ [HO H]
  · isplitr; · iexact HC
    isplitl [HO]; · iexact HO
    iexact H
  iintro ⟨HO, H⟩
  iapply (ld_wait U K 2 P (by decide) hP rfl) $$ [HO H]
  · isplitr; · iexact HC
    isplitl [HO]; · iexact HO
    iexact H
  iintro ⟨HO, H⟩
  iapply (ld_wait U K 3 P (by decide) hP rfl) $$ [HO H]
  · isplitr; · iexact HC
    isplitl [HO]; · iexact HO
    iexact H
  iintro ⟨HO, H⟩
  iapply (ld_wait U K 4 P (by decide) hP rfl) $$ [HO H]
  · isplitr; · iexact HC
    isplitl [HO]; · iexact HO
    iexact H
  iintro ⟨HO, H⟩
  iapply (ld_wait U K 5 P (by decide) hP rfl) $$ [HO H]
  · isplitr; · iexact HC
    isplitl [HO]; · iexact HO
    iexact H
  iintro ⟨HO, H⟩
  rw [wp_ret]; imodintro
  iapply HQ
  isplitl [HO]; · iexact HO
  iexact H

theorem part18_spec (i : grid0.Coords) {h1 : (Memref.whole main_arg0 : Memref sig .tc .hbm S1x2048x32x128 .f32).IsWhole} {aw : Memref sig .tc .vmem S4096x512 .f32} {h2 : aw.IsWhole} {ao : Memref sig .tc .vmem S1x1024x512 .f32} {h3 : ao.IsWhole}
  {h4 : (Ba : Memref sig .tc .vmem S2x256x4096 .f32).IsWhole} {h5 : (Bz : Memref sig .tc .vmem S2x256x512 .f32).IsWhole} {h6 : (Br : Memref sig .tc .vmem S4x256x512 .f32).IsWhole} {h7 : (Bm : Memref sig .tc .vmem S4x256x512 .f32).IsWhole}
  {h8 : (Bx : Memref sig .tc .vmem S4x256x512 .f32).IsWhole} {h9 : (By : Memref sig .tc .vmem S4x256x512 .f32).IsWhole} {h10 : (Bq : Memref sig .tc .vmem S4x256x512 .f32).IsWhole} (hc : k0_cond1 i = 1#1) {P : ℕ} (hP : 0 < P) {Q : PUnit → sProp (MT nD τ sig ℕ (Elt F) ℕ UU ℕ)} :
    iprop(Ctx U K ∗ ow c P ∗ ldW 0 c X 6) ⊢ iprop(((ow c P ∗ ldW 0 c X 10) -∗ Q ⟨⟩) -∗ wp frame (wpE defs 𝒱 (c : Thread nD τ) bd) Set.univ (k0_part18 i (Memref.whole main_arg0) h1 aw h2 ao h3 Ba h4 Bz h5 Br h6 Bm h7 Bx h8 By h9 Bq h10 cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 c hc) Q) := by
  rw [k0_part18_eq_skeleton]; unfold k0_part18_skel
  simp only [Prog.lift, Prog.bind_op, Prog.bind_ret, Prog.pure_eq_ret, Prog.bind_assoc]
  iintro ⟨#HC, HO, H⟩ HQ
  iapply (ld_wait U K 6 P (by decide) hP rfl) $$ [HO H]
  · isplitr; · iexact HC
    isplitl [HO]; · iexact HO
    iexact H
  iintro ⟨HO, H⟩
  iapply (ld_wait U K 7 P (by decide) hP rfl) $$ [HO H]
  · isplitr; · iexact HC
    isplitl [HO]; · iexact HO
    iexact H
  iintro ⟨HO, H⟩
  iapply (ld_wait U K 8 P (by decide) hP rfl) $$ [HO H]
  · isplitr; · iexact HC
    isplitl [HO]; · iexact HO
    iexact H
  iintro ⟨HO, H⟩
  iapply (ld_wait U K 9 P (by decide) hP rfl) $$ [HO H]
  · isplitr; · iexact HC
    isplitl [HO]; · iexact HO
    iexact H
  iintro ⟨HO, H⟩
  rw [wp_ret]; imodintro
  iapply HQ
  isplitl [HO]; · iexact HO
  iexact H

theorem part19_spec (i : grid0.Coords) {h1 : (Memref.whole main_arg0 : Memref sig .tc .hbm S1x2048x32x128 .f32).IsWhole} {aw : Memref sig .tc .vmem S4096x512 .f32} {h2 : aw.IsWhole} {ao : Memref sig .tc .vmem S1x1024x512 .f32} {h3 : ao.IsWhole}
  {h4 : (Ba : Memref sig .tc .vmem S2x256x4096 .f32).IsWhole} {h5 : (Bz : Memref sig .tc .vmem S2x256x512 .f32).IsWhole} {h6 : (Br : Memref sig .tc .vmem S4x256x512 .f32).IsWhole} {h7 : (Bm : Memref sig .tc .vmem S4x256x512 .f32).IsWhole}
  {h8 : (Bx : Memref sig .tc .vmem S4x256x512 .f32).IsWhole} {h9 : (By : Memref sig .tc .vmem S4x256x512 .f32).IsWhole} {h10 : (Bq : Memref sig .tc .vmem S4x256x512 .f32).IsWhole} (hc : k0_cond1 i = 1#1) {P : ℕ} (hP : 0 < P) {Q : PUnit → sProp (MT nD τ sig ℕ (Elt F) ℕ UU ℕ)} :
    iprop(Ctx U K ∗ ow c P ∗ ldW 0 c X 10) ⊢ iprop(((ow c P ∗ ldW 0 c X 14) -∗ Q ⟨⟩) -∗ wp frame (wpE defs 𝒱 (c : Thread nD τ) bd) Set.univ (k0_part19 i (Memref.whole main_arg0) h1 aw h2 ao h3 Ba h4 Bz h5 Br h6 Bm h7 Bx h8 By h9 Bq h10 cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 c hc) Q) := by
  rw [k0_part19_eq_skeleton]; unfold k0_part19_skel
  simp only [Prog.lift, Prog.bind_op, Prog.bind_ret, Prog.pure_eq_ret, Prog.bind_assoc]
  iintro ⟨#HC, HO, H⟩ HQ
  iapply (ld_wait U K 10 P (by decide) hP rfl) $$ [HO H]
  · isplitr; · iexact HC
    isplitl [HO]; · iexact HO
    iexact H
  iintro ⟨HO, H⟩
  iapply (ld_wait U K 11 P (by decide) hP rfl) $$ [HO H]
  · isplitr; · iexact HC
    isplitl [HO]; · iexact HO
    iexact H
  iintro ⟨HO, H⟩
  iapply (ld_wait U K 12 P (by decide) hP rfl) $$ [HO H]
  · isplitr; · iexact HC
    isplitl [HO]; · iexact HO
    iexact H
  iintro ⟨HO, H⟩
  iapply (ld_wait U K 13 P (by decide) hP rfl) $$ [HO H]
  · isplitr; · iexact HC
    isplitl [HO]; · iexact HO
    iexact H
  iintro ⟨HO, H⟩
  rw [wp_ret]; imodintro
  iapply HQ
  isplitl [HO]; · iexact HO
  iexact H

theorem part20_spec (i : grid0.Coords) {h1 : (Memref.whole main_arg0 : Memref sig .tc .hbm S1x2048x32x128 .f32).IsWhole} {aw : Memref sig .tc .vmem S4096x512 .f32} {h2 : aw.IsWhole} {ao : Memref sig .tc .vmem S1x1024x512 .f32} {h3 : ao.IsWhole}
  {h4 : (Ba : Memref sig .tc .vmem S2x256x4096 .f32).IsWhole} {h5 : (Bz : Memref sig .tc .vmem S2x256x512 .f32).IsWhole} {h6 : (Br : Memref sig .tc .vmem S4x256x512 .f32).IsWhole} {h7 : (Bm : Memref sig .tc .vmem S4x256x512 .f32).IsWhole}
  {h8 : (Bx : Memref sig .tc .vmem S4x256x512 .f32).IsWhole} {h9 : (By : Memref sig .tc .vmem S4x256x512 .f32).IsWhole} {h10 : (Bq : Memref sig .tc .vmem S4x256x512 .f32).IsWhole} (hc : k0_cond1 i = 1#1) {P : ℕ} (hP : 0 < P) {Q : PUnit → sProp (MT nD τ sig ℕ (Elt F) ℕ UU ℕ)} :
    iprop(Ctx U K ∗ ow c P ∗ ldW 0 c X 14) ⊢ iprop(((ow c P ∗ ldW 0 c X 18) -∗ Q ⟨⟩) -∗ wp frame (wpE defs 𝒱 (c : Thread nD τ) bd) Set.univ (k0_part20 i (Memref.whole main_arg0) h1 aw h2 ao h3 Ba h4 Bz h5 Br h6 Bm h7 Bx h8 By h9 Bq h10 cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 c hc) Q) := by
  rw [k0_part20_eq_skeleton]; unfold k0_part20_skel
  simp only [Prog.lift, Prog.bind_op, Prog.bind_ret, Prog.pure_eq_ret, Prog.bind_assoc]
  iintro ⟨#HC, HO, H⟩ HQ
  iapply (ld_wait U K 14 P (by decide) hP rfl) $$ [HO H]
  · isplitr; · iexact HC
    isplitl [HO]; · iexact HO
    iexact H
  iintro ⟨HO, H⟩
  iapply (ld_wait U K 15 P (by decide) hP rfl) $$ [HO H]
  · isplitr; · iexact HC
    isplitl [HO]; · iexact HO
    iexact H
  iintro ⟨HO, H⟩
  iapply (ld_wait U K 16 P (by decide) hP rfl) $$ [HO H]
  · isplitr; · iexact HC
    isplitl [HO]; · iexact HO
    iexact H
  iintro ⟨HO, H⟩
  iapply (ld_wait U K 17 P (by decide) hP rfl) $$ [HO H]
  · isplitr; · iexact HC
    isplitl [HO]; · iexact HO
    iexact H
  iintro ⟨HO, H⟩
  rw [wp_ret]; imodintro
  iapply HQ
  isplitl [HO]; · iexact HO
  iexact H

theorem part21_spec (i : grid0.Coords) {h1 : (Memref.whole main_arg0 : Memref sig .tc .hbm S1x2048x32x128 .f32).IsWhole} {aw : Memref sig .tc .vmem S4096x512 .f32} {h2 : aw.IsWhole} {ao : Memref sig .tc .vmem S1x1024x512 .f32} {h3 : ao.IsWhole}
  {h4 : (Ba : Memref sig .tc .vmem S2x256x4096 .f32).IsWhole} {h5 : (Bz : Memref sig .tc .vmem S2x256x512 .f32).IsWhole} {h6 : (Br : Memref sig .tc .vmem S4x256x512 .f32).IsWhole} {h7 : (Bm : Memref sig .tc .vmem S4x256x512 .f32).IsWhole}
  {h8 : (Bx : Memref sig .tc .vmem S4x256x512 .f32).IsWhole} {h9 : (By : Memref sig .tc .vmem S4x256x512 .f32).IsWhole} {h10 : (Bq : Memref sig .tc .vmem S4x256x512 .f32).IsWhole} (hc : k0_cond1 i = 1#1) {P : ℕ} (hP : 0 < P) {Q : PUnit → sProp (MT nD τ sig ℕ (Elt F) ℕ UU ℕ)} :
    iprop(Ctx U K ∗ ow c P ∗ ldW 0 c X 18) ⊢ iprop(((ow c P ∗ ldW 0 c X 23) -∗ Q ⟨⟩) -∗ wp frame (wpE defs 𝒱 (c : Thread nD τ) bd) Set.univ (k0_part21 i (Memref.whole main_arg0) h1 aw h2 ao h3 Ba h4 Bz h5 Br h6 Bm h7 Bx h8 By h9 Bq h10 cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 c hc) Q) := by
  rw [k0_part21_eq_skeleton]; unfold k0_part21_skel
  simp only [Prog.lift, Prog.bind_op, Prog.bind_ret, Prog.pure_eq_ret, Prog.bind_assoc]
  iintro ⟨#HC, HO, H⟩ HQ
  iapply (ld_wait U K 18 P (by decide) hP rfl) $$ [HO H]
  · isplitr; · iexact HC
    isplitl [HO]; · iexact HO
    iexact H
  iintro ⟨HO, H⟩
  iapply (ld_wait U K 19 P (by decide) hP rfl) $$ [HO H]
  · isplitr; · iexact HC
    isplitl [HO]; · iexact HO
    iexact H
  iintro ⟨HO, H⟩
  iapply (ld_wait U K 20 P (by decide) hP rfl) $$ [HO H]
  · isplitr; · iexact HC
    isplitl [HO]; · iexact HO
    iexact H
  iintro ⟨HO, H⟩
  iapply (ld_wait U K 21 P (by decide) hP rfl) $$ [HO H]
  · isplitr; · iexact HC
    isplitl [HO]; · iexact HO
    iexact H
  iintro ⟨HO, H⟩
  iapply (ld_wait U K 22 P (by decide) hP rfl) $$ [HO H]
  · isplitr; · iexact HC
    isplitl [HO]; · iexact HO
    iexact H
  iintro ⟨HO, H⟩
  rw [wp_ret]; imodintro
  iapply HQ
  isplitl [HO]; · iexact HO
  iexact H

theorem part22_spec (i : grid0.Coords) {h1 : (Memref.whole main_arg0 : Memref sig .tc .hbm S1x2048x32x128 .f32).IsWhole} {aw : Memref sig .tc .vmem S4096x512 .f32} {h2 : aw.IsWhole} {ao : Memref sig .tc .vmem S1x1024x512 .f32} {h3 : ao.IsWhole}
  {h4 : (Ba : Memref sig .tc .vmem S2x256x4096 .f32).IsWhole} {h5 : (Bz : Memref sig .tc .vmem S2x256x512 .f32).IsWhole} {h6 : (Br : Memref sig .tc .vmem S4x256x512 .f32).IsWhole} {h7 : (Bm : Memref sig .tc .vmem S4x256x512 .f32).IsWhole}
  {h8 : (Bx : Memref sig .tc .vmem S4x256x512 .f32).IsWhole} {h9 : (By : Memref sig .tc .vmem S4x256x512 .f32).IsWhole} {h10 : (Bq : Memref sig .tc .vmem S4x256x512 .f32).IsWhole} (hc : k0_cond1 i = 1#1) {P : ℕ} (hP : 0 < P) {Q : PUnit → sProp (MT nD τ sig ℕ (Elt F) ℕ UU ℕ)} :
    iprop(Ctx U K ∗ ow c P ∗ ldW 0 c X 23) ⊢ iprop(((ow c P ∗ ldW 0 c X 27) -∗ Q ⟨⟩) -∗ wp frame (wpE defs 𝒱 (c : Thread nD τ) bd) Set.univ (k0_part22 i (Memref.whole main_arg0) h1 aw h2 ao h3 Ba h4 Bz h5 Br h6 Bm h7 Bx h8 By h9 Bq h10 cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 c hc) Q) := by
  rw [k0_part22_eq_skeleton]; unfold k0_part22_skel
  simp only [Prog.lift, Prog.bind_op, Prog.bind_ret, Prog.pure_eq_ret, Prog.bind_assoc]
  iintro ⟨#HC, HO, H⟩ HQ
  iapply (ld_wait U K 23 P (by decide) hP rfl) $$ [HO H]
  · isplitr; · iexact HC
    isplitl [HO]; · iexact HO
    iexact H
  iintro ⟨HO, H⟩
  iapply (ld_wait U K 24 P (by decide) hP rfl) $$ [HO H]
  · isplitr; · iexact HC
    isplitl [HO]; · iexact HO
    iexact H
  iintro ⟨HO, H⟩
  iapply (ld_wait U K 25 P (by decide) hP rfl) $$ [HO H]
  · isplitr; · iexact HC
    isplitl [HO]; · iexact HO
    iexact H
  iintro ⟨HO, H⟩
  iapply (ld_wait U K 26 P (by decide) hP rfl) $$ [HO H]
  · isplitr; · iexact HC
    isplitl [HO]; · iexact HO
    iexact H
  iintro ⟨HO, H⟩
  rw [wp_ret]; imodintro
  iapply HQ
  isplitl [HO]; · iexact HO
  iexact H

theorem part23_spec (i : grid0.Coords) {h1 : (Memref.whole main_arg0 : Memref sig .tc .hbm S1x2048x32x128 .f32).IsWhole} {aw : Memref sig .tc .vmem S4096x512 .f32} {h2 : aw.IsWhole} {ao : Memref sig .tc .vmem S1x1024x512 .f32} {h3 : ao.IsWhole}
  {h4 : (Ba : Memref sig .tc .vmem S2x256x4096 .f32).IsWhole} {h5 : (Bz : Memref sig .tc .vmem S2x256x512 .f32).IsWhole} {h6 : (Br : Memref sig .tc .vmem S4x256x512 .f32).IsWhole} {h7 : (Bm : Memref sig .tc .vmem S4x256x512 .f32).IsWhole}
  {h8 : (Bx : Memref sig .tc .vmem S4x256x512 .f32).IsWhole} {h9 : (By : Memref sig .tc .vmem S4x256x512 .f32).IsWhole} {h10 : (Bq : Memref sig .tc .vmem S4x256x512 .f32).IsWhole} (hc : k0_cond1 i = 1#1) {P : ℕ} (hP : 0 < P) {Q : PUnit → sProp (MT nD τ sig ℕ (Elt F) ℕ UU ℕ)} :
    iprop(Ctx U K ∗ ow c P ∗ ldW 0 c X 27) ⊢ iprop(((ow c P ∗ ldW 0 c X 31) -∗ Q ⟨⟩) -∗ wp frame (wpE defs 𝒱 (c : Thread nD τ) bd) Set.univ (k0_part23 i (Memref.whole main_arg0) h1 aw h2 ao h3 Ba h4 Bz h5 Br h6 Bm h7 Bx h8 By h9 Bq h10 cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 c hc) Q) := by
  rw [k0_part23_eq_skeleton]; unfold k0_part23_skel
  simp only [Prog.lift, Prog.bind_op, Prog.bind_ret, Prog.pure_eq_ret, Prog.bind_assoc]
  iintro ⟨#HC, HO, H⟩ HQ
  iapply (ld_wait U K 27 P (by decide) hP rfl) $$ [HO H]
  · isplitr; · iexact HC
    isplitl [HO]; · iexact HO
    iexact H
  iintro ⟨HO, H⟩
  iapply (ld_wait U K 28 P (by decide) hP rfl) $$ [HO H]
  · isplitr; · iexact HC
    isplitl [HO]; · iexact HO
    iexact H
  iintro ⟨HO, H⟩
  iapply (ld_wait U K 29 P (by decide) hP rfl) $$ [HO H]
  · isplitr; · iexact HC
    isplitl [HO]; · iexact HO
    iexact H
  iintro ⟨HO, H⟩
  iapply (ld_wait U K 30 P (by decide) hP rfl) $$ [HO H]
  · isplitr; · iexact HC
    isplitl [HO]; · iexact HO
    iexact H
  iintro ⟨HO, H⟩
  rw [wp_ret]; imodintro
  iapply HQ
  isplitl [HO]; · iexact HO
  iexact H

theorem part24_spec (i : grid0.Coords) {h1 : (Memref.whole main_arg0 : Memref sig .tc .hbm S1x2048x32x128 .f32).IsWhole} {aw : Memref sig .tc .vmem S4096x512 .f32} {h2 : aw.IsWhole} {ao : Memref sig .tc .vmem S1x1024x512 .f32} {h3 : ao.IsWhole}
  {h4 : (Ba : Memref sig .tc .vmem S2x256x4096 .f32).IsWhole} {h5 : (Bz : Memref sig .tc .vmem S2x256x512 .f32).IsWhole} {h6 : (Br : Memref sig .tc .vmem S4x256x512 .f32).IsWhole} {h7 : (Bm : Memref sig .tc .vmem S4x256x512 .f32).IsWhole}
  {h8 : (Bx : Memref sig .tc .vmem S4x256x512 .f32).IsWhole} {h9 : (By : Memref sig .tc .vmem S4x256x512 .f32).IsWhole} {h10 : (Bq : Memref sig .tc .vmem S4x256x512 .f32).IsWhole} (hc : k0_cond2 i = 1#1) (hd : k0_cond5 i = 1#1) {P : ℕ} (hP : 0 < P) {Q : PUnit → sProp (MT nD τ sig ℕ (Elt F) ℕ UU ℕ)} :
    iprop(Ctx U K ∗ ow c P ∗ ldW 1 c X 0) ⊢ iprop(((ow c P ∗ ldW 1 c X 4) -∗ Q ⟨⟩) -∗ wp frame (wpE defs 𝒱 (c : Thread nD τ) bd) Set.univ (k0_part24 i (Memref.whole main_arg0) h1 aw h2 ao h3 Ba h4 Bz h5 Br h6 Bm h7 Bx h8 By h9 Bq h10 cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 c hc hd) Q) := by
  rw [k0_part24_eq_skeleton]; unfold k0_part24_skel
  simp only [Prog.lift, Prog.bind_op, Prog.bind_ret, Prog.pure_eq_ret, Prog.bind_assoc]
  iintro ⟨#HC, HO, H⟩ HQ
  iapply (ld_wait U K 0 P (by decide) hP rfl) $$ [HO H]
  · isplitr; · iexact HC
    isplitl [HO]; · iexact HO
    iexact H
  iintro ⟨HO, H⟩
  iapply (ld_wait U K 1 P (by decide) hP rfl) $$ [HO H]
  · isplitr; · iexact HC
    isplitl [HO]; · iexact HO
    iexact H
  iintro ⟨HO, H⟩
  iapply (ld_wait U K 2 P (by decide) hP rfl) $$ [HO H]
  · isplitr; · iexact HC
    isplitl [HO]; · iexact HO
    iexact H
  iintro ⟨HO, H⟩
  iapply (ld_wait U K 3 P (by decide) hP rfl) $$ [HO H]
  · isplitr; · iexact HC
    isplitl [HO]; · iexact HO
    iexact H
  iintro ⟨HO, H⟩
  rw [wp_ret]; imodintro
  iapply HQ
  isplitl [HO]; · iexact HO
  iexact H

theorem part25_spec (i : grid0.Coords) {h1 : (Memref.whole main_arg0 : Memref sig .tc .hbm S1x2048x32x128 .f32).IsWhole} {aw : Memref sig .tc .vmem S4096x512 .f32} {h2 : aw.IsWhole} {ao : Memref sig .tc .vmem S1x1024x512 .f32} {h3 : ao.IsWhole}
  {h4 : (Ba : Memref sig .tc .vmem S2x256x4096 .f32).IsWhole} {h5 : (Bz : Memref sig .tc .vmem S2x256x512 .f32).IsWhole} {h6 : (Br : Memref sig .tc .vmem S4x256x512 .f32).IsWhole} {h7 : (Bm : Memref sig .tc .vmem S4x256x512 .f32).IsWhole}
  {h8 : (Bx : Memref sig .tc .vmem S4x256x512 .f32).IsWhole} {h9 : (By : Memref sig .tc .vmem S4x256x512 .f32).IsWhole} {h10 : (Bq : Memref sig .tc .vmem S4x256x512 .f32).IsWhole} (hc : k0_cond2 i = 1#1) (hd : k0_cond5 i = 1#1) {P : ℕ} (hP : 0 < P) {Q : PUnit → sProp (MT nD τ sig ℕ (Elt F) ℕ UU ℕ)} :
    iprop(Ctx U K ∗ ow c P ∗ ldW 1 c X 4) ⊢ iprop(((ow c P ∗ ldW 1 c X 8) -∗ Q ⟨⟩) -∗ wp frame (wpE defs 𝒱 (c : Thread nD τ) bd) Set.univ (k0_part25 i (Memref.whole main_arg0) h1 aw h2 ao h3 Ba h4 Bz h5 Br h6 Bm h7 Bx h8 By h9 Bq h10 cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 c hc hd) Q) := by
  rw [k0_part25_eq_skeleton]; unfold k0_part25_skel
  simp only [Prog.lift, Prog.bind_op, Prog.bind_ret, Prog.pure_eq_ret, Prog.bind_assoc]
  iintro ⟨#HC, HO, H⟩ HQ
  iapply (ld_wait U K 4 P (by decide) hP rfl) $$ [HO H]
  · isplitr; · iexact HC
    isplitl [HO]; · iexact HO
    iexact H
  iintro ⟨HO, H⟩
  iapply (ld_wait U K 5 P (by decide) hP rfl) $$ [HO H]
  · isplitr; · iexact HC
    isplitl [HO]; · iexact HO
    iexact H
  iintro ⟨HO, H⟩
  iapply (ld_wait U K 6 P (by decide) hP rfl) $$ [HO H]
  · isplitr; · iexact HC
    isplitl [HO]; · iexact HO
    iexact H
  iintro ⟨HO, H⟩
  iapply (ld_wait U K 7 P (by decide) hP rfl) $$ [HO H]
  · isplitr; · iexact HC
    isplitl [HO]; · iexact HO
    iexact H
  iintro ⟨HO, H⟩
  rw [wp_ret]; imodintro
  iapply HQ
  isplitl [HO]; · iexact HO
  iexact H

theorem part26_spec (i : grid0.Coords) {h1 : (Memref.whole main_arg0 : Memref sig .tc .hbm S1x2048x32x128 .f32).IsWhole} {aw : Memref sig .tc .vmem S4096x512 .f32} {h2 : aw.IsWhole} {ao : Memref sig .tc .vmem S1x1024x512 .f32} {h3 : ao.IsWhole}
  {h4 : (Ba : Memref sig .tc .vmem S2x256x4096 .f32).IsWhole} {h5 : (Bz : Memref sig .tc .vmem S2x256x512 .f32).IsWhole} {h6 : (Br : Memref sig .tc .vmem S4x256x512 .f32).IsWhole} {h7 : (Bm : Memref sig .tc .vmem S4x256x512 .f32).IsWhole}
  {h8 : (Bx : Memref sig .tc .vmem S4x256x512 .f32).IsWhole} {h9 : (By : Memref sig .tc .vmem S4x256x512 .f32).IsWhole} {h10 : (Bq : Memref sig .tc .vmem S4x256x512 .f32).IsWhole} (hc : k0_cond2 i = 1#1) (hd : k0_cond5 i = 1#1) {P : ℕ} (hP : 0 < P) {Q : PUnit → sProp (MT nD τ sig ℕ (Elt F) ℕ UU ℕ)} :
    iprop(Ctx U K ∗ ow c P ∗ ldW 1 c X 8) ⊢ iprop(((ow c P ∗ ldW 1 c X 12) -∗ Q ⟨⟩) -∗ wp frame (wpE defs 𝒱 (c : Thread nD τ) bd) Set.univ (k0_part26 i (Memref.whole main_arg0) h1 aw h2 ao h3 Ba h4 Bz h5 Br h6 Bm h7 Bx h8 By h9 Bq h10 cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 c hc hd) Q) := by
  rw [k0_part26_eq_skeleton]; unfold k0_part26_skel
  simp only [Prog.lift, Prog.bind_op, Prog.bind_ret, Prog.pure_eq_ret, Prog.bind_assoc]
  iintro ⟨#HC, HO, H⟩ HQ
  iapply (ld_wait U K 8 P (by decide) hP rfl) $$ [HO H]
  · isplitr; · iexact HC
    isplitl [HO]; · iexact HO
    iexact H
  iintro ⟨HO, H⟩
  iapply (ld_wait U K 9 P (by decide) hP rfl) $$ [HO H]
  · isplitr; · iexact HC
    isplitl [HO]; · iexact HO
    iexact H
  iintro ⟨HO, H⟩
  iapply (ld_wait U K 10 P (by decide) hP rfl) $$ [HO H]
  · isplitr; · iexact HC
    isplitl [HO]; · iexact HO
    iexact H
  iintro ⟨HO, H⟩
  iapply (ld_wait U K 11 P (by decide) hP rfl) $$ [HO H]
  · isplitr; · iexact HC
    isplitl [HO]; · iexact HO
    iexact H
  iintro ⟨HO, H⟩
  rw [wp_ret]; imodintro
  iapply HQ
  isplitl [HO]; · iexact HO
  iexact H

theorem part27_spec (i : grid0.Coords) {h1 : (Memref.whole main_arg0 : Memref sig .tc .hbm S1x2048x32x128 .f32).IsWhole} {aw : Memref sig .tc .vmem S4096x512 .f32} {h2 : aw.IsWhole} {ao : Memref sig .tc .vmem S1x1024x512 .f32} {h3 : ao.IsWhole}
  {h4 : (Ba : Memref sig .tc .vmem S2x256x4096 .f32).IsWhole} {h5 : (Bz : Memref sig .tc .vmem S2x256x512 .f32).IsWhole} {h6 : (Br : Memref sig .tc .vmem S4x256x512 .f32).IsWhole} {h7 : (Bm : Memref sig .tc .vmem S4x256x512 .f32).IsWhole}
  {h8 : (Bx : Memref sig .tc .vmem S4x256x512 .f32).IsWhole} {h9 : (By : Memref sig .tc .vmem S4x256x512 .f32).IsWhole} {h10 : (Bq : Memref sig .tc .vmem S4x256x512 .f32).IsWhole} (hc : k0_cond2 i = 1#1) (hd : k0_cond5 i = 1#1) {P : ℕ} (hP : 0 < P) {Q : PUnit → sProp (MT nD τ sig ℕ (Elt F) ℕ UU ℕ)} :
    iprop(Ctx U K ∗ ow c P ∗ ldW 1 c X 12) ⊢ iprop(((ow c P ∗ ldW 1 c X 17) -∗ Q ⟨⟩) -∗ wp frame (wpE defs 𝒱 (c : Thread nD τ) bd) Set.univ (k0_part27 i (Memref.whole main_arg0) h1 aw h2 ao h3 Ba h4 Bz h5 Br h6 Bm h7 Bx h8 By h9 Bq h10 cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 c hc hd) Q) := by
  rw [k0_part27_eq_skeleton]; unfold k0_part27_skel
  simp only [Prog.lift, Prog.bind_op, Prog.bind_ret, Prog.pure_eq_ret, Prog.bind_assoc]
  iintro ⟨#HC, HO, H⟩ HQ
  iapply (ld_wait U K 12 P (by decide) hP rfl) $$ [HO H]
  · isplitr; · iexact HC
    isplitl [HO]; · iexact HO
    iexact H
  iintro ⟨HO, H⟩
  iapply (ld_wait U K 13 P (by decide) hP rfl) $$ [HO H]
  · isplitr; · iexact HC
    isplitl [HO]; · iexact HO
    iexact H
  iintro ⟨HO, H⟩
  iapply (ld_wait U K 14 P (by decide) hP rfl) $$ [HO H]
  · isplitr; · iexact HC
    isplitl [HO]; · iexact HO
    iexact H
  iintro ⟨HO, H⟩
  iapply (ld_wait U K 15 P (by decide) hP rfl) $$ [HO H]
  · isplitr; · iexact HC
    isplitl [HO]; · iexact HO
    iexact H
  iintro ⟨HO, H⟩
  iapply (ld_wait U K 16 P (by decide) hP rfl) $$ [HO H]
  · isplitr; · iexact HC
    isplitl [HO]; · iexact HO
    iexact H
  iintro ⟨HO, H⟩
  rw [wp_ret]; imodintro
  iapply HQ
  isplitl [HO]; · iexact HO
  iexact H

theorem part28_spec (i : grid0.Coords) {h1 : (Memref.whole main_arg0 : Memref sig .tc .hbm S1x2048x32x128 .f32).IsWhole} {aw : Memref sig .tc .vmem S4096x512 .f32} {h2 : aw.IsWhole} {ao : Memref sig .tc .vmem S1x1024x512 .f32} {h3 : ao.IsWhole}
  {h4 : (Ba : Memref sig .tc .vmem S2x256x4096 .f32).IsWhole} {h5 : (Bz : Memref sig .tc .vmem S2x256x512 .f32).IsWhole} {h6 : (Br : Memref sig .tc .vmem S4x256x512 .f32).IsWhole} {h7 : (Bm : Memref sig .tc .vmem S4x256x512 .f32).IsWhole}
  {h8 : (Bx : Memref sig .tc .vmem S4x256x512 .f32).IsWhole} {h9 : (By : Memref sig .tc .vmem S4x256x512 .f32).IsWhole} {h10 : (Bq : Memref sig .tc .vmem S4x256x512 .f32).IsWhole} (hc : k0_cond2 i = 1#1) (hd : k0_cond5 i = 1#1) {P : ℕ} (hP : 0 < P) {Q : PUnit → sProp (MT nD τ sig ℕ (Elt F) ℕ UU ℕ)} :
    iprop(Ctx U K ∗ ow c P ∗ ldW 1 c X 17) ⊢ iprop(((ow c P ∗ ldW 1 c X 21) -∗ Q ⟨⟩) -∗ wp frame (wpE defs 𝒱 (c : Thread nD τ) bd) Set.univ (k0_part28 i (Memref.whole main_arg0) h1 aw h2 ao h3 Ba h4 Bz h5 Br h6 Bm h7 Bx h8 By h9 Bq h10 cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 c hc hd) Q) := by
  rw [k0_part28_eq_skeleton]; unfold k0_part28_skel
  simp only [Prog.lift, Prog.bind_op, Prog.bind_ret, Prog.pure_eq_ret, Prog.bind_assoc]
  iintro ⟨#HC, HO, H⟩ HQ
  iapply (ld_wait U K 17 P (by decide) hP rfl) $$ [HO H]
  · isplitr; · iexact HC
    isplitl [HO]; · iexact HO
    iexact H
  iintro ⟨HO, H⟩
  iapply (ld_wait U K 18 P (by decide) hP rfl) $$ [HO H]
  · isplitr; · iexact HC
    isplitl [HO]; · iexact HO
    iexact H
  iintro ⟨HO, H⟩
  iapply (ld_wait U K 19 P (by decide) hP rfl) $$ [HO H]
  · isplitr; · iexact HC
    isplitl [HO]; · iexact HO
    iexact H
  iintro ⟨HO, H⟩
  iapply (ld_wait U K 20 P (by decide) hP rfl) $$ [HO H]
  · isplitr; · iexact HC
    isplitl [HO]; · iexact HO
    iexact H
  iintro ⟨HO, H⟩
  rw [wp_ret]; imodintro
  iapply HQ
  isplitl [HO]; · iexact HO
  iexact H

theorem part29_spec (i : grid0.Coords) {h1 : (Memref.whole main_arg0 : Memref sig .tc .hbm S1x2048x32x128 .f32).IsWhole} {aw : Memref sig .tc .vmem S4096x512 .f32} {h2 : aw.IsWhole} {ao : Memref sig .tc .vmem S1x1024x512 .f32} {h3 : ao.IsWhole}
  {h4 : (Ba : Memref sig .tc .vmem S2x256x4096 .f32).IsWhole} {h5 : (Bz : Memref sig .tc .vmem S2x256x512 .f32).IsWhole} {h6 : (Br : Memref sig .tc .vmem S4x256x512 .f32).IsWhole} {h7 : (Bm : Memref sig .tc .vmem S4x256x512 .f32).IsWhole}
  {h8 : (Bx : Memref sig .tc .vmem S4x256x512 .f32).IsWhole} {h9 : (By : Memref sig .tc .vmem S4x256x512 .f32).IsWhole} {h10 : (Bq : Memref sig .tc .vmem S4x256x512 .f32).IsWhole} (hc : k0_cond2 i = 1#1) (hd : k0_cond5 i = 1#1) {P : ℕ} (hP : 0 < P) {Q : PUnit → sProp (MT nD τ sig ℕ (Elt F) ℕ UU ℕ)} :
    iprop(Ctx U K ∗ ow c P ∗ ldW 1 c X 21) ⊢ iprop(((ow c P ∗ ldW 1 c X 25) -∗ Q ⟨⟩) -∗ wp frame (wpE defs 𝒱 (c : Thread nD τ) bd) Set.univ (k0_part29 i (Memref.whole main_arg0) h1 aw h2 ao h3 Ba h4 Bz h5 Br h6 Bm h7 Bx h8 By h9 Bq h10 cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 c hc hd) Q) := by
  rw [k0_part29_eq_skeleton]; unfold k0_part29_skel
  simp only [Prog.lift, Prog.bind_op, Prog.bind_ret, Prog.pure_eq_ret, Prog.bind_assoc]
  iintro ⟨#HC, HO, H⟩ HQ
  iapply (ld_wait U K 21 P (by decide) hP rfl) $$ [HO H]
  · isplitr; · iexact HC
    isplitl [HO]; · iexact HO
    iexact H
  iintro ⟨HO, H⟩
  iapply (ld_wait U K 22 P (by decide) hP rfl) $$ [HO H]
  · isplitr; · iexact HC
    isplitl [HO]; · iexact HO
    iexact H
  iintro ⟨HO, H⟩
  iapply (ld_wait U K 23 P (by decide) hP rfl) $$ [HO H]
  · isplitr; · iexact HC
    isplitl [HO]; · iexact HO
    iexact H
  iintro ⟨HO, H⟩
  iapply (ld_wait U K 24 P (by decide) hP rfl) $$ [HO H]
  · isplitr; · iexact HC
    isplitl [HO]; · iexact HO
    iexact H
  iintro ⟨HO, H⟩
  rw [wp_ret]; imodintro
  iapply HQ
  isplitl [HO]; · iexact HO
  iexact H

theorem part30_spec (i : grid0.Coords) {h1 : (Memref.whole main_arg0 : Memref sig .tc .hbm S1x2048x32x128 .f32).IsWhole} {aw : Memref sig .tc .vmem S4096x512 .f32} {h2 : aw.IsWhole} {ao : Memref sig .tc .vmem S1x1024x512 .f32} {h3 : ao.IsWhole}
  {h4 : (Ba : Memref sig .tc .vmem S2x256x4096 .f32).IsWhole} {h5 : (Bz : Memref sig .tc .vmem S2x256x512 .f32).IsWhole} {h6 : (Br : Memref sig .tc .vmem S4x256x512 .f32).IsWhole} {h7 : (Bm : Memref sig .tc .vmem S4x256x512 .f32).IsWhole}
  {h8 : (Bx : Memref sig .tc .vmem S4x256x512 .f32).IsWhole} {h9 : (By : Memref sig .tc .vmem S4x256x512 .f32).IsWhole} {h10 : (Bq : Memref sig .tc .vmem S4x256x512 .f32).IsWhole} (hc : k0_cond2 i = 1#1) (hd : k0_cond5 i = 1#1) {P : ℕ} (hP : 0 < P) {Q : PUnit → sProp (MT nD τ sig ℕ (Elt F) ℕ UU ℕ)} :
    iprop(Ctx U K ∗ ow c P ∗ ldW 1 c X 25) ⊢ iprop(((ow c P ∗ ldW 1 c X 30) -∗ Q ⟨⟩) -∗ wp frame (wpE defs 𝒱 (c : Thread nD τ) bd) Set.univ (k0_part30 i (Memref.whole main_arg0) h1 aw h2 ao h3 Ba h4 Bz h5 Br h6 Bm h7 Bx h8 By h9 Bq h10 cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 c hc hd) Q) := by
  rw [k0_part30_eq_skeleton]; unfold k0_part30_skel
  simp only [Prog.lift, Prog.bind_op, Prog.bind_ret, Prog.pure_eq_ret, Prog.bind_assoc]
  iintro ⟨#HC, HO, H⟩ HQ
  iapply (ld_wait U K 25 P (by decide) hP rfl) $$ [HO H]
  · isplitr; · iexact HC
    isplitl [HO]; · iexact HO
    iexact H
  iintro ⟨HO, H⟩
  iapply (ld_wait U K 26 P (by decide) hP rfl) $$ [HO H]
  · isplitr; · iexact HC
    isplitl [HO]; · iexact HO
    iexact H
  iintro ⟨HO, H⟩
  iapply (ld_wait U K 27 P (by decide) hP rfl) $$ [HO H]
  · isplitr; · iexact HC
    isplitl [HO]; · iexact HO
    iexact H
  iintro ⟨HO, H⟩
  iapply (ld_wait U K 28 P (by decide) hP rfl) $$ [HO H]
  · isplitr; · iexact HC
    isplitl [HO]; · iexact HO
    iexact H
  iintro ⟨HO, H⟩
  iapply (ld_wait U K 29 P (by decide) hP rfl) $$ [HO H]
  · isplitr; · iexact HC
    isplitl [HO]; · iexact HO
    iexact H
  iintro ⟨HO, H⟩
  rw [wp_ret]; imodintro
  iapply HQ
  isplitl [HO]; · iexact HO
  iexact H
end
end Cert.KProof
end
-- ==== Proof.Bar.lean ====
/-
  The barrier at the first step: each device hands each neighbour its own landing slots of the channels from it, and has its
  neighbours' slots in exchange.
-/
module

public import proofs.«01_k».proof.Proof.Loads

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

section
variable (U : Vals F) (K : Dev nD × CI → ℕ)

theorem bigSep_f3 (Φ : Fin 3 → sProp (MT nD τ sig ℕ (Elt F) ℕ UU ℕ)) : bigSep Finset.univ Φ = iprop(Φ 0 ∗ Φ 1 ∗ Φ 2) := bigSep_univ_eq_bigSepL [0, 1, 2] (by decide) (by decide) Φ

/-- What a device holds for the barrier: the tokens it pays with, the credit and position of its own cell. -/
def barT (c : Dev nD) : sProp 𝕄 := iprop(bigSep Finset.univ (fun j : Fin 3 => dutyTok ER (barCell (bpr j c)) 0 j) ∗ cred (tallyAt (barCell c) 0 3) ∗ atPos ER (barCell c) 0 ∅ 0)

section Ops
variable {α : Type} {Q : α → sProp (MT nD τ sig ℕ (Elt F) ℕ UU ℕ)} {defs : Defs nD τ sig (Elt F) Λ₀} {𝒱 : Variants} {c : Dev nD} {bd : Option 𝒱.V}

theorem bar_give (j : Fin 3) (P : ℕ) (hP : j.val + 1 = P) {sem : Sem sig} (hs : sem = barQ) {n : Dev nD} (hn : n = bpr j c)
    {k : PUnit → Prog (TpuEff nD τ sig (Elt F) Λ₀ .tc) α} {u : Int} (hu : u = ((1 : ℕ) : Int)) :
    iprop(Ctx U K ∗ ow c P ∗ dutyTok ER (barCell (bpr j c)) 0 j ∗ barPay j (bpr j c))
      ⊢ iprop((ow c (P + 1) -∗ wp frame (wpE defs 𝒱 (c : Thread nD τ) bd) Set.univ (k ⟨⟩) Q)
          -∗ wp frame (wpE defs 𝒱 (c : Thread nD τ) bd) Set.univ (.op (.semSignal (Dev.tc n : Thread nD τ) sem u) k) Q) := by
  subst hs; subst hn; subst hu
  unfold ow Ctx
  iintro ⟨⟨#HRecs, #HL⟩, ⟨%W, HO⟩, Ht, Hpay⟩ Hk
  ihave #HI := (Recs_bar U K (bpr j c)) $$ HRecs
  icases HI with ⟨#HI, #Hg⟩
  iapply (Rounds.wp_signal 𝒱 ER (sched U) (c : Thread nD τ) bd (dst := (bpr j c : Thread nD τ)) (κ := K (bpr j c, ciBar)) (d := j) (r := 0)
      (by rw [duties_bar U (bpr j c)]; exact Finset.mem_univ _) (amount_bar U (bpr j c) 0 j) 0 (O c (P + 1)) (O_bar c j P hP) (W := W)) $$ [HO Ht Hpay]
  · isplitr; · iexact HI
    isplitl [HO]; · iexact HO
    isplitl [Ht]; · iexact Ht
    isplitl [Hpay]
    · rw [payload_bar]; iexact Hpay
    · iexact Hg
  iintro HO
  iapply Hk
  iexists _; iexact HO

theorem bar_wait (P : ℕ) (hP : 3 < P) {sem : Sem sig} (hs : sem = barQ)
    {k : PUnit → Prog (TpuEff nD τ sig (Elt F) Λ₀ .tc) α} {n : Int} (hn : n = ((3 : ℕ) : Int)) :
    iprop(Ctx U K ∗ ow c P ∗ cred (tallyAt (barCell c) 0 3) ∗ atPos ER (barCell c) 0 ∅ 0)
      ⊢ iprop(((ow c P ∗ atPos ER (barCell c) 1 ∅ 0 ∗ barPay 0 c ∗ barPay 1 c ∗ barPay 2 c) -∗ wp frame (wpE defs 𝒱 (c : Thread nD τ) bd) Set.univ (k ⟨⟩) Q)
          -∗ wp frame (wpE defs 𝒱 (c : Thread nD τ) bd) Set.univ (.op (.semWait sem n) k) Q) := by
  subst hs; subst hn
  unfold Ctx ow
  iintro ⟨⟨#HR, #HL⟩, ⟨%W, HO⟩, Hc, Hat⟩ Hk
  ihave #HI := (Recs_bar U K c) $$ HR
  icases HI with ⟨#HI, -⟩
  iapply (Rounds.wp_wait_rest_token 𝒱 ER (sched U) (c : Thread nD τ) bd (sm := .reg barQ) (κ := K (c, ciBar)) (wpE_semWait_eq 𝒱 (c : Thread nD τ) bd Set.univ) (Set.mem_univ _) 0 (O := O c P) (W := W) (R := 0) (m := 0) (T := ∅)
      (by rw [Nat.zero_add]; exact expect_bar U c)) $$ [Hc HO Hat]
  · isplitr; · iexact HI
    isplitl [Hc]; · iexact Hc
    isplitl [HO]; · iexact HO
    isplitr [Hat]
    · iapply (mayWait c (.reg barQ) 0 P (by decide) (show lv (barCell c) 0 < P by rw [lv_bar]; exact hP)); iexact HL
    iexact Hat
  iintro ⟨HO, Hat, -, Hpay⟩
  iapply Hk
  isplitl [HO]; · iexists _; iexact HO
  isplitl [Hat]; · iexact Hat
  ihave Hpay := (Entails.of_eq (show bigSep ((sched U).duties (barCell c) 0 \ ∅) (fun d => (sched U).payload (barCell c) 0 d) = iprop(barPay 0 c ∗ barPay 1 c ∗ barPay 2 c) by
    rw [duties_bar U c, Finset.sdiff_empty, BI.bigSep_congr (fun d _ => payload_bar U c d)]
    exact bigSep_f3 _)) $$ Hpay
  iexact Hpay

/-- A channel once the peer's landing slots are at hand. -/
theorem chan_start (ch : Fin 5) : iprop(Ctx U K ∗ Core ch c 0 0 0 0 0 ∗ rooms ch (pr ch c)) ⊢ Chan ch c 0 0 0 0 0 := by
  unfold Ctx Chan
  iintro ⟨⟨#HR, -⟩, HC, Hr⟩
  isplitl [HC]; · iexact HC
  have h : iprop(Recs U K ∗ rooms ch (pr ch c)) ⊢ win 0 (0 + 4) (roomP ch c) := by
    unfold rooms win
    refine bigSep_with_persistent fun b hb => ?_
    rw [roomP_def]
    have hb : b / 4 = 0 := by have := (Finset.mem_Ico.mp hb).2; omega
    rw [hb]
    iintro ⟨HR, H⟩
    isplitl [H]; · iexact H
    ihave H := (Recs_recv U K (pr ch c) ch b) $$ HR
    icases H with ⟨-, H⟩
    iexact H
  iapply h
  isplitr [Hr]; · iexact HR
  iexact Hr

end Ops

variable {defs : Defs nD τ sig (Elt F) Λ₀} {𝒱 : Variants} {c : Dev nD} {bd : Option 𝒱.V} (X : S1x2048x32x128.Idx → Elt F .f32)

theorem part16_spec (i : grid0.Coords) {h1 : (Memref.whole main_arg0 : Memref sig .tc .hbm S1x2048x32x128 .f32).IsWhole} {aw : Memref sig .tc .vmem S4096x512 .f32} {h2 : aw.IsWhole} {ao : Memref sig .tc .vmem S1x1024x512 .f32} {h3 : ao.IsWhole}
  {h4 : (Ba : Memref sig .tc .vmem S2x256x4096 .f32).IsWhole} {h5 : (Bz : Memref sig .tc .vmem S2x256x512 .f32).IsWhole} {h6 : (Br : Memref sig .tc .vmem S4x256x512 .f32).IsWhole} {h7 : (Bm : Memref sig .tc .vmem S4x256x512 .f32).IsWhole}
  {h8 : (Bx : Memref sig .tc .vmem S4x256x512 .f32).IsWhole} {h9 : (By : Memref sig .tc .vmem S4x256x512 .f32).IsWhole} {h10 : (Bq : Memref sig .tc .vmem S4x256x512 .f32).IsWhole} {v2 v5 v8 v9 v10 v11 v438 : BitVec 32} (hc : k0_cond1 i = 1#1) {Q : PUnit → sProp (MT nD τ sig ℕ (Elt F) ℕ UU ℕ)} :
    iprop(Ctx U K ∗ ow c 1 ∗ ldW 0 c X 0 ∗ barT c ∗ rooms 0 c ∗ (rooms 1 c ∗ rooms 4 c) ∗ (rooms 2 c ∗ rooms 3 c))
      ⊢ iprop(((ow c 4 ∗ ldW 0 c X 1 ∗ atPos ER (barCell c) 1 ∅ 0 ∗ barPay 0 c ∗ barPay 1 c ∗ barPay 2 c) -∗ Q ⟨⟩)
        -∗ wp frame (wpE defs 𝒱 (c : Thread nD τ) bd) Set.univ (k0_part16 i (Memref.whole main_arg0) h1 aw h2 ao h3 Ba h4 Bz h5 Br h6 Bm h7 Bx h8 By h9 Bq h10 cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 c v2 v5 v8 v9 v10 v11 hc (SemArray.scalar (sig.barrier 0 rfl)) v438) Q) := by
  rw [k0_part16_eq_skeleton]; unfold k0_part16_skel
  simp only [semSignalWord, semWaitWord, Prog.lift, Prog.bind_op, Prog.bind_ret, Prog.pure_eq_ret, Prog.bind_assoc]
  unfold barT
  rw [show (bigSep Finset.univ (fun j : Fin 3 => dutyTok ER (barCell (bpr j c)) 0 j) : sProp 𝕄) = iprop(dutyTok ER (barCell (bpr 0 c)) 0 (0 : Fin 3) ∗ dutyTok ER (barCell (bpr 1 c)) 0 (1 : Fin 3) ∗ dutyTok ER (barCell (bpr 2 c)) 0 (2 : Fin 3)) from bigSep_f3 _]
  iintro ⟨#HC, HO, HL, ⟨⟨Ht0, Ht1, Ht2⟩, Hcr, Hat⟩, Hr0, Hr1, Hr2⟩ HQ
  iapply (bar_give U K 0 1 rfl rfl (dev1 c _) rfl) $$ [HO Ht0 Hr0]
  · isplitr; · iexact HC
    isplitl [HO]; · iexact HO
    isplitl [Ht0]; · iexact Ht0
    iapply (Entails.of_eq (show (rooms 0 c : sProp 𝕄) = barPay 0 (bpr 0 c) from congrArg (rooms 0) (bpr_bpr 0 c).symm)); iexact Hr0
  iintro HO
  iapply (bar_give U K 1 2 rfl rfl (dev2 c _) rfl) $$ [HO Ht1 Hr1]
  · isplitr; · iexact HC
    isplitl [HO]; · iexact HO
    isplitl [Ht1]; · iexact Ht1
    iapply (Entails.of_eq (show (iprop(rooms 1 c ∗ rooms 4 c) : sProp 𝕄) = barPay 1 (bpr 1 c) from congrArg (fun d => iprop(rooms 1 d ∗ rooms 4 d)) (bpr_bpr 1 c).symm)); iexact Hr1
  iintro HO
  iapply (bar_give U K 2 3 rfl rfl (dev3 c _) rfl) $$ [HO Ht2 Hr2]
  · isplitr; · iexact HC
    isplitl [HO]; · iexact HO
    isplitl [Ht2]; · iexact Ht2
    iapply (Entails.of_eq (show (iprop(rooms 2 c ∗ rooms 3 c) : sProp 𝕄) = barPay 2 (bpr 2 c) from congrArg (fun d => iprop(rooms 2 d ∗ rooms 3 d)) (bpr_bpr 2 c).symm)); iexact Hr2
  iintro HO
  iapply (bar_wait U K 4 (by decide) rfl rfl) $$ [HO Hcr Hat]
  · isplitr; · iexact HC
    isplitl [HO]; · iexact HO
    isplitl [Hcr]; · iexact Hcr
    iexact Hat
  iintro ⟨HO, Hat, Hp⟩
  iapply (ld_wait U K 0 4 (by decide) (by decide) rfl) $$ [HO HL]
  · isplitr; · iexact HC
    isplitl [HO]; · iexact HO
    iexact HL
  iintro ⟨HO, HL⟩
  rw [wp_ret]; imodintro
  iapply HQ
  isplitl [HO]; · iexact HO
  isplitl [HL]; · iexact HL
  isplitl [Hat]; · iexact Hat
  iexact Hp
end
end Cert.KProof
end
-- ==== Proof.StageA.lean ====
/-
  Stage A's first half on one device: the partial product for the z peer is computed into a send slot and sent.
-/
module

public import proofs.«01_k».proof.Proof.Steps

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable {α : Type} {defs : Defs nD τ sig (Elt F) Λ₀} {𝒱 : Variants} {c : Dev nD} {bd : Option 𝒱.V}

section
variable (U : Vals F) (K : Dev nD × CI → ℕ)

theorem part32_spec (i : grid0.Coords) {h1 : (Memref.whole main_arg0 : Memref sig .tc .hbm S1x2048x32x128 .f32).IsWhole} {aw : Memref sig .tc .vmem S4096x512 .f32} {h2 : aw.IsWhole} {ao : Memref sig .tc .vmem S1x1024x512 .f32} {h3 : ao.IsWhole}
  {h4 : (Ba : Memref sig .tc .vmem S2x256x4096 .f32).IsWhole} {h5 : (Bz : Memref sig .tc .vmem S2x256x512 .f32).IsWhole} {h6 : (Br : Memref sig .tc .vmem S4x256x512 .f32).IsWhole} {h7 : (Bm : Memref sig .tc .vmem S4x256x512 .f32).IsWhole}
  {h8 : (Bx : Memref sig .tc .vmem S4x256x512 .f32).IsWhole} {h9 : (By : Memref sig .tc .vmem S4x256x512 .f32).IsWhole} {h10 : (Bq : Memref sig .tc .vmem S4x256x512 .f32).IsWhole} {v0 v2 v5 v9 : BitVec 32} (hh : k0_cond2 i = 1#1) {Q : (_ : BitVec 32) ×' BitVec 32 → sProp (MT nD τ sig ℕ (Elt F) ℕ UU ℕ)}
    {R C : ℕ} (n : ℕ) (hn : (i 0).val = n) (q : PosShare TreeShare) :
    iprop(Ctx U K ∗ ow c (16 * (n + 3)) ∗ Chan 0 c n R C (n - 4) (n - 2) ∗ win n 2 (zfree c) ∗ pv c a0V fullShare (U.a0 c) ∗ pv c (woV aw) q (U.w c n))
      ⊢ iprop((∀ x, (ow c (16 * (n + 3) + 1) ∗ Chan 0 c (n + 1) R C (n + 1 - 4) (n + 1 - 2) ∗ win (n + 1) 2 (zfree c) ∗ pv c a0V fullShare (U.a0 c) ∗ pv c (woV aw) q (U.w c n)) -∗ Q x)
        -∗ wp frame (wpE defs 𝒱 (c : Thread nD τ) bd) Set.univ (k0_part32 i (Memref.whole main_arg0) h1 aw h2 ao h3 Ba h4 Bz h5 Br h6 Bm h7 Bx h8 By h9 Bq h10 cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 v0 c v2 v5 v9 hh) Q) := by
  have hn16 : n < 16 := hn ▸ (cond2_iff i).mp hh
  rw [k0_part32_eq_skeleton]; unfold k0_part32_skel
  simp only [semSignalWord, semWaitWord, Prog.lift, Prog.bind_op, Prog.bind_ret, Prog.pure_eq_ret, Prog.bind_assoc]
  iintro ⟨#HC, HO, HCh, Hz, Ha, Hw⟩ HQ
  iapply (wp_opt iprop(Ctx U K ∗ ow c (16 * (n + 3)) ∗ Chan 0 c n R C (n - 4) (n - 2) ∗ win n 2 (zfree c))
      iprop(ow c (16 * (n + 3)) ∗ Chan 0 c n R C (n - 4) (n + 1 - 2) ∗ pvAny c (slot2V Bz n) ∗ win (n + 1) 2 (zfree c)) (by
        intro h3
        have h3 := (cond3_iff i).mp h3
        iintro ⟨#HC, HO, HCh, Hz⟩ Hk
        iapply (send_wait U K (ch := 0) (S := n) (V := n - 2) (P := 16 * (n + 3)) (by omega) (by omega) (by omega) (sem_eq _ _ _ _ rfl _ (off65 i n hn) (sendQ 0 (n - 2)) (by show 6 + n % 2 = 6 + (n - 2) % 2; omega)) (credit_big 0 (by decide) _)) $$ [HO HCh]
        · isplitr; · iexact HC
          isplitl [HO]; · iexact HO
          iexact HCh
        iintro ⟨HO, HCh, Hl⟩
        ihave Hl := (Entails.of_eq (lent_0 U c (n - 2))) $$ Hl
        iapply Hk
        isplitl [HO]; · iexact HO
        isplitl [HCh]; · rw [show n + 1 - 2 = n - 2 + 1 by omega]; iexact HCh
        isplitl [Hl]
        · rw [show (slot2V Bz n) = slot2V Bz (n - 2) from by rw [← slot2V_add Bz (n - 2), show n - 2 + 2 = n by omega]]
          iapply (pv_any c (slot2V Bz (n - 2)) (zs U c (n - 2)))
          iexact Hl
        · rw [win_nil (show 2 ≤ n + 1 by omega)]; itrivial) (by
        intro h3
        have h3 : ¬ 2 ≤ n := fun h => h3 ((cond3_iff i).mpr (by omega))
        iintro ⟨#HC, HO, HCh, Hz⟩
        ihave Hz := (Entails.of_eq (win_pop (show n < 2 by omega) (zfree c))) $$ Hz
        rw [zfree_def c n, show n + 1 - 2 = n - 2 by omega]
        icases Hz with ⟨Hz1, Hz⟩
        isplitl [HO]; · iexact HO
        isplitl [HCh]; · iexact HCh
        isplitl [Hz1]; · iexact Hz1
        iexact Hz)) $$ [HO HCh Hz]
  · isplitr; · iexact HC
    isplitl [HO]; · iexact HO
    isplitl [HCh]; · iexact HCh
    iexact Hz
  iintro ⟨HO, HCh, Hs, Hz⟩
  iapply (wp_load_pv rfl) $$ [Ha]
  · iexact Ha
  iintro Ha
  iapply (wp_load_pv rfl) $$ [Hw]
  · iexact Hw
  iintro Hw
  iapply (wp_load_any (off68 i n hn) (hi' := inb_slot2 n)) $$ [Hs]
  · iexact Hs
  iintro %X Hs
  iapply (wp_store_pv (off68 i n hn) (hi' := inb_slot2 n)) $$ [Hs]
  · iexact Hs
  iintro Hs
  iapply (wp_opt iprop(Ctx U K ∗ ow c (16 * (n + 3)) ∗ Chan 0 c n R C (n - 4) (n + 1 - 2))
      iprop(ow c (16 * (n + 3)) ∗ Chan 0 c n R C (n + 1 - 4) (n + 1 - 2)) (by
        intro h4
        have h4 := (cond4_iff i).mp h4
        iintro ⟨#HC, HO, HCh⟩ Hk
        iapply (cred_wait U K (ch := 0) (S := n) (E := n - 4) (P := 16 * (n + 3)) (by omega) (by omega) (by rcases posC_cases 0 (n - 4) with h | h | h | h | h <;> first | omega | exact absurd h.1 (by decide)) (sem_eq _ _ _ _ rfl _ (off69 i n hn) (credQ 0 (n - 4)) (by show 0 + n % 4 = 4 * 0 + (n - 4) % 4; omega)) rfl) $$ [HO HCh]
        · isplitr; · iexact HC
          isplitl [HO]; · iexact HO
          iexact HCh
        iintro ⟨HO, HCh⟩
        iapply Hk
        isplitl [HO]; · iexact HO
        rw [show n + 1 - 4 = n - 4 + 1 by omega]; iexact HCh) (by
        intro h4
        have h4 : ¬ 4 ≤ n := fun h => h4 ((cond4_iff i).mpr (by omega))
        iintro ⟨#HC, HO, HCh⟩
        rw [show n + 1 - 4 = n - 4 by omega]
        isplitl [HO]; · iexact HO
        iexact HCh)) $$ [HO HCh]
  · isplitr; · iexact HC
    isplitl [HO]; · iexact HO
    iexact HCh
  iintro ⟨HO, HCh⟩
  iapply (send_pv U K (ch := 0) (S := n) (E := n + 1 - 4) (V := n + 1 - 2) hn16 (by omega) (by show n + 1 - 2 ≤ n ∧ n < n + 1 - 2 + 2; omega) (rfl : posR 0 n = 16 * (n + 3))
     (sem_eq _ _ _ _ rfl _ (off70 i n hn) (sendQ 0 n) rfl) (sem_eq _ _ _ _ rfl _ (off71 i n hn) (recvQ 0 n) rfl) (dev4 c _) (credit_big 0 (by decide) _)
     (slot2V Bz n) (slotV Br n) (sq_view Bz (off73 i n hn)) (sq_view Br (off72 i n hn)) fullShare (zs U c n)
     (lent_0 U c n) (room_0 _ _) (by rw [land_0, pr_0, pz_pz])) $$ [HO HCh Hs]
  · isplitr; · iexact HC
    isplitl [HO]; · iexact HO
    isplitl [HCh]; · iexact HCh
    rw [lent_0]; iexact Hs
  iintro ⟨HO, HCh⟩
  rw [wp_ret]; imodintro
  iapply HQ
  isplitl [HO]; · iexact HO
  isplitl [HCh]; · iexact HCh
  isplitl [Hz]; · iexact Hz
  isplitl [Ha]; · iexact Ha
  iexact Hw
end
end Cert.KProof
end
-- ==== Proof.StageA2.lean ====
/-
  Stage A's second half begins by waiting for the copies of block `v`, four blocks back: the slot of the block buffer is
  free for the new block, and the two landing slots the block's halves travelled on from can be credited.
-/
module

public import proofs.«01_k».proof.Proof.Steps

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

section
variable {defs : Defs nD τ sig (Elt F) Λ₀} {𝒱 : Variants} {c : Dev nD} {bd : Option 𝒱.V} (U : Vals F) (K : Dev nD × CI → ℕ)

theorem part31_spec (i : grid0.Coords) {h1 : (Memref.whole main_arg0 : Memref sig .tc .hbm S1x2048x32x128 .f32).IsWhole} {aw : Memref sig .tc .vmem S4096x512 .f32} {h2 : aw.IsWhole} {ao : Memref sig .tc .vmem S1x1024x512 .f32} {h3 : ao.IsWhole}
  {h4 : (Ba : Memref sig .tc .vmem S2x256x4096 .f32).IsWhole} {h5 : (Bz : Memref sig .tc .vmem S2x256x512 .f32).IsWhole} {h6 : (Br : Memref sig .tc .vmem S4x256x512 .f32).IsWhole} {h7 : (Bm : Memref sig .tc .vmem S4x256x512 .f32).IsWhole}
  {h8 : (Bx : Memref sig .tc .vmem S4x256x512 .f32).IsWhole} {h9 : (By : Memref sig .tc .vmem S4x256x512 .f32).IsWhole} {h10 : (Bq : Memref sig .tc .vmem S4x256x512 .f32).IsWhole} {v5 v8 v10 : BitVec 32} (hh : k0_cond2 i = 1#1) (hc : k0_cond6 i = 1#1) {Q : (_ : BitVec 32) ×' BitVec 32 → sProp (MT nD τ sig ℕ (Elt F) ℕ UU ℕ)}
    {B T P R1 C1 E1 R2 C2 E2 R3 C3 E3 R4 C4 E4 : ℕ} (v : ℕ) (hn : (i 0).val = v + 4) (hB : v < B ∧ B ≤ 16) (hT : v < T ∧ T ≤ 16) (hP : 0 < P) :
    iprop(Ctx U K ∗ ow c P ∗ Chan 1 c B R1 C1 E1 v ∗ Chan 2 c B R2 C2 E2 v ∗ Chan 3 c T R3 C3 E3 v ∗ Chan 4 c T R4 C4 E4 v ∗ mkept U c v ∗ xkept U c v ∗ ykept U c v)
      ⊢ iprop((∀ x, (ow c P ∗ Chan 1 c B R1 C1 E1 (v + 1) ∗ Chan 2 c B R2 C2 E2 (v + 1) ∗ Chan 3 c T R3 C3 E3 (v + 1) ∗ Chan 4 c T R4 C4 E4 (v + 1) ∗ mfree c (v + 4) ∗ room 1 c v ∗ room 2 c v) -∗ Q x)
        -∗ wp frame (wpE defs 𝒱 (c : Thread nD τ) bd) Set.univ (k0_part31 i (Memref.whole main_arg0) h1 aw h2 ao h3 Ba h4 Bz h5 Br h6 Bm h7 Bx h8 By h9 Bq h10 cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 v5 v8 v10 hh hc) Q) := by
  have ho : k0_off106 i = ![v % 4] := by rw [off106 i (v + 4) hn, Nat.add_mod_right]
  rw [k0_part31_eq_skeleton]; unfold k0_part31_skel
  simp only [semSignalWord, semWaitWord, Prog.lift, Prog.bind_op, Prog.bind_ret, Prog.pure_eq_ret, Prog.bind_assoc]
  iintro ⟨#HC, HO, H1, H2, H3, H4, Hm, Hx, Hy⟩ HQ
  iapply (send_wait U K (ch := 1) (S := B) (V := v) (P := P) hB.1 hB.2 hP (sem_eq _ _ _ _ rfl _ ho (sendQ 1 v) rfl) (credit_big 1 (by decide) _)) $$ [HO H1]
  · isplitr; · iexact HC
    isplitl [HO]; · iexact HO
    iexact H1
  iintro ⟨HO, H1, Hl1⟩
  iapply (send_wait U K (ch := 2) (S := B) (V := v) (P := P) hB.1 hB.2 hP (sem_eq _ _ _ _ rfl _ ho (sendQ 2 v) rfl) (credit_big 2 (by decide) _)) $$ [HO H2]
  · isplitr; · iexact HC
    isplitl [HO]; · iexact HO
    iexact H2
  iintro ⟨HO, H2, Hl2⟩
  iapply (send_wait U K (ch := 3) (S := T) (V := v) (P := P) hT.1 hT.2 hP (sem_eq _ _ _ _ rfl _ ho (sendQ 3 v) rfl) (credit_half 3 (by decide) _)) $$ [HO H3]
  · isplitr; · iexact HC
    isplitl [HO]; · iexact HO
    iexact H3
  iintro ⟨HO, H3, Hl3⟩
  iapply (send_wait U K (ch := 4) (S := T) (V := v) (P := P) hT.1 hT.2 hP (sem_eq _ _ _ _ rfl _ ho (sendQ 4 v) rfl) (credit_half 4 (by decide) _)) $$ [HO H4]
  · isplitr; · iexact HC
    isplitl [HO]; · iexact HO
    iexact H4
  iintro ⟨HO, H4, Hl4⟩
  rw [wp_ret]; imodintro
  iapply HQ
  isplitl [HO]; · iexact HO
  isplitl [H1]; · iexact H1
  isplitl [H2]; · iexact H2
  isplitl [H3]; · iexact H3
  isplitl [H4]; · iexact H4
  isplitl [Hl1 Hl2 Hm]
  · iapply (m_join U c v)
    isplitl [Hl1]; · iexact Hl1
    isplitl [Hl2]; · iexact Hl2
    iexact Hm
  isplitl [Hl3 Hx]
  · iapply (x_join U c v)
    isplitl [Hl3]; · iexact Hl3
    iexact Hx
  · iapply (y_join U c v)
    isplitl [Hl4]; · iexact Hl4
    iexact Hy
end
end Cert.KProof
end
-- ==== Proof.StageB.lean ====
/-
  Stage B's first half: the z peer's partial product of block `b` is received and added to the device's own, its landing
  slot is credited back, and the credits for the two copies of the sum are taken.
-/
module

public import proofs.«01_k».proof.Proof.Steps

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

section
variable {defs : Defs nD τ sig (Elt F) Λ₀} {𝒱 : Variants} {c : Dev nD} {bd : Option 𝒱.V} (U : Vals F) (K : Dev nD × CI → ℕ)

theorem part33_spec (i : grid0.Coords) {h1 : (Memref.whole main_arg0 : Memref sig .tc .hbm S1x2048x32x128 .f32).IsWhole} {aw : Memref sig .tc .vmem S4096x512 .f32} {h2 : aw.IsWhole} {ao : Memref sig .tc .vmem S1x1024x512 .f32} {h3 : ao.IsWhole}
  {h4 : (Ba : Memref sig .tc .vmem S2x256x4096 .f32).IsWhole} {h5 : (Bz : Memref sig .tc .vmem S2x256x512 .f32).IsWhole} {h6 : (Br : Memref sig .tc .vmem S4x256x512 .f32).IsWhole} {h7 : (Bm : Memref sig .tc .vmem S4x256x512 .f32).IsWhole}
  {h8 : (Bx : Memref sig .tc .vmem S4x256x512 .f32).IsWhole} {h9 : (By : Memref sig .tc .vmem S4x256x512 .f32).IsWhole} {h10 : (Bq : Memref sig .tc .vmem S4x256x512 .f32).IsWhole} {v0 v2 v5 v9 v10 : BitVec 32} (hc : k0_cond7 i = 1#1) {Q : (_ : BitVec 32) ×' BitVec 32 → sProp (MT nD τ sig ℕ (Elt F) ℕ UU ℕ)}
    {S0 E0 V0 R1 C1 V1 R2 C2 V2 : ℕ} (b : ℕ) (hn : (i 0).val = b + 1) :
    iprop(Ctx U K ∗ ow c (16 * (b + 4) + 3) ∗ Chan 0 c S0 b (min b 12) E0 V0 ∗ Chan 1 c b R1 C1 (b - 4) V1 ∗ Chan 2 c b R2 C2 (b - 4) V2 ∗ mnew U c b ∗ win 12 b (room 0 c))
      ⊢ iprop((∀ x, (ow c (16 * (b + 4) + 4) ∗ Chan 0 c S0 (b + 1) (min (b + 1) 12) E0 V0 ∗ Chan 1 c b R1 C1 (b + 1 - 4) V1 ∗ Chan 2 c b R2 C2 (b + 1 - 4) V2
            ∗ pv c (slotV Bm b) fullShare (mq U c b) ∗ win 12 (b + 1) (room 0 c)) -∗ Q x)
        -∗ wp frame (wpE defs 𝒱 (c : Thread nD τ) bd) Set.univ (k0_part33 i (Memref.whole main_arg0) h1 aw h2 ao h3 Ba h4 Bz h5 Br h6 Bm h7 Bx h8 By h9 Bq h10 cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 v0 c v2 v5 v9 v10 hc) Q) := by
  have hb : b < 16 := by have := (cond7_iff i).mp hc; omega
  rw [k0_part33_eq_skeleton]; unfold k0_part33_skel
  simp only [semSignalWord, semWaitWord, Prog.lift, Prog.bind_op, Prog.bind_ret, Prog.pure_eq_ret, Prog.bind_assoc]
  iintro ⟨#HC, HO, H0, H1, H2, Hm, Hr⟩ HQ
  iapply (recv_wait U K (ch := 0) (R := b) (C := min b 12) (P := 16 * (b + 4) + 3) hb (by omega) (by show 16 * (b + 3) < _; omega) (sem_eq _ _ _ _ rfl _ (off111 i b hn) (recvQ 0 b) rfl) (credit_big 0 (by decide) _)) $$ [HO H0]
  · isplitr; · iexact HC
    isplitl [HO]; · iexact HO
    iexact H0
  iintro ⟨HO, H0, Hl⟩
  ihave Hl := (Entails.of_eq (land_0 U c b)) $$ Hl
  ihave Hm := (Entails.of_eq (mnew_def U c b)) $$ Hm
  iapply (wp_load_pv (off114 i b hn) (hi' := inb_slot b)) $$ [Hm]
  · iexact Hm
  iintro Hm
  iapply (wp_load_pv (off114 i b hn) (hi' := inb_slot b)) $$ [Hl]
  · iexact Hl
  iintro Hl
  iapply (wp_load_pv (off114 i b hn) (hi' := inb_slot b)) $$ [Hm]
  · iexact Hm
  iintro Hm
  iapply (wp_store_pv (off114 i b hn) (hi' := inb_slot b)) $$ [Hm]
  · iapply (pv_any c (slotV Bm b) (m0 U c b)); iexact Hm
  iintro Hm
  ihave Hl := (pv_any c (slotV Br b) (zs U (pz c) b)) $$ Hl
  iapply (wp_opt iprop(Ctx U K ∗ ow c (16 * (b + 4) + 3) ∗ Chan 0 c S0 (b + 1) (min b 12) E0 V0 ∗ pvAny c (slotV Br b) ∗ win 12 b (room 0 c))
      iprop(ow c (16 * (b + 4) + 4) ∗ Chan 0 c S0 (b + 1) (min (b + 1) 12) E0 V0 ∗ win 12 (b + 1) (room 0 c)) (by
        intro h8
        have h8 := (cond8_iff i).mp h8
        iintro ⟨#HC, HO, H0, Hl, Hr⟩ Hk
        rw [show min b 12 = b by omega]
        iapply (cred_give U K (ch := 0) (C := b) (R := b + 1) (P := 16 * (b + 4) + 3) (by omega) (by omega) rfl (sem_eq _ _ _ _ rfl _ (off115 i b hn) (credQ 0 b) (by show 0 + b % 4 = 4 * 0 + b % 4; omega)) (dev7 c _) rfl) $$ [HO H0 Hl]
        · isplitr; · iexact HC
          isplitl [HO]; · iexact HO
          isplitl [H0]; · iexact H0
          rw [room_0]; iexact Hl
        iintro ⟨HO, H0⟩
        iapply Hk
        isplitl [HO]; · iexact HO
        isplitl [H0]; · rw [show min (b + 1) 12 = b + 1 by omega]; iexact H0
        rw [win_nil (show b + 1 ≤ 12 by omega)]; itrivial) (by
        intro h8
        have h8 : 12 ≤ b := by by_contra h; exact h8 ((cond8_iff i).mpr (by omega))
        iintro ⟨#HC, HO, H0, Hl, Hr⟩
        isplitl [HO]
        · iapply (Entails.of_eq (ow_skip c (16 * (b + 4) + 3) (16 * (b + 4) + 4) (O_skip c _ _ (by omega)
            (fun ch b' _ => by rcases posR_cases ch b' with h | h | h | h | h <;> omega) (fun ch e _ => by rcases posC_cases ch e with h | h | h | h | h <;> omega) (by omega))))
          iexact HO
        isplitl [H0]; · rw [show min (b + 1) 12 = min b 12 by omega]; iexact H0
        rw [win_push h8 (room 0 c)]
        isplitl [Hl]; · rw [room_0]; iexact Hl
        iexact Hr)) $$ [HO H0 Hl Hr]
  · isplitr; · iexact HC
    isplitl [HO]; · iexact HO
    isplitl [H0]; · iexact H0
    isplitl [Hl]; · iexact Hl
    iexact Hr
  iintro ⟨HO, H0, Hr⟩
  iapply (wp_opt iprop(Ctx U K ∗ ow c (16 * (b + 4) + 4) ∗ Chan 1 c b R1 C1 (b - 4) V1 ∗ Chan 2 c b R2 C2 (b - 4) V2)
      iprop(ow c (16 * (b + 4) + 4) ∗ Chan 1 c b R1 C1 (b + 1 - 4) V1 ∗ Chan 2 c b R2 C2 (b + 1 - 4) V2) (by
        intro h9
        have h9 := (cond9_iff i).mp h9
        iintro ⟨#HC, HO, H1, H2⟩ Hk
        iapply (cred_wait U K (ch := 1) (S := b) (E := b - 4) (P := 16 * (b + 4) + 4) (by omega) (by omega) (by show 16 * (b - 4 + 7) + 1 < _; omega) (sem_eq _ _ _ _ rfl _ (off116 i b hn) (credQ 1 (b - 4)) (by show 4 + b % 4 = 4 * 1 + (b - 4) % 4; omega)) rfl) $$ [HO H1]
        · isplitr; · iexact HC
          isplitl [HO]; · iexact HO
          iexact H1
        iintro ⟨HO, H1⟩
        iapply (cred_wait U K (ch := 2) (S := b) (E := b - 4) (P := 16 * (b + 4) + 4) (by omega) (by omega) (by show 16 * (b - 4 + 7) + 2 < _; omega) (sem_eq _ _ _ _ rfl _ (off116 i b hn) (credQ 2 (b - 4)) (by show 8 + b % 4 = 4 * 2 + (b - 4) % 4; omega)) rfl) $$ [HO H2]
        · isplitr; · iexact HC
          isplitl [HO]; · iexact HO
          iexact H2
        iintro ⟨HO, H2⟩
        iapply Hk
        rw [show b + 1 - 4 = b - 4 + 1 by omega]
        isplitl [HO]; · iexact HO
        isplitl [H1]; · iexact H1
        iexact H2) (by
        intro h9
        have h9 : ¬ 4 ≤ b := fun h => h9 ((cond9_iff i).mpr (by omega))
        iintro ⟨#HC, HO, H1, H2⟩
        rw [show b + 1 - 4 = b - 4 by omega]
        isplitl [HO]; · iexact HO
        isplitl [H1]; · iexact H1
        iexact H2)) $$ [HO H1 H2]
  · isplitr; · iexact HC
    isplitl [HO]; · iexact HO
    isplitl [H1]; · iexact H1
    iexact H2
  iintro ⟨HO, H1, H2⟩
  rw [wp_ret]; imodintro
  iapply HQ
  isplitl [HO]; · iexact HO
  isplitl [H0]; · iexact H0
  isplitl [H1]; · iexact H1
  isplitl [H2]; · iexact H2
  isplitl [Hm]; · iexact Hm
  iexact Hr
end
end Cert.KProof
end
-- ==== Proof.StageC.lean ====
/-
  Stage C's first half: block `b` is received from the x peer and from the y peer, and the credits for the copies of the
  two halves that travel on are taken.
-/
module

public import proofs.«01_k».proof.Proof.Steps

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

section
variable {defs : Defs nD τ sig (Elt F) Λ₀} {𝒱 : Variants} {c : Dev nD} {bd : Option 𝒱.V} (U : Vals F) (K : Dev nD × CI → ℕ)

theorem part34_spec (i : grid0.Coords) {h1 : (Memref.whole main_arg0 : Memref sig .tc .hbm S1x2048x32x128 .f32).IsWhole} {aw : Memref sig .tc .vmem S4096x512 .f32} {h2 : aw.IsWhole} {ao : Memref sig .tc .vmem S1x1024x512 .f32} {h3 : ao.IsWhole}
  {h4 : (Ba : Memref sig .tc .vmem S2x256x4096 .f32).IsWhole} {h5 : (Bz : Memref sig .tc .vmem S2x256x512 .f32).IsWhole} {h6 : (Br : Memref sig .tc .vmem S4x256x512 .f32).IsWhole} {h7 : (Bm : Memref sig .tc .vmem S4x256x512 .f32).IsWhole}
  {h8 : (Bx : Memref sig .tc .vmem S4x256x512 .f32).IsWhole} {h9 : (By : Memref sig .tc .vmem S4x256x512 .f32).IsWhole} {h10 : (Bq : Memref sig .tc .vmem S4x256x512 .f32).IsWhole} {v0 v2 v5 v8 v10 v11 : BitVec 32} (hc : k0_cond10 i = 1#1) {Q : (_ : BitVec 32) ×' BitVec 32 → sProp (MT nD τ sig ℕ (Elt F) ℕ UU ℕ)}
    {S1 C1 E1 V1 S2 C2 E2 V2 R3 C3 V3 R4 C4 V4 : ℕ} (b : ℕ) (hn : (i 0).val = b + 2) (hC1 : C1 ≤ b) (hC2 : C2 ≤ b) :
    iprop(Ctx U K ∗ ow c (16 * (b + 5) + 6) ∗ Chan 1 c S1 b C1 E1 V1 ∗ Chan 2 c S2 b C2 E2 V2 ∗ Chan 3 c b R3 C3 (b - 4) V3 ∗ Chan 4 c b R4 C4 (b - 4) V4)
      ⊢ iprop((∀ x, (ow c (16 * (b + 5) + 6) ∗ Chan 1 c S1 (b + 1) C1 E1 V1 ∗ Chan 2 c S2 (b + 1) C2 E2 V2 ∗ Chan 3 c b R3 C3 (b + 1 - 4) V3 ∗ Chan 4 c b R4 C4 (b + 1 - 4) V4
            ∗ land U 1 c b ∗ land U 2 c b) -∗ Q x)
        -∗ wp frame (wpE defs 𝒱 (c : Thread nD τ) bd) Set.univ (k0_part34 i (Memref.whole main_arg0) h1 aw h2 ao h3 Ba h4 Bz h5 Br h6 Bm h7 Bx h8 By h9 Bq h10 cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 v0 v2 v5 v8 v10 v11 hc) Q) := by
  have hb : b < 16 := by have := (cond10_iff i).mp hc; omega
  rw [k0_part34_eq_skeleton]; unfold k0_part34_skel
  simp only [semSignalWord, semWaitWord, Prog.lift, Prog.bind_op, Prog.bind_ret, Prog.pure_eq_ret, Prog.bind_assoc]
  iintro ⟨#HC, HO, H1, H2, H3, H4⟩ HQ
  iapply (recv_wait U K (ch := 1) (R := b) (C := C1) (P := 16 * (b + 5) + 6) hb hC1 (by show 16 * (b + 4) + 4 < _; omega) (sem_eq _ _ _ _ rfl _ (off117 i b hn) (recvQ 1 b) rfl) (credit_big 1 (by decide) _)) $$ [HO H1]
  · isplitr; · iexact HC
    isplitl [HO]; · iexact HO
    iexact H1
  iintro ⟨HO, H1, Hl1⟩
  iapply (recv_wait U K (ch := 2) (R := b) (C := C2) (P := 16 * (b + 5) + 6) hb hC2 (by show 16 * (b + 4) + 5 < _; omega) (sem_eq _ _ _ _ rfl _ (off117 i b hn) (recvQ 2 b) rfl) (credit_big 2 (by decide) _)) $$ [HO H2]
  · isplitr; · iexact HC
    isplitl [HO]; · iexact HO
    iexact H2
  iintro ⟨HO, H2, Hl2⟩
  iapply (wp_opt iprop(Ctx U K ∗ ow c (16 * (b + 5) + 6) ∗ Chan 3 c b R3 C3 (b - 4) V3 ∗ Chan 4 c b R4 C4 (b - 4) V4)
      iprop(ow c (16 * (b + 5) + 6) ∗ Chan 3 c b R3 C3 (b + 1 - 4) V3 ∗ Chan 4 c b R4 C4 (b + 1 - 4) V4) (by
        intro h11
        have h11 := (cond11_iff i).mp h11
        iintro ⟨#HC, HO, H3, H4⟩ Hk
        iapply (cred_wait U K (ch := 3) (S := b) (E := b - 4) (P := 16 * (b + 5) + 6) (by omega) (by omega) (by show 16 * (b - 4 + 6) + 8 < _; omega) (sem_eq _ _ _ _ rfl _ (off119 i b hn) (credQ 3 (b - 4)) (by show 12 + b % 4 = 4 * 3 + (b - 4) % 4; omega)) rfl) $$ [HO H3]
        · isplitr; · iexact HC
          isplitl [HO]; · iexact HO
          iexact H3
        iintro ⟨HO, H3⟩
        iapply (cred_wait U K (ch := 4) (S := b) (E := b - 4) (P := 16 * (b + 5) + 6) (by omega) (by omega) (by show 16 * (b - 4 + 6) + 9 < _; omega) (sem_eq _ _ _ _ rfl _ (off119 i b hn) (credQ 4 (b - 4)) (by show 16 + b % 4 = 4 * 4 + (b - 4) % 4; omega)) rfl) $$ [HO H4]
        · isplitr; · iexact HC
          isplitl [HO]; · iexact HO
          iexact H4
        iintro ⟨HO, H4⟩
        iapply Hk
        rw [show b + 1 - 4 = b - 4 + 1 by omega]
        isplitl [HO]; · iexact HO
        isplitl [H3]; · iexact H3
        iexact H4) (by
        intro h11
        have h11 : ¬ 4 ≤ b := fun h => h11 ((cond11_iff i).mpr (by omega))
        iintro ⟨#HC, HO, H3, H4⟩
        rw [show b + 1 - 4 = b - 4 by omega]
        isplitl [HO]; · iexact HO
        isplitl [H3]; · iexact H3
        iexact H4)) $$ [HO H3 H4]
  · isplitr; · iexact HC
    isplitl [HO]; · iexact HO
    isplitl [H3]; · iexact H3
    iexact H4
  iintro ⟨HO, H3, H4⟩
  rw [wp_ret]; imodintro
  iapply HQ
  isplitl [HO]; · iexact HO
  isplitl [H1]; · iexact H1
  isplitl [H2]; · iexact H2
  isplitl [H3]; · iexact H3
  isplitl [H4]; · iexact H4
  isplitl [Hl1]; · iexact Hl1
  iexact Hl2
end
end Cert.KProof
end
-- ==== Proof.StageD.lean ====
/-
  Stage D's first half: the two halves of block `b` that travelled over two links have landed, and the device's own sum is
  written to the result.
-/
module

public import proofs.«01_k».proof.Proof.Out

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

section
variable {defs : Defs nD τ sig (Elt F) Λ₀} {𝒱 : Variants} {c : Dev nD} {bd : Option 𝒱.V} (U : Vals F) (K : Dev nD × CI → ℕ)

theorem part35_spec (i : grid0.Coords) {h1 : (Memref.whole main_arg0 : Memref sig .tc .hbm S1x2048x32x128 .f32).IsWhole} {aw : Memref sig .tc .vmem S4096x512 .f32} {h2 : aw.IsWhole} {ao : Memref sig .tc .vmem S1x1024x512 .f32} {h3 : ao.IsWhole}
  {h4 : (Ba : Memref sig .tc .vmem S2x256x4096 .f32).IsWhole} {h5 : (Bz : Memref sig .tc .vmem S2x256x512 .f32).IsWhole} {h6 : (Br : Memref sig .tc .vmem S4x256x512 .f32).IsWhole} {h7 : (Bm : Memref sig .tc .vmem S4x256x512 .f32).IsWhole}
  {h8 : (Bx : Memref sig .tc .vmem S4x256x512 .f32).IsWhole} {h9 : (By : Memref sig .tc .vmem S4x256x512 .f32).IsWhole} {h10 : (Bq : Memref sig .tc .vmem S4x256x512 .f32).IsWhole} {arg0 v2 v5 v8 v10 v11 v13 : BitVec 32} (hc : k0_cond12 i = 1#1) {Q : (_ : BitVec 32) ×' BitVec 32 → sProp (MT nD τ sig ℕ (Elt F) ℕ UU ℕ)}
    {S3 C3 E3 V3 S4 C4 E4 V4 : ℕ} (b : ℕ) (hb : b < 16) (hn : (i 0).val = b + 3) (hC3 : C3 ≤ b) (hC4 : C4 ≤ b) :
    iprop(Ctx U K ∗ ow c (16 * (b + 6) + 8) ∗ Chan 3 c S3 b C3 E3 V3 ∗ Chan 4 c S4 b C4 E4 V4 ∗ mkept U c b ∗ pvAny c (oV ao (qi c)))
      ⊢ iprop((∀ x, (ow c (16 * (b + 6) + 8) ∗ Chan 3 c S3 (b + 1) C3 E3 V3 ∗ Chan 4 c S4 (b + 1) C4 E4 V4 ∗ mkept U c b ∗ pv c (oV ao (qi c)) fullShare (mq U c b)
            ∗ pv c (slotV Bq b) fullShare (mq U (px (py c)) b)) -∗ Q x)
        -∗ wp frame (wpE defs 𝒱 (c : Thread nD τ) bd) Set.univ (k0_part35 i (Memref.whole main_arg0) h1 aw h2 ao h3 Ba h4 Bz h5 Br h6 Bm h7 Bx h8 By h9 Bq h10 cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 arg0 c v2 v5 v8 v10 v11 v13 hc) Q) := by
  rw [k0_part35_eq_skeleton]; unfold k0_part35_skel
  simp only [semSignalWord, semWaitWord, Prog.lift, Prog.bind_op, Prog.bind_ret, Prog.pure_eq_ret, Prog.bind_assoc]
  iintro ⟨#HC, HO, H3, H4, Hm, Ho⟩ HQ
  iapply (recv_wait U K (ch := 3) (R := b) (C := C3) (P := 16 * (b + 6) + 8) hb hC3 (by show 16 * (b + 5) + 6 < _; omega) (sem_eq _ _ _ _ rfl _ (off122 i b hn) (recvQ 3 b) rfl) (credit_half 3 (by decide) _)) $$ [HO H3]
  · isplitr; · iexact HC
    isplitl [HO]; · iexact HO
    iexact H3
  iintro ⟨HO, H3, Hl3⟩
  iapply (recv_wait U K (ch := 4) (R := b) (C := C4) (P := 16 * (b + 6) + 8) hb hC4 (by show 16 * (b + 5) + 7 < _; omega) (sem_eq _ _ _ _ rfl _ (off122 i b hn) (recvQ 4 b) rfl) (credit_half 4 (by decide) _)) $$ [HO H4]
  · isplitr; · iexact HC
    isplitl [HO]; · iexact HO
    iexact H4
  iintro ⟨HO, H4, Hl4⟩
  ihave Hm := (Entails.of_eq (mkept_def U c b)) $$ Hm
  iapply (wp_load_pv (off125 i b hn) (hi' := inb_slot b)) $$ [Hm]
  · iexact Hm
  iintro Hm
  iapply (wp_load_any (off126' c) (hi' := inb_o (qi c))) $$ [Ho]
  · iexact Ho
  iintro %w Ho
  iapply (wp_store_pv (off126' c) (hi' := inb_o (qi c))) $$ [Ho]
  · iexact Ho
  iintro Ho
  rw [wp_ret]; imodintro
  iapply HQ
  isplitl [HO]; · iexact HO
  isplitl [H3]; · iexact H3
  isplitl [H4]; · iexact H4
  isplitl [Hm]; · iapply (Entails.of_eq (mkept_def U c b).symm); iexact Hm
  isplitl [Ho]; · rw [pay7_eq]; iexact Ho
  iapply (Entails.of_eq (pv_halves c Bq b fullShare (mq U (px (py c)) b)).symm)
  isplitl [Hl3]
  · iapply (Entails.of_eq (land_3 U c b)); iexact Hl3
  · iapply (Entails.of_eq ((land_4 U c b).trans (by rw [py_px]))); iexact Hl4

end
end Cert.KProof
end
-- ==== Proof.Fin.lean ====
/-
  The last step waits for every copy still on its way: the two blocks on the z link, and on each other link the last four.
-/
module

public import proofs.«01_k».proof.Proof.Steps

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

section
variable {defs : Defs nD τ sig (Elt F) Λ₀} {𝒱 : Variants} {c : Dev nD} {bd : Option 𝒱.V} (U : Vals F) (K : Dev nD × CI → ℕ)
    {R0 C0 E0 R1 C1 E1 R2 C2 E2 R3 C3 E3 R4 C4 E4 P : ℕ} {Q : PUnit → sProp (MT nD τ sig ℕ (Elt F) ℕ UU ℕ)}

theorem part36_spec (i : grid0.Coords) {h1 : (Memref.whole main_arg0 : Memref sig .tc .hbm S1x2048x32x128 .f32).IsWhole} {aw : Memref sig .tc .vmem S4096x512 .f32} {h2 : aw.IsWhole} {ao : Memref sig .tc .vmem S1x1024x512 .f32} {h3 : ao.IsWhole}
  {h4 : (Ba : Memref sig .tc .vmem S2x256x4096 .f32).IsWhole} {h5 : (Bz : Memref sig .tc .vmem S2x256x512 .f32).IsWhole} {h6 : (Br : Memref sig .tc .vmem S4x256x512 .f32).IsWhole} {h7 : (Bm : Memref sig .tc .vmem S4x256x512 .f32).IsWhole}
  {h8 : (Bx : Memref sig .tc .vmem S4x256x512 .f32).IsWhole} {h9 : (By : Memref sig .tc .vmem S4x256x512 .f32).IsWhole} {h10 : (Bq : Memref sig .tc .vmem S4x256x512 .f32).IsWhole} (hP : 0 < P) :
    iprop(Ctx U K ∗ ow c P ∗ Chan 0 c 16 R0 C0 E0 14 ∗ Chan 1 c 16 R1 C1 E1 12)
      ⊢ iprop(((ow c P ∗ Chan 0 c 16 R0 C0 E0 16 ∗ Chan 1 c 16 R1 C1 E1 13 ∗ lent U 0 c 14 ∗ lent U 0 c 15 ∗ lent U 1 c 12) -∗ Q ⟨⟩)
        -∗ wp frame (wpE defs 𝒱 (c : Thread nD τ) bd) Set.univ (k0_part36 i (Memref.whole main_arg0) h1 aw h2 ao h3 Ba h4 Bz h5 Br h6 Bm h7 Bx h8 By h9 Bq h10 cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22) Q) := by
  rw [k0_part36_eq_skeleton]; unfold k0_part36_skel
  simp only [semSignalWord, semWaitWord, Prog.lift, Prog.bind_op, Prog.bind_ret, Prog.pure_eq_ret, Prog.bind_assoc]
  iintro ⟨#HC, HO, H0, H1⟩ HQ
  iapply (send_wait U K (ch := 0) (S := 16) (V := 14) (P := P) (by decide) (by decide) hP (sem_eq _ _ _ _ rfl _ rfl (sendQ 0 14) rfl) (credit_big 0 (by decide) _)) $$ [HO H0]
  · isplitr; · iexact HC
    isplitl [HO]; · iexact HO
    iexact H0
  iintro ⟨HO, H0, Ha⟩
  iapply (send_wait U K (ch := 0) (S := 16) (V := 15) (P := P) (by decide) (by decide) hP (sem_eq _ _ _ _ rfl _ rfl (sendQ 0 15) rfl) (credit_big 0 (by decide) _)) $$ [HO H0]
  · isplitr; · iexact HC
    isplitl [HO]; · iexact HO
    iexact H0
  iintro ⟨HO, H0, Hb⟩
  iapply (send_wait U K (ch := 1) (S := 16) (V := 12) (P := P) (by decide) (by decide) hP (sem_eq _ _ _ _ rfl _ rfl (sendQ 1 12) rfl) (credit_big 1 (by decide) _)) $$ [HO H1]
  · isplitr; · iexact HC
    isplitl [HO]; · iexact HO
    iexact H1
  iintro ⟨HO, H1, Hc⟩
  rw [wp_ret]; imodintro
  iapply HQ
  isplitl [HO]; · iexact HO
  isplitl [H0]; · iexact H0
  isplitl [H1]; · iexact H1
  isplitl [Ha]; · iexact Ha
  isplitl [Hb]; · iexact Hb
  iexact Hc

theorem part37_spec (i : grid0.Coords) {h1 : (Memref.whole main_arg0 : Memref sig .tc .hbm S1x2048x32x128 .f32).IsWhole} {aw : Memref sig .tc .vmem S4096x512 .f32} {h2 : aw.IsWhole} {ao : Memref sig .tc .vmem S1x1024x512 .f32} {h3 : ao.IsWhole}
  {h4 : (Ba : Memref sig .tc .vmem S2x256x4096 .f32).IsWhole} {h5 : (Bz : Memref sig .tc .vmem S2x256x512 .f32).IsWhole} {h6 : (Br : Memref sig .tc .vmem S4x256x512 .f32).IsWhole} {h7 : (Bm : Memref sig .tc .vmem S4x256x512 .f32).IsWhole}
  {h8 : (Bx : Memref sig .tc .vmem S4x256x512 .f32).IsWhole} {h9 : (By : Memref sig .tc .vmem S4x256x512 .f32).IsWhole} {h10 : (Bq : Memref sig .tc .vmem S4x256x512 .f32).IsWhole} (hP : 0 < P) :
    iprop(Ctx U K ∗ ow c P ∗ Chan 2 c 16 R2 C2 E2 12 ∗ Chan 3 c 16 R3 C3 E3 12 ∗ Chan 4 c 16 R4 C4 E4 12 ∗ Chan 1 c 16 R1 C1 E1 13)
      ⊢ iprop(((ow c P ∗ Chan 2 c 16 R2 C2 E2 13 ∗ Chan 3 c 16 R3 C3 E3 13 ∗ Chan 4 c 16 R4 C4 E4 13 ∗ Chan 1 c 16 R1 C1 E1 14
            ∗ lent U 2 c 12 ∗ lent U 3 c 12 ∗ lent U 4 c 12 ∗ lent U 1 c 13) -∗ Q ⟨⟩)
        -∗ wp frame (wpE defs 𝒱 (c : Thread nD τ) bd) Set.univ (k0_part37 i (Memref.whole main_arg0) h1 aw h2 ao h3 Ba h4 Bz h5 Br h6 Bm h7 Bx h8 By h9 Bq h10 cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22) Q) := by
  rw [k0_part37_eq_skeleton]; unfold k0_part37_skel
  simp only [semSignalWord, semWaitWord, Prog.lift, Prog.bind_op, Prog.bind_ret, Prog.pure_eq_ret, Prog.bind_assoc]
  iintro ⟨#HC, HO, H2, H3, H4, H1⟩ HQ
  iapply (send_wait U K (ch := 2) (S := 16) (V := 12) (P := P) (by decide) (by decide) hP (sem_eq _ _ _ _ rfl _ rfl (sendQ 2 12) rfl) (credit_big 2 (by decide) _)) $$ [HO H2]
  · isplitr; · iexact HC
    isplitl [HO]; · iexact HO
    iexact H2
  iintro ⟨HO, H2, Ha⟩
  iapply (send_wait U K (ch := 3) (S := 16) (V := 12) (P := P) (by decide) (by decide) hP (sem_eq _ _ _ _ rfl _ rfl (sendQ 3 12) rfl) (credit_half 3 (by decide) _)) $$ [HO H3]
  · isplitr; · iexact HC
    isplitl [HO]; · iexact HO
    iexact H3
  iintro ⟨HO, H3, Hb⟩
  iapply (send_wait U K (ch := 4) (S := 16) (V := 12) (P := P) (by decide) (by decide) hP (sem_eq _ _ _ _ rfl _ rfl (sendQ 4 12) rfl) (credit_half 4 (by decide) _)) $$ [HO H4]
  · isplitr; · iexact HC
    isplitl [HO]; · iexact HO
    iexact H4
  iintro ⟨HO, H4, Hc⟩
  iapply (send_wait U K (ch := 1) (S := 16) (V := 13) (P := P) (by decide) (by decide) hP (sem_eq _ _ _ _ rfl _ rfl (sendQ 1 13) rfl) (credit_big 1 (by decide) _)) $$ [HO H1]
  · isplitr; · iexact HC
    isplitl [HO]; · iexact HO
    iexact H1
  iintro ⟨HO, H1, Hd⟩
  rw [wp_ret]; imodintro
  iapply HQ
  isplitl [HO]; · iexact HO
  isplitl [H2]; · iexact H2
  isplitl [H3]; · iexact H3
  isplitl [H4]; · iexact H4
  isplitl [H1]; · iexact H1
  isplitl [Ha]; · iexact Ha
  isplitl [Hb]; · iexact Hb
  isplitl [Hc]; · iexact Hc
  iexact Hd

theorem part38_spec (i : grid0.Coords) {h1 : (Memref.whole main_arg0 : Memref sig .tc .hbm S1x2048x32x128 .f32).IsWhole} {aw : Memref sig .tc .vmem S4096x512 .f32} {h2 : aw.IsWhole} {ao : Memref sig .tc .vmem S1x1024x512 .f32} {h3 : ao.IsWhole}
  {h4 : (Ba : Memref sig .tc .vmem S2x256x4096 .f32).IsWhole} {h5 : (Bz : Memref sig .tc .vmem S2x256x512 .f32).IsWhole} {h6 : (Br : Memref sig .tc .vmem S4x256x512 .f32).IsWhole} {h7 : (Bm : Memref sig .tc .vmem S4x256x512 .f32).IsWhole}
  {h8 : (Bx : Memref sig .tc .vmem S4x256x512 .f32).IsWhole} {h9 : (By : Memref sig .tc .vmem S4x256x512 .f32).IsWhole} {h10 : (Bq : Memref sig .tc .vmem S4x256x512 .f32).IsWhole} (hP : 0 < P) :
    iprop(Ctx U K ∗ ow c P ∗ Chan 2 c 16 R2 C2 E2 13 ∗ Chan 3 c 16 R3 C3 E3 13 ∗ Chan 4 c 16 R4 C4 E4 13 ∗ Chan 1 c 16 R1 C1 E1 14)
      ⊢ iprop(((ow c P ∗ Chan 2 c 16 R2 C2 E2 14 ∗ Chan 3 c 16 R3 C3 E3 14 ∗ Chan 4 c 16 R4 C4 E4 14 ∗ Chan 1 c 16 R1 C1 E1 15
            ∗ lent U 2 c 13 ∗ lent U 3 c 13 ∗ lent U 4 c 13 ∗ lent U 1 c 14) -∗ Q ⟨⟩)
        -∗ wp frame (wpE defs 𝒱 (c : Thread nD τ) bd) Set.univ (k0_part38 i (Memref.whole main_arg0) h1 aw h2 ao h3 Ba h4 Bz h5 Br h6 Bm h7 Bx h8 By h9 Bq h10 cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22) Q) := by
  rw [k0_part38_eq_skeleton]; unfold k0_part38_skel
  simp only [semSignalWord, semWaitWord, Prog.lift, Prog.bind_op, Prog.bind_ret, Prog.pure_eq_ret, Prog.bind_assoc]
  iintro ⟨#HC, HO, H2, H3, H4, H1⟩ HQ
  iapply (send_wait U K (ch := 2) (S := 16) (V := 13) (P := P) (by decide) (by decide) hP (sem_eq _ _ _ _ rfl _ rfl (sendQ 2 13) rfl) (credit_big 2 (by decide) _)) $$ [HO H2]
  · isplitr; · iexact HC
    isplitl [HO]; · iexact HO
    iexact H2
  iintro ⟨HO, H2, Ha⟩
  iapply (send_wait U K (ch := 3) (S := 16) (V := 13) (P := P) (by decide) (by decide) hP (sem_eq _ _ _ _ rfl _ rfl (sendQ 3 13) rfl) (credit_half 3 (by decide) _)) $$ [HO H3]
  · isplitr; · iexact HC
    isplitl [HO]; · iexact HO
    iexact H3
  iintro ⟨HO, H3, Hb⟩
  iapply (send_wait U K (ch := 4) (S := 16) (V := 13) (P := P) (by decide) (by decide) hP (sem_eq _ _ _ _ rfl _ rfl (sendQ 4 13) rfl) (credit_half 4 (by decide) _)) $$ [HO H4]
  · isplitr; · iexact HC
    isplitl [HO]; · iexact HO
    iexact H4
  iintro ⟨HO, H4, Hc⟩
  iapply (send_wait U K (ch := 1) (S := 16) (V := 14) (P := P) (by decide) (by decide) hP (sem_eq _ _ _ _ rfl _ rfl (sendQ 1 14) rfl) (credit_big 1 (by decide) _)) $$ [HO H1]
  · isplitr; · iexact HC
    isplitl [HO]; · iexact HO
    iexact H1
  iintro ⟨HO, H1, Hd⟩
  rw [wp_ret]; imodintro
  iapply HQ
  isplitl [HO]; · iexact HO
  isplitl [H2]; · iexact H2
  isplitl [H3]; · iexact H3
  isplitl [H4]; · iexact H4
  isplitl [H1]; · iexact H1
  isplitl [Ha]; · iexact Ha
  isplitl [Hb]; · iexact Hb
  isplitl [Hc]; · iexact Hc
  iexact Hd

theorem part39_spec (i : grid0.Coords) {h1 : (Memref.whole main_arg0 : Memref sig .tc .hbm S1x2048x32x128 .f32).IsWhole} {aw : Memref sig .tc .vmem S4096x512 .f32} {h2 : aw.IsWhole} {ao : Memref sig .tc .vmem S1x1024x512 .f32} {h3 : ao.IsWhole}
  {h4 : (Ba : Memref sig .tc .vmem S2x256x4096 .f32).IsWhole} {h5 : (Bz : Memref sig .tc .vmem S2x256x512 .f32).IsWhole} {h6 : (Br : Memref sig .tc .vmem S4x256x512 .f32).IsWhole} {h7 : (Bm : Memref sig .tc .vmem S4x256x512 .f32).IsWhole}
  {h8 : (Bx : Memref sig .tc .vmem S4x256x512 .f32).IsWhole} {h9 : (By : Memref sig .tc .vmem S4x256x512 .f32).IsWhole} {h10 : (Bq : Memref sig .tc .vmem S4x256x512 .f32).IsWhole} (hP : 0 < P) :
    iprop(Ctx U K ∗ ow c P ∗ Chan 2 c 16 R2 C2 E2 14 ∗ Chan 3 c 16 R3 C3 E3 14 ∗ Chan 4 c 16 R4 C4 E4 14 ∗ Chan 1 c 16 R1 C1 E1 15)
      ⊢ iprop(((ow c P ∗ Chan 2 c 16 R2 C2 E2 15 ∗ Chan 3 c 16 R3 C3 E3 15 ∗ Chan 4 c 16 R4 C4 E4 15 ∗ Chan 1 c 16 R1 C1 E1 16
            ∗ lent U 2 c 14 ∗ lent U 3 c 14 ∗ lent U 4 c 14 ∗ lent U 1 c 15) -∗ Q ⟨⟩)
        -∗ wp frame (wpE defs 𝒱 (c : Thread nD τ) bd) Set.univ (k0_part39 i (Memref.whole main_arg0) h1 aw h2 ao h3 Ba h4 Bz h5 Br h6 Bm h7 Bx h8 By h9 Bq h10 cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22) Q) := by
  rw [k0_part39_eq_skeleton]; unfold k0_part39_skel
  simp only [semSignalWord, semWaitWord, Prog.lift, Prog.bind_op, Prog.bind_ret, Prog.pure_eq_ret, Prog.bind_assoc]
  iintro ⟨#HC, HO, H2, H3, H4, H1⟩ HQ
  iapply (send_wait U K (ch := 2) (S := 16) (V := 14) (P := P) (by decide) (by decide) hP (sem_eq _ _ _ _ rfl _ rfl (sendQ 2 14) rfl) (credit_big 2 (by decide) _)) $$ [HO H2]
  · isplitr; · iexact HC
    isplitl [HO]; · iexact HO
    iexact H2
  iintro ⟨HO, H2, Ha⟩
  iapply (send_wait U K (ch := 3) (S := 16) (V := 14) (P := P) (by decide) (by decide) hP (sem_eq _ _ _ _ rfl _ rfl (sendQ 3 14) rfl) (credit_half 3 (by decide) _)) $$ [HO H3]
  · isplitr; · iexact HC
    isplitl [HO]; · iexact HO
    iexact H3
  iintro ⟨HO, H3, Hb⟩
  iapply (send_wait U K (ch := 4) (S := 16) (V := 14) (P := P) (by decide) (by decide) hP (sem_eq _ _ _ _ rfl _ rfl (sendQ 4 14) rfl) (credit_half 4 (by decide) _)) $$ [HO H4]
  · isplitr; · iexact HC
    isplitl [HO]; · iexact HO
    iexact H4
  iintro ⟨HO, H4, Hc⟩
  iapply (send_wait U K (ch := 1) (S := 16) (V := 15) (P := P) (by decide) (by decide) hP (sem_eq _ _ _ _ rfl _ rfl (sendQ 1 15) rfl) (credit_big 1 (by decide) _)) $$ [HO H1]
  · isplitr; · iexact HC
    isplitl [HO]; · iexact HO
    iexact H1
  iintro ⟨HO, H1, Hd⟩
  rw [wp_ret]; imodintro
  iapply HQ
  isplitl [HO]; · iexact HO
  isplitl [H2]; · iexact H2
  isplitl [H3]; · iexact H3
  isplitl [H4]; · iexact H4
  isplitl [H1]; · iexact H1
  isplitl [Ha]; · iexact Ha
  isplitl [Hb]; · iexact Hb
  isplitl [Hc]; · iexact Hc
  iexact Hd

end
end Cert.KProof
end
-- ==== Proof.State.lean ====
/-
  What a device holds between two grid steps, by how many blocks each stage has done; before the first step; after the last.
-/
module

public import proofs.«01_k».proof.Proof.LoadP
public import proofs.«01_k».proof.Proof.LoadQ
public import proofs.«01_k».proof.Proof.Bar
public import proofs.«01_k».proof.Proof.StageA
public import proofs.«01_k».proof.Proof.StageA2
public import proofs.«01_k».proof.Proof.StageB
public import proofs.«01_k».proof.Proof.StageC
public import proofs.«01_k».proof.Proof.StageD
public import proofs.«01_k».proof.Proof.Fin

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

section
variable (U : Vals F) (c : Dev nD) (X : S1x2048x32x128.Idx → Elt F .f32)

/-- After `A` blocks of stage A, `B` of stage B, `C` of stage C, `D` of stage D. -/
def Mid (A B C D : ℕ) : sProp 𝕄 :=
  iprop(Chan 0 c A B (min B 12) (A - 4) (A - 2) ∗ Chan 1 c B C (A - 4) (B - 4) (A - 4) ∗ Chan 2 c B C (A - 4) (B - 4) (A - 4)
    ∗ Chan 3 c C D (min D 12) (C - 4) (A - 4) ∗ Chan 4 c C D (min D 12) (C - 4) (A - 4)
    ∗ win A 2 (zfree c) ∗ win 12 B (room 0 c) ∗ win A 4 (mfree c) ∗ win B A (mnew U c) ∗ win (A - 4) B (mkept U c)
    ∗ win (A - 4) C (xkept U c) ∗ win (A - 4) C (ykept U c) ∗ win 12 D (room 3 c) ∗ win 12 D (room 4 c))

/-- Row block `k` loaded. -/
def Ld (k : Fin 2) : sProp 𝕄 := iprop(pv c (aV k) fullShare (gath k c X) ∗ pv c Om.view (ldS k) X ∗ semVal ((c : Thread nD τ), .dma (ldQ k)) 0)
/-- The second row block on its way, in the first step; loaded, later. -/
def Ld1 (n : ℕ) : sProp 𝕄 := if n = 0 then iprop(ldW 1 c X 0 ∗ oRest 1 c X (ldS 1)) else Ld c X 1

/-- Everything before the first step: the channels without their landing slots, the barrier's assertions, the device's own
    landing slots, the two row blocks not yet loaded. -/
def Init : sProp 𝕄 :=
  iprop((Core 0 c 0 0 0 0 0 ∗ Core 1 c 0 0 0 0 0 ∗ Core 2 c 0 0 0 0 0 ∗ Core 3 c 0 0 0 0 0 ∗ Core 4 c 0 0 0 0 0) ∗ barT c
    ∗ (rooms 0 c ∗ (rooms 1 c ∗ rooms 4 c) ∗ (rooms 2 c ∗ rooms 3 c)) ∗ win 0 2 (zfree c) ∗ win 0 4 (mfree c)
    ∗ (semVal ((c : Thread nD τ), .dma (ldQ 0)) 0 ∗ pv c Om.view qL X ∗ pvAny c (aV 0)) ∗ (semVal ((c : Thread nD τ), .dma (ldQ 1)) 0 ∗ pv c Om.view qR X ∗ pvAny c (aV 1)))
/-- Everything after the last step. -/
def Done : sProp 𝕄 :=
  iprop((Chan 0 c 16 16 12 12 16 ∗ Chan 1 c 16 16 12 12 16 ∗ Chan 2 c 16 16 12 12 16 ∗ Chan 3 c 16 16 12 12 16 ∗ Chan 4 c 16 16 12 12 16)
    ∗ (win 12 16 (room 0 c) ∗ win 12 16 (room 1 c) ∗ win 12 16 (room 2 c) ∗ win 12 16 (room 3 c) ∗ win 12 16 (room 4 c)) ∗ win 14 16 (zfree c) ∗ win 16 20 (mfree c)
    ∗ atPos ER (barCell c) 1 ∅ 0 ∗ Ld c X 0 ∗ Ld c X 1)
def Run (n : ℕ) : sProp 𝕄 := iprop(Mid U c (min n 16) (min (n - 1) 16) (min (n - 2) 16) (min (n - 3) 16) ∗ atPos ER (barCell c) 1 ∅ 0 ∗ Ld c X 0 ∗ Ld c X 1)

/-- The state before step `n`. -/
def Pre (n : ℕ) : sProp 𝕄 := if n = 0 then Init c X else if n = 19 then Done c X else Run U c X n
/-- What has been paid before step `n`. -/
def posn (n : ℕ) : ℕ := if n = 0 then 0 else 16 * (n + 3)

/-- The result window after step `n`. -/
def outS (ao : Memref sig .tc .vmem S1x1024x512 .f32) (n : ℕ) : sProp 𝕄 := if n < 3 then pvAny c ao.view else pv c ao.view fullShare (ob U c (n - 3))

/-! ## Between the stages -/

theorem mid_zero : iprop((Chan 0 c 0 0 0 0 0 ∗ Chan 1 c 0 0 0 0 0 ∗ Chan 2 c 0 0 0 0 0 ∗ Chan 3 c 0 0 0 0 0 ∗ Chan 4 c 0 0 0 0 0) ∗ win 0 2 (zfree c) ∗ win 0 4 (mfree c)) ⊢ (Mid U c 0 0 0 0 : sProp 𝕄) := by
  unfold Mid
  rw [win_nil (show 0 ≤ 12 by omega) (room 0 c), win_nil (show 0 ≤ 0 by omega) (mnew U c), win_nil (show 0 ≤ 0 - 4 by omega) (mkept U c), win_nil (show 0 ≤ 0 - 4 by omega) (xkept U c),
    win_nil (show 0 ≤ 0 - 4 by omega) (ykept U c), win_nil (show 0 ≤ 12 by omega) (room 3 c), win_nil (show 0 ≤ 12 by omega) (room 4 c)]
  iintro ⟨⟨H0, H1, H2, H3, H4⟩, Hz, Hm⟩
  isplitl [H0]; · iexact H0
  isplitl [H1]; · iexact H1
  isplitl [H2]; · iexact H2
  isplitl [H3]; · iexact H3
  isplitl [H4]; · iexact H4
  isplitl [Hz]; · iexact Hz
  isplitr; · iempintro
  isplitl [Hm]; · iexact Hm
  isplitr; · iempintro
  isplitr; · iempintro
  isplitr; · iempintro
  isplitr; · iempintro
  isplitr; · iempintro
  iempintro

theorem ow_to (P P' : ℕ) (hP : P ≤ P') (hR : ∀ ch b, b < 16 → posR ch b < P ∨ P' ≤ posR ch b) (hC : ∀ ch e, e < 12 → posC ch e < P ∨ P' ≤ posC ch e)
    (hB : 4 ≤ P ∨ P' ≤ 1) : (ow c P : sProp 𝕄) ⊢ ow c P' := Entails.of_eq (ow_skip c P P' (O_skip c P P' hP hR hC hB))

theorem aV_0 : aV 0 = a0V := rfl
theorem aV_1 : aV 1 = a1V := rfl
end
end Cert.KProof
end
-- ==== Proof.Body.lean ====
/-
  One grid step: every stage whose block exists runs once; the device's state moves from before step `n` to before step `n + 1`.
-/
module

public import proofs.«01_k».proof.Proof.State

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

section
variable {defs : Defs nD τ sig (Elt F) Λ₀} {𝒱 : Variants} {c : Dev nD} {bd : Option 𝒱.V} (U : Vals F) (K : Dev nD × CI → ℕ) (X : S1x2048x32x128.Idx → Elt F .f32)

/-- One assertion of a run, lent and to be put back. -/
theorem win_borrow {a b x : ℕ} (hx : a ≤ x ∧ x < b) (A : ℕ → sProp (MT nD τ sig ℕ (Elt F) ℕ UU ℕ)) : (win a b A : sProp 𝕄) ⊢ iprop(A x ∗ (A x -∗ win a b A)) := by
  have e : (win a b A : sProp 𝕄) = iprop(A x ∗ bigSep ((Finset.Ico a b).erase x) A) := by
    unfold win
    conv_lhs => rw [show Finset.Ico a b = insert x ((Finset.Ico a b).erase x) from (Finset.insert_erase (Finset.mem_Ico.mpr hx)).symm]
    exact BI.bigSep_insert (Finset.notMem_erase x _)
  rw [e]
  iintro ⟨H, Hr⟩
  isplitl [H]; · iexact H
  iintro H
  isplitl [H]; · iexact H
  iexact Hr

/-- Four blocks at the end, each given back in two parts. -/
theorem win_join4 (A B R : ℕ → sProp (MT nD τ sig ℕ (Elt F) ℕ UU ℕ)) (h : ∀ b, iprop(A b ∗ B b) ⊢ R b) :
    (iprop(win 12 16 B ∗ A 12 ∗ A 13 ∗ A 14 ∗ A 15) : sProp 𝕄) ⊢ win 12 16 R := by
  have e : ∀ T : ℕ → sProp (MT nD τ sig ℕ (Elt F) ℕ UU ℕ), (win 12 16 T : sProp 𝕄) = iprop(T 12 ∗ T 13 ∗ T 14 ∗ T 15 ∗ emp) := fun T => by
    rw [win_pop (show 12 < 16 by omega), win_pop (show 13 < 16 by omega), win_pop (show 14 < 16 by omega), win_pop (show 15 < 16 by omega), win_nil (show 16 ≤ 16 by omega)]
  rw [e B, e R]
  iintro ⟨⟨B2, B3, B4, B5, -⟩, A2, A3, A4, A5⟩
  isplitl [A2 B2]
  · iapply (h 12); isplitl [A2]; · iexact A2
    iexact B2
  isplitl [A3 B3]
  · iapply (h 13); isplitl [A3]; · iexact A3
    iexact B3
  isplitl [A4 B4]
  · iapply (h 14); isplitl [A4]; · iexact A4
    iexact B4
  isplitl [A5 B5]
  · iapply (h 15); isplitl [A5]; · iexact A5
    iexact B5
  iempintro

theorem z_back (c : Dev nD) (b : ℕ) : (lent U 0 c b : sProp 𝕄) ⊢ zfree c b := by
  rw [lent_0, zfree_def]; exact pv_any c (slot2V Bz b) (zs U c b)

theorem m_join4 (c : Dev nD) : (iprop(win 12 16 (mkept U c) ∗ (lent U 1 c 12 ∗ lent U 1 c 13 ∗ lent U 1 c 14 ∗ lent U 1 c 15) ∗ lent U 2 c 12 ∗ lent U 2 c 13 ∗ lent U 2 c 14 ∗ lent U 2 c 15) : sProp 𝕄)
    ⊢ win 16 20 (mfree c) := by
  have e : (win 16 20 (mfree c) : sProp 𝕄) = win 12 16 (fun b => mfree c (b + 4)) := by
    rw [win_pop (show 16 < 20 by omega), win_pop (show 16 + 1 < 20 by omega), win_pop (show 16 + 1 + 1 < 20 by omega), win_pop (show 16 + 1 + 1 + 1 < 20 by omega), win_nil (show 20 ≤ 16 + 1 + 1 + 1 + 1 by omega),
      win_pop (show 12 < 16 by omega), win_pop (show 12 + 1 < 16 by omega), win_pop (show 12 + 1 + 1 < 16 by omega), win_pop (show 12 + 1 + 1 + 1 < 16 by omega), win_nil (show 16 ≤ 12 + 1 + 1 + 1 + 1 by omega)]
  rw [e]
  iintro ⟨Hk, ⟨A2, A3, A4, A5⟩, B2, B3, B4, B5⟩
  iapply (win_join4 (fun b => iprop(lent U 1 c b ∗ lent U 2 c b)) (mkept U c) (fun b => mfree c (b + 4)) (fun b => (by
    iintro ⟨⟨H1, H2⟩, H3⟩
    iapply (m_join U c b)
    isplitl [H1]; · iexact H1
    isplitl [H2]; · iexact H2
    iexact H3)))
  isplitl [Hk]; · iexact Hk
  isplitl [A2 B2]
  · isplitl [A2]; · iexact A2
    iexact B2
  isplitl [A3 B3]
  · isplitl [A3]; · iexact A3
    iexact B3
  isplitl [A4 B4]
  · isplitl [A4]; · iexact A4
    iexact B4
  isplitl [A5]; · iexact A5
  iexact B5

/-- The channels and the buffers after the last step's waits. -/
def Done0 (c : Dev nD) : sProp 𝕄 :=
  iprop((Chan 0 c 16 16 12 12 16 ∗ Chan 1 c 16 16 12 12 16 ∗ Chan 2 c 16 16 12 12 16 ∗ Chan 3 c 16 16 12 12 16 ∗ Chan 4 c 16 16 12 12 16)
    ∗ (win 12 16 (room 0 c) ∗ win 12 16 (room 1 c) ∗ win 12 16 (room 2 c) ∗ win 12 16 (room 3 c) ∗ win 12 16 (room 4 c)) ∗ win 14 16 (zfree c) ∗ win 16 20 (mfree c))

theorem pre_next (c : Dev nD) (n : ℕ) (h : n < 19) :
    (iprop((if n = 18 then Done0 c else Mid U c (min (n + 1) 16) (min n 16) (min (n - 1) 16) (min (n - 2) 16)) ∗ atPos ER (barCell c) 1 ∅ 0 ∗ Ld c X 0 ∗ Ld c X 1) : sProp 𝕄) ⊢ Pre U c X (n + 1) := by
  unfold Pre
  rw [if_neg (show n + 1 ≠ 0 by omega)]
  by_cases h18 : n = 18
  · rw [if_pos h18, if_pos (show n + 1 = 19 by omega)]
    unfold Done Done0
    iintro ⟨⟨H1, H2, H3, H4⟩, H5⟩
    isplitl [H1]; · iexact H1
    isplitl [H2]; · iexact H2
    isplitl [H3]; · iexact H3
    isplitl [H4]; · iexact H4
    iexact H5
  · rw [if_neg h18, if_neg (show n + 1 ≠ 19 by omega)]
    unfold Run
    rw [show n + 1 - 1 = n by omega, show n + 1 - 2 = n - 1 by omega, show n + 1 - 3 = n - 2 by omega]

/-- The first part reads the step's number and the device's number. -/
theorem part40_spec (i : grid0.Coords) {h1 : (Memref.whole main_arg0 : Memref sig .tc .hbm S1x2048x32x128 .f32).IsWhole} {aw : Memref sig .tc .vmem S4096x512 .f32} {h2 : aw.IsWhole} {ao : Memref sig .tc .vmem S1x1024x512 .f32} {h3 : ao.IsWhole}
  {h4 : (Ba : Memref sig .tc .vmem S2x256x4096 .f32).IsWhole} {h5 : (Bz : Memref sig .tc .vmem S2x256x512 .f32).IsWhole} {h6 : (Br : Memref sig .tc .vmem S4x256x512 .f32).IsWhole} {h7 : (Bm : Memref sig .tc .vmem S4x256x512 .f32).IsWhole}
  {h8 : (Bx : Memref sig .tc .vmem S4x256x512 .f32).IsWhole} {h9 : (By : Memref sig .tc .vmem S4x256x512 .f32).IsWhole} {h10 : (Bq : Memref sig .tc .vmem S4x256x512 .f32).IsWhole} {Q : _ → sProp (MT nD τ sig ℕ (Elt F) ℕ UU ℕ)} :
    iprop(∀ (v2 v5 v8 v9 v10 v11 v13 v16 v19 v23 : BitVec 32), Q ⟨BitVec.ofNat 32 (i 0).val, c, v2, v5, v8, v9, v10, v11, v13, v16, v19, v23⟩)
      ⊢ wp frame (wpE defs 𝒱 (c : Thread nD τ) bd) Set.univ (k0_part40 i (Memref.whole main_arg0) h1 aw h2 ao h3 Ba h4 Bz h5 Br h6 Bm h7 Bx h8 By h9 Bq h10 cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22) Q := by
  rw [k0_part40_eq_skeleton]; unfold k0_part40_skel
  simp only [semSignalWord, semWaitWord, Prog.lift, Prog.bind_op, Prog.bind_ret, Prog.pure_eq_ret, Prog.bind_assoc, wp_deviceId]
  iintro H
  rw [wp_ret]; imodintro
  iapply H

set_option maxRecDepth 16384 in
set_option maxHeartbeats 4000000 in
theorem body_spec (i : grid0.Coords) {h1 : (Memref.whole main_arg0 : Memref sig .tc .hbm S1x2048x32x128 .f32).IsWhole} {aw : Memref sig .tc .vmem S4096x512 .f32} {h2 : aw.IsWhole} {ao : Memref sig .tc .vmem S1x1024x512 .f32} {h3 : ao.IsWhole}
  {h4 : (Ba : Memref sig .tc .vmem S2x256x4096 .f32).IsWhole} {h5 : (Bz : Memref sig .tc .vmem S2x256x512 .f32).IsWhole} {h6 : (Br : Memref sig .tc .vmem S4x256x512 .f32).IsWhole} {h7 : (Bm : Memref sig .tc .vmem S4x256x512 .f32).IsWhole}
  {h8 : (Bx : Memref sig .tc .vmem S4x256x512 .f32).IsWhole} {h9 : (By : Memref sig .tc .vmem S4x256x512 .f32).IsWhole} {h10 : (Bq : Memref sig .tc .vmem S4x256x512 .f32).IsWhole} (n : ℕ) (hn : (i 0).val = n) (hn19 : n < 19) (ha0 : U.a0 c = gath 0 c X) (ha1 : U.a1 c = gath 1 c X) {Q : PUnit → sProp (MT nD τ sig ℕ (Elt F) ℕ UU ℕ)} :
    iprop(Ctx U K ∗ ow c (posn n) ∗ Pre U c X n ∗ pv c (woV aw) fullShare (U.w c n) ∗ pvAny c ao.view)
      ⊢ iprop(((ow c (posn (n + 1)) ∗ Pre U c X (n + 1) ∗ pv c (woV aw) fullShare (U.w c n) ∗ outS U c ao n) -∗ |={Set.univ}=> Q ⟨⟩)
        -∗ wp frame (wpE defs 𝒱 (c : Thread nD τ) bd) Set.univ (cc0_body i (Memref.whole main_arg0) h1 aw h2 ao h3 Ba h4 Bz h5 Br h6 Bm h7 Bx h8 By h9 Bq h10 cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22) Q) := by
  rw [cc0_body_eq_skeleton]; unfold cc0_body_skel
  simp only [semSignalWord, semWaitWord, Prog.lift, Prog.bind_op, Prog.bind_ret, Prog.pure_eq_ret, Prog.bind_assoc]
  iintro ⟨#HC, HO, HP, Hw, Ho⟩ HQ
  rw [wp_bind]
  iapply part40_spec
  iintro %v2 %v5 %v8 %v9 %v10 %v11 %v13 %v16 %v19 %v23
  iapply (wp_opt iprop(Ctx U K ∗ ow c (posn n) ∗ Pre U c X n)
      iprop(ow c (16 * (n + 3)) ∗ Mid U c (min n 16) (min (n - 1) 16) (min (n - 2) 16) (min (n - 3) 16) ∗ atPos ER (barCell c) 1 ∅ 0 ∗ Ld c X 0 ∗ Ld1 c X n) (by
        intro h1
        have h1' : n = 0 := by have := (cond1_iff i).mp h1; omega
        subst h1'
        unfold posn Pre Init
        rw [if_pos rfl, if_pos rfl]
        iintro ⟨#HC, HO, ⟨HK0, HK1, HK2, HK3, HK4⟩, HB, ⟨Hr0, Hr1, Hr2⟩, Hz, Hm, ⟨Hs0, Ho0, Ha0⟩, ⟨Hs1, Ho1, Ha1⟩⟩ Hk
        imod (ld_start 0 c X) $$ [Hs0 Ho0 Ha0] with ⟨HL, HR0⟩
        · isplitl [Hs0]; · iexact Hs0
          isplitl [Ho0]; · iexact Ho0
          iexact Ha0
        rw [wp_bind]
        iapply (part1_spec X i h1) $$ HL
        iintro HL
        rw [wp_bind]
        iapply (part2_spec X i h1) $$ HL
        iintro HL
        rw [wp_bind]
        iapply (part3_spec X i h1) $$ HL
        iintro HL
        rw [wp_bind]
        iapply (part4_spec X i h1) $$ HL
        iintro HL
        rw [wp_bind]
        iapply (part5_spec X i h1) $$ HL
        iintro HL
        rw [wp_bind]
        iapply (part6_spec X i h1) $$ HL
        iintro HL
        rw [wp_bind]
        iapply (part7_spec X i h1) $$ HL
        iintro HL
        imod (ld_start 1 c X) $$ [Hs1 Ho1 Ha1] with ⟨HM, HR1⟩
        · isplitl [Hs1]; · iexact Hs1
          isplitl [Ho1]; · iexact Ho1
          iexact Ha1
        rw [wp_bind]
        iapply (part8_spec X i h1) $$ [HL HM]
        · isplitl [HL]; · iexact HL
          iexact HM
        iintro ⟨HL, HM⟩
        rw [wp_bind]
        iapply (part9_spec X i h1) $$ HM
        iintro HM
        rw [wp_bind]
        iapply (part10_spec X i h1) $$ HM
        iintro HM
        rw [wp_bind]
        iapply (part11_spec X i h1) $$ HM
        iintro HM
        rw [wp_bind]
        iapply (part12_spec X i h1) $$ HM
        iintro HM
        rw [wp_bind]
        iapply (part13_spec X i h1) $$ HM
        iintro HM
        rw [wp_bind]
        iapply (part14_spec X i h1) $$ HM
        iintro HM
        rw [wp_bind]
        iapply (part15_spec X i h1) $$ HM
        iintro %x HM
        ihave HL := (ld_all 0 c X) $$ HL
        ihave HM := (ld_all 1 c X) $$ HM
        rw [wp_bind]
        iapply (part16_spec U K X i h1) $$ [HO HL HB Hr0 Hr1 Hr2]
        · isplitr; · iexact HC
          isplitl [HO]; · iapply (ow_to c (0) (1) (by omega) (fun ch b' hb' => by rcases posR_cases ch b' with h | h | h | h | h <;> omega) (fun ch e he => by rcases posC_cases ch e with h | h | h | h | h <;> omega) (by omega)); iexact HO
          isplitl [HL]; · iexact HL
          isplitl [HB]; · iexact HB
          isplitl [Hr0]; · iexact Hr0
          isplitl [Hr1]; · iexact Hr1
          iexact Hr2
        iintro ⟨HO, HL, HB, Hb0, Hb1, Hb2⟩
        rw [wp_bind]
        iapply (part17_spec U K X i h1 (P := 4) (by decide)) $$ [HO HL]
        · isplitr; · iexact HC
          isplitl [HO]; · iexact HO
          iexact HL
        iintro ⟨HO, HL⟩
        rw [wp_bind]
        iapply (part18_spec U K X i h1 (P := 4) (by decide)) $$ [HO HL]
        · isplitr; · iexact HC
          isplitl [HO]; · iexact HO
          iexact HL
        iintro ⟨HO, HL⟩
        rw [wp_bind]
        iapply (part19_spec U K X i h1 (P := 4) (by decide)) $$ [HO HL]
        · isplitr; · iexact HC
          isplitl [HO]; · iexact HO
          iexact HL
        iintro ⟨HO, HL⟩
        rw [wp_bind]
        iapply (part20_spec U K X i h1 (P := 4) (by decide)) $$ [HO HL]
        · isplitr; · iexact HC
          isplitl [HO]; · iexact HO
          iexact HL
        iintro ⟨HO, HL⟩
        rw [wp_bind]
        iapply (part21_spec U K X i h1 (P := 4) (by decide)) $$ [HO HL]
        · isplitr; · iexact HC
          isplitl [HO]; · iexact HO
          iexact HL
        iintro ⟨HO, HL⟩
        rw [wp_bind]
        iapply (part22_spec U K X i h1 (P := 4) (by decide)) $$ [HO HL]
        · isplitr; · iexact HC
          isplitl [HO]; · iexact HO
          iexact HL
        iintro ⟨HO, HL⟩
        rw [wp_bind]
        iapply (part23_spec U K X i h1 (P := 4) (by decide)) $$ [HO HL]
        · isplitr; · iexact HC
          isplitl [HO]; · iexact HO
          iexact HL
        iintro ⟨HO, HL⟩
        iapply (ld_last U K 4 (by decide) rfl) $$ [HO HL HR0]
        · isplitr; · iexact HC
          isplitl [HO]; · iexact HO
          isplitl [HL]; · iexact HL
          iexact HR0
        iintro ⟨HO, HA, HOm, Hsv⟩
        iapply Hk
        isplitl [HO]; · iapply (ow_to c (4) (16 * (0 + 3)) (by omega) (fun ch b' hb' => by rcases posR_cases ch b' with h | h | h | h | h <;> omega) (fun ch e he => by rcases posC_cases ch e with h | h | h | h | h <;> omega) (by omega)); iexact HO
        isplitr [HB HA HOm Hsv HM HR1]
        · unfold barPay
          ihave Hb1 := Hb1
          icases Hb1 with ⟨Hb1, Hb4⟩
          icases Hb2 with ⟨Hb2, Hb3⟩
          iapply (mid_zero U c)
          isplitl [HK0 Hb0 HK1 Hb1 HK2 Hb2 HK3 Hb3 HK4 Hb4]
          · isplitl [HK0 Hb0]
            · iapply (chan_start U K 0) $$ [HK0 Hb0]
              isplitr; · iexact HC
              isplitl [HK0]; · iexact HK0
              iexact Hb0
            isplitl [HK1 Hb1]
            · iapply (chan_start U K 1) $$ [HK1 Hb1]
              isplitr; · iexact HC
              isplitl [HK1]; · iexact HK1
              iexact Hb1
            isplitl [HK2 Hb2]
            · iapply (chan_start U K 2) $$ [HK2 Hb2]
              isplitr; · iexact HC
              isplitl [HK2]; · iexact HK2
              iexact Hb2
            isplitl [HK3 Hb3]
            · iapply (chan_start U K 3) $$ [HK3 Hb3]
              isplitr; · iexact HC
              isplitl [HK3]; · iexact HK3
              iexact Hb3
            iapply (chan_start U K 4) $$ [HK4 Hb4]
            isplitr; · iexact HC
            isplitl [HK4]; · iexact HK4
            iexact Hb4
          isplitl [Hz]; · iexact Hz
          iexact Hm
        isplitl [HB]; · iexact HB
        isplitl [HA HOm Hsv]
        · unfold Ld
          isplitl [HA]; · iexact HA
          isplitl [HOm]; · iexact HOm
          iexact Hsv
        unfold Ld1
        rw [if_pos rfl]
        isplitl [HM]; · iexact HM
        iexact HR1) (by
        intro h1
        have h1' : n ≠ 0 := fun h => h1 ((cond1_iff i).mpr (by omega))
        unfold posn Pre Run Ld1
        rw [if_neg h1', if_neg h1', if_neg (show n ≠ 19 by omega), if_neg h1']
        iintro ⟨-, HO, H⟩
        isplitl [HO]; · iexact HO
        iexact H)) $$ [HO HP]
  · isplitr; · iexact HC
    isplitl [HO]; · iexact HO
    iexact HP
  iintro ⟨HO, HM, HB, HL0, HL1⟩
  iapply (wp_opt iprop(Ctx U K ∗ ow c (16 * (n + 3)) ∗ Mid U c (min n 16) (min (n - 1) 16) (min (n - 2) 16) (min (n - 3) 16) ∗ Ld c X 0 ∗ Ld1 c X n ∗ pv c (woV aw) fullShare (U.w c n))
      iprop(ow c (16 * (n + 3) + 3) ∗ Mid U c (min (n + 1) 16) (min (n - 1) 16) (min (n - 2) 16) (min (n - 3) 16) ∗ Ld c X 0 ∗ Ld c X 1 ∗ pv c (woV aw) fullShare (U.w c n)) (by
        intro h2
        have h2' : n < 16 := by have := (cond2_iff i).mp h2; omega
        rw [show min n 16 = n by omega, show min (n + 1) 16 = n + 1 by omega, show min (n - 1) 16 = n - 1 by omega, show min (n - 2) 16 = n - 2 by omega, show min (n - 3) 16 = n - 3 by omega]
        unfold Mid
        iintro ⟨#HC, HO, ⟨H0, H1, H2, H3, H4, Hz, Hr0, Hmf, Hmn, Hmk, Hxk, Hyk, Hr3, Hr4⟩, HL0, HL1, Hw⟩ Hk
        unfold Ld
        icases HL0 with ⟨HA0, HL0⟩
        ihave HA0 := (Entails.of_eq (show (pv c (aV 0) fullShare (gath 0 c X) : sProp 𝕄) = pv c a0V fullShare (U.a0 c) by rw [ha0, aV_0])) $$ HA0
        rw [wp_bind]
        iapply (part32_spec U K i h2 n hn fullShare) $$ [HO H0 Hz HA0 Hw]
        · isplitr; · iexact HC
          isplitl [HO]; · iexact HO
          isplitl [H0]; · iexact H0
          isplitl [Hz]; · iexact Hz
          isplitl [HA0]; · iexact HA0
          iexact Hw
        iintro %x ⟨HO, H0, Hz, HA0, Hw⟩
        iapply (wp_opt iprop(Ctx U K ∗ ow c (16 * (n + 3) + 1) ∗ Ld1 c X n)
            iprop(ow c (16 * (n + 3) + 1) ∗ Ld c X 1) (by
              intro h5
              have h5' : n = 0 := by have := (cond5_iff i).mp h5; omega
              subst h5'
              unfold Ld1
              rw [if_pos rfl]
              iintro ⟨#HC, HO, HM, HR⟩ Hk
              rw [wp_bind]
              iapply (part24_spec U K X i h2 h5 (P := 16 * (0 + 3) + 1) (by decide)) $$ [HO HM]
              · isplitr; · iexact HC
                isplitl [HO]; · iexact HO
                iexact HM
              iintro ⟨HO, HM⟩
              rw [wp_bind]
              iapply (part25_spec U K X i h2 h5 (P := 16 * (0 + 3) + 1) (by decide)) $$ [HO HM]
              · isplitr; · iexact HC
                isplitl [HO]; · iexact HO
                iexact HM
              iintro ⟨HO, HM⟩
              rw [wp_bind]
              iapply (part26_spec U K X i h2 h5 (P := 16 * (0 + 3) + 1) (by decide)) $$ [HO HM]
              · isplitr; · iexact HC
                isplitl [HO]; · iexact HO
                iexact HM
              iintro ⟨HO, HM⟩
              rw [wp_bind]
              iapply (part27_spec U K X i h2 h5 (P := 16 * (0 + 3) + 1) (by decide)) $$ [HO HM]
              · isplitr; · iexact HC
                isplitl [HO]; · iexact HO
                iexact HM
              iintro ⟨HO, HM⟩
              rw [wp_bind]
              iapply (part28_spec U K X i h2 h5 (P := 16 * (0 + 3) + 1) (by decide)) $$ [HO HM]
              · isplitr; · iexact HC
                isplitl [HO]; · iexact HO
                iexact HM
              iintro ⟨HO, HM⟩
              rw [wp_bind]
              iapply (part29_spec U K X i h2 h5 (P := 16 * (0 + 3) + 1) (by decide)) $$ [HO HM]
              · isplitr; · iexact HC
                isplitl [HO]; · iexact HO
                iexact HM
              iintro ⟨HO, HM⟩
              rw [wp_bind]
              iapply (part30_spec U K X i h2 h5 (P := 16 * (0 + 3) + 1) (by decide)) $$ [HO HM]
              · isplitr; · iexact HC
                isplitl [HO]; · iexact HO
                iexact HM
              iintro ⟨HO, HM⟩
              iapply (ld_wait U K 30 (16 * (0 + 3) + 1) (by decide) (by decide) rfl) $$ [HO HM]
              · isplitr; · iexact HC
                isplitl [HO]; · iexact HO
                iexact HM
              iintro ⟨HO, HM⟩
              iapply (ld_last U K (16 * (0 + 3) + 1) (by decide) rfl) $$ [HO HM HR]
              · isplitr; · iexact HC
                isplitl [HO]; · iexact HO
                isplitl [HM]; · iexact HM
                iexact HR
              iintro ⟨HO, HA, HOm, Hsv⟩
              iapply Hk
              isplitl [HO]; · iexact HO
              unfold Ld
              isplitl [HA]; · iexact HA
              isplitl [HOm]; · iexact HOm
              iexact Hsv) (by
              intro h5
              have h5' : n ≠ 0 := fun h => h5 ((cond5_iff i).mpr (by omega))
              unfold Ld1
              rw [if_neg h5']
              iintro ⟨-, H⟩
              iexact H)) $$ [HO HL1]
        · isplitr; · iexact HC
          isplitl [HO]; · iexact HO
          iexact HL1
        iintro ⟨HO, HL1⟩
        iapply (wp_opt iprop(Ctx U K ∗ ow c (16 * (n + 3) + 1) ∗ Chan 1 c (n - 1) (n - 2) (n - 4) (n - 1 - 4) (n - 4) ∗ Chan 2 c (n - 1) (n - 2) (n - 4) (n - 1 - 4) (n - 4) ∗ Chan 3 c (n - 2) (n - 3) (min (n - 3) 12) (n - 2 - 4) (n - 4) ∗ Chan 4 c (n - 2) (n - 3) (min (n - 3) 12) (n - 2 - 4) (n - 4) ∗ win n 4 (mfree c) ∗ win (n - 4) (n - 1) (mkept U c) ∗ win (n - 4) (n - 2) (xkept U c) ∗ win (n - 4) (n - 2) (ykept U c))
            iprop(ow c (16 * (n + 3) + 3) ∗ Chan 1 c (n - 1) (n - 2) (n + 1 - 4) (n - 1 - 4) (n + 1 - 4) ∗ Chan 2 c (n - 1) (n - 2) (n + 1 - 4) (n - 1 - 4) (n + 1 - 4) ∗ Chan 3 c (n - 2) (n - 3) (min (n - 3) 12) (n - 2 - 4) (n + 1 - 4) ∗ Chan 4 c (n - 2) (n - 3) (min (n - 3) 12) (n - 2 - 4) (n + 1 - 4) ∗ mfree c n ∗ win (n + 1) 4 (mfree c) ∗ win (n + 1 - 4) (n - 1) (mkept U c) ∗ win (n + 1 - 4) (n - 2) (xkept U c) ∗ win (n + 1 - 4) (n - 2) (ykept U c)) (by
              intro h6
              have h6' : 4 ≤ n := by have := (cond6_iff i).mp h6; omega
              rw [win_nil (show 4 ≤ n by omega) (mfree c), win_nil (show 4 ≤ n + 1 by omega) (mfree c), win_pop (show n - 4 < n - 1 by omega) (mkept U c), win_pop (show n - 4 < n - 2 by omega) (xkept U c),
                win_pop (show n - 4 < n - 2 by omega) (ykept U c), show n + 1 - 4 = n - 4 + 1 by omega]
              iintro ⟨#HC, HO, H1, H2, H3, H4, -, ⟨Hmk, Hmks⟩, ⟨Hxk, Hxks⟩, ⟨Hyk, Hyks⟩⟩ Hk
              rw [wp_bind]
              iapply (part31_spec U K i h2 h6 (B := n - 1) (T := n - 2) (P := 16 * (n + 3) + 1) (n - 4) (by omega) (by omega) (by omega) (by omega)) $$ [HO H1 H2 H3 H4 Hmk Hxk Hyk]
              · isplitr; · iexact HC
                isplitl [HO]; · iexact HO
                isplitl [H1]; · iexact H1
                isplitl [H2]; · iexact H2
                isplitl [H3]; · iexact H3
                isplitl [H4]; · iexact H4
                isplitl [Hmk]; · iexact Hmk
                isplitl [Hxk]; · iexact Hxk
                iexact Hyk
              iintro %x ⟨HO, H1, H2, H3, H4, Hf, Hx, Hy⟩
              iapply (cred_give U K (ch := 1) (C := n - 4) (R := n - 2) (P := 16 * (n + 3) + 1) (by omega) (by omega) (by show 16 * (n - 4 + 7) + 1 = _; omega) (sem_eq _ _ _ _ rfl _ (off106 i n hn) (credQ 1 (n - 4)) (by show 4 + n % 4 = 4 * 1 + (n - 4) % 4; omega)) (dev5 c _) rfl) $$ [HO H1 Hx]
              · isplitr; · iexact HC
                isplitl [HO]; · iexact HO
                isplitl [H1]; · iexact H1
                iexact Hx
              iintro ⟨HO, H1⟩
              iapply (cred_give U K (ch := 2) (C := n - 4) (R := n - 2) (P := 16 * (n + 3) + 2) (by omega) (by omega) (by show 16 * (n - 4 + 7) + 2 = _; omega) (sem_eq _ _ _ _ rfl _ (off106 i n hn) (credQ 2 (n - 4)) (by show 8 + n % 4 = 4 * 2 + (n - 4) % 4; omega)) (dev6 c _) rfl) $$ [HO H2 Hy]
              · isplitr; · iexact HC
                isplitl [HO]; · iexact HO
                isplitl [H2]; · iexact H2
                iexact Hy
              iintro ⟨HO, H2⟩
              iapply Hk
              isplitl [HO]; · iexact HO
              isplitl [H1]; · iexact H1
              isplitl [H2]; · iexact H2
              isplitl [H3]; · iexact H3
              isplitl [H4]; · iexact H4
              isplitl [Hf]; · rw [show n = n - 4 + 4 by omega]; iexact Hf
              isplitr; · iempintro
              isplitl [Hmks]; · iexact Hmks
              isplitl [Hxks]; · iexact Hxks
              iexact Hyks) (by
              intro h6
              have h6' : n < 4 := by by_contra h; exact h6 ((cond6_iff i).mpr (by omega))
              rw [win_pop h6' (mfree c), show n + 1 - 4 = n - 4 by omega]
              iintro ⟨-, HO, H1, H2, H3, H4, ⟨Hf, Hfs⟩, Hmk, Hxk, Hyk⟩
              isplitl [HO]; · iapply (ow_to c (16 * (n + 3) + 1) (16 * (n + 3) + 3) (by omega) (fun ch b' hb' => by rcases posR_cases ch b' with h | h | h | h | h <;> omega) (fun ch e he => by rcases posC_cases ch e with h | h | h | h | h <;> omega) (by omega)); iexact HO
              isplitl [H1]; · iexact H1
              isplitl [H2]; · iexact H2
              isplitl [H3]; · iexact H3
              isplitl [H4]; · iexact H4
              isplitl [Hf]; · iexact Hf
              isplitl [Hfs]; · iexact Hfs
              isplitl [Hmk]; · iexact Hmk
              isplitl [Hxk]; · iexact Hxk
              iexact Hyk)) $$ [HO H1 H2 H3 H4 Hmf Hmk Hxk Hyk]
        · isplitr; · iexact HC
          isplitl [HO]; · iexact HO
          isplitl [H1]; · iexact H1
          isplitl [H2]; · iexact H2
          isplitl [H3]; · iexact H3
          isplitl [H4]; · iexact H4
          isplitl [Hmf]; · iexact Hmf
          isplitl [Hmk]; · iexact Hmk
          isplitl [Hxk]; · iexact Hxk
          iexact Hyk
        iintro ⟨HO, H1, H2, H3, H4, Hf, Hmf, Hmk, Hxk, Hyk⟩
        unfold Ld
        icases HL1 with ⟨HA1, HL1⟩
        ihave HA1 := (Entails.of_eq (show (pv c (aV 1) fullShare (gath 1 c X) : sProp 𝕄) = pv c a1V fullShare (U.a1 c) by rw [ha1, aV_1])) $$ HA1
        iapply (wp_load_pv rfl) $$ [HA1]
        · iexact HA1
        iintro HA1
        iapply (wp_load_pv rfl) $$ [Hw]
        · iexact Hw
        iintro Hw
        ihave Hf := (Entails.of_eq (mfree_def c n)) $$ Hf
        iapply (wp_load_any (off110 i n hn) (hi' := inb_slot n)) $$ [Hf]
        · iexact Hf
        iintro %y Hf
        iapply (wp_store_pv (off110 i n hn) (hi' := inb_slot n)) $$ [Hf]
        · iexact Hf
        iintro Hf
        iapply Hk
        isplitl [HO]; · iexact HO
        rw [win_push (show n - 1 ≤ n by omega) (mnew U c)]
        isplitr [HA0 HL0 HA1 HL1 Hw]
        · isplitl [H0]; · iexact H0
          isplitl [H1]; · iexact H1
          isplitl [H2]; · iexact H2
          isplitl [H3]; · iexact H3
          isplitl [H4]; · iexact H4
          isplitl [Hz]; · iexact Hz
          isplitl [Hr0]; · iexact Hr0
          isplitl [Hmf]; · iexact Hmf
          isplitl [Hf Hmn]
          · isplitl [Hf]
            · iapply (Entails.of_eq (mnew_def U c n).symm); iexact Hf
            iexact Hmn
          isplitl [Hmk]; · iexact Hmk
          isplitl [Hxk]; · iexact Hxk
          isplitl [Hyk]; · iexact Hyk
          isplitl [Hr3]; · iexact Hr3
          iexact Hr4
        isplitl [HA0 HL0]
        · isplitl [HA0]
          · iapply (Entails.of_eq (show (pv c (aV 0) fullShare (gath 0 c X) : sProp 𝕄) = pv c a0V fullShare (U.a0 c) by rw [ha0, aV_0]).symm); iexact HA0
          iexact HL0
        isplitl [HA1 HL1]
        · isplitl [HA1]
          · iapply (Entails.of_eq (show (pv c (aV 1) fullShare (gath 1 c X) : sProp 𝕄) = pv c a1V fullShare (U.a1 c) by rw [ha1, aV_1]).symm); iexact HA1
          iexact HL1
        iexact Hw) (by
        intro h2
        have h2' : 16 ≤ n := by by_contra h; exact h2 ((cond2_iff i).mpr (by omega))
        unfold Ld1
        rw [show min (n + 1) 16 = min n 16 by omega, if_neg (show n ≠ 0 by omega)]
        iintro ⟨-, HO, H⟩
        isplitl [HO]; · iapply (ow_to c (16 * (n + 3)) (16 * (n + 3) + 3) (by omega) (fun ch b' hb' => by rcases posR_cases ch b' with h | h | h | h | h <;> omega) (fun ch e he => by rcases posC_cases ch e with h | h | h | h | h <;> omega) (by omega)); iexact HO
        iexact H)) $$ [HO HM HL0 HL1 Hw]
  · isplitr; · iexact HC
    isplitl [HO]; · iexact HO
    isplitl [HM]; · iexact HM
    isplitl [HL0]; · iexact HL0
    isplitl [HL1]; · iexact HL1
    iexact Hw
  iintro ⟨HO, HM, HL0, HL1, Hw⟩
  iapply (wp_opt iprop(Ctx U K ∗ ow c (16 * (n + 3) + 3) ∗ Mid U c (min (n + 1) 16) (min (n - 1) 16) (min (n - 2) 16) (min (n - 3) 16))
      iprop(ow c (16 * (n + 3) + 6) ∗ Mid U c (min (n + 1) 16) (min n 16) (min (n - 2) 16) (min (n - 3) 16)) (by
        intro h7
        obtain ⟨b, rfl⟩ : ∃ b, n = b + 1 := ⟨n - 1, by have := (cond7_iff i).mp h7; omega⟩
        have hb : b < 16 := by have := (cond7_iff i).mp h7; omega
        rw [show min (b + 1 - 1) 16 = b by omega, show min (b + 1) 16 = b + 1 by omega, show b + 1 + 3 = b + 4 by omega]
        generalize hA : min (b + 1 + 1) 16 = A
        generalize min (b + 1 - 2) 16 = C
        generalize min (b + 1 - 3) 16 = D
        unfold Mid
        rw [win_pop (show b < A by omega) (mnew U c), win_push (show A - 4 ≤ b by omega) (mkept U c)]
        iintro ⟨#HC, HO, ⟨H0, H1, H2, H3, H4, Hz, Hr0, Hmf, ⟨Hn, Hmn⟩, Hmk, Hxk, Hyk, Hr3, Hr4⟩⟩ Hk
        rw [wp_bind]
        iapply (part33_spec U K i h7 b hn) $$ [HO H0 H1 H2 Hn Hr0]
        · isplitr; · iexact HC
          isplitl [HO]; · iexact HO
          isplitl [H0]; · iexact H0
          isplitl [H1]; · iexact H1
          isplitl [H2]; · iexact H2
          isplitl [Hn]; · iexact Hn
          iexact Hr0
        iintro %x ⟨HO, H0, H1, H2, Hn, Hr0⟩
        ihave Hn := (m_split U c b) $$ Hn
        icases Hn with ⟨Hn1, Hn2, Hn⟩
        iapply (send_pv U K (ch := 1) (S := b) (E := b + 1 - 4) (V := A - 4) hb (by omega) (by show A - 4 ≤ b ∧ b < A - 4 + 4; omega) (rfl : posR 1 b = 16 * (b + 4) + 4)
           (sem_eq _ _ _ _ rfl _ (off111 i b hn) (sendQ 1 b) rfl) (sem_eq _ _ _ _ rfl _ (off111 i b hn) (recvQ 1 b) rfl) (dev8 c _) (credit_big 1 (by decide) _)
           (slotV Bm b) (slotV Bx b) (sq_view Bm (off112 i b hn)) (sq_view Bx (off112 i b hn)) qL (mq U c b)
           (lent_1 U c b) (room_1 _ _) (by rw [land_1, pr_1, px_px])) $$ [HO H1 Hn1]
        · isplitr; · iexact HC
          isplitl [HO]; · iexact HO
          isplitl [H1]; · iexact H1
          iexact Hn1
        iintro ⟨HO, H1⟩
        iapply (send_pv U K (ch := 2) (S := b) (E := b + 1 - 4) (V := A - 4) hb (by omega) (by show A - 4 ≤ b ∧ b < A - 4 + 4; omega) (rfl : posR 2 b = 16 * (b + 4) + 5)
           (sem_eq _ _ _ _ rfl _ (off111 i b hn) (sendQ 2 b) rfl) (sem_eq _ _ _ _ rfl _ (off111 i b hn) (recvQ 2 b) rfl) (dev9 c _) (credit_big 2 (by decide) _)
           (slotV Bm b) (slotV By b) (sq_view Bm (off112 i b hn)) (sq_view By (off112 i b hn)) qRL (mq U c b)
           (lent_2 U c b) (room_2 _ _) (by rw [land_2, pr_2, py_py])) $$ [HO H2 Hn2]
        · isplitr; · iexact HC
          isplitl [HO]; · iexact HO
          isplitl [H2]; · iexact H2
          iexact Hn2
        iintro ⟨HO, H2⟩
        iapply Hk
        isplitl [HO]; · iexact HO
        isplitl [H0]; · iexact H0
        isplitl [H1]; · iexact H1
        isplitl [H2]; · iexact H2
        isplitl [H3]; · iexact H3
        isplitl [H4]; · iexact H4
        isplitl [Hz]; · iexact Hz
        isplitl [Hr0]; · iexact Hr0
        isplitl [Hmf]; · iexact Hmf
        isplitl [Hmn]; · iexact Hmn
        isplitl [Hn Hmk]
        · isplitl [Hn]; · iexact Hn
          iexact Hmk
        isplitl [Hxk]; · iexact Hxk
        isplitl [Hyk]; · iexact Hyk
        isplitl [Hr3]; · iexact Hr3
        iexact Hr4) (by
        intro h7
        have h7' : n = 0 ∨ 17 ≤ n := by by_contra h; exact h7 ((cond7_iff i).mpr (by omega))
        rw [show min n 16 = min (n - 1) 16 by omega]
        iintro ⟨-, HO, H⟩
        isplitl [HO]; · iapply (ow_to c (16 * (n + 3) + 3) (16 * (n + 3) + 6) (by omega) (fun ch b' hb' => by rcases posR_cases ch b' with h | h | h | h | h <;> omega) (fun ch e he => by rcases posC_cases ch e with h | h | h | h | h <;> omega) (by omega)); iexact HO
        iexact H)) $$ [HO HM]
  · isplitr; · iexact HC
    isplitl [HO]; · iexact HO
    iexact HM
  iintro ⟨HO, HM⟩
  iapply (wp_opt iprop(Ctx U K ∗ ow c (16 * (n + 3) + 6) ∗ Mid U c (min (n + 1) 16) (min n 16) (min (n - 2) 16) (min (n - 3) 16))
      iprop(ow c (16 * (n + 3) + 8) ∗ Mid U c (min (n + 1) 16) (min n 16) (min (n - 1) 16) (min (n - 3) 16)) (by
        intro h10
        obtain ⟨b, rfl⟩ : ∃ b, n = b + 2 := ⟨n - 2, by have := (cond10_iff i).mp h10; omega⟩
        have hb : b < 16 := by have := (cond10_iff i).mp h10; omega
        rw [show min (b + 2 - 2) 16 = b by omega, show min (b + 2 - 1) 16 = b + 1 by omega, show b + 2 + 3 = b + 5 by omega]
        generalize hA : min (b + 2 + 1) 16 = A
        generalize min (b + 2) 16 = B
        generalize hD : min (b + 2 - 3) 16 = D
        unfold Mid
        rw [win_push (show A - 4 ≤ b by omega) (xkept U c), win_push (show A - 4 ≤ b by omega) (ykept U c)]
        iintro ⟨#HC, HO, ⟨H0, H1, H2, H3, H4, Hz, Hr0, Hmf, Hmn, Hmk, Hxk, Hyk, Hr3, Hr4⟩⟩ Hk
        rw [wp_bind]
        iapply (part34_spec U K i h10 (C1 := A - 4) (C2 := A - 4) b hn (by omega) (by omega)) $$ [HO H1 H2 H3 H4]
        · isplitr; · iexact HC
          isplitl [HO]; · iexact HO
          isplitl [H1]; · iexact H1
          isplitl [H2]; · iexact H2
          isplitl [H3]; · iexact H3
          iexact H4
        iintro %x ⟨HO, H1, H2, H3, H4, Hx, Hy⟩
        ihave Hx := (x_split U c b) $$ Hx
        icases Hx with ⟨Hx1, Hx⟩
        ihave Hy := (y_split U c b) $$ Hy
        icases Hy with ⟨Hy1, Hy⟩
        iapply (send_pv U K (ch := 3) (S := b) (E := b + 1 - 4) (V := A - 4) hb (by omega) (by show A - 4 ≤ b ∧ b < A - 4 + 4; omega) (rfl : posR 3 b = 16 * (b + 5) + 6)
           (sem_eq _ _ _ _ rfl _ (off117 i b hn) (sendQ 3 b) rfl) (sem_eq _ _ _ _ rfl _ (off117 i b hn) (recvQ 3 b) rfl) (dev10 c _) (credit_half 3 (by decide) _)
           (loV Bx b) (loV Bq b) (sq_view Bx (off120 i b hn)) (sq_view Bq (off120 i b hn)) qL (lo (mq U (px c) b))
           (lent_3 U c b) (room_3 _ _) (by rw [land_3, pr_3, py_py])) $$ [HO H3 Hx1]
        · isplitr; · iexact HC
          isplitl [HO]; · iexact HO
          isplitl [H3]; · iexact H3
          iexact Hx1
        iintro ⟨HO, H3⟩
        iapply (send_pv U K (ch := 4) (S := b) (E := b + 1 - 4) (V := A - 4) hb (by omega) (by show A - 4 ≤ b ∧ b < A - 4 + 4; omega) (rfl : posR 4 b = 16 * (b + 5) + 7)
           (sem_eq _ _ _ _ rfl _ (off117 i b hn) (sendQ 4 b) rfl) (sem_eq _ _ _ _ rfl _ (off117 i b hn) (recvQ 4 b) rfl) (dev11 c _) (credit_half 4 (by decide) _)
           (hiV By b) (hiV Bq b) (sq_view By (off121 i b hn)) (sq_view Bq (off121 i b hn)) qL (hi (mq U (py c) b))
           (lent_4 U c b) (room_4 _ _) (by rw [land_4, pr_4, px_px])) $$ [HO H4 Hy1]
        · isplitr; · iexact HC
          isplitl [HO]; · iexact HO
          isplitl [H4]; · iexact H4
          iexact Hy1
        iintro ⟨HO, H4⟩
        iapply Hk
        isplitl [HO]; · iexact HO
        isplitl [H0]; · iexact H0
        isplitl [H1]; · iexact H1
        isplitl [H2]; · iexact H2
        isplitl [H3]; · iexact H3
        isplitl [H4]; · iexact H4
        isplitl [Hz]; · iexact Hz
        isplitl [Hr0]; · iexact Hr0
        isplitl [Hmf]; · iexact Hmf
        isplitl [Hmn]; · iexact Hmn
        isplitl [Hmk]; · iexact Hmk
        isplitl [Hx Hxk]
        · isplitl [Hx]; · iexact Hx
          iexact Hxk
        isplitl [Hy Hyk]
        · isplitl [Hy]; · iexact Hy
          iexact Hyk
        isplitl [Hr3]; · iexact Hr3
        iexact Hr4) (by
        intro h10
        have h10' : n ≤ 1 ∨ 18 ≤ n := by by_contra h; exact h10 ((cond10_iff i).mpr (by omega))
        rw [show min (n - 1) 16 = min (n - 2) 16 by omega]
        iintro ⟨-, HO, H⟩
        isplitl [HO]; · iapply (ow_to c (16 * (n + 3) + 6) (16 * (n + 3) + 8) (by omega) (fun ch b' hb' => by rcases posR_cases ch b' with h | h | h | h | h <;> omega) (fun ch e he => by rcases posC_cases ch e with h | h | h | h | h <;> omega) (by omega)); iexact HO
        iexact H)) $$ [HO HM]
  · isplitr; · iexact HC
    isplitl [HO]; · iexact HO
    iexact HM
  iintro ⟨HO, HM⟩
  iapply (wp_opt iprop(Ctx U K ∗ ow c (16 * (n + 3) + 8) ∗ Mid U c (min (n + 1) 16) (min n 16) (min (n - 1) 16) (min (n - 3) 16) ∗ pvAny c ao.view)
      iprop(ow c (16 * (n + 4)) ∗ Mid U c (min (n + 1) 16) (min n 16) (min (n - 1) 16) (min (n - 2) 16) ∗ outS U c ao n) (by
        intro h12
        obtain ⟨b, rfl⟩ : ∃ b, n = b + 3 := ⟨n - 3, by have := (cond12_iff i).mp h12; omega⟩
        have hb : b < 16 := by omega
        rw [show min (b + 3 - 3) 16 = b by omega, show min (b + 3 - 2) 16 = b + 1 by omega, show b + 3 + 3 = b + 6 by omega, show 16 * (b + 3 + 4) = 16 * (b + 7) by omega]
        generalize hA : min (b + 3 + 1) 16 = A
        generalize hB : min (b + 3) 16 = B
        generalize hC : min (b + 3 - 1) 16 = C
        unfold Mid outS
        rw [if_neg (show ¬ b + 3 < 3 by omega), show b + 3 - 3 = b by omega]
        generalize hV : A - 4 = V
        iintro ⟨#HC, HO, ⟨H0, H1, H2, H3, H4, Hz, Hr0, Hmf, Hmn, Hmk, Hxk, Hyk, Hr3, Hr4⟩, Ho⟩ Hk
        ihave Ho := (out_split c ao) $$ Ho
        icases Ho with ⟨Ho0, Ho1, Ho2, Ho3⟩
        ihave Hmk := (win_borrow (show V ≤ b ∧ b < B by omega) (mkept U c)) $$ Hmk
        icases Hmk with ⟨Hm, Hmk⟩
        ihave Hxk := (win_borrow (show V ≤ b ∧ b < C by omega) (xkept U c)) $$ Hxk
        icases Hxk with ⟨Hx, Hxk⟩
        ihave Hyk := (win_borrow (show V ≤ b ∧ b < C by omega) (ykept U c)) $$ Hyk
        icases Hyk with ⟨Hy, Hyk⟩
        rw [wp_bind]
        iapply (part35_spec U K i h12 (C3 := min b 12) (C4 := min b 12) b hb hn (by omega) (by omega)) $$ [HO H3 H4 Hm Ho0]
        · isplitr; · iexact HC
          isplitl [HO]; · iexact HO
          isplitl [H3]; · iexact H3
          isplitl [H4]; · iexact H4
          isplitl [Hm]; · iexact Hm
          iexact Ho0
        iintro %x ⟨HO, H3, H4, Hm, Ho0, Hq⟩
        ihave Hx := (Entails.of_eq (xkept_def U c b)) $$ Hx
        icases Hx with ⟨Hx1, Hx2⟩
        ihave Hy := (Entails.of_eq (ykept_def U c b)) $$ Hy
        icases Hy with ⟨Hy1, Hy2⟩
        iapply (wp_load_pv (off125 i b hn) (hi' := inb_slot b)) $$ [Hx1]
        · iexact Hx1
        iintro Hx1
        iapply (wp_load_any (off127' c) (hi' := inb_o (qi (px c)))) $$ [Ho1]
        · iexact Ho1
        iintro %y Ho1
        iapply (wp_store_pv (off127' c) (hi' := inb_o (qi (px c)))) $$ [Ho1]
        · iexact Ho1
        iintro Ho1
        iapply (wp_load_pv (off125 i b hn) (hi' := inb_slot b)) $$ [Hy1]
        · iexact Hy1
        iintro Hy1
        iapply (wp_load_any (off128' c) (hi' := inb_o (qi (py c)))) $$ [Ho2]
        · iexact Ho2
        iintro %y Ho2
        iapply (wp_store_pv (off128' c) (hi' := inb_o (qi (py c)))) $$ [Ho2]
        · iexact Ho2
        iintro Ho2
        iapply (wp_load_pv (off125 i b hn) (hi' := inb_slot b)) $$ [Hq]
        · iexact Hq
        iintro Hq
        iapply (wp_load_any (off129' c) (hi' := inb_o (qi (px (py c))))) $$ [Ho3]
        · iexact Ho3
        iintro %y Ho3
        iapply (wp_store_pv (off129' c) (hi' := inb_o (qi (px (py c))))) $$ [Ho3]
        · iexact Ho3
        iintro Ho3
        rw [pay2_eq, pay3_eq, pay4_eq]
        ihave Hq := (Entails.of_eq (pv_halves c Bq b fullShare (mq U (px (py c)) b))) $$ Hq
        icases Hq with ⟨Hqa, Hqb⟩
        ihave Hqa := (pv_any c (loV Bq b) _) $$ Hqa
        ihave Hqb := (pv_any c (hiV Bq b) _) $$ Hqb
        ihave Hqa := (Entails.of_eq (room_3 c b).symm) $$ Hqa
        ihave Hqb := (Entails.of_eq (room_4 c b).symm) $$ Hqb
        iapply (wp_opt iprop(Ctx U K ∗ ow c (16 * (b + 6) + 8) ∗ Chan 3 c C (b + 1) (min b 12) (C - 4) V ∗ Chan 4 c C (b + 1) (min b 12) (C - 4) V ∗ room 3 c b ∗ room 4 c b ∗ win 12 b (room 3 c) ∗ win 12 b (room 4 c))
            iprop(ow c (16 * (b + 7)) ∗ Chan 3 c C (b + 1) (min (b + 1) 12) (C - 4) V ∗ Chan 4 c C (b + 1) (min (b + 1) 12) (C - 4) V ∗ win 12 (b + 1) (room 3 c) ∗ win 12 (b + 1) (room 4 c)) (by
              intro h13
              have h13' : b < 12 := by have := (cond13_iff i).mp h13; omega
              rw [show min b 12 = b by omega, show min (b + 1) 12 = b + 1 by omega, win_nil (show b + 1 ≤ 12 by omega) (room 3 c), win_nil (show b + 1 ≤ 12 by omega) (room 4 c)]
              iintro ⟨#HC, HO, H3, H4, Ha, Hb, -, -⟩ Hk
              iapply (cred_give U K (ch := 3) (C := b) (R := b + 1) (P := 16 * (b + 6) + 8) (by omega) (by omega) rfl (sem_eq _ _ _ _ rfl _ (off130 i b hn) (credQ 3 b) rfl) (dev12 c _) rfl) $$ [HO H3 Ha]
              · isplitr; · iexact HC
                isplitl [HO]; · iexact HO
                isplitl [H3]; · iexact H3
                iexact Ha
              iintro ⟨HO, H3⟩
              iapply (cred_give U K (ch := 4) (C := b) (R := b + 1) (P := 16 * (b + 6) + 9) (by omega) (by omega) rfl (sem_eq _ _ _ _ rfl _ (off130 i b hn) (credQ 4 b) rfl) (dev13 c _) rfl) $$ [HO H4 Hb]
              · isplitr; · iexact HC
                isplitl [HO]; · iexact HO
                isplitl [H4]; · iexact H4
                iexact Hb
              iintro ⟨HO, H4⟩
              iapply Hk
              isplitl [HO]; · iapply (ow_to c (16 * (b + 6) + 10) (16 * (b + 7)) (by omega) (fun ch b' hb' => by rcases posR_cases ch b' with h | h | h | h | h <;> omega) (fun ch e he => by rcases posC_cases ch e with h | h | h | h | h <;> omega) (by omega)); iexact HO
              isplitl [H3]; · iexact H3
              isplitl [H4]; · iexact H4
              isplitr; · iempintro
              iempintro) (by
              intro h13
              have h13' : 12 ≤ b := by by_contra h; exact h13 ((cond13_iff i).mpr (by omega))
              rw [show min (b + 1) 12 = min b 12 by omega, win_push h13' (room 3 c), win_push h13' (room 4 c)]
              iintro ⟨-, HO, H3, H4, Ha, Hb, H5, H6⟩
              isplitl [HO]; · iapply (ow_to c (16 * (b + 6) + 8) (16 * (b + 7)) (by omega) (fun ch b' hb' => by rcases posR_cases ch b' with h | h | h | h | h <;> omega) (fun ch e he => by rcases posC_cases ch e with h | h | h | h | h <;> omega) (by omega)); iexact HO
              isplitl [H3]; · iexact H3
              isplitl [H4]; · iexact H4
              isplitl [Ha H5]
              · isplitl [Ha]; · iexact Ha
                iexact H5
              isplitl [Hb]; · iexact Hb
              iexact H6)) $$ [HO H3 H4 Hqa Hqb Hr3 Hr4]
        · isplitr; · iexact HC
          isplitl [HO]; · iexact HO
          isplitl [H3]; · iexact H3
          isplitl [H4]; · iexact H4
          isplitl [Hqa]; · iexact Hqa
          isplitl [Hqb]; · iexact Hqb
          isplitl [Hr3]; · iexact Hr3
          iexact Hr4
        iintro ⟨HO, H3, H4, Hr3, Hr4⟩
        iapply Hk
        isplitl [HO]; · iexact HO
        isplitr [Ho0 Ho1 Ho2 Ho3]
        · isplitl [H0]; · iexact H0
          isplitl [H1]; · iexact H1
          isplitl [H2]; · iexact H2
          isplitl [H3]; · iexact H3
          isplitl [H4]; · iexact H4
          isplitl [Hz]; · iexact Hz
          isplitl [Hr0]; · iexact Hr0
          isplitl [Hmf]; · iexact Hmf
          isplitl [Hmn]; · iexact Hmn
          isplitl [Hm Hmk]; · iapply Hmk; iexact Hm
          isplitl [Hx1 Hx2 Hxk]
          · iapply Hxk; iapply (Entails.of_eq (xkept_def U c b).symm)
            isplitl [Hx1]; · iexact Hx1
            iexact Hx2
          isplitl [Hy1 Hy2 Hyk]
          · iapply Hyk; iapply (Entails.of_eq (ykept_def U c b).symm)
            isplitl [Hy1]; · iexact Hy1
            iexact Hy2
          isplitl [Hr3]; · iexact Hr3
          iexact Hr4
        iapply (out_join U c b ao)
        isplitl [Ho0]; · iexact Ho0
        isplitl [Ho1]; · iexact Ho1
        isplitl [Ho2]; · iexact Ho2
        iexact Ho3) (by
        intro h12
        have h12' : n < 3 := by by_contra h; exact h12 ((cond12_iff i).mpr (by omega))
        unfold outS
        rw [show min (n - 2) 16 = min (n - 3) 16 by omega, if_pos h12']
        iintro ⟨-, HO, H⟩
        isplitl [HO]; · iapply (ow_to c (16 * (n + 3) + 8) (16 * (n + 4)) (by omega) (fun ch b' hb' => by rcases posR_cases ch b' with h | h | h | h | h <;> omega) (fun ch e he => by rcases posC_cases ch e with h | h | h | h | h <;> omega) (by omega)); iexact HO
        iexact H)) $$ [HO HM Ho]
  · isplitr; · iexact HC
    isplitl [HO]; · iexact HO
    isplitl [HM]; · iexact HM
    iexact Ho
  iintro ⟨HO, HM, Ho⟩
  iapply (wp_opt iprop(Ctx U K ∗ ow c (16 * (n + 4)) ∗ Mid U c (min (n + 1) 16) (min n 16) (min (n - 1) 16) (min (n - 2) 16))
      iprop(ow c (16 * (n + 4)) ∗ (if n = 18 then Done0 c else Mid U c (min (n + 1) 16) (min n 16) (min (n - 1) 16) (min (n - 2) 16))) (by
        intro h14
        have h14' : n = 18 := by have := (cond14_iff i).mp h14; omega
        subst h14'
        unfold Mid
        unfold Done0
        rw [if_pos rfl, show min (18 + 1) 16 = 16 by omega, show min 18 16 = 16 by omega, show min (18 - 1) 16 = 16 by omega, show min (18 - 2) 16 = 16 by omega, show min 16 12 = 12 by omega,
          show 16 - 4 = 12 by omega, show 16 - 2 = 14 by omega]
        iintro ⟨#HC, HO, ⟨H0, H1, H2, H3, H4, Hz, Hr0, Hmf, Hmn, Hmk, Hxk, Hyk, Hr3, Hr4⟩⟩ Hk
        rw [wp_bind]
        iapply (part36_spec U K i (P := 16 * (18 + 4)) (by omega)) $$ [HO H0 H1]
        · isplitr; · iexact HC
          isplitl [HO]; · iexact HO
          isplitl [H0]; · iexact H0
          iexact H1
        iintro ⟨HO, H0, H1, Hz0, Hz1, H10⟩
        rw [wp_bind]
        iapply (part37_spec U K i (P := 16 * (18 + 4)) (by omega)) $$ [HO H2 H3 H4 H1]
        · isplitr; · iexact HC
          isplitl [HO]; · iexact HO
          isplitl [H2]; · iexact H2
          isplitl [H3]; · iexact H3
          isplitl [H4]; · iexact H4
          iexact H1
        iintro ⟨HO, H2, H3, H4, H1, H20, H30, H40, H11⟩
        rw [wp_bind]
        iapply (part38_spec U K i (P := 16 * (18 + 4)) (by omega)) $$ [HO H2 H3 H4 H1]
        · isplitr; · iexact HC
          isplitl [HO]; · iexact HO
          isplitl [H2]; · iexact H2
          isplitl [H3]; · iexact H3
          isplitl [H4]; · iexact H4
          iexact H1
        iintro ⟨HO, H2, H3, H4, H1, H21, H31, H41, H12⟩
        rw [wp_bind]
        iapply (part39_spec U K i (P := 16 * (18 + 4)) (by omega)) $$ [HO H2 H3 H4 H1]
        · isplitr; · iexact HC
          isplitl [HO]; · iexact HO
          isplitl [H2]; · iexact H2
          isplitl [H3]; · iexact H3
          isplitl [H4]; · iexact H4
          iexact H1
        iintro ⟨HO, H2, H3, H4, H1, H22, H32, H42, H13⟩
        iapply (send_wait U K (ch := 2) (S := 16) (V := 15) (P := 16 * (18 + 4)) (by decide) (by decide) (by omega) (sem_eq _ _ _ _ rfl _ rfl (sendQ 2 15) rfl) (credit_big 2 (by decide) _)) $$ [HO H2]
        · isplitr; · iexact HC
          isplitl [HO]; · iexact HO
          iexact H2
        iintro ⟨HO, H2, H23⟩
        iapply (send_wait U K (ch := 3) (S := 16) (V := 15) (P := 16 * (18 + 4)) (by decide) (by decide) (by omega) (sem_eq _ _ _ _ rfl _ rfl (sendQ 3 15) rfl) (credit_half 3 (by decide) _)) $$ [HO H3]
        · isplitr; · iexact HC
          isplitl [HO]; · iexact HO
          iexact H3
        iintro ⟨HO, H3, H33⟩
        iapply (send_wait U K (ch := 4) (S := 16) (V := 15) (P := 16 * (18 + 4)) (by decide) (by decide) (by omega) (sem_eq _ _ _ _ rfl _ rfl (sendQ 4 15) rfl) (credit_half 4 (by decide) _)) $$ [HO H4]
        · isplitr; · iexact HC
          isplitl [HO]; · iexact HO
          iexact H4
        iintro ⟨HO, H4, H43⟩
        iapply Hk
        isplitl [HO]; · iexact HO
        isplitl [H0 H1 H2 H3 H4]
        · isplitl [H0]; · iexact H0
          isplitl [H1]; · iexact H1
          isplitl [H2]; · iexact H2
          isplitl [H3]; · iexact H3
          iexact H4
        isplitl [H30 H31 H32 H33 Hxk H40 H41 H42 H43 Hyk Hr0 Hr3 Hr4]
        · isplitl [Hr0]; · iexact Hr0
          isplitl [H30 H31 H32 H33 Hxk]
          · iapply (win_join4 (lent U 3 c) (xkept U c) (room 1 c) (x_join U c))
            isplitl [Hxk]; · iexact Hxk
            isplitl [H30]; · iexact H30
            isplitl [H31]; · iexact H31
            isplitl [H32]; · iexact H32
            iexact H33
          isplitl [H40 H41 H42 H43 Hyk]
          · iapply (win_join4 (lent U 4 c) (ykept U c) (room 2 c) (y_join U c))
            isplitl [Hyk]; · iexact Hyk
            isplitl [H40]; · iexact H40
            isplitl [H41]; · iexact H41
            isplitl [H42]; · iexact H42
            iexact H43
          isplitl [Hr3]; · iexact Hr3
          iexact Hr4
        isplitl [Hz0 Hz1]
        · rw [win_push (show 14 ≤ 15 by omega) (zfree c), win_push (show 14 ≤ 14 by omega) (zfree c), win_nil (show 14 ≤ 14 by omega) (zfree c)]
          isplitl [Hz1]
          · iapply (z_back U c 15); iexact Hz1
          isplitl [Hz0]
          · iapply (z_back U c 14); iexact Hz0
          iempintro
        iapply (m_join4 U c)
        isplitl [Hmk]; · iexact Hmk
        isplitl [H10 H11 H12 H13]
        · isplitl [H10]; · iexact H10
          isplitl [H11]; · iexact H11
          isplitl [H12]; · iexact H12
          iexact H13
        isplitl [H20]; · iexact H20
        isplitl [H21]; · iexact H21
        isplitl [H22]; · iexact H22
        iexact H23) (by
        intro h14
        have h14' : n ≠ 18 := fun h => h14 ((cond14_iff i).mpr (by omega))
        rw [if_neg h14']
        iintro ⟨-, H⟩
        iexact H)) $$ [HO HM]
  · isplitr; · iexact HC
    isplitl [HO]; · iexact HO
    iexact HM
  iintro ⟨HO, HM⟩
  rw [wp_ret]
  iapply HQ
  unfold posn
  rw [if_neg (show n + 1 ≠ 0 by omega)]
  isplitl [HO]; · iexact HO
  isplitl [HM HB HL0 HL1]
  · iapply (pre_next U X c n hn19)
    isplitl [HM]; · iexact HM
    isplitl [HB]; · iexact HB
    isplitl [HL0]; · iexact HL0
    iexact HL1
  isplitl [Hw]; · iexact Hw
  iexact Ho
end
end Cert.KProof
end
-- ==== Proof.Ends.lean ====
/-
  What a device is launched with and what it gives back: its semaphores grouped by channel, its scratch buffers cut into the
  slots the channels use, and its state once every cell is closed.
-/
module

public import proofs.«01_k».proof.Proof.State
public import Idealize.ShloMosaic.Lib.Ring

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

/-- The semaphores of the kernel's own on a device: the two of the local loads, and all of its cells but the barrier's. -/
abbrev OI : Type := Fin 2 ⊕ (Fin 38 ⊕ Fin 20)
def osem : OI → SemLoc sig
  | .inl k => .dma (ldQ k)
  | .inr (.inl j) => ciSem (.inl j)
  | .inr (.inr j) => ciSem (.inr j.castSucc)

/-- What a device holds after the last step, its cells closed: every semaphore at zero, the scratch buffers, its `O`. -/
def Exit (c : Dev nD) (X : S1x2048x32x128.Idx → Elt F .f32) : sProp 𝕄 :=
  iprop((unscopedSems0 c ∗ pv c Om.view fullShare X) ∗ Pipeline.ownSems0 osem c ∗ Pipeline.scopedRest spec0 c)

theorem eq_of {A B : sProp (MT nD τ sig ℕ (Elt F) ℕ UU ℕ)} (h : A ⊢ B) (h' : B ⊢ A) : A = B := BI.Entails.antisymm h h'
theorem eq_sep {A B C D : sProp (MT nD τ sig ℕ (Elt F) ℕ UU ℕ)} (h : A = B) (h' : C = D) : (iprop(A ∗ C) : sProp 𝕄) = iprop(B ∗ D) := by rw [h, h']

/-! ## Families by number -/

theorem fin_win (n : ℕ) (A : ℕ → sProp (MT nD τ sig ℕ (Elt F) ℕ UU ℕ)) : bigSep Finset.univ (fun i : Fin n => A i.val) = win 0 n A := by
  unfold win; rw [Ring.bigSep_fin_eq_range n _ A (fun _ _ => rfl), Finset.range_eq_Ico]
theorem five (A : Fin 5 → sProp (MT nD τ sig ℕ (Elt F) ℕ UU ℕ)) : bigSep Finset.univ A = iprop(A 0 ∗ A 1 ∗ A 2 ∗ A 3 ∗ A 4) :=
  bigSep_univ_eq_bigSepL [0, 1, 2, 3, 4] (by decide) (by decide) A
theorem win_shift (a b k : ℕ) (A : ℕ → sProp (MT nD τ sig ℕ (Elt F) ℕ UU ℕ)) : (win (a + k) (b + k) A : sProp 𝕄) = win a b fun i => A (i + k) := by
  unfold win
  rw [show Finset.Ico (a + k) (b + k) = (Finset.Ico a b).map (addRightEmbedding k) from Finset.ext fun x => by
    simp only [Finset.mem_Ico, Finset.mem_map, addRightEmbedding_apply]
    constructor
    · intro h; exact ⟨x - k, ⟨by omega, by omega⟩, by omega⟩
    · rintro ⟨y, h, rfl⟩; omega, BI.bigSep_map]; rfl
theorem win_congr {a b : ℕ} {A B : ℕ → sProp (MT nD τ sig ℕ (Elt F) ℕ UU ℕ)} (h : ∀ i, i < b → A i = B i) : (win a b A : sProp 𝕄) = win a b B := by
  unfold win; exact bigSep_congr fun i hi => h i (Finset.mem_Ico.mp hi).2
theorem win_sep (a b : ℕ) (A B : ℕ → sProp (MT nD τ sig ℕ (Elt F) ℕ UU ℕ)) : (win a b (fun i => iprop(A i ∗ B i)) : sProp 𝕄) = iprop(win a b A ∗ win a b B) := by
  unfold win; exact bigSep_sep' _ _ _

/-! ## The cells by channel -/

abbrev CJ : Type := ((Fin 5 × Fin 4) ⊕ (Fin 5 × Fin 4)) ⊕ ((Fin 2 ⊕ (Fin 4 × Fin 4)) ⊕ Unit)
def cj : CJ → CI
  | .inl (.inl (ch, b)) => ciRecv ch b.val
  | .inl (.inr (ch, b)) => ciCred ch b.val
  | .inr (.inl (.inl b)) => ciSend 0 b.val
  | .inr (.inl (.inr (ch, b))) => ciSend ch.succ b.val
  | .inr (.inr _) => ciBar
theorem cj_bij : Function.Bijective cj := by decide +kernel

/-- Something of each of a channel's cells. -/
def grp (A : SemLoc sig → sProp (MT nD τ sig ℕ (Elt F) ℕ UU ℕ)) (ch : Fin 5) : sProp 𝕄 :=
  iprop(win 0 4 (fun b => A (.dma (recvQ ch b))) ∗ win 0 4 (fun b => A (.reg (credQ ch b))) ∗ win 0 (sw ch) (fun b => A (.dma (sendQ ch b))))

theorem sem_recv (ch b) : ciSem (ciRecv ch b) = .dma (recvQ ch b) := congrArg Prod.snd (ciCell_recv 0 ch b)
theorem sem_send (ch b) : ciSem (ciSend ch b) = .dma (sendQ ch b) := congrArg Prod.snd (ciCell_send 0 ch b)
theorem sem_cred (ch b) : ciSem (ciCred ch b) = .reg (credQ ch b) := rfl

theorem regroup (A : SemLoc sig → sProp (MT nD τ sig ℕ (Elt F) ℕ UU ℕ)) :
    bigSep Finset.univ (fun x : CI => A (ciSem x)) = iprop(bigSep Finset.univ (grp A) ∗ A (.reg barQ)) := by
  have e : bigSep Finset.univ (fun x : CI => A (ciSem x))
      = iprop((bigSep Finset.univ (fun ch : Fin 5 => win 0 4 fun b => A (.dma (recvQ ch b))) ∗ bigSep Finset.univ (fun ch : Fin 5 => win 0 4 fun b => A (.reg (credQ ch b))))
        ∗ ((win 0 2 (fun b => A (.dma (sendQ 0 b))) ∗ bigSep Finset.univ (fun ch : Fin 4 => win 0 4 fun b => A (.dma (sendQ ch.succ b)))) ∗ A (.reg barQ))) := by
    rw [BI.bigSep_univ_equiv (Equiv.ofBijective cj cj_bij) (fun x : CI => A (ciSem x)), BI.bigSep_univ_sum, BI.bigSep_univ_sum, BI.bigSep_univ_sum, BI.bigSep_univ_sum,
      BI.bigSep_univ_prod, BI.bigSep_univ_prod, BI.bigSep_univ_prod]
    show iprop((_ ∗ _) ∗ ((_ ∗ _) ∗ _)) = _
    refine eq_sep (eq_sep (bigSep_congr fun ch _ => ?_) (bigSep_congr fun ch _ => ?_)) (eq_sep (eq_sep ?_ (bigSep_congr fun ch _ => ?_)) ?_)
    · rw [← fin_win]; exact bigSep_congr fun b _ => by show A (ciSem (ciRecv ch b.val)) = _; rw [sem_recv]
    · rw [← fin_win]; exact bigSep_congr fun b _ => rfl
    · rw [← fin_win]; exact bigSep_congr fun b _ => by show A (ciSem (ciSend 0 b.val)) = _; rw [sem_send]
    · rw [← fin_win]; exact bigSep_congr fun b _ => by show A (ciSem (ciSend ch.succ b.val)) = _; rw [sem_send]
    · rw [Finset.univ_unique, BI.bigSep_singleton]; rfl
  rw [e, show bigSep Finset.univ (fun ch : Fin 4 => win 0 4 fun b => A (.dma (sendQ ch.succ b)))
      = iprop(win 0 4 (fun b => A (.dma (sendQ 1 b))) ∗ win 0 4 (fun b => A (.dma (sendQ 2 b))) ∗ win 0 4 (fun b => A (.dma (sendQ 3 b))) ∗ win 0 4 (fun b => A (.dma (sendQ 4 b))))
    from bigSep_univ_eq_bigSepL [0, 1, 2, 3] (by decide) (by decide) _]
  unfold grp
  simp only [bigSep_sep', five (fun ch => win 0 (sw ch) fun b => A (.dma (sendQ ch b)))]
  rw [show sw 0 = 2 from rfl, show sw 1 = 4 from rfl, show sw 2 = 4 from rfl, show sw 3 = 4 from rfl, show sw 4 = 4 from rfl]
  refine eq_of ?_ ?_
  · iintro ⟨⟨HR, HC⟩, ⟨H0, H1, H2, H3, H4⟩, HB⟩
    isplitr [HB]
    · isplitl [HR]; · iexact HR
      isplitl [HC]; · iexact HC
      isplitl [H0]; · iexact H0
      isplitl [H1]; · iexact H1
      isplitl [H2]; · iexact H2
      isplitl [H3]; · iexact H3
      iexact H4
    iexact HB
  · iintro ⟨⟨HR, HC, H0, H1, H2, H3, H4⟩, HB⟩
    isplitl [HR HC]
    · isplitl [HR]; · iexact HR
      iexact HC
    isplitr [HB]
    · isplitl [H0]; · iexact H0
      isplitl [H1]; · iexact H1
      isplitl [H2]; · iexact H2
      isplitl [H3]; · iexact H3
      iexact H4
    iexact HB

/-! ## The semaphores at launch and at the end -/

def splitLast : Fin 20 ⊕ Unit → Fin 21
  | .inl j => j.castSucc
  | .inr _ => 20
theorem splitLast_bij : Function.Bijective splitLast := by decide +kernel

theorem sems_own (c : Dev nD) : (iprop(Pipeline.ownSems0 osem c ∗ unscopedSems0 c) : sProp 𝕄)
    = iprop((semVal ((c : Thread nD τ), .dma (ldQ 0)) 0 ∗ semVal ((c : Thread nD τ), .dma (ldQ 1)) 0) ∗ bigSep Finset.univ fun x : CI => semVal (ciCell (c, x)) 0) := by
  have eu : (unscopedSems0 c : sProp 𝕄) = semVal (barCell c) 0 := by
    unfold unscopedSems0; rw [bigSep_eq_bigSepL_of_eq [SemLoc.reg barQ] (by decide) (by decide)]; rfl
  have eo : (Pipeline.ownSems0 osem c : sProp 𝕄) = iprop((semVal ((c : Thread nD τ), .dma (ldQ 0)) 0 ∗ semVal ((c : Thread nD τ), .dma (ldQ 1)) 0)
      ∗ ((bigSep Finset.univ fun j : Fin 38 => semVal (ciCell (c, .inl j)) 0) ∗ (bigSep Finset.univ fun j : Fin 20 => semVal (ciCell (c, .inr j.castSucc)) 0))) := by
    unfold Pipeline.ownSems0
    rw [BI.bigSep_univ_sum, BI.bigSep_univ_sum, bigSep_univ_eq_bigSepL [(0 : Fin 2), 1] (by decide) (by decide)]; rfl
  have ec : (bigSep Finset.univ fun x : CI => semVal (ciCell (c, x)) 0 : sProp 𝕄)
      = iprop((bigSep Finset.univ fun j : Fin 38 => semVal (ciCell (c, .inl j)) 0) ∗ ((bigSep Finset.univ fun j : Fin 20 => semVal (ciCell (c, .inr j.castSucc)) 0) ∗ semVal (barCell c) 0)) := by
    rw [BI.bigSep_univ_sum, BI.bigSep_univ_equiv (Equiv.ofBijective splitLast splitLast_bij) (fun j : Fin 21 => (semVal (ciCell (c, .inr j)) 0 : sProp 𝕄)), BI.bigSep_univ_sum]
    show iprop(_ ∗ (_ ∗ _)) = _
    refine eq_sep rfl (eq_sep rfl ?_)
    rw [Finset.univ_unique, BI.bigSep_singleton]; rfl
  rw [eu, eo, ec]
  refine eq_of ?_ ?_
  · iintro ⟨⟨HL, HD, HR⟩, HB⟩
    isplitl [HL]; · iexact HL
    isplitl [HD]; · iexact HD
    isplitl [HR]; · iexact HR
    iexact HB
  · iintro ⟨HL, HD, HR, HB⟩
    isplitr [HB]
    · isplitl [HL]; · iexact HL
      isplitl [HD]; · iexact HD
      iexact HR
    iexact HB

/-! ## The scratch buffers, cut -/

theorem A_cut (c : Dev nD) : (pvAny c Ba.view : sProp 𝕄) ⊣⊢ iprop(pvAny c (aV 0) ∗ pvAny c (aV 1)) := by
  have h := any_biUnion (F := F) c Ba.view (Finset.Ico 0 2) (fun t => aR (if t = 0 then 0 else 1)) ⟨0, by simp⟩ (fun t ht t' ht' hne => by
      rw [Finset.disjoint_left]; intro i h h'
      rw [Rect.mem_set_unit] at h h'
      have h0 : (if t = 0 then (0 : Fin 2) else 1).val ≤ (i 0).val ∧ (i 0).val < (if t = 0 then (0 : Fin 2) else 1).val + 1 := h 0
      have h0' : (if t' = 0 then (0 : Fin 2) else 1).val ≤ (i 0).val ∧ (i 0).val < (if t' = 0 then (0 : Fin 2) else 1).val + 1 := h' 0
      rw [Finset.mem_Ico] at ht ht'
      have e : (if t = 0 then (0 : Fin 2) else 1).val = if t = 0 then 0 else 1 := by split <;> rfl
      have e' : (if t' = 0 then (0 : Fin 2) else 1).val = if t' = 0 then 0 else 1 := by split <;> rfl
      rw [e] at h0; rw [e'] at h0'
      split at h0 <;> split at h0' <;> omega) (by
    rw [Finset.eq_univ_iff_forall]; intro i
    have h0 : (i 0).val < 2 := (i 0).isLt
    have h1 : (i 1).val < 256 := (i 1).isLt
    have h2 : (i 2).val < 4096 := (i 2).isLt
    rw [Finset.mem_biUnion]
    refine ⟨(i 0).val, by rw [Finset.mem_Ico]; omega, ?_⟩
    rw [Rect.mem_set_unit]; intro a
    have e : (if (i 0).val = 0 then (0 : Fin 2) else 1).val = (i 0).val := by split <;> simp <;> omega
    match a with
    | 0 => show (if (i 0).val = 0 then (0 : Fin 2) else 1).val ≤ (i 0).val ∧ (i 0).val < (if (i 0).val = 0 then (0 : Fin 2) else 1).val + 1; rw [e]; omega
    | 1 => show 0 ≤ (i 1).val ∧ (i 1).val < 0 + 256; omega
    | 2 => show 0 ≤ (i 2).val ∧ (i 2).val < 0 + 4096; omega)
  have e : (bigSep (Finset.Ico 0 2) fun t => pvAny c (Ba.view.slice (aR (if t = 0 then 0 else 1))) : sProp 𝕄) = iprop(pvAny c (aV 0) ∗ pvAny c (aV 1)) :=
    bigSep_eq_bigSepL_of_eq [0, 1] (by decide) (by decide) _
  rwa [e] at h

theorem Q_cut (c : Dev nD) (k : ℕ) : (pvAny c Bq.view : sProp 𝕄) ⊣⊢ iprop(win k (k + 4) (room 3 c) ∗ win k (k + 4) (room 4 c)) := by
  have h := any_slots (F := F) c Bq k
  have e : (bigSep (Finset.Ico k (k + 4)) fun b => pvAny c (slotV Bq b) : sProp 𝕄) = iprop(win k (k + 4) (room 3 c) ∗ win k (k + 4) (room 4 c)) := by
    rw [← win_sep]; unfold win
    exact bigSep_congr fun b _ => eq_of (any_halves c Bq b).1 (any_halves c Bq b).2
  rwa [e] at h

theorem Z_cut (c : Dev nD) (l : ℕ) : (pvAny c Bz.view : sProp 𝕄) ⊣⊢ win l (l + 2) (zfree c) := any_slots2 c Bz l
theorem M_cut (c : Dev nD) (n : ℕ) : (pvAny c Bm.view : sProp 𝕄) ⊣⊢ win n (n + 4) (mfree c) := any_slots c Bm n
theorem R_cut (c : Dev nD) (k : ℕ) : (pvAny c Br.view : sProp 𝕄) ⊣⊢ win k (k + 4) (room 0 c) := any_slots c Br k
theorem X_cut (c : Dev nD) (k : ℕ) : (pvAny c Bx.view : sProp 𝕄) ⊣⊢ win k (k + 4) (room 1 c) := any_slots c Bx k
theorem Y_cut (c : Dev nD) (k : ℕ) : (pvAny c By.view : sProp 𝕄) ⊣⊢ win k (k + 4) (room 2 c) := any_slots c By k

theorem scratch_eq (c : Dev nD) : (Pipeline.scopedRest spec0 c : sProp 𝕄)
    = iprop(pvAny c Ba.view ∗ pvAny c Bz.view ∗ pvAny c Br.view ∗ pvAny c Bm.view ∗ pvAny c Bx.view ∗ pvAny c By.view ∗ pvAny c Bq.view) := by
  rw [scopedRest0_eq]; unfold pvAny
  rw [show (Ba.view : View sig .tc _ _ _).set = Finset.univ from View.set_whole _, show (Bz.view : View sig .tc _ _ _).set = Finset.univ from View.set_whole _,
    show (Br.view : View sig .tc _ _ _).set = Finset.univ from View.set_whole _, show (Bm.view : View sig .tc _ _ _).set = Finset.univ from View.set_whole _,
    show (Bx.view : View sig .tc _ _ _).set = Finset.univ from View.set_whole _, show (By.view : View sig .tc _ _ _).set = Finset.univ from View.set_whole _,
    show (Bq.view : View sig .tc _ _ _).set = Finset.univ from View.set_whole _]

/-- The scratch buffers of a device, cut into the slots of any four consecutive blocks. -/
theorem scratch_cut (c : Dev nD) (k l n : ℕ) : (Pipeline.scopedRest spec0 c : sProp 𝕄)
    ⊣⊢ iprop((pvAny c (aV 0) ∗ pvAny c (aV 1)) ∗ win l (l + 2) (zfree c) ∗ win n (n + 4) (mfree c)
      ∗ win k (k + 4) (room 0 c) ∗ win k (k + 4) (room 1 c) ∗ win k (k + 4) (room 2 c) ∗ win k (k + 4) (room 3 c) ∗ win k (k + 4) (room 4 c)) := by
  rw [scratch_eq]
  refine ⟨?_, ?_⟩
  · iintro ⟨Ha, Hz, Hr, Hm, Hx, Hy, Hq⟩
    ihave Ha := (A_cut c).1 $$ Ha
    ihave Hz := (Z_cut c l).1 $$ Hz
    ihave Hr := (R_cut c k).1 $$ Hr
    ihave Hm := (M_cut c n).1 $$ Hm
    ihave Hx := (X_cut c k).1 $$ Hx
    ihave Hy := (Y_cut c k).1 $$ Hy
    ihave Hq := (Q_cut c k).1 $$ Hq
    isplitl [Ha]; · iexact Ha
    isplitl [Hz]; · iexact Hz
    isplitl [Hm]; · iexact Hm
    isplitl [Hr]; · iexact Hr
    isplitl [Hx]; · iexact Hx
    isplitl [Hy]; · iexact Hy
    iexact Hq
  · iintro ⟨Ha, Hz, Hm, Hr, Hx, Hy, Hq⟩
    isplitl [Ha]; · iapply (A_cut c).2; iexact Ha
    isplitl [Hz]; · iapply (Z_cut c l).2; iexact Hz
    isplitl [Hr]; · iapply (R_cut c k).2; iexact Hr
    isplitl [Hm]; · iapply (M_cut c n).2; iexact Hm
    isplitl [Hx]; · iapply (X_cut c k).2; iexact Hx
    isplitl [Hy]; · iapply (Y_cut c k).2; iexact Hy
    iapply (Q_cut c k).2; iexact Hq

end Cert.KProof
end
-- ==== Proof.Close.lean ====
/-
  The last step's end: every cell of a device is closed, its semaphore read back at zero, and the scratch buffers put together.
-/
module

public import proofs.«01_k».proof.Proof.Ends

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

theorem win_close (a b : ℕ) (R : sProp (MT nD τ sig ℕ (Elt F) ℕ UU ℕ)) [BI.Persistent R] (A B : ℕ → sProp (MT nD τ sig ℕ (Elt F) ℕ UU ℕ))
    (h : ∀ i, a ≤ i → i < b → iprop(R ∗ A i) ⊢ |={Set.univ}=> (B i : sProp 𝕄)) : iprop(R ∗ win a b A) ⊢ |={Set.univ}=> (win a b B : sProp 𝕄) := by
  unfold win
  refine (sep_mono_left (BI.bigSep_of_persistent (Finset.Ico a b) R)).trans ?_
  rw [← bigSep_sep']
  exact (bigSep_mono fun i hi => h i (Finset.mem_Ico.mp hi).1 (Finset.mem_Ico.mp hi).2).trans (bigSep_fupd _ _)

theorem recvQ_16 (ch : Fin 5) (b : ℕ) : recvQ ch (b + 16) = recvQ ch b := by
  rw [show b + 16 = b + 4 + 4 + 4 + 4 from rfl, recvQ_add, recvQ_add, recvQ_add, recvQ_add]
theorem credQ_12 (ch : Fin 5) (b : ℕ) : credQ ch (b + 12) = credQ ch b := by
  rw [show b + 12 = b + 4 + 4 + 4 from rfl, credQ_add, credQ_add, credQ_add]
theorem sendQ_16 (ch : Fin 5) (b : ℕ) : sendQ ch (b + 16) = sendQ ch b := Fin.ext (by
  show (if ch.val = 0 then 6 + (b + 16) % 2 else 4 + 8 * ch.val + (b + 16) % 4) = (if ch.val = 0 then 6 + b % 2 else 4 + 8 * ch.val + b % 4)
  split <;> omega)

variable (U : Vals F) (K : Dev nD × CI → ℕ) (c : Dev nD)

theorem close_core (ch : Fin 5) : iprop(Recs U K ∗ Core ch c 16 16 12 12 16) ⊢ |={Set.univ}=> (grp (fun s => semVal ((c : Thread nD τ), s) 0) ch : sProp 𝕄) := by
  unfold Core grp
  iintro ⟨#HR, -, -, Hrv, Hcr, -, -, Hsd, -, -⟩
  imod (win_close 16 20 (Recs U K) (posRv ch c) (fun b => semVal (recvCell c ch b) 0) (fun b hb _ => by
    rw [posRv_def]
    iintro ⟨#HR, Hat, -⟩
    ihave #HI := (Recs_recv U K c ch b) $$ HR
    icases HI with ⟨#HI, -⟩
    iapply (Rounds.cell_close ER (sched U) (Set.mem_univ _) (fun h => h) (R := b / 4) fun r hr => duties_recv_end U c ch b r (by omega))
    isplitr; · iexact HI
    iexact Hat)) $$ [Hrv] with Hrv
  · isplitr; · iexact HR
    iexact Hrv
  imod (win_close 12 16 (Recs U K) (posCr ch c) (fun b => semVal (credCell c ch b) 0) (fun b hb _ => by
    rw [posCr_def]
    iintro ⟨#HR, Hat, -⟩
    ihave #HI := (Recs_cred U K c ch b) $$ HR
    icases HI with ⟨#HI, -⟩
    iapply (Rounds.cell_close ER (sched U) (Set.mem_univ _) (fun h => h) (R := b / 4) fun r hr => duties_cred_end U c ch b r (by omega))
    isplitr; · iexact HI
    iexact Hat)) $$ [Hcr] with Hcr
  · isplitr; · iexact HR
    iexact Hcr
  imod (win_close 16 (16 + sw ch) (Recs U K) (posSd ch c) (fun b => semVal (sendCell c ch b) 0) (fun b hb _ => by
    rw [posSd_def]
    iintro ⟨#HR, Hat, -⟩
    ihave #HI := (Recs_send U K c ch b) $$ HR
    icases HI with ⟨#HI, -⟩
    iapply (Rounds.cell_close ER (sched U) (Set.mem_univ _) (fun h => h) (R := sendR ch b) fun r hr => duties_send_end U c ch b r (by
      rw [sendR_eq] at hr; exact (Nat.div_le_div_right hb).trans hr))
    isplitr; · iexact HI
    iexact Hat)) $$ [Hsd] with Hsd
  · isplitr; · iexact HR
    iexact Hsd
  imodintro
  ihave Hrv := (Entails.of_eq (win_shift 0 4 16 (fun b => (semVal (recvCell c ch b) 0 : sProp 𝕄)))) $$ Hrv
  ihave Hcr := (Entails.of_eq (win_shift 0 4 12 (fun b => (semVal (credCell c ch b) 0 : sProp 𝕄)))) $$ Hcr
  ihave Hsd := (Entails.of_eq ((congrArg₂ (fun x y => win x y fun b => (semVal (sendCell c ch b) 0 : sProp 𝕄)) (show 16 = 0 + 16 by omega) (show 16 + sw ch = sw ch + 16 by omega)).trans
    (win_shift 0 (sw ch) 16 (fun b => (semVal (sendCell c ch b) 0 : sProp 𝕄))))) $$ Hsd
  isplitl [Hrv]
  · iapply (Entails.of_eq (win_congr (a := 0) (b := 4) (A := fun i => (semVal (recvCell c ch (i + 16)) 0 : sProp 𝕄)) (B := fun i => semVal (recvCell c ch i) 0) fun i _ => by
      unfold recvCell; rw [recvQ_16]))
    iexact Hrv
  isplitl [Hcr]
  · iapply (Entails.of_eq (win_congr (a := 0) (b := 4) (A := fun i => (semVal (credCell c ch (i + 12)) 0 : sProp 𝕄)) (B := fun i => semVal (credCell c ch i) 0) fun i _ => by
      unfold credCell; rw [credQ_12]))
    iexact Hcr
  iapply (Entails.of_eq (win_congr (a := 0) (b := sw ch) (A := fun i => (semVal (sendCell c ch (i + 16)) 0 : sProp 𝕄)) (B := fun i => semVal (sendCell c ch i) 0) fun i _ => by
      unfold sendCell; rw [sendQ_16]))
  iexact Hsd

theorem close_chan (ch : Fin 5) : iprop(Recs U K ∗ Chan ch c 16 16 12 12 16) ⊢ |={Set.univ}=> (grp (fun s => semVal ((c : Thread nD τ), s) 0) ch : sProp 𝕄) := by
  unfold Chan
  iintro ⟨#HR, HC, -⟩
  iapply (close_core U K c ch)
  isplitr; · iexact HR
  iexact HC

theorem close_bar : iprop(Recs U K ∗ atPos ER (barCell c) 1 ∅ 0) ⊢ |={Set.univ}=> (semVal (barCell c) 0 : sProp 𝕄) := by
  iintro ⟨#HR, Hat⟩
  ihave #HI := (Recs_bar U K c) $$ HR
  icases HI with ⟨#HI, -⟩
  iapply (Rounds.cell_close ER (sched U) (Set.mem_univ _) (fun h => h) (R := 1) fun r hr => duties_bar_end U c r hr)
  isplitr; · iexact HI
  iexact Hat

theorem finish (X : S1x2048x32x128.Idx → Elt F .f32) : iprop(Ctx U K ∗ Done c X) ⊢ |={Set.univ}=> (Exit c X : sProp 𝕄) := by
  unfold Ctx Done Exit Ld
  iintro ⟨⟨#HR, -⟩, ⟨H0, H1, H2, H3, H4⟩, ⟨R0, R1, R2, R3, R4⟩, Hz, Hm, Hb, ⟨Ha0, HO0, HL0⟩, ⟨Ha1, HO1, HL1⟩⟩
  imod (close_chan U K c 0) $$ [H0] with H0
  · isplitr; · iexact HR
    iexact H0
  imod (close_chan U K c 1) $$ [H1] with H1
  · isplitr; · iexact HR
    iexact H1
  imod (close_chan U K c 2) $$ [H2] with H2
  · isplitr; · iexact HR
    iexact H2
  imod (close_chan U K c 3) $$ [H3] with H3
  · isplitr; · iexact HR
    iexact H3
  imod (close_chan U K c 4) $$ [H4] with H4
  · isplitr; · iexact HR
    iexact H4
  imod (close_bar U K c) $$ [Hb] with Hb
  · isplitr; · iexact HR
    iexact Hb
  imodintro
  ihave HS := (Entails.of_eq (sems_own c).symm) $$ [H0 H1 H2 H3 H4 Hb HL0 HL1]
  · isplitl [HL0 HL1]
    · isplitl [HL0]; · iexact HL0
      iexact HL1
    iapply (Entails.of_eq (regroup (fun s => (semVal ((c : Thread nD τ), s) 0 : sProp 𝕄))).symm)
    isplitr [Hb]
    · iapply (Entails.of_eq (five (grp fun s => (semVal ((c : Thread nD τ), s) 0 : sProp 𝕄))).symm)
      isplitl [H0]; · iexact H0
      isplitl [H1]; · iexact H1
      isplitl [H2]; · iexact H2
      isplitl [H3]; · iexact H3
      iexact H4
    iexact Hb
  icases HS with ⟨HS, HU⟩
  isplitl [HU HO0 HO1]
  · isplitl [HU]; · iexact HU
    iapply (pv_share c _ _ _ _ full_op _).2
    isplitl [HO0]; · iexact HO0
    iexact HO1
  isplitl [HS]; · iexact HS
  iapply (scratch_cut c 12 14 16).2
  isplitl [Ha0 Ha1]
  · isplitl [Ha0]
    · iapply (pv_any c (aV 0) (gath 0 c X)); iexact Ha0
    iapply (pv_any c (aV 1) (gath 1 c X)); iexact Ha1
  isplitl [Hz]; · iexact Hz
  isplitl [Hm]; · iexact Hm
  isplitl [R0]; · iexact R0
  isplitl [R1]; · iexact R1
  isplitl [R2]; · iexact R2
  isplitl [R3]; · iexact R3
  iexact R4

end Cert.KProof
end
-- ==== Proof.Data.lean ====
/-
  The pipeline's data on a device: what its windows hold at each grid point, the device's state before each point, and what
  it still owes; and the body at every point, from one grid step.
-/
module

public import proofs.«01_k».proof.Proof.Body
public import proofs.«01_k».proof.Proof.Close

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

section
variable (m : (ℓ : Loc nD τ sig) → Buf (Elt F) ℓ) (ρ : Dev nD → PrngReg)

/-- Window `w`'s block at a point, read off its array as launched. -/
def wblk (c : Dev nD) (w : Fin cfg0.W) (t : Fin cfg0.N) : ((cfg0.win w).xblock (cfg0.grid.coords t)).Idx → Elt F (cfg0.win w).elt :=
  ((cfg0.win w).blk t).view.read (Elt F) (m ((c : Thread nD τ).loc (Pipeline.arrRef spec0 w)))

abbrev 𝒱₀ : Variants := Variants.none

theorem N_19 : cfg0.N = 19 := N_0

/-- The device's `O`, and its column block of `Wo` at step `n`. -/
def XO (c : Dev nD) : S1x2048x32x128.Idx → Elt F .f32 := m ((c : Thread nD τ).loc main_arg0)
def WB (c : Dev nD) (n : ℕ) : S4096x512.Idx → Elt F .f32 := wblk m c 0 ⟨n % 19, by rw [N_19]; omega⟩

/-- What the launch gives each device. -/
def UV : Vals F := ⟨fun c => gath 0 c (XO m c), fun c => gath 1 c (XO m c), WB m⟩

/-- A device's state before step `n`. -/
def Phi (c : Dev nD) (n : ℕ) : sProp 𝕄 := if n = 19 then Exit c (XO m c) else iprop(∃ K, Ctx (UV m) K ∗ Pre (UV m) c (XO m c) n)

def dats (_ : Fin 1) (c : Dev nD) : Dat τ (Elt F) ℕ ℕ UU ℕ cfg0 c where
  A w := m ((c : Thread nD τ).loc (Pipeline.arrRef spec0 w))
  after := fun | 0 => fun t => WB m c t.val | 1 => fun t => ob (UV m) c (t.val - 3) | ⟨_ + 2, h⟩ => absurd h (Nat.not_lt.2 (Nat.le_add_left _ _))
  Φ t := Phi m c t.val
  q _ := fullShare
  owed t := O c (posn t.val)

theorem WB_at (c : Dev nD) (t : Fin cfg0.N) : WB m c t.val = wblk m c 0 t := by
  have ht : t.val < 19 := lt_of_lt_of_eq t.isLt N_19
  unfold WB
  have h : ∀ t' : Fin cfg0.N, t' = t → (wblk m c 0 t' : S4096x512.Idx → Elt F .f32) = wblk m c 0 t := fun t' e => by subst e; rfl
  exact h _ (Fin.ext (Nat.mod_eq_of_lt ht))

theorem before_wo (c : Dev nD) (t : Fin cfg0.N) (d) : (dats m 0 c).before 0 t d = WB m c t.val := by
  have hA : (dats m 0 c).A 0 = m ((c : Thread nD τ).loc (Pipeline.arrRef spec0 0)) := rfl
  have hafter : ∀ t, (dats m 0 c).after 0 t = wblk m c 0 t := WB_at m c
  refine (((dats m 0 c).before_in_eq_fetched 0 rfl (fun _ => rfl) (fun _ _ _ => rfl) (fun t => by rw [hafter]; unfold Dat.blockOf wblk; rw [hA]; try rfl) t d).trans
    (by unfold Dat.fetched Dat.blockOf; rw [hA]; try rfl)).trans (WB_at m c t).symm

theorem coord_at : ∀ t : Fin cfg0.N, ((cfg0.grid.coords t) 0).val = t.val := by decide +kernel
theorem flush_early : ∀ t : Fin cfg0.N, t.val < 3 → (cfg0.win 1).flush t = false := by decide +kernel

theorem idle_early (t : Fin cfg0.N) (h : t.val < 3) : cfg0.idle 1 (cfg0.grid.coords t) = true := by
  show (!(k0_cond12 (cfg0.grid.coords t) == 1#1)) = true
  have hn : ¬ k0_cond12 (cfg0.grid.coords t) = 1#1 := fun hc => by
    have := (cond12_iff (cfg0.grid.coords t)).mp hc
    rw [coord_at] at this; omega
  simp [hn]
theorem idle_late (t : Fin cfg0.N) (h : 3 ≤ t.val) : cfg0.idle 1 (cfg0.grid.coords t) = false := by
  show (!(k0_cond12 (cfg0.grid.coords t) == 1#1)) = false
  have hn : k0_cond12 (cfg0.grid.coords t) = 1#1 := (cond12_iff (cfg0.grid.coords t)).mpr (by rw [coord_at]; exact h)
  simp [hn]

theorem before_out (c : Dev nD) (d) : ∀ n (h : n < cfg0.N), n < 3 → (dats m 0 c).before 1 ⟨n, h⟩ d = d := by
  intro n
  induction n with
  | zero => intro h _; exact (dats m 0 c).before_out_reset 1 rfl ⟨0, h⟩ (Or.inl rfl) d
  | succ n ih =>
    intro h h3
    rw [(dats m 0 c).before_of_pos 1 ⟨n + 1, h⟩ (by simp) ((cfg0.win 1).fetch_out rfl _) d]
    split
    · rfl
    · unfold Dat.left
      rw [idle_early _ (by show n + 1 - 1 < 3; omega)]
      exact ih (by omega) (by omega)

/-! ## A staging buffer's contents, either way -/

section
variable {s : Shape} {sp : Space}
theorem owns_pv (c : Dev nD) (r : Memref sig .tc sp s .f32) (X : s.Idx → Elt F .f32) : (owns (c : Thread nD τ) r fullShare X : sProp 𝕄) ⊢ pv c r.view fullShare X := by
  unfold owns
  iintro ⟨%f, %h, H⟩
  iapply (Entails.of_eq (pv_eq c r.view fullShare X f h)); iexact H
theorem pv_owns (c : Dev nD) (r : Memref sig .tc sp s .f32) (X : s.Idx → Elt F .f32) : (pv c r.view fullShare X : sProp 𝕄) ⊢ owns (c : Thread nD τ) r fullShare X := by
  unfold owns pv
  iintro H
  iexists (r.view.rep X)
  isplitr; · ipureintro; exact View.read_rep (Val := Elt F) r.view X
  iexact H
theorem any_owns (c : Dev nD) (r : Memref sig .tc sp s .f32) : (pvAny c r.view : sProp 𝕄) ⊢ iprop(∃ d, owns (c : Thread nD τ) r fullShare d) := by
  unfold owns pvAny
  iintro ⟨%f, H⟩
  iexists (r.view.read (Elt F) f)
  iexists f
  isplitr; · ipureintro; rfl
  iexact H
end

theorem woV_eq (c : Dev nD) (aw : Memref sig .tc .vmem S4096x512 .f32) (X : S4096x512.Idx → Elt F .f32) : (pv c aw.view fullShare X : sProp 𝕄) = pv c (woV aw) fullShare X := by
  have hR : ∀ y : S4096x512.Idx, (Rect.unit (s := S4096x512) ![0, 0] S4096x512.size inb_S4096x512_S4096x512_0_0).emb y = y := by
    intro y; funext a; apply Fin.ext
    match a with
    | 0 => show 0 + 1 * (y 0).val = (y 0).val; omega
    | 1 => show 0 + 1 * (y 1).val = (y 1).val; omega
  rw [pv_cover c aw.view fullShare X {0} (fun _ => Rect.unit (s := S4096x512) ![0, 0] S4096x512.size inb_S4096x512_S4096x512_0_0)
    (fun t ht t' ht' hne => absurd ((Finset.mem_singleton.mp ht).trans (Finset.mem_singleton.mp ht').symm) hne)
    (by rw [Finset.singleton_biUnion]; ext y; simp only [Finset.mem_univ, iff_true]; rw [Rect.mem_set_unit]; intro a
        match a with
        | 0 => have h : (y 0).val < 4096 := (y 0).isLt; exact ⟨Nat.zero_le _, by show (y 0).val < 0 + 4096; omega⟩
        | 1 => have h : (y 1).val < 512 := (y 1).isLt; exact ⟨Nat.zero_le _, by show (y 1).val < 0 + 512; omega⟩)]
  rw [bigSep_singleton]
  congr 1; funext y; exact congrArg X (hR y)

/-! ## The body at every point -/

theorem phi_run (c : Dev nD) (n : ℕ) (h : n ≠ 19) : (Phi m c n : sProp 𝕄) = iprop(∃ K, Ctx (UV m) K ∗ Pre (UV m) c (XO m c) n) := if_neg h

/-- After a step: the state before the next, its cells closed after the last. -/
theorem phi_next (K) (c : Dev nD) (n : ℕ) (h : n < 19) : iprop(Ctx (UV m) K ∗ Pre (UV m) c (XO m c) (n + 1)) ⊢ |={Set.univ}=> (Phi m c (n + 1) : sProp 𝕄) := by
  by_cases h18 : n = 18
  · subst h18
    unfold Phi Pre
    rw [if_pos (show 18 + 1 = 19 from rfl), if_neg (show ¬ 18 + 1 = 0 by omega), if_pos (show 18 + 1 = 19 from rfl)]
    exact finish (UV m) K c (XO m c)
  · rw [phi_run m c (n + 1) (by omega)]
    iintro ⟨HC, HP⟩
    imodintro
    iexists K
    isplitl [HC]; · iexact HC
    iexact HP

/-- The result window after the body, as the pipeline wants it back: as found while no block is complete, then the block. -/
theorem out_back (c : Dev nD) (t : Fin cfg0.N) : (outS (UV m) c (st0_1 t) t.val : sProp 𝕄) ⊢ (match cfg0.idle 1 (cfg0.grid.coords t) with
          | true =>
            match (cfg0.win 1).flush t with
            | false => iprop(∃ d, owns (c : Thread nD τ) (st0_1 t) fullShare ((dats m 0 c).before 1 t d))
            | true => owns (c : Thread nD τ) (st0_1 t) fullShare ((dats m 0 c).after 1 t)
          | false => owns (c : Thread nD τ) (st0_1 t) fullShare ((dats m 0 c).after 1 t)) := by
  unfold outS
  by_cases h3 : t.val < 3
  · rw [idle_early t h3, flush_early t h3, if_pos h3]
    show (pvAny c (st0_1 t).view : sProp 𝕄) ⊢ iprop(∃ d, owns (c : Thread nD τ) (st0_1 t) fullShare ((dats m 0 c).before 1 t d))
    iintro Ho
    ihave Ho := (any_owns c (st0_1 t)) $$ Ho
    icases Ho with ⟨%d, Ho⟩
    iexists d
    rw [before_out m c d t.val t.isLt h3]
    iexact Ho
  · rw [idle_late t (by omega), if_neg h3]
    exact pv_owns c (st0_1 t) (ob (UV m) c (t.val - 3))

set_option maxHeartbeats 1600000 in
theorem body_obligation (c : Dev nD) : BodyObligation (dats m 0 c) (defs₀ (F := F)) 𝒱₀ (0 : ℕ) Set.univ := fun t => by
  have ht : t.val < 19 := lt_of_lt_of_eq t.isLt N_19
  rw [bigSep_W0, bigSep_W0]
  show iprop(Phi m c t.val ∗ (dats m 0 c).owesAt (0 : ℕ) t.castSucc
      ∗ (∃ d, owns (c : Thread nD τ) (st0_0 t) fullShare ((dats m 0 c).before 0 t d)) ∗ (∃ d, owns (c : Thread nD τ) (st0_1 t) fullShare ((dats m 0 c).before 1 t d)))
    ⊢ wp frame (wpE (defs₀ (F := F)) 𝒱₀ (c : Thread nD τ) none) Set.univ (bodyAt0 t) (fun _ => iprop(Phi m c (t.val + 1) ∗ (dats m 0 c).owesAt (0 : ℕ) t.succ
      ∗ owns (c : Thread nD τ) (st0_0 t) fullShare ((dats m 0 c).after 0 t)
      ∗ (match cfg0.idle 1 (cfg0.grid.coords t) with
          | true =>
            match (cfg0.win 1).flush t with
            | false => iprop(∃ d, owns (c : Thread nD τ) (st0_1 t) fullShare ((dats m 0 c).before 1 t d))
            | true => owns (c : Thread nD τ) (st0_1 t) fullShare ((dats m 0 c).after 1 t)
          | false => owns (c : Thread nD τ) (st0_1 t) fullShare ((dats m 0 c).after 1 t))))
  rw [phi_run m c t.val (by omega)]
  iintro ⟨⟨%K, #HC, HP⟩, HO, ⟨%d0, Hw⟩, ⟨%d1, Ho⟩⟩
  rw [before_wo m c t d0]
  iapply (body_spec (UV m) K (XO m c) (cfg0.grid.coords t) (n := t.val) (coord_at t) ht rfl rfl) $$ [HP HO Hw Ho]
  · isplitr; · iexact HC
    isplitl [HO]
    · unfold Dat.owesAt Pipeline.owesWithin ow
      icases HO with ⟨%W, -, HO⟩
      iexists W; iexact HO
    isplitl [HP]; · iexact HP
    isplitl [Hw]
    · iapply (Entails.of_eq (woV_eq c _ _))
      iapply (owns_pv c (st0_0 t) (WB m c t.val)); iexact Hw
    iapply (pv_any c (st0_1 t).view _)
    iapply (owns_pv c (st0_1 t) _); iexact Ho
  iintro ⟨HO, HP, Hw, Ho⟩
  imod (phi_next m K c t.val ht) $$ [HP] with HP
  · isplitr; · iexact HC
    iexact HP
  imodintro
  isplitl [HP]; · iexact HP
  isplitl [HO]
  · unfold Dat.owesAt Pipeline.owesWithin ow
    icases HO with ⟨%W, HO⟩
    iexists W
    isplitr; · ipureintro; exact fun _ _ => Or.inl trivial
    iexact HO
  isplitl [Hw]
  · iapply (pv_owns c (st0_0 t) (WB m c t.val))
    iapply (Entails.of_eq (woV_eq c _ _).symm); iexact Hw
  iapply (out_back m c t); iexact Ho
end
end Cert.KProof
end
-- ==== Proof.Deal.lean ====
/-
  What the launch deals: every cell's round state, position and tokens, the tokens handed to the devices that pay with
  them, and the credit each device waits with.
-/
module

public import proofs.«01_k».proof.Proof.Data

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

/-! ## Cells and tokens -/

theorem ciSem_inj : Function.Injective ciSem := by
  have h : Function.LeftInverse (fun s : SemLoc sig => match s with
      | .dma j => (Sum.inl ⟨(j.val - 6) % 38, by omega⟩ : CI)
      | .reg j => Sum.inr ⟨j.val % 21, by omega⟩) ciSem := by
    intro x; revert x; decide +kernel
  exact h.injective
theorem ciCell_inj : Function.Injective ciCell := by
  rintro ⟨c, x⟩ ⟨c', x'⟩ h
  have h1 : c = c' := congrArg (fun g : GSem nD τ sig => g.1.1) h
  have h2 : x = x' := ciSem_inj (congrArg Prod.snd h)
  rw [h1, h2]
def myCells : Finset (GSem nD τ sig) := Finset.univ.map ⟨ciCell, ciCell_inj⟩

/-- A device's cells' duties: of its receive, send and credit cells by block, and of its barrier cell by neighbour. -/
abbrev TJ : Type := (Fin 5 × Fin 16) ⊕ ((Fin 5 × Fin 16) ⊕ ((Fin 5 × Fin 12) ⊕ Fin 3))
def tokJ : TJ → SemLoc sig × ℕ × Fin 3
  | .inl (ch, b) => (.dma (recvQ ch b.val), b.val / 4, 0)
  | .inr (.inl (ch, b)) => (.dma (sendQ ch b.val), sendR ch b.val, 0)
  | .inr (.inr (.inl (ch, e))) => (.reg (credQ ch e.val), e.val / 4, 0)
  | .inr (.inr (.inr j)) => (.reg barQ, 0, j)
def jTok (t : SemLoc sig × ℕ × Fin 3) : TJ :=
  match role t.1 with
  | .recv ch s => .inl (ch, ⟨(4 * t.2.1 + s) % 16, by omega⟩)
  | .send ch s => .inr (.inl (ch, ⟨(sw ch * t.2.1 + s) % 16, by omega⟩))
  | .cred ch s => .inr (.inr (.inl (ch, ⟨(4 * t.2.1 + s) % 12, by omega⟩)))
  | _ => .inr (.inr (.inr t.2.2))
theorem jTok_tokJ : Function.LeftInverse jTok tokJ := by intro x; revert x; decide +kernel
def tokOf (x : Dev nD × TJ) : GSem nD τ sig × ℕ × Fin 3 := (((x.1 : Thread nD τ), (tokJ x.2).1), (tokJ x.2).2)
theorem tokOf_inj : Function.Injective tokOf := by
  rintro ⟨c, x⟩ ⟨c', x'⟩ h
  have h1 : c = c' := congrArg (fun g : GSem nD τ sig × ℕ × Fin 3 => g.1.1.1) h
  have h2 : x = x' := jTok_tokJ.injective (congrArg (fun g : GSem nD τ sig × ℕ × Fin 3 => (g.1.2, g.2)) h)
  rw [h1, h2]
def myToks : Finset (GSem nD τ sig × ℕ × Fin 3) := Finset.univ.map ⟨tokOf, tokOf_inj⟩

def u₀ : UU := (initOf (Pipeline.cells cfgs cellOf_inj) (Pipeline.launchToks cfgs cellOf_inj), (initOf myCells myToks, 1))

theorem ownU_split (a : UR sig nD τ) (b : UB) : (ownU ((a, (b, 1)) : UU) : sProp 𝕄) ⊢ iprop(BI.own (EP a) ∗ BI.own (ER b)) :=
  BI.own_op_elim ((uEmb (nD := nD) (sig := sig) (Ix := ℕ) (Val := Elt F) (Name := ℕ) (U := UU) (Lvl := ℕ)).toEmb.op_of_mem
    (Prod.mk_mem_op (URA.mem_op_one a) (URA.mem_one_op (b, (1 : Counters)))))

/-! ## Tokens by their holder -/

/-- The duty tokens of the cells of device `d ch`, the send cells' apart: those are the device's own. -/
def tks (c : Dev nD) (d : Fin 5 → Dev nD) (e : Fin 3 → Dev nD) : sProp 𝕄 :=
  iprop((bigSep Finset.univ fun ch : Fin 5 => win 0 16 fun b => dutyTok ER (recvCell (d ch) ch b) (b / 4) (0 : Fin 3))
    ∗ (bigSep Finset.univ fun ch : Fin 5 => win 0 16 fun b => dutyTok ER (sendCell c ch b) (sendR ch b) (0 : Fin 3))
    ∗ (bigSep Finset.univ fun ch : Fin 5 => win 0 12 fun b => dutyTok ER (credCell (d ch) ch b) (b / 4) (0 : Fin 3))
    ∗ bigSep Finset.univ fun j : Fin 3 => dutyTok ER (barCell (e j)) 0 j)
/-- As minted, and as paid with. -/
def toks (c : Dev nD) : sProp 𝕄 := tks c (fun _ => c) (fun _ => c)
def pays (c : Dev nD) : sProp 𝕄 := tks c (fun ch => pr ch c) (fun j => bpr j c)

theorem toks_eq (c : Dev nD) : (bigSep Finset.univ fun j : TJ => (dutyTok ER (tokOf (c, j)).1 (tokOf (c, j)).2.1 (tokOf (c, j)).2.2 : sProp 𝕄)) = toks c := by
  unfold toks tks
  rw [BI.bigSep_univ_sum, BI.bigSep_univ_sum, BI.bigSep_univ_sum, BI.bigSep_univ_prod, BI.bigSep_univ_prod, BI.bigSep_univ_prod]
  show iprop(_ ∗ (_ ∗ (_ ∗ _))) = _
  refine eq_sep (bigSep_congr fun ch _ => ?_) (eq_sep (bigSep_congr fun ch _ => ?_) (eq_sep (bigSep_congr fun ch _ => ?_) rfl))
  · rw [← fin_win]; rfl
  · rw [← fin_win]; rfl
  · rw [← fin_win]; rfl

theorem around {I : Type} [Fintype I] (e : I → Dev nD ≃ Dev nD) (A : I → Dev nD → sProp (MT nD τ sig ℕ (Elt F) ℕ UU ℕ)) :
    (bigSep Finset.univ fun c : Dev nD => bigSep Finset.univ fun i => A i c : sProp 𝕄) = bigSep Finset.univ fun c : Dev nD => bigSep Finset.univ fun i => A i (e i c) := by
  rw [BI.bigSep_univ_comm, BI.bigSep_univ_comm (fun (c : Dev nD) i => A i (e i c))]
  exact bigSep_congr fun i _ => BI.bigSep_univ_equiv (e i) (A i)

theorem toks_around : (bigSep Finset.univ fun c : Dev nD => (toks c : sProp 𝕄)) = bigSep Finset.univ fun c : Dev nD => pays c := by
  unfold toks pays tks
  simp only [bigSep_sep']
  refine eq_sep ?_ (eq_sep rfl (eq_sep ?_ ?_))
  · exact around prEquiv fun ch c => win 0 16 fun b => dutyTok ER (recvCell c ch b) (b / 4) (0 : Fin 3)
  · exact around prEquiv fun ch c => win 0 12 fun b => dutyTok ER (credCell c ch b) (b / 4) (0 : Fin 3)
  · exact around bprEquiv fun j c => dutyTok ER (barCell c) 0 j

/-! ## The launch element -/

section
variable (U : Vals F)

def G (c : Dev nD) : sProp 𝕄 :=
  iprop((bigSep Finset.univ fun x : CI => roundState ER (sched U) (ciCell (c, x)) 0)
    ∗ (bigSep Finset.univ fun x : CI => atPos ER (ciCell (c, x)) 0 ∅ 0) ∗ (bigSep Finset.univ fun x : CI => reached ER (ciCell (c, x)) 0) ∗ toks c)

theorem fund_cells : BI.own (ER (initOf myCells myToks)) ⊢ (|==> bigSep Finset.univ (G U) : sProp 𝕄) := by
  have hX (A : GSem nD τ sig → sProp (MT nD τ sig ℕ (Elt F) ℕ UU ℕ)) : bigSep myCells A = bigSep Finset.univ fun c : Dev nD => bigSep Finset.univ fun x : CI => A (ciCell (c, x)) := by
    unfold myCells; rw [BI.bigSep_map, BI.bigSep_univ_prod]; rfl
  have hT : bigSep myToks (fun x => (dutyTok ER x.1 x.2.1 x.2.2 : sProp 𝕄)) = bigSep Finset.univ fun c : Dev nD => toks c := by
    unfold myToks; rw [BI.bigSep_map, BI.bigSep_univ_prod]
    exact bigSep_congr fun c _ => toks_eq c
  iintro HX
  imod (Rounds.fund ER (sched U) myCells myToks) $$ HX with ⟨Hst, Hr, Hat, Htok⟩
  imodintro
  ihave Hst := (Entails.of_eq (hX fun g => roundState ER (sched U) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat]; · iexact Hat
  isplitl [Hr]; · iexact Hr
  iexact Htok

/-- A device's own part: its positions, the tokens it pays with, its load semaphores. -/
def own (c : Dev nD) : sProp 𝕄 :=
  iprop((bigSep Finset.univ fun x : CI => atPos ER (ciCell (c, x)) 0 ∅ 0) ∗ pays c ∗ (semVal ((c : Thread nD τ), .dma (ldQ 0)) 0 ∗ semVal ((c : Thread nD τ), .dma (ldQ 1)) 0))
theorem own_parts : (bigSep Finset.univ fun c : Dev nD => (own c : sProp 𝕄))
    = iprop((bigSep Finset.univ fun c : Dev nD => bigSep Finset.univ fun x : CI => atPos ER (ciCell (c, x)) 0 ∅ 0) ∗ (bigSep Finset.univ fun c : Dev nD => pays c)
      ∗ bigSep Finset.univ fun c : Dev nD => iprop(semVal ((c : Thread nD τ), .dma (ldQ 0)) 0 ∗ semVal ((c : Thread nD τ), .dma (ldQ 1)) 0)) := by
  unfold own
  rw [bigSep_sep', bigSep_sep' Finset.univ (fun c : Dev nD => (pays c : sProp 𝕄))]
def G' (c : Dev nD) : sProp 𝕄 := iprop(∃ K, Recs U K ∗ own c)

theorem cells_alloc (c : Dev nD) : iprop(Pipeline.ownSems0 osem c ∗ unscopedSems0 c ∗ G U c)
    ⊢ |={Set.univ}=> (iprop((bigSep Finset.univ fun x : CI => iprop(∃ κ : ℕ, cellInv ER (sched U) κ (ciCell (c, x)))) ∗ (bigSep Finset.univ fun x : CI => reached ER (ciCell (c, x)) 0)
        ∗ (bigSep Finset.univ fun x : CI => atPos ER (ciCell (c, x)) 0 ∅ 0) ∗ (semVal ((c : Thread nD τ), .dma (ldQ 0)) 0 ∗ semVal ((c : Thread nD τ), .dma (ldQ 1)) 0) ∗ toks c) : sProp 𝕄) := by
  unfold G
  iintro ⟨Hos, Hus, Hst, Hat, Hr, Htok⟩
  ihave Hv := (Entails.of_eq (sems_own c)) $$ [Hos Hus]
  · isplitl [Hos]; · iexact Hos
    iexact Hus
  icases Hv with ⟨HL, Hv⟩
  have hinv : iprop((bigSep Finset.univ fun x : CI => semVal (ciCell (c, x)) 0) ∗ bigSep Finset.univ fun x : CI => roundState ER (sched U) (ciCell (c, x)) 0)
      ⊢ (|={Set.univ}=> bigSep Finset.univ fun x : CI => iprop(∃ κ : ℕ, cellInv ER (sched U) κ (ciCell (c, x))) : sProp 𝕄) := by
    rw [← bigSep_sep']
    exact (bigSep_mono fun x _ => (Rounds.body_intro ER (sched U) (ciCell (c, x))).trans inv_alloc).trans (bigSep_fupd _ _)
  imod hinv $$ [Hv Hst] with Hinv
  · isplitl [Hv]; · iexact Hv
    iexact Hst
  imodintro
  isplitl [Hinv]; · iexact Hinv
  isplitl [Hr]; · iexact Hr
  isplitl [Hat]; · iexact Hat
  isplitl [HL]; · iexact HL
  iexact Htok

theorem with_lasting {I : Type} [DecidableEq I] {S : Finset I} {R : sProp (MT nD τ sig ℕ (Elt F) ℕ UU ℕ)} [BI.Persistent R] {A B : I → sProp (MT nD τ sig ℕ (Elt F) ℕ UU ℕ)}
    (h : ∀ i ∈ S, iprop(R ∗ A i) ⊢ (B i : sProp 𝕄)) : iprop(R ∗ bigSep S A) ⊢ (bigSep S B : sProp 𝕄) :=
  (sep_mono_left (BI.bigSep_of_persistent S R)).trans (by rw [← bigSep_sep']; exact bigSep_mono h)

theorem hand_out : (bigSep Finset.univ fun c : Dev nD => iprop((bigSep Finset.univ fun x : CI => iprop(∃ κ : ℕ, cellInv ER (sched U) κ (ciCell (c, x)))) ∗ (bigSep Finset.univ fun x : CI => reached ER (ciCell (c, x)) 0)
        ∗ (bigSep Finset.univ fun x : CI => atPos ER (ciCell (c, x)) 0 ∅ 0) ∗ (semVal ((c : Thread nD τ), .dma (ldQ 0)) 0 ∗ semVal ((c : Thread nD τ), .dma (ldQ 1)) 0) ∗ toks c) : sProp 𝕄)
    ⊢ bigSep Finset.univ (G' U) := by
  rw [bigSep_sep', bigSep_sep', bigSep_sep', bigSep_sep' Finset.univ (fun c : Dev nD => (iprop(semVal ((c : Thread nD τ), .dma (ldQ 0)) 0 ∗ semVal ((c : Thread nD τ), .dma (ldQ 1)) 0) : sProp 𝕄)) toks,
    toks_around, ← BI.bigSep_univ_prod (fun x : Dev nD × CI => (iprop(∃ κ : ℕ, cellInv ER (sched U) κ (ciCell x)) : sProp 𝕄)),
    ← BI.bigSep_univ_prod (fun x : Dev nD × CI => (reached ER (ciCell x) 0 : sProp 𝕄))]
  iintro ⟨HI, Hr, Hat, HL, Htok⟩
  ihave HK := (BI.bigSep_exists_pi Finset.univ (fun (x : Dev nD × CI) (κ : ℕ) => (cellInv ER (sched U) κ (ciCell x) : sProp 𝕄))) $$ HI
  icases HK with ⟨%K, HI⟩
  ihave HR := (Entails.of_eq (show iprop((bigSep Finset.univ fun x : Dev nD × CI => cellInv ER (sched U) (K x) (ciCell x)) ∗ bigSep Finset.univ fun x : Dev nD × CI => reached ER (ciCell x) 0)
      = (Recs U K : sProp 𝕄) by unfold Recs; rw [bigSep_sep'])) $$ [HI Hr]
  · isplitl [HI]; · iexact HI
    iexact Hr
  icases HR with #HR
  iapply (with_lasting (S := Finset.univ) (R := Recs U K) (A := own) (B := G' U) fun c _ => by
    unfold G'; iintro ⟨#HR, Ho⟩; iexists K
    isplitr; · iexact HR
    iexact Ho)
  isplitr; · iexact HR
  iapply (Entails.of_eq own_parts.symm)
  isplitl [Hat]; · iexact Hat
  isplitl [Htok]; · iexact Htok
  iexact HL

theorem glob : (bigSep Finset.univ fun c => iprop(Pipeline.ownSems0 osem c ∗ unscopedSems0 c ∗ G U c) : sProp 𝕄) ⊢ |={Set.univ}=> bigSep Finset.univ (G' U) :=
  ((bigSep_mono fun c _ => cells_alloc U c).trans (bigSep_fupd _ _)).trans (BI.fupd_mono (hand_out U))

/-! ## The launch credit -/

def creds (c : Dev nD) : sProp 𝕄 :=
  iprop((bigSep Finset.univ fun ch : Fin 5 => win 0 16 (credR ch c)) ∗ (bigSep Finset.univ fun ch : Fin 5 => win 0 12 (credC ch c)) ∗ cred (tallyAt (barCell c) 0 3))

theorem O_start (c : Dev nD) : O c 0 = ∑ p : Pay, tall c p := by
  unfold O; rw [Finset.filter_true_of_mem fun p _ => Nat.zero_le _]

theorem bar_three (c : Dev nD) : (bigSep Finset.univ fun _ : Fin 3 => cred (tallyAt (barCell c) 0 1) : sProp 𝕄) ⊢ cred (tallyAt (barCell c) 0 3) := by
  rw [bigSep_univ_eq_bigSepL [0, 1, 2] (by decide) (by decide)]
  have e : (tallyAt (barCell c) 0 3 : CellTallies nD τ sig ℕ) = tallyAt (barCell c) 0 1 + (tallyAt (barCell c) 0 1 + tallyAt (barCell c) 0 1) := by
    rw [tallyAt_add, tallyAt_add]
  rw [e]
  exact (sep_mono_right (cred_add _ _).2).trans (cred_add _ _).2

theorem creds_intro (c : Dev nD) : (Pipeline.launchCred (fun d => O d 0) c : sProp 𝕄) ⊢ creds c := by
  rw [show (fun d => O d 0) = fun d => ∑ p ∈ (Finset.univ : Finset Pay), tall d p from funext O_start, Pipeline.launchCred_sum]
  have e : (bigSep Finset.univ fun p : Pay => Pipeline.launchCred (fun d => tall d p) c : sProp 𝕄)
      = iprop((bigSep Finset.univ fun ch : Fin 5 => bigSep Finset.univ fun b : Fin 16 => Pipeline.launchCred (fun d => tall d (.inl (ch, b))) c)
        ∗ (bigSep Finset.univ fun ch : Fin 5 => bigSep Finset.univ fun e : Fin 12 => Pipeline.launchCred (fun d => tall d (.inr (.inl (ch, e)))) c)
        ∗ bigSep Finset.univ fun j : Fin 3 => Pipeline.launchCred (fun d => tall d (.inr (.inr j))) c) := by
    rw [BI.bigSep_univ_sum, BI.bigSep_univ_sum, BI.bigSep_univ_prod, BI.bigSep_univ_prod]; rfl
  rw [e]
  unfold creds
  refine sep_mono (bigSep_mono fun ch _ => ?_) (sep_mono (bigSep_mono fun ch _ => ?_) ((bigSep_mono fun j _ => ?_).trans (bar_three c)))
  · rw [← fin_win]
    exact bigSep_mono fun b _ => Pipeline.launchCred_tallyAt (.dma (recvQ ch b.val)) (pr ch) (pr ch) (pr_pr ch) (pr_pr ch) b.val (NC ch) c
  · rw [← fin_win]
    exact bigSep_mono fun e _ => Pipeline.launchCred_tallyAt (.reg (credQ ch e.val)) (pr ch) (pr ch) (pr_pr ch) (pr_pr ch) e.val 1 c
  · exact Pipeline.launchCred_tallyAt (.reg barQ) (bpr j) (bpr j) (bpr_bpr j) (bpr_bpr j) 0 1 c

end
end Cert.KProof
end
-- ==== Proof.Run.lean ====
/-
  The run of the whole program: from the launch, through every grid point, to the arrays and counters at the end.
-/
module

public import proofs.«01_k».proof.Proof.Deal
public import Idealize.ShloMosaic.Lib.Pipeline.CollectiveSegs

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

section
variable (m : (ℓ : Loc nD τ sig) → Buf (Elt F) ℓ) (ρ : Dev nD → PrngReg)

/-! ## Before the first step -/

theorem core_start (U : Vals F) (K : Dev nD × CI → ℕ) (c : Dev nD) (ch : Fin 5) :
    iprop(Recs U K ∗ ((win 0 16 fun b => dutyTok ER (recvCell (pr ch c) ch b) (b / 4) (0 : Fin 3)) ∗ (win 0 16 fun b => dutyTok ER (sendCell c ch b) (sendR ch b) (0 : Fin 3))
        ∗ (win 0 12 fun b => dutyTok ER (credCell (pr ch c) ch b) (b / 4) (0 : Fin 3)) ∗ grp (fun s => atPos ER ((c : Thread nD τ), s) 0 ∅ 0) ch ∗ win 0 16 (credR ch c) ∗ win 0 12 (credC ch c)))
      ⊢ (Core ch c 0 0 0 0 0 : sProp 𝕄) := by
  have tk : (win 0 16 (tokS ch c) : sProp 𝕄) = iprop((win 0 16 fun b => dutyTok ER (recvCell (pr ch c) ch b) (b / 4) (0 : Fin 3)) ∗ (win 0 16 fun b => dutyTok ER (sendCell c ch b) (sendR ch b) (0 : Fin 3))) :=
    win_sep 0 16 _ _
  have hrv : iprop(Recs U K ∗ win 0 4 fun b => atPos ER ((c : Thread nD τ), .dma (recvQ ch b)) 0 ∅ 0) ⊢ (win 0 4 (posRv ch c) : sProp 𝕄) := by
    unfold win
    refine with_lasting fun b hb => ?_
    rw [posRv_def, show b / 4 = 0 by have := (Finset.mem_Ico.mp hb).2; omega]
    iintro ⟨#HR, Hat⟩
    ihave #HI := (Recs_recv U K c ch b) $$ HR
    icases HI with ⟨-, #HI⟩
    isplitl [Hat]; · iexact Hat
    iexact HI
  have hcr : iprop(Recs U K ∗ win 0 4 fun b => atPos ER ((c : Thread nD τ), .reg (credQ ch b)) 0 ∅ 0) ⊢ (win 0 4 (posCr ch c) : sProp 𝕄) := by
    unfold win
    refine with_lasting fun b hb => ?_
    rw [posCr_def, show b / 4 = 0 by have := (Finset.mem_Ico.mp hb).2; omega]
    iintro ⟨#HR, Hat⟩
    ihave #HI := (Recs_cred U K c ch b) $$ HR
    icases HI with ⟨-, #HI⟩
    isplitl [Hat]; · iexact Hat
    iexact HI
  have hsd : iprop(Recs U K ∗ win 0 (sw ch) fun b => atPos ER ((c : Thread nD τ), .dma (sendQ ch b)) 0 ∅ 0) ⊢ (win 0 (sw ch) (posSd ch c) : sProp 𝕄) := by
    unfold win
    refine with_lasting fun b hb => ?_
    rw [posSd_def, show sendR ch b = 0 by rw [sendR_eq]; exact Nat.div_eq_of_lt (Finset.mem_Ico.mp hb).2]
    iintro ⟨#HR, Hat⟩
    ihave #HI := (Recs_send U K c ch b) $$ HR
    icases HI with ⟨-, #HI⟩
    isplitl [Hat]; · iexact Hat
    iexact HI
  unfold Core grp
  rw [tk, Nat.zero_add, Nat.zero_add, win_nil (show 0 ≤ 0 by omega) (credS ch c), win_nil (show 0 ≤ 0 by omega) (gotR ch c)]
  iintro ⟨#HR, Ht1, Ht2, Ht3, ⟨Hrv, Hcr, Hsd⟩, HcR, HcC⟩
  isplitl [Ht1 Ht2]
  · isplitl [Ht1]; · iexact Ht1
    iexact Ht2
  isplitl [HcR]; · iexact HcR
  isplitl [Hrv]
  · iapply hrv; isplitr; · iexact HR
    iexact Hrv
  isplitl [Hcr]
  · iapply hcr; isplitr; · iexact HR
    iexact Hcr
  isplitl [HcC]; · iexact HcC
  isplitl [Ht3]; · iexact Ht3
  isplitl [Hsd]
  · iapply hsd; isplitr; · iexact HR
    iexact Hsd
  isplitr; · iempintro
  iempintro

/-- The device's `O`, whole. -/
theorem O_pts (c : Dev nD) : (((c : Thread nD τ).loc main_arg0) ↦{fullShare} m ((c : Thread nD τ).loc main_arg0) : sProp 𝕄) = pv c Om.view fullShare (XO m c) := by
  rw [← pv_eq c Om.view fullShare (XO m c) (m ((c : Thread nD τ).loc main_arg0)) rfl, show (Om.view : View sig .tc _ _ _).set = Finset.univ from View.set_whole _]

def start (c : Dev nD) : sProp 𝕄 := iprop((∃ K, Ctx (UV m) K ∗ own c) ∗ creds c ∗ pv c Om.view fullShare (XO m c))

theorem start_intro (c : Dev nD) :
    iprop(Pipeline.unscopedRestP Pipeline.Prefetch.none cfg0.spec c (fun b => m ((c : Thread nD τ).loc b)) ∗ levAts L lv
        ∗ Pipeline.launchCred (fun d => O d 0) c ∗ prngReg c (ρ c) ∗ G' (UV m) c)
      ⊢ |={Set.univ}=> (iprop(start m c ∗ emp) : sProp 𝕄) := by
  rw [Pipeline.unscopedRestP_none, show (Pipeline.unscopedRest cfg0.spec c (fun b => m ((c : Thread nD τ).loc b)) : sProp 𝕄)
    = ((c : Thread nD τ).loc main_arg0) ↦{fullShare} m ((c : Thread nD τ).loc main_arg0) from unscopedRest0_eq c _, O_pts]
  unfold start G' Ctx
  iintro ⟨HO, #Hlev, Hcr, -, ⟨%K, #HR, Ho⟩⟩
  ihave Hcr := (creds_intro c) $$ Hcr
  imodintro
  isplitl
  · isplitl [Ho]
    · iexists K
      isplitr
      · isplitr; · iexact HR
        iexact Hlev
      iexact Ho
    isplitl [Hcr]; · iexact Hcr
    iexact HO
  · iempintro

theorem rooms_win (ch : Fin 5) (c : Dev nD) : (win 0 4 (room ch c) : sProp 𝕄) = rooms ch c := rfl

theorem init_intro (K : Dev nD × CI → ℕ) (c : Dev nD) :
    iprop(Ctx (UV m) K ∗ own c ∗ creds c ∗ pv c Om.view fullShare (XO m c) ∗ Pipeline.scopedRest cfg0.spec c) ⊢ (Init c (XO m c) : sProp 𝕄) := by
  have hc : iprop(Recs (UV m) K ∗ (bigSep Finset.univ fun ch : Fin 5 => iprop((win 0 16 fun b => dutyTok ER (recvCell (pr ch c) ch b) (b / 4) (0 : Fin 3)) ∗ (win 0 16 fun b => dutyTok ER (sendCell c ch b) (sendR ch b) (0 : Fin 3))
        ∗ (win 0 12 fun b => dutyTok ER (credCell (pr ch c) ch b) (b / 4) (0 : Fin 3)) ∗ grp (fun s => atPos ER ((c : Thread nD τ), s) 0 ∅ 0) ch ∗ win 0 16 (credR ch c) ∗ win 0 12 (credC ch c))))
      ⊢ (bigSep Finset.univ fun ch : Fin 5 => Core ch c 0 0 0 0 0 : sProp 𝕄) := with_lasting fun ch _ => core_start (UV m) K c ch
  rw [bigSep_sep', bigSep_sep', bigSep_sep', bigSep_sep', bigSep_sep', five fun ch => Core ch c 0 0 0 0 0] at hc
  unfold Init own creds pays tks barT Ctx
  iintro ⟨⟨#HR, -⟩, ⟨Hat, ⟨Ht1, Ht2, Ht3, Htb⟩, ⟨HL0, HL1⟩⟩, ⟨HcR, HcC, Hcb⟩, HO, HS⟩
  have hat : (bigSep Finset.univ fun x : CI => atPos ER (ciCell (c, x)) 0 ∅ 0 : sProp 𝕄)
      = iprop(bigSep Finset.univ (grp fun s => atPos ER ((c : Thread nD τ), s) 0 ∅ 0) ∗ atPos ER (barCell c) 0 ∅ 0) := regroup fun s => atPos ER ((c : Thread nD τ), s) 0 ∅ 0
  ihave Hat := (Entails.of_eq hat) $$ Hat
  icases Hat with ⟨Hat, Hab⟩
  ihave HC := hc $$ [Ht1 Ht2 Ht3 Hat HcR HcC]
  · isplitr; · iexact HR
    isplitl [Ht1]; · iexact Ht1
    isplitl [Ht2]; · iexact Ht2
    isplitl [Ht3]; · iexact Ht3
    isplitl [Hat]; · iexact Hat
    isplitl [HcR]; · iexact HcR
    iexact HcC
  ihave HS := (scratch_cut c 0 0 0).1 $$ HS
  icases HS with ⟨⟨Ha0, Ha1⟩, Hz, Hm, R0, R1, R2, R3, R4⟩
  ihave HO := (pv_share c _ _ _ _ full_op _).1 $$ HO
  icases HO with ⟨HO0, HO1⟩
  isplitl [HC]; · iexact HC
  isplitl [Htb Hcb Hab]
  · isplitl [Htb]; · iexact Htb
    isplitl [Hcb]; · iexact Hcb
    iexact Hab
  isplitl [R0 R1 R2 R3 R4]
  · isplitl [R0]; · iapply (Entails.of_eq (rooms_win 0 c)); iexact R0
    isplitl [R1 R4]
    · isplitl [R1]; · iapply (Entails.of_eq (rooms_win 1 c)); iexact R1
      iapply (Entails.of_eq (rooms_win 4 c)); iexact R4
    isplitl [R2]; · iapply (Entails.of_eq (rooms_win 2 c)); iexact R2
    iapply (Entails.of_eq (rooms_win 3 c)); iexact R3
  isplitl [Hz]; · iexact Hz
  isplitl [Hm]; · iexact Hm
  isplitl [HL0 HO0 Ha0]
  · isplitl [HL0]; · iexact HL0
    isplitl [HO0]; · iexact HO0
    iexact Ha0
  isplitl [HL1]; · iexact HL1
  isplitl [HO1]; · iexact HO1
  iexact Ha1

theorem phi_zero (c : Dev nD) : (dats m 0 c).Φ 0 = iprop(∃ K, Ctx (UV m) K ∗ Init c (XO m c)) := by
  show Phi m c 0 = _
  unfold Phi; rw [if_neg (show ¬(0 : ℕ) = 19 by omega)]; rfl

theorem phi_in (c : Dev nD) :
    iprop(start m c ∗ Pipeline.prefHeld Pipeline.Prefetch.none c (fun _ => fullShare.right) (fun k => k.elim0) ∗ Pipeline.scopedRest cfg0.spec c) ⊢ (dats m 0 c).Φ 0 := by
  rw [phi_zero]
  unfold start
  iintro ⟨⟨⟨%K, #HC, Ho⟩, Hcr, HO⟩, -, HS⟩
  iexists K
  isplitr; · iexact HC
  iapply (init_intro m K c)
  isplitr; · iexact HC
  isplitl [Ho]; · iexact Ho
  isplitl [Hcr]; · iexact Hcr
  isplitl [HO]; · iexact HO
  iexact HS

theorem phi_out (c : Dev nD) :
    (dats m 0 c).Φ (Fin.last cfg0.N) ⊢ (iprop((unscopedSems0 c ∗ pv c Om.view fullShare (XO m c)) ∗ Pipeline.ownSems0 osem c ∗ Pipeline.scopedRest cfg0.spec c) : sProp 𝕄) := by
  have e : ((dats m 0 c).Φ (Fin.last cfg0.N) : sProp 𝕄) = Exit c (XO m c) := by
    show Phi m c cfg0.N = _
    unfold Phi; rw [if_pos N_19]
  rw [e]; unfold Exit
  exact Entails.of_eq rfl

/-! ## The theorem's side conditions -/

theorem own_facts : Pipeline.OwnSemFacts cfg0.spec osem := by decide +kernel
theorem share_eq (c : Dev nD) (w : Fin cfg0.W) : (dats m 0 c).share w = fullShare := by unfold Dat.share; split <;> rfl

theorem O_zero (c : Dev nD) : O c 0 = O c 1 :=
  O_skip c 0 1 (by omega) (fun ch b _ => .inr (by rcases posR_cases ch b with ⟨rfl, h1⟩ | ⟨rfl, h1⟩ | ⟨rfl, h1⟩ | ⟨rfl, h1⟩ | ⟨rfl, h1⟩ <;> omega))
    (fun ch e _ => .inr (by rcases posC_cases ch e with ⟨rfl, h1⟩ | ⟨rfl, h1⟩ | ⟨rfl, h1⟩ | ⟨rfl, h1⟩ | ⟨rfl, h1⟩ <;> omega)) (.inr (le_refl 1))

theorem wait_stage (c : Dev nD) (j : DmaSem sig) (hj : j.val < 6) (n : ℕ) : (levAts L lv : sProp 𝕄) ⊢ MayWait (c : Thread nD τ) (.dma j) (0 : ℕ) (O c (posn n)) := by
  by_cases h : n = 0
  · subst h
    rw [show O c (posn 0) = O c 1 from O_zero c]
    exact mayWait c (.dma j) 0 1 (by omega) (by rw [lv_low c j hj]; omega)
  · refine mayWait c (.dma j) 0 (posn n) (by omega) ?_
    rw [lv_low c j hj]; unfold posn; rw [if_neg h]; omega

theorem waits (c : Dev nD) : (levAts L lv : sProp 𝕄) ⊢ Pipeline.cellsWaits cfgs (dats m) (0 : ℕ) 0 c :=
  Pipeline.cellsWaits_intro cfgs (dats m) (0 : ℕ) 0 c fun w s t => wait_stage c _ (by revert w s; decide) t.val

theorem L_off (g : GSem nD τ sig) (h : g.1.2 ≠ .tc) : L g = ∅ := if_neg h

/-! ## The run -/

theorem owed_last (c : Dev nD) : (dats m 0 c).owed (Fin.last cfg0.N) = 0 := by
  show O c (posn cfg0.N) = 0
  rw [N_19]; exact O_end c _ (by decide)

theorem fund_all : (ownU (u₀ : UU) : sProp 𝕄)
    ⊢ |={Set.univ}=> iprop(BI.own (EP (initOf (Pipeline.cells cfgs cellOf_inj) (Pipeline.launchToks cfgs cellOf_inj))) ∗ bigSep Finset.univ (G (UV m))) := by
  unfold u₀
  iintro Hu
  ihave H := (ownU_split _ _) $$ Hu
  icases H with ⟨HP, HX⟩
  imod (fund_cells (UV m)) $$ HX with HG
  imodintro
  isplitl [HP]; · iexact HP
  iexact HG

theorem read_end (c : Dev nD) (s' : Phys nD τ sig (Elt F)) :
    iprop(iprop(unscopedSems0 c ∗ pv c Om.view fullShare (XO m c)) ∗ iprop(emp) ∗ SI s')
      ⊢ |={Set.univ}=> (iprop(⌜(∀ sm : SemLoc sig, sm.isScoped .tc = false → s'.mem.sem ((c.tc : Thread nD τ), sm) = 0)
        ∧ s'.mem.mem ((c : Thread nD τ).loc main_arg0) = m ((c : Thread nD τ).loc main_arg0)⌝ ∗ SI s') : sProp 𝕄) := by
  rw [← O_pts]
  iintro ⟨⟨Hu, H0⟩, -, HSI⟩
  icombine HSI H0 gives %h0
  imod (Pipeline.unscopedSems0_read (X := unscopedSems0 c) (c := c) fupd_intro s') $$ [Hu HSI] with ⟨%hu, HSI⟩
  · isplitl [Hu]; · iexact Hu
    iexact HSI
  imodintro
  isplitr
  · ipureintro; exact ⟨hu, Buf.eq_of_forall_mem_univ h0⟩
  iexact HSI

theorem ne_blocks (w : Fin cfg0.W) : 0 < (cfg0.spec w).block.numel := by fin_cases w <;> exact Nat.succ_pos _

def finalA (c : Dev nD) (w : Fin cfg0.W) : Buf (Elt F) ((cfg0.win w).arr.view.loc (c : Thread nD τ)) := (dats m 0 c).arrAt w cfg0.N

set_option maxRecDepth 8000 in
set_option maxHeartbeats 2000000 in
theorem run_main : θ_run defs (onTc (τ := τ) (main (F := F))) (s₀ m ρ) (fun r =>
    (∀ c : Dev nD, (∀ w : Fin cfg0.W, r.2.mem ((cfg0.win w).arr.view.loc (c : Thread nD τ)) = finalA m c w)
      ∧ r.2.mem ((c : Thread nD τ).loc main_arg0) = m ((c : Thread nD τ).loc main_arg0)) ∧ r.2.sem = fun _ => 0) :=
  Pipeline.θ_run_region_owing_glob_pf (fun p => (cfgs p).toPCfg) (fun p => (cfgs p).toPCfg_adm) (dats m) (0 : ℕ) cellOf_inj (0 : Fin 1)
    winFacts0.to₀ own_facts (Pipeline.PreFacts.none _) EP defs₀ 𝒱₀ m ρ main
    (hmain := fun _ => rfl)
    (hbody := fun c => (body_obligation m c).loose) (hne := ne_blocks) (harr := arr_whole0) (hstage := stage_whole0) (hshare := share_eq m)
    (hdistinct := winFacts0.arr_inj)
    (O₀ := fun d => O d 0) (howed₀ := fun _ => rfl) (howedN := owed_last m)
    (L := L) (lv := lv) (hL := L_off) (hwaits := waits m)
    (G := G (UV m)) (G' := G' (UV m)) (u₀ := u₀)
    (hu₀ := fund_all m)
    (hglob := glob (UV m))
    (hA := fun _ _ => rfl) (hpf := fun _ k => k.elim0)
    (X := start m) (Y := fun c => iprop(unscopedSems0 c ∗ pv c Om.view fullShare (XO m c))) (Z := fun _ => iprop(emp))
    (hX := start_intro m ρ) (hin := phi_in m) (hout := phi_out m)
    (QY := fun c s => (∀ sm : SemLoc sig, sm.isScoped .tc = false → s.sem ((c.tc : Thread nD τ), sm) = 0)
      ∧ s.mem ((c : Thread nD τ).loc main_arg0) = m ((c : Thread nD τ).loc main_arg0))
    (hY := read_end m)
    (hQ := fun _ h hs => ⟨fun c => ⟨fun w => (h c).1 w, (h c).2.2.2⟩, sem_eq_zero hs fun c => (h c).2.2.1⟩)

/-- After the run `Wo` holds what it held. -/
theorem finalA_wo (c : Dev nD) : finalA m c (0 : Fin 2) = m (win0_0.arr.view.loc (c : Thread nD τ)) :=
  (dats (F := F) m 0 c).arrAt_in (0 : Fin 2) rfl _

theorem run_frame : θ_run defs (onTc (τ := τ) (main (F := F))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c => ⟨(h.1 c).2, ((h.1 c).1 0).trans (finalA_wo m c)⟩, h.2⟩) (run_main m ρ)

end
end Cert.KProof
end
-- ==== Proof.Value.lean ====
/-
  The result array after the run, at an index: its column block's summed block. And the block of `Wo` that a step reads, at an index.
-/
module

public import proofs.«01_k».proof.Proof.Run
public import Idealize.ShloMosaic.Lib.Pipeline.ValueKit

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

section
variable (m : (ℓ : Loc nD τ sig) → Buf (Elt F) ℓ)

/-- A column of the result, within its column block. -/
def colE (i : S1x1024x8192.Idx) : S1x1024x512.Idx := fun a => ⟨if a.val = 2 then (i 2).val % 512 else (i a).val, by
  match a with
  | 0 => exact (i 0).isLt
  | 1 => exact (i 1).isLt
  | 2 => exact Nat.mod_lt _ (by decide)⟩

/-- The result on device `c`. -/
def resA (c : Dev nD) : S1x1024x8192.Idx → Elt F .f32 := fun i => ob (UV m) c ((i 2).val / 512) (colE i)

theorem index_out : ∀ t : Fin cfg0.N, (cfg0.win 1).flush t = true →
    win0_1.index t 0 = 0 ∧ win0_1.index t 1 = 0 ∧ win0_1.index t 2 = t.val - 3 ∧ 3 ≤ t.val := by decide +kernel
theorem index_wo : ∀ t : Fin cfg0.N, win0_0.index t 0 = 0 ∧ win0_0.index t 1 = min t.val 15 := by decide +kernel

theorem out_at (U : Vals F) (c : Dev nD) (b b' : ℕ) (y y' : S1x1024x512.Idx) (hb : b = b') (hy : ∀ a, (y a).val = (y' a).val) : ob U c b y = ob U c b' y' := by
  subst hb
  have : y = y' := funext fun a => Fin.ext (hy a)
  rw [this]

theorem final_out (c : Dev nD) : finalA m c (1 : Fin 2) = resA m c := by
  refine (dats m 0 c).arrAt_eq_of_covers (1 : Fin 2) (resA m c) (by decide +kernel) fun t hf y => ?_
  obtain ⟨h0, h1, h2, h3⟩ := index_out t hf
  have hy2 : (y 2).val < 512 := (y 2).isLt
  have e0 : ((((cfg0.win 1).blk t).view.emb y) 0).val = win0_1.index t 0 * 1 + 1 * (y 0).val := rfl
  have e1 : ((((cfg0.win 1).blk t).view.emb y) 1).val = win0_1.index t 1 * 1024 + 1 * (y 1).val := rfl
  have e2 : ((((cfg0.win 1).blk t).view.emb y) 2).val = win0_1.index t 2 * 512 + 1 * (y 2).val := rfl
  rw [h0] at e0; rw [h1] at e1; rw [h2] at e2
  refine out_at (UV m) c (t.val - 3) _ _ (colE (((cfg0.win 1).blk t).view.emb y)) (by rw [e2]; omega) fun a => ?_
  match a with
  | 0 => show (y 0).val = ((((cfg0.win 1).blk t).view.emb y) 0).val; omega
  | 1 => show (y 1).val = ((((cfg0.win 1).blk t).view.emb y) 1).val; omega
  | 2 => show (y 2).val = ((((cfg0.win 1).blk t).view.emb y) 2).val % 512; omega

/-- Column `n` of block `b` of `Wo`. -/
def wE (b : ℕ) (hb : b < 16) (y : S4096x512.Idx) : S4096x8192.Idx := fun a => ⟨(y a).val + (if a.val = 1 then 512 * b else 0), by
  match a with
  | 0 => exact (y 0).isLt
  | 1 => have h : (y 1).val < 512 := (y 1).isLt; show (y 1).val + 512 * b < 8192; omega⟩

theorem WB_apply (c : Dev nD) (b : ℕ) (hb : b < 16) (y : S4096x512.Idx) :
    WB m c b y = (m ((c : Thread nD τ).loc main_arg1) : S4096x8192.Idx → Elt F .f32) (wE b hb y) := by
  have hlt : b < cfg0.N := by rw [N_19]; omega
  have ht : (⟨b % 19, by rw [N_19]; omega⟩ : Fin cfg0.N) = ⟨b, hlt⟩ := Fin.ext (by show b % 19 = b; omega)
  unfold WB
  rw [ht]
  obtain ⟨h0, h1⟩ := index_wo ⟨b, hlt⟩
  unfold wblk
  refine congrArg (m ((c : Thread nD τ).loc main_arg1)) (funext fun a => Fin.ext ?_)
  match a with
  | 0 =>
    show win0_0.index ⟨b, hlt⟩ 0 * 4096 + 1 * (y 0).val = (y 0).val
    omega
  | 1 =>
    show win0_0.index ⟨b, hlt⟩ 1 * 512 + 1 * (y 1).val = (y 1).val + 512 * b
    have : min b 15 = b := by omega
    have h1' : win0_0.index ⟨b, hlt⟩ 1 = min b 15 := h1
    omega
end
end Cert.KProof
end
-- ==== Proof.Alg.lean ====
/-
  Over the reals: a device's two products as sums, the reference's product as the sum of the two z halves', and so the
  device's result its part of the reference's.
-/
module

public import proofs.«01_k».proof.Proof.Value
public import proofs.«01_k».proof.Proof.Gen.ReferenceIdeal.Run
public import Idealize.ShloMosaic.Lib.Pointwise
public import Idealize.ShloMosaic.Lib.Layout

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

/-- A row of the left block and a column of the right one. -/
def lE (y : S1x256x512.Idx) (k : Fin 4096) : S1x256x4096.Idx := fun a => ⟨if a.val = 2 then k.val else (y a).val, by
  match a with
  | 0 => exact (y 0).isLt
  | 1 => exact (y 1).isLt
  | 2 => exact k.isLt⟩
def rE (y : S1x256x512.Idx) (k : Fin 4096) : S4096x512.Idx := fun a => ⟨if a.val = 0 then k.val else (y 2).val, by
  match a with
  | 0 => exact k.isLt
  | 1 => exact (y 2).isLt⟩

set_option maxRecDepth 16384 in
theorem pay1_apply (X : Vec Ideal S1x256x4096 .f32) (W : Vec Ideal S4096x512 .f32) (y : S1x256x512.Idx) :
    k0_pay1 (F := Ideal) X W y = ∑ k : Fin 4096, (X (lE y k) * W (rE y k) : EReal) := by
  pointwise [k0_pay1]
  refine Finset.sum_congr rfl fun k _ => congrArg₂ (· * ·) (congrArg X (funext fun a => Fin.ext ?_)) (congrArg W (funext fun a => Fin.ext ?_))
  · match a with
    | 0 => have h : (y 0).val < 1 := (y 0).isLt; show 0 = (y 0).val; omega
    | 1 => rfl
    | 2 => rfl
  · match a with
    | 0 => rfl
    | 1 => rfl

theorem pay5_apply (X : Vec Ideal S1x256x4096 .f32) (W : Vec Ideal S4096x512 .f32) (y : S1x256x512.Idx) :
    k0_pay5 (F := Ideal) X W y = ∑ k : Fin 4096, (X (lE y k) * W (rE y k) : EReal) := pay1_apply X W y

set_option maxRecDepth 16384 in
theorem pay6_apply (X Y : Vec Ideal S1x256x512 .f32) (y : S1x256x512.Idx) :
    k0_pay6 (F := Ideal) X Y y = (X y + Y y : EReal) := by
  pointwise [k0_pay6]

/-! ## The reference -/

abbrev RO : Shape := Cert.ReferenceIdeal.S1x2048x64x128
abbrev RW : Shape := Cert.ReferenceIdeal.S8192x8192
abbrev RR : Shape := Cert.ReferenceIdeal.S1x2048x8192

/-- Row `i 1` of `O`, its heads side by side, at column `k`; column `i 2` of `Wo` at row `k`. -/
def oI (i : RR.Idx) (k : Fin 8192) : RO.Idx := fun a => ⟨(![0, (i 1).val, k.val / 128, k.val % 128] : Fin 4 → ℕ) a, by
  have := k.isLt
  match a with
  | 0 => exact Nat.one_pos
  | 1 => exact (i 1).isLt
  | 2 => show k.val / 128 < 64; omega
  | 3 => show k.val % 128 < 128; omega⟩
def wI (i : RR.Idx) (k : Fin 8192) : RW.Idx := fun a => ⟨if a.val = 0 then k.val else (i 2).val, by
  match a with
  | 0 => exact k.isLt
  | 1 => exact (i 2).isLt⟩

/-- Position `k` of the contraction's half `z`. -/
def hI (z : ℕ) (hz : z < 2) (k : Fin 4096) : Fin 8192 := ⟨4096 * z + k.val, by have := k.isLt; omega⟩

/-- The product's sum over half `z` of the contraction. -/
def half (X : FVec Ideal RO .f32) (W : FVec Ideal RW .f32) (i : RR.Idx) (z : ℕ) (hz : z < 2) : EReal :=
  ∑ k : Fin 4096, (X (oI i (hI z hz k)) * W (wI i (hI z hz k)) : EReal)

/-- What the reference computes. -/
def refV (X : FVec Ideal RO .f32) (W : FVec Ideal RW .f32) : FVec Ideal RR .f32 :=
  Host.dotGeneral (F := Ideal) Cert.ReferenceIdeal.dot_S1x2048x8192_S8192x8192_S1x2048x8192_2_0_01_1_n_n none
    (shapeCast Cert.ReferenceIdeal.S1x2048x8192 X Cert.ReferenceIdeal.Gen.facts.shapeCasts_S1x2048x64x128_S1x2048x8192) W

set_option maxRecDepth 16384 in
theorem ref_apply (X : FVec Ideal RO .f32) (W : FVec Ideal RW .f32) (i : RR.Idx) :
    refV X W i = ∑ k : Fin 8192, (X (oI i k) * W (wI i k) : EReal) := by
  unfold refV
  pointwise
  refine Finset.sum_congr rfl fun k _ => congrArg₂ (· * ·) (congrArg X (funext fun a => Fin.ext ?_)) (congrArg W (funext fun a => Fin.ext ?_))
  · match a with
    | 0 => rfl
    | 1 => rfl
    | 2 => rfl
    | 3 => rfl
  · match a with
    | 0 => rfl
    | 1 => rfl

theorem ref_halves (X : FVec Ideal RO .f32) (W : FVec Ideal RW .f32) (i : RR.Idx) :
    refV X W i = half X W i 0 (by decide) + half X W i 1 (by decide) := by
  rw [ref_apply, Fin.sum_univ_two_halves 4096 4096 rfl]
  unfold half
  refine congrArg₂ (· + ·) (Finset.sum_congr rfl fun k _ => ?_) (Finset.sum_congr rfl fun k _ => ?_)
  · have : hI 0 (by decide) k = ⟨k.val, by have := k.isLt; omega⟩ := Fin.ext (by show 4096 * 0 + k.val = k.val; omega)
    rw [this]
  · have : hI 1 (by decide) k = ⟨4096 + k.val, by have := k.isLt; omega⟩ := Fin.ext (by show 4096 * 1 + k.val = 4096 + k.val; omega)
    rw [this]

/-- The two halves in either order. -/
theorem ref_either (X : FVec Ideal RO .f32) (W : FVec Ideal RW .f32) (i : RR.Idx) (z z' : ℕ) (hz : z < 2) (hz' : z' < 2) (h : z + z' = 1) :
    half X W i z hz + half X W i z' hz' = refV X W i := by
  rw [ref_halves]
  rcases Nat.lt_or_ge z 1 with h0 | h0
  · obtain rfl : z = 0 := by omega
    obtain rfl : z' = 1 := by omega
    rfl
  · obtain rfl : z = 1 := by omega
    obtain rfl : z' = 0 := by omega
    exact add_comm _ _

/-! ## A device's part -/

section
variable (m : (ℓ : Loc nD τ sig) → Buf (Elt Ideal) ℓ)

/-- Device `c`'s parts of `O`, of `Wo` and of the result. -/
def partO (c : Dev nD) (X : FVec Ideal RO .f32) : S1x2048x32x128.Idx → Elt Ideal .f32 :=
  Layout.blockN ⟨4, ![1, 2048, 32, 128]⟩ ⟨4, ![1, 2048, 64, 128]⟩ (Layout.meshBlock [2, 2, 2] ![[], [], [2], []] c) X
def partW (c : Dev nD) (W : FVec Ideal RW .f32) : S4096x8192.Idx → Elt Ideal .f32 :=
  Layout.blockN ⟨2, ![4096, 8192]⟩ ⟨2, ![8192, 8192]⟩ (Layout.meshBlock [2, 2, 2] ![[2], []] c) W
def partR (c : Dev nD) (R : FVec Ideal RR .f32) : S1x1024x8192.Idx → Elt Ideal .f32 :=
  Layout.blockN ⟨3, ![1, 1024, 8192]⟩ ⟨3, ![1, 2048, 8192]⟩ (Layout.meshBlock [2, 2, 2] ![[], [2], []] c) R

theorem lin_z : ∀ c : Dev nD, Layout.meshLin [2, 2, 2] c.val [2] = c.val % 2 := by decide
theorem z_lt (c : Dev nD) : c.val % 2 < 2 := Nat.mod_lt _ (by decide)

/-- A device's product of a row block and a column block is the sum over its half of the contraction. -/
theorem part_half (X : FVec Ideal RO .f32) (W : FVec Ideal RW .f32) (p : Fin 2) (d : Dev nD) (b : ℕ) (hb : b < 16) (y : S1x256x512.Idx) (i : RR.Idx)
    (hX : XO m d = partO d X) (hW : m ((d : Thread nD τ).loc main_arg1) = partW d W)
    (h1 : (i 1).val = srcRow p d + (y 1).val) (h2 : (i 2).val = 512 * b + (y 2).val) :
    (∑ k : Fin 4096, (gath p d (XO m d) (lE y k) * WB m d b (rE y k) : EReal)) = half X W i (d.val % 2) (z_lt d) := by
  unfold half
  refine Finset.sum_congr rfl fun k _ => ?_
  have hk : k.val < 4096 := k.isLt
  have hl := lin_z d
  rw [WB_apply m d b hb, hW, hX]
  refine congrArg₂ (· * ·) (congrArg X (funext fun a => Fin.ext ?_)) (congrArg W (funext fun a => Fin.ext ?_))
  · match a with
    | 0 => rfl
    | 1 => show 0 * 2048 + (srcRow p d + (y 1).val) = (i 1).val; omega
    | 2 => show Layout.meshLin [2, 2, 2] d.val [2] * 32 + k.val / 128 = (4096 * (d.val % 2) + k.val) / 128; omega
    | 3 => show 0 * 128 + k.val % 128 = (4096 * (d.val % 2) + k.val) % 128; omega
  · match a with
    | 0 => show Layout.meshLin [2, 2, 2] d.val [2] * 4096 + (k.val + 0) = 4096 * (d.val % 2) + k.val; omega
    | 1 => show 0 * 8192 + ((y 2).val + 512 * b) = (i 2).val; omega

/-- The rows two z peers multiply for the same row block, and their halves. -/
theorem rows_eq : ∀ (c : Dev nD) (q : Fin 4), srcRow 1 (qdev c q.val) = 1024 * (c.val % 2) + 256 * q.val
    ∧ srcRow 0 (pz (qdev c q.val)) = 1024 * (c.val % 2) + 256 * q.val
    ∧ (qdev c q.val).val % 2 + (pz (qdev c q.val)).val % 2 = 1 := by decide

/-- The result on device `c` is its part of the reference's. -/
theorem res_eq (X : FVec Ideal RO .f32) (W : FVec Ideal RW .f32)
    (hX : ∀ d, XO m d = partO d X) (hW : ∀ d : Dev nD, m ((d : Thread nD τ).loc main_arg1) = partW d W) (c : Dev nD) :
    resA m c = partR c (refV X W) := by
  funext i
  have hi1 : (i 1).val < 1024 := (i 1).isLt
  have hi2 : (i 2).val < 8192 := (i 2).isLt
  have hi0 : (i 0).val < 1 := (i 0).isLt
  have hl := lin_z c
  have hz := z_lt c
  let I : RR.Idx := fun a => ⟨(![0, 1024 * (c.val % 2) + (i 1).val, (i 2).val] : Fin 3 → ℕ) a, by
    match a with
    | 0 => exact Nat.one_pos
    | 1 => show 1024 * (c.val % 2) + (i 1).val < 2048; omega
    | 2 => exact hi2⟩
  have hR : partR c (refV X W) i = refV X W I := by
    unfold partR
    rw [Layout.blockN_apply]
    refine congrArg (refV X W) (funext fun a => Fin.ext ?_)
    match a with
    | 0 => show 0 * 1 + (i 0).val = 0; omega
    | 1 => show Layout.meshLin [2, 2, 2] c.val [2] * 1024 + (i 1).val = 1024 * (c.val % 2) + (i 1).val; omega
    | 2 => show 0 * 8192 + (i 2).val = (i 2).val; omega
  rw [hR]
  obtain ⟨r1, r0, rz⟩ := rows_eq c ⟨(i 1).val / 256, by omega⟩
  show k0_pay6 (k0_pay1 (gath 1 (qdev c ((i 1).val / 256)) (XO m (qdev c ((i 1).val / 256)))) (WB m (qdev c ((i 1).val / 256)) ((i 2).val / 512)))
    (k0_pay5 (gath 0 (pz (qdev c ((i 1).val / 256))) (XO m (pz (qdev c ((i 1).val / 256))))) (WB m (pz (qdev c ((i 1).val / 256))) ((i 2).val / 512))) (obE (colE i)) = _
  rw [pay6_apply, pay1_apply, pay5_apply,
    part_half m X W 1 (qdev c ((i 1).val / 256)) ((i 2).val / 512) (by omega) (obE (colE i)) I (hX _) (hW _)
      (by rw [r1]; show 1024 * (c.val % 2) + (i 1).val = 1024 * (c.val % 2) + 256 * ((i 1).val / 256) + (i 1).val % 256; omega)
      (by show (i 2).val = 512 * ((i 2).val / 512) + (i 2).val % 512; omega),
    part_half m X W 0 (pz (qdev c ((i 1).val / 256))) ((i 2).val / 512) (by omega) (obE (colE i)) I (hX _) (hW _)
      (by rw [r0]; show 1024 * (c.val % 2) + (i 1).val = 1024 * (c.val % 2) + 256 * ((i 1).val / 256) + (i 1).val % 256; omega)
      (by show (i 2).val = 512 * ((i 2).val / 512) + (i 2).val % 512; omega)]
  exact ref_either X W I _ _ _ _ rz
end
end Cert.KProof
end
-- ==== Proof.lean ====
/-
  The claims: the frames of the kernel at both readings, from its one run over any float values; the reference's frame; that
  nothing was rewritten; and over the reals that each device ends with its part of the reference's product.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Alg
public import Idealize.ShloMosaic.Adequacy
public import Idealize.ShloMosaic.Init

@[expose] public section

noncomputable section

namespace Cert.Proof

open Idealize.ShloMosaic Idealize.SL.Sem Cert.Kernel

/-- The kernel's text is the same at both readings: the two programs' body tables are one. -/
theorem defs₀_eq {F : FTy → Type} [FloatOps F] : Cert.Kernel.defs₀ (F := F) = Cert.KernelIdeal.defs₀ (F := F) := by
  unfold Cert.Kernel.defs₀ Cert.KernelIdeal.defs₀
  refine congrArg Defs.onTc (funext fun l => funext fun a => ?_)
  match l, a with
  | 0, (t, s) => rfl
theorem defs_eq {F : FTy → Type} [FloatOps F] : Cert.Kernel.defs (F := F) = Cert.KernelIdeal.defs (F := F) :=
  congrArg (Pipeline.defs Cert.Kernel.pcfgs) defs₀_eq

/-- So the kernel's run is the one run, at the device's words. -/
theorem frame_kernel : Cert.quiescent_Kernel := fun m ρ _ => by
  rw [defs_eq]
  exact (θ_run Cert.KernelIdeal.defs _ _).mono (fun _ h => h) (Cert.KProof.run_frame (F := Bits) m ρ)

theorem frame_ideal : Cert.quiescent_KernelIdeal := fun m ρ _ => Cert.KProof.run_frame (F := Ideal) m ρ

theorem frame_reference : Cert.quiescent_ReferenceIdeal := fun m ρ _ =>
  (θ_run Cert.ReferenceIdeal.defs _ _).mono (fun r h => ⟨fun c => (h c).2, sem_eq_zero_of_no_sems rfl r.2⟩) (Cert.ReferenceIdeal.Value.run m ρ)

/-- Over the reals each device ends with its part of the reference's product. -/
theorem algebraic : Cert.algebraic_KernelIdeal_ReferenceIdeal := fun m ρ m' ρ' _ h =>
  ⟨Cert.KProof.refV (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono (fun _ r c => ⟨((r.1 c).1 1).trans
        ((Cert.KProof.final_out m c).trans (Cert.KProof.res_eq m _ _ (fun d => (h d).1) (fun d => (h d).2) c)),
      (r.1 c).2, ((r.1 c).1 0).trans (Cert.KProof.finalA_wo m c)⟩) (Cert.KProof.run_main (F := Ideal) m ρ),
    (θ_run Cert.ReferenceIdeal.defs _ _).mono (fun _ r => r 0) (Cert.ReferenceIdeal.Value.run m' ρ')⟩

theorem claim : Cert.Claim := ⟨Cert.Kernel.Gen.facts, Cert.KernelIdeal.Gen.facts, Cert.ReferenceIdeal.Gen.facts,
  frame_kernel, frame_ideal, frame_reference, trivial, algebraic⟩

end Cert.Proof

end
